-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_XoFwd (m : (ℓ : Loc Cert.XoFwd.nD Cert.XoFwd.τ Cert.XoFwd.sig) → Buf (Elt Bits) ℓ) : Prop :=
  True

def Pre_XoFwdIdeal (m : (ℓ : Loc Cert.XoFwdIdeal.nD Cert.XoFwdIdeal.τ Cert.XoFwdIdeal.sig) → Buf (Elt Ideal) ℓ) : Prop :=
  True

def Pre_XoFwdReferenceIdeal (m : (ℓ : Loc Cert.XoFwdReferenceIdeal.nD Cert.XoFwdReferenceIdeal.τ Cert.XoFwdReferenceIdeal.sig) → Buf (Elt Ideal) ℓ) : Prop :=
  True

def Pre_XqFwd (m : (ℓ : Loc Cert.XqFwd.nD Cert.XqFwd.τ Cert.XqFwd.sig) → Buf (Elt Bits) ℓ) : Prop :=
  True

def Pre_XqFwdIdeal (m : (ℓ : Loc Cert.XqFwdIdeal.nD Cert.XqFwdIdeal.τ Cert.XqFwdIdeal.sig) → Buf (Elt Ideal) ℓ) : Prop :=
  True

def Pre_XqFwdReferenceIdeal (m : (ℓ : Loc Cert.XqFwdReferenceIdeal.nD Cert.XqFwdReferenceIdeal.τ Cert.XqFwdReferenceIdeal.sig) → Buf (Elt Ideal) ℓ) : Prop :=
  True

def Pre_SmallFwd (m : (ℓ : Loc Cert.SmallFwd.nD Cert.SmallFwd.τ Cert.SmallFwd.sig) → Buf (Elt Bits) ℓ) : Prop :=
  True

def Pre_SmallFwdIdeal (m : (ℓ : Loc Cert.SmallFwdIdeal.nD Cert.SmallFwdIdeal.τ Cert.SmallFwdIdeal.sig) → Buf (Elt Ideal) ℓ) : Prop :=
  True

def Pre_SmallFwdReferenceIdeal (m : (ℓ : Loc Cert.SmallFwdReferenceIdeal.nD Cert.SmallFwdReferenceIdeal.τ Cert.SmallFwdReferenceIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_XoW (m : (ℓ : Loc Cert.XoW.nD Cert.XoW.τ Cert.XoW.sig) → Buf (Elt Bits) ℓ) : Prop :=
  True

def Pre_XoWIdeal (m : (ℓ : Loc Cert.XoWIdeal.nD Cert.XoWIdeal.τ Cert.XoWIdeal.sig) → Buf (Elt Ideal) ℓ) : Prop :=
  True

def Pre_XoWReferenceIdeal (m : (ℓ : Loc Cert.XoWReferenceIdeal.nD Cert.XoWReferenceIdeal.τ Cert.XoWReferenceIdeal.sig) → Buf (Elt Ideal) ℓ) : Prop :=
  True

def Pre_XqW (m : (ℓ : Loc Cert.XqW.nD Cert.XqW.τ Cert.XqW.sig) → Buf (Elt Bits) ℓ) : Prop :=
  True

def Pre_XqWIdeal (m : (ℓ : Loc Cert.XqWIdeal.nD Cert.XqWIdeal.τ Cert.XqWIdeal.sig) → Buf (Elt Ideal) ℓ) : Prop :=
  True

def Pre_XqWReferenceIdeal (m : (ℓ : Loc Cert.XqWReferenceIdeal.nD Cert.XqWReferenceIdeal.τ Cert.XqWReferenceIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_XoFwd [hXoFwd : Cert.XoFwd.Facts] : Prop :=
  ∀ (m : (ℓ : Loc Cert.XoFwd.nD Cert.XoFwd.τ Cert.XoFwd.sig) → Buf (Elt Bits) ℓ) (g : Dev Cert.XoFwd.nD → PrngReg), Pre_XoFwd m →
    θ_run (Cert.XoFwd.defs (F := Bits)) (onTc (τ := Cert.XoFwd.τ) (Cert.XoFwd.main (F := Bits))) ⟨m, fun _ => 0, g⟩ (fun r => (∀ c : Dev Cert.XoFwd.nD,
      r.2.mem ((c.tc : Thread Cert.XoFwd.nD Cert.XoFwd.τ).loc Cert.XoFwd.main_arg0) = m ((c.tc : Thread Cert.XoFwd.nD Cert.XoFwd.τ).loc Cert.XoFwd.main_arg0)
      ∧ r.2.mem ((c.tc : Thread Cert.XoFwd.nD Cert.XoFwd.τ).loc Cert.XoFwd.main_arg1) = m ((c.tc : Thread Cert.XoFwd.nD Cert.XoFwd.τ).loc Cert.XoFwd.main_arg1)
      ∧ r.2.mem ((c.tc : Thread Cert.XoFwd.nD Cert.XoFwd.τ).loc Cert.XoFwd.main_arg2) = m ((c.tc : Thread Cert.XoFwd.nD Cert.XoFwd.τ).loc Cert.XoFwd.main_arg2))
      ∧ r.2.sem = fun _ => 0)

def quiescent_XoFwdIdeal [hXoFwdIdeal : Cert.XoFwdIdeal.Facts] : Prop :=
  ∀ (m : (ℓ : Loc Cert.XoFwdIdeal.nD Cert.XoFwdIdeal.τ Cert.XoFwdIdeal.sig) → Buf (Elt Ideal) ℓ) (g : Dev Cert.XoFwdIdeal.nD → PrngReg), Pre_XoFwdIdeal m →
    θ_run (Cert.XoFwdIdeal.defs (F := Ideal)) (onTc (τ := Cert.XoFwdIdeal.τ) (Cert.XoFwdIdeal.main (F := Ideal))) ⟨m, fun _ => 0, g⟩ (fun r => (∀ c : Dev Cert.XoFwdIdeal.nD,
      r.2.mem ((c.tc : Thread Cert.XoFwdIdeal.nD Cert.XoFwdIdeal.τ).loc Cert.XoFwdIdeal.main_arg0) = m ((c.tc : Thread Cert.XoFwdIdeal.nD Cert.XoFwdIdeal.τ).loc Cert.XoFwdIdeal.main_arg0)
      ∧ r.2.mem ((c.tc : Thread Cert.XoFwdIdeal.nD Cert.XoFwdIdeal.τ).loc Cert.XoFwdIdeal.main_arg1) = m ((c.tc : Thread Cert.XoFwdIdeal.nD Cert.XoFwdIdeal.τ).loc Cert.XoFwdIdeal.main_arg1)
      ∧ r.2.mem ((c.tc : Thread Cert.XoFwdIdeal.nD Cert.XoFwdIdeal.τ).loc Cert.XoFwdIdeal.main_arg2) = m ((c.tc : Thread Cert.XoFwdIdeal.nD Cert.XoFwdIdeal.τ).loc Cert.XoFwdIdeal.main_arg2))
      ∧ r.2.sem = fun _ => 0)

def quiescent_XoFwdReferenceIdeal [hXoFwdReferenceIdeal : Cert.XoFwdReferenceIdeal.Facts] : Prop :=
  ∀ (m : (ℓ : Loc Cert.XoFwdReferenceIdeal.nD Cert.XoFwdReferenceIdeal.τ Cert.XoFwdReferenceIdeal.sig) → Buf (Elt Ideal) ℓ) (g : Dev Cert.XoFwdReferenceIdeal.nD → PrngReg), Pre_XoFwdReferenceIdeal m →
    θ_run (Cert.XoFwdReferenceIdeal.defs (F := Ideal)) (onTc (τ := Cert.XoFwdReferenceIdeal.τ) (Cert.XoFwdReferenceIdeal.main (F := Ideal))) ⟨m, fun _ => 0, g⟩ (fun r => (∀ c : Dev Cert.XoFwdReferenceIdeal.nD,
      r.2.mem ((c.tc : Thread Cert.XoFwdReferenceIdeal.nD Cert.XoFwdReferenceIdeal.τ).loc Cert.XoFwdReferenceIdeal.main_arg0) = m ((c.tc : Thread Cert.XoFwdReferenceIdeal.nD Cert.XoFwdReferenceIdeal.τ).loc Cert.XoFwdReferenceIdeal.main_arg0)
      ∧ r.2.mem ((c.tc : Thread Cert.XoFwdReferenceIdeal.nD Cert.XoFwdReferenceIdeal.τ).loc Cert.XoFwdReferenceIdeal.main_arg1) = m ((c.tc : Thread Cert.XoFwdReferenceIdeal.nD Cert.XoFwdReferenceIdeal.τ).loc Cert.XoFwdReferenceIdeal.main_arg1)
      ∧ r.2.mem ((c.tc : Thread Cert.XoFwdReferenceIdeal.nD Cert.XoFwdReferenceIdeal.τ).loc Cert.XoFwdReferenceIdeal.main_arg2) = m ((c.tc : Thread Cert.XoFwdReferenceIdeal.nD Cert.XoFwdReferenceIdeal.τ).loc Cert.XoFwdReferenceIdeal.main_arg2))
      ∧ r.2.sem = fun _ => 0)

def quiescent_XqFwd [hXqFwd : Cert.XqFwd.Facts] : Prop :=
  ∀ (m : (ℓ : Loc Cert.XqFwd.nD Cert.XqFwd.τ Cert.XqFwd.sig) → Buf (Elt Bits) ℓ) (g : Dev Cert.XqFwd.nD → PrngReg), Pre_XqFwd m →
    θ_run (Cert.XqFwd.defs (F := Bits)) (onTc (τ := Cert.XqFwd.τ) (Cert.XqFwd.main (F := Bits))) ⟨m, fun _ => 0, g⟩ (fun r => (∀ c : Dev Cert.XqFwd.nD,
      r.2.mem ((c.tc : Thread Cert.XqFwd.nD Cert.XqFwd.τ).loc Cert.XqFwd.main_arg0) = m ((c.tc : Thread Cert.XqFwd.nD Cert.XqFwd.τ).loc Cert.XqFwd.main_arg0)
      ∧ r.2.mem ((c.tc : Thread Cert.XqFwd.nD Cert.XqFwd.τ).loc Cert.XqFwd.main_arg1) = m ((c.tc : Thread Cert.XqFwd.nD Cert.XqFwd.τ).loc Cert.XqFwd.main_arg1))
      ∧ r.2.sem = fun _ => 0)

def quiescent_XqFwdIdeal [hXqFwdIdeal : Cert.XqFwdIdeal.Facts] : Prop :=
  ∀ (m : (ℓ : Loc Cert.XqFwdIdeal.nD Cert.XqFwdIdeal.τ Cert.XqFwdIdeal.sig) → Buf (Elt Ideal) ℓ) (g : Dev Cert.XqFwdIdeal.nD → PrngReg), Pre_XqFwdIdeal m →
    θ_run (Cert.XqFwdIdeal.defs (F := Ideal)) (onTc (τ := Cert.XqFwdIdeal.τ) (Cert.XqFwdIdeal.main (F := Ideal))) ⟨m, fun _ => 0, g⟩ (fun r => (∀ c : Dev Cert.XqFwdIdeal.nD,
      r.2.mem ((c.tc : Thread Cert.XqFwdIdeal.nD Cert.XqFwdIdeal.τ).loc Cert.XqFwdIdeal.main_arg0) = m ((c.tc : Thread Cert.XqFwdIdeal.nD Cert.XqFwdIdeal.τ).loc Cert.XqFwdIdeal.main_arg0)
      ∧ r.2.mem ((c.tc : Thread Cert.XqFwdIdeal.nD Cert.XqFwdIdeal.τ).loc Cert.XqFwdIdeal.main_arg1) = m ((c.tc : Thread Cert.XqFwdIdeal.nD Cert.XqFwdIdeal.τ).loc Cert.XqFwdIdeal.main_arg1))
      ∧ r.2.sem = fun _ => 0)

def quiescent_XqFwdReferenceIdeal [hXqFwdReferenceIdeal : Cert.XqFwdReferenceIdeal.Facts] : Prop :=
  ∀ (m : (ℓ : Loc Cert.XqFwdReferenceIdeal.nD Cert.XqFwdReferenceIdeal.τ Cert.XqFwdReferenceIdeal.sig) → Buf (Elt Ideal) ℓ) (g : Dev Cert.XqFwdReferenceIdeal.nD → PrngReg), Pre_XqFwdReferenceIdeal m →
    θ_run (Cert.XqFwdReferenceIdeal.defs (F := Ideal)) (onTc (τ := Cert.XqFwdReferenceIdeal.τ) (Cert.XqFwdReferenceIdeal.main (F := Ideal))) ⟨m, fun _ => 0, g⟩ (fun r => (∀ c : Dev Cert.XqFwdReferenceIdeal.nD,
      r.2.mem ((c.tc : Thread Cert.XqFwdReferenceIdeal.nD Cert.XqFwdReferenceIdeal.τ).loc Cert.XqFwdReferenceIdeal.main_arg0) = m ((c.tc : Thread Cert.XqFwdReferenceIdeal.nD Cert.XqFwdReferenceIdeal.τ).loc Cert.XqFwdReferenceIdeal.main_arg0)
      ∧ r.2.mem ((c.tc : Thread Cert.XqFwdReferenceIdeal.nD Cert.XqFwdReferenceIdeal.τ).loc Cert.XqFwdReferenceIdeal.main_arg1) = m ((c.tc : Thread Cert.XqFwdReferenceIdeal.nD Cert.XqFwdReferenceIdeal.τ).loc Cert.XqFwdReferenceIdeal.main_arg1))
      ∧ r.2.sem = fun _ => 0)

def quiescent_SmallFwd [hSmallFwd : Cert.SmallFwd.Facts] : Prop :=
  ∀ (m : (ℓ : Loc Cert.SmallFwd.nD Cert.SmallFwd.τ Cert.SmallFwd.sig) → Buf (Elt Bits) ℓ) (g : Dev Cert.SmallFwd.nD → PrngReg), Pre_SmallFwd m →
    θ_run (Cert.SmallFwd.defs (F := Bits)) (onTc (τ := Cert.SmallFwd.τ) (Cert.SmallFwd.main (F := Bits))) ⟨m, fun _ => 0, g⟩ (fun r => (∀ c : Dev Cert.SmallFwd.nD,
      r.2.mem ((c.tc : Thread Cert.SmallFwd.nD Cert.SmallFwd.τ).loc Cert.SmallFwd.main_arg0) = m ((c.tc : Thread Cert.SmallFwd.nD Cert.SmallFwd.τ).loc Cert.SmallFwd.main_arg0)
      ∧ r.2.mem ((c.tc : Thread Cert.SmallFwd.nD Cert.SmallFwd.τ).loc Cert.SmallFwd.main_arg1) = m ((c.tc : Thread Cert.SmallFwd.nD Cert.SmallFwd.τ).loc Cert.SmallFwd.main_arg1))
      ∧ r.2.sem = fun _ => 0)

def quiescent_SmallFwdIdeal [hSmallFwdIdeal : Cert.SmallFwdIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg), Pre_SmallFwdIdeal m →
    θ_run (Cert.SmallFwdIdeal.defs (F := Ideal)) (onTc (τ := Cert.SmallFwdIdeal.τ) (Cert.SmallFwdIdeal.main (F := Ideal))) ⟨m, fun _ => 0, g⟩ (fun r => (∀ c : Dev Cert.SmallFwdIdeal.nD,
      r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
      ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ r.2.sem = fun _ => 0)

def quiescent_SmallFwdReferenceIdeal [hSmallFwdReferenceIdeal : Cert.SmallFwdReferenceIdeal.Facts] : Prop :=
  ∀ (m : (ℓ : Loc Cert.SmallFwdReferenceIdeal.nD Cert.SmallFwdReferenceIdeal.τ Cert.SmallFwdReferenceIdeal.sig) → Buf (Elt Ideal) ℓ) (g : Dev Cert.SmallFwdReferenceIdeal.nD → PrngReg), Pre_SmallFwdReferenceIdeal m →
    θ_run (Cert.SmallFwdReferenceIdeal.defs (F := Ideal)) (onTc (τ := Cert.SmallFwdReferenceIdeal.τ) (Cert.SmallFwdReferenceIdeal.main (F := Ideal))) ⟨m, fun _ => 0, g⟩ (fun r => (∀ c : Dev Cert.SmallFwdReferenceIdeal.nD,
      r.2.mem ((c.tc : Thread Cert.SmallFwdReferenceIdeal.nD Cert.SmallFwdReferenceIdeal.τ).loc Cert.SmallFwdReferenceIdeal.main_arg0) = m ((c.tc : Thread Cert.SmallFwdReferenceIdeal.nD Cert.SmallFwdReferenceIdeal.τ).loc Cert.SmallFwdReferenceIdeal.main_arg0)
      ∧ r.2.mem ((c.tc : Thread Cert.SmallFwdReferenceIdeal.nD Cert.SmallFwdReferenceIdeal.τ).loc Cert.SmallFwdReferenceIdeal.main_arg1) = m ((c.tc : Thread Cert.SmallFwdReferenceIdeal.nD Cert.SmallFwdReferenceIdeal.τ).loc Cert.SmallFwdReferenceIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8)
      ∧ r.2.mem ((c.tc : Thread Cert.MergeFwdReferenceIdeal.nD Cert.MergeFwdReferenceIdeal.τ).loc Cert.MergeFwdReferenceIdeal.main_arg9) = m ((c.tc : Thread Cert.MergeFwdReferenceIdeal.nD Cert.MergeFwdReferenceIdeal.τ).loc Cert.MergeFwdReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_XoW [hXoW : Cert.XoW.Facts] : Prop :=
  ∀ (m : (ℓ : Loc Cert.XoW.nD Cert.XoW.τ Cert.XoW.sig) → Buf (Elt Bits) ℓ) (g : Dev Cert.XoW.nD → PrngReg), Pre_XoW m →
    θ_run (Cert.XoW.defs (F := Bits)) (onTc (τ := Cert.XoW.τ) (Cert.XoW.main (F := Bits))) ⟨m, fun _ => 0, g⟩ (fun r => (∀ c : Dev Cert.XoW.nD,
      r.2.mem ((c.tc : Thread Cert.XoW.nD Cert.XoW.τ).loc Cert.XoW.main_arg0) = m ((c.tc : Thread Cert.XoW.nD Cert.XoW.τ).loc Cert.XoW.main_arg0)
      ∧ r.2.mem ((c.tc : Thread Cert.XoW.nD Cert.XoW.τ).loc Cert.XoW.main_arg1) = m ((c.tc : Thread Cert.XoW.nD Cert.XoW.τ).loc Cert.XoW.main_arg1))
      ∧ r.2.sem = fun _ => 0)

def quiescent_XoWIdeal [hXoWIdeal : Cert.XoWIdeal.Facts] : Prop :=
  ∀ (m : (ℓ : Loc Cert.XoWIdeal.nD Cert.XoWIdeal.τ Cert.XoWIdeal.sig) → Buf (Elt Ideal) ℓ) (g : Dev Cert.XoWIdeal.nD → PrngReg), Pre_XoWIdeal m →
    θ_run (Cert.XoWIdeal.defs (F := Ideal)) (onTc (τ := Cert.XoWIdeal.τ) (Cert.XoWIdeal.main (F := Ideal))) ⟨m, fun _ => 0, g⟩ (fun r => (∀ c : Dev Cert.XoWIdeal.nD,
      r.2.mem ((c.tc : Thread Cert.XoWIdeal.nD Cert.XoWIdeal.τ).loc Cert.XoWIdeal.main_arg0) = m ((c.tc : Thread Cert.XoWIdeal.nD Cert.XoWIdeal.τ).loc Cert.XoWIdeal.main_arg0)
      ∧ r.2.mem ((c.tc : Thread Cert.XoWIdeal.nD Cert.XoWIdeal.τ).loc Cert.XoWIdeal.main_arg1) = m ((c.tc : Thread Cert.XoWIdeal.nD Cert.XoWIdeal.τ).loc Cert.XoWIdeal.main_arg1))
      ∧ r.2.sem = fun _ => 0)

def quiescent_XoWReferenceIdeal [hXoWReferenceIdeal : Cert.XoWReferenceIdeal.Facts] : Prop :=
  ∀ (m : (ℓ : Loc Cert.XoWReferenceIdeal.nD Cert.XoWReferenceIdeal.τ Cert.XoWReferenceIdeal.sig) → Buf (Elt Ideal) ℓ) (g : Dev Cert.XoWReferenceIdeal.nD → PrngReg), Pre_XoWReferenceIdeal m →
    θ_run (Cert.XoWReferenceIdeal.defs (F := Ideal)) (onTc (τ := Cert.XoWReferenceIdeal.τ) (Cert.XoWReferenceIdeal.main (F := Ideal))) ⟨m, fun _ => 0, g⟩ (fun r => (∀ c : Dev Cert.XoWReferenceIdeal.nD,
      r.2.mem ((c.tc : Thread Cert.XoWReferenceIdeal.nD Cert.XoWReferenceIdeal.τ).loc Cert.XoWReferenceIdeal.main_arg0) = m ((c.tc : Thread Cert.XoWReferenceIdeal.nD Cert.XoWReferenceIdeal.τ).loc Cert.XoWReferenceIdeal.main_arg0)
      ∧ r.2.mem ((c.tc : Thread Cert.XoWReferenceIdeal.nD Cert.XoWReferenceIdeal.τ).loc Cert.XoWReferenceIdeal.main_arg1) = m ((c.tc : Thread Cert.XoWReferenceIdeal.nD Cert.XoWReferenceIdeal.τ).loc Cert.XoWReferenceIdeal.main_arg1))
      ∧ r.2.sem = fun _ => 0)

def quiescent_XqW [hXqW : Cert.XqW.Facts] : Prop :=
  ∀ (m : (ℓ : Loc Cert.XqW.nD Cert.XqW.τ Cert.XqW.sig) → Buf (Elt Bits) ℓ) (g : Dev Cert.XqW.nD → PrngReg), Pre_XqW m →
    θ_run (Cert.XqW.defs (F := Bits)) (onTc (τ := Cert.XqW.τ) (Cert.XqW.main (F := Bits))) ⟨m, fun _ => 0, g⟩ (fun r => (∀ c : Dev Cert.XqW.nD,
      r.2.mem ((c.tc : Thread Cert.XqW.nD Cert.XqW.τ).loc Cert.XqW.main_arg0) = m ((c.tc : Thread Cert.XqW.nD Cert.XqW.τ).loc Cert.XqW.main_arg0)
      ∧ r.2.mem ((c.tc : Thread Cert.XqW.nD Cert.XqW.τ).loc Cert.XqW.main_arg1) = m ((c.tc : Thread Cert.XqW.nD Cert.XqW.τ).loc Cert.XqW.main_arg1))
      ∧ r.2.sem = fun _ => 0)

def quiescent_XqWIdeal [hXqWIdeal : Cert.XqWIdeal.Facts] : Prop :=
  ∀ (m : (ℓ : Loc Cert.XqWIdeal.nD Cert.XqWIdeal.τ Cert.XqWIdeal.sig) → Buf (Elt Ideal) ℓ) (g : Dev Cert.XqWIdeal.nD → PrngReg), Pre_XqWIdeal m →
    θ_run (Cert.XqWIdeal.defs (F := Ideal)) (onTc (τ := Cert.XqWIdeal.τ) (Cert.XqWIdeal.main (F := Ideal))) ⟨m, fun _ => 0, g⟩ (fun r => (∀ c : Dev Cert.XqWIdeal.nD,
      r.2.mem ((c.tc : Thread Cert.XqWIdeal.nD Cert.XqWIdeal.τ).loc Cert.XqWIdeal.main_arg0) = m ((c.tc : Thread Cert.XqWIdeal.nD Cert.XqWIdeal.τ).loc Cert.XqWIdeal.main_arg0)
      ∧ r.2.mem ((c.tc : Thread Cert.XqWIdeal.nD Cert.XqWIdeal.τ).loc Cert.XqWIdeal.main_arg1) = m ((c.tc : Thread Cert.XqWIdeal.nD Cert.XqWIdeal.τ).loc Cert.XqWIdeal.main_arg1))
      ∧ r.2.sem = fun _ => 0)

def quiescent_XqWReferenceIdeal [hXqWReferenceIdeal : Cert.XqWReferenceIdeal.Facts] : Prop :=
  ∀ (m : (ℓ : Loc Cert.XqWReferenceIdeal.nD Cert.XqWReferenceIdeal.τ Cert.XqWReferenceIdeal.sig) → Buf (Elt Ideal) ℓ) (g : Dev Cert.XqWReferenceIdeal.nD → PrngReg), Pre_XqWReferenceIdeal m →
    θ_run (Cert.XqWReferenceIdeal.defs (F := Ideal)) (onTc (τ := Cert.XqWReferenceIdeal.τ) (Cert.XqWReferenceIdeal.main (F := Ideal))) ⟨m, fun _ => 0, g⟩ (fun r => (∀ c : Dev Cert.XqWReferenceIdeal.nD,
      r.2.mem ((c.tc : Thread Cert.XqWReferenceIdeal.nD Cert.XqWReferenceIdeal.τ).loc Cert.XqWReferenceIdeal.main_arg0) = m ((c.tc : Thread Cert.XqWReferenceIdeal.nD Cert.XqWReferenceIdeal.τ).loc Cert.XqWReferenceIdeal.main_arg0)
      ∧ r.2.mem ((c.tc : Thread Cert.XqWReferenceIdeal.nD Cert.XqWReferenceIdeal.τ).loc Cert.XqWReferenceIdeal.main_arg1) = m ((c.tc : Thread Cert.XqWReferenceIdeal.nD Cert.XqWReferenceIdeal.τ).loc Cert.XqWReferenceIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2)
      ∧ r.2.mem ((c.tc : Thread Cert.Xq.nD Cert.Xq.τ).loc Cert.Xq.main_arg3) = m ((c.tc : Thread Cert.Xq.nD Cert.Xq.τ).loc Cert.Xq.main_arg3)
      ∧ r.2.mem ((c.tc : Thread Cert.Xq.nD Cert.Xq.τ).loc Cert.Xq.main_arg4) = m ((c.tc : Thread Cert.Xq.nD Cert.Xq.τ).loc Cert.Xq.main_arg4))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
      ∧ r.2.mem ((c.tc : Thread Cert.XqIdeal.nD Cert.XqIdeal.τ).loc Cert.XqIdeal.main_arg4) = m ((c.tc : Thread Cert.XqIdeal.nD Cert.XqIdeal.τ).loc Cert.XqIdeal.main_arg4))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0)
      ∧ r.2.mem ((c.tc : Thread Cert.XqReferenceIdeal.nD Cert.XqReferenceIdeal.τ).loc Cert.XqReferenceIdeal.main_arg1) = m ((c.tc : Thread Cert.XqReferenceIdeal.nD Cert.XqReferenceIdeal.τ).loc Cert.XqReferenceIdeal.main_arg1)
      ∧ r.2.mem ((c.tc : Thread Cert.XqReferenceIdeal.nD Cert.XqReferenceIdeal.τ).loc Cert.XqReferenceIdeal.main_arg2) = m ((c.tc : Thread Cert.XqReferenceIdeal.nD Cert.XqReferenceIdeal.τ).loc Cert.XqReferenceIdeal.main_arg2)
      ∧ r.2.mem ((c.tc : Thread Cert.XqReferenceIdeal.nD Cert.XqReferenceIdeal.τ).loc Cert.XqReferenceIdeal.main_arg3) = m ((c.tc : Thread Cert.XqReferenceIdeal.nD Cert.XqReferenceIdeal.τ).loc Cert.XqReferenceIdeal.main_arg3)
      ∧ r.2.mem ((c.tc : Thread Cert.XqReferenceIdeal.nD Cert.XqReferenceIdeal.τ).loc Cert.XqReferenceIdeal.main_arg4) = m ((c.tc : Thread Cert.XqReferenceIdeal.nD Cert.XqReferenceIdeal.τ).loc Cert.XqReferenceIdeal.main_arg4))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_4)) (v4 : (c : Dev Cert.KernelIdeal.nD) → Buf (Elt Ideal) ((c.tc : Thread Cert.KernelIdeal.nD Cert.KernelIdeal.τ).loc Cert.KernelIdeal.main_v85_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_4) = v3 c
          ∧ r.2.mem ((c.tc : Thread Cert.KernelIdeal.nD Cert.KernelIdeal.τ).loc Cert.KernelIdeal.main_v85_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v10) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v38) = v0 c
          ∧ r.2.mem ((c.tc : Thread Cert.UpReferenceIdeal.nD Cert.UpReferenceIdeal.τ).loc Cert.UpReferenceIdeal.main_v39) = v1 c
          ∧ r.2.mem ((c.tc : Thread Cert.UpReferenceIdeal.nD Cert.UpReferenceIdeal.τ).loc Cert.UpReferenceIdeal.main_v21) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_UpW_UpWIdeal : Prop :=
  True

def algebraic_UpWIdeal_UpWReferenceIdeal [hUpWIdeal : Cert.UpWIdeal.Facts] [hUpWReferenceIdeal : Cert.UpWReferenceIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWIdeal m →
    (∀ c : Dev Cert.UpWIdeal.nD,
      m' ((c.tc : Thread Cert.UpWReferenceIdeal.nD Cert.UpWReferenceIdeal.τ).loc Cert.UpWReferenceIdeal.main_arg0) = m ((c.tc : Thread Cert.UpWIdeal.nD Cert.UpWIdeal.τ).loc Cert.UpWIdeal.main_arg0)
      ∧ m' ((c.tc : Thread Cert.UpWReferenceIdeal.nD Cert.UpWReferenceIdeal.τ).loc Cert.UpWReferenceIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v8) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)) (v2 : (c : Dev Cert.InIdeal.nD) → Buf (Elt Ideal) ((c.tc : Thread Cert.InIdeal.nD Cert.InIdeal.τ).loc Cert.InIdeal.main_v0_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_v0_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v39) = v1 c
          ∧ r.2.mem ((c.tc : Thread Cert.InReferenceIdeal.nD Cert.InReferenceIdeal.τ).loc Cert.InReferenceIdeal.main_v21) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_InW_InWIdeal : Prop :=
  True

def algebraic_InWIdeal_InWReferenceIdeal [hInWIdeal : Cert.InWIdeal.Facts] [hInWReferenceIdeal : Cert.InWReferenceIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWIdeal m →
    (∀ c : Dev Cert.InWIdeal.nD,
      m' ((c.tc : Thread Cert.InWReferenceIdeal.nD Cert.InWReferenceIdeal.τ).loc Cert.InWReferenceIdeal.main_arg0) = m ((c.tc : Thread Cert.InWIdeal.nD Cert.InWIdeal.τ).loc Cert.InWIdeal.main_arg0)
      ∧ m' ((c.tc : Thread Cert.InWReferenceIdeal.nD Cert.InWReferenceIdeal.τ).loc Cert.InWReferenceIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v8) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v8) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v3) = v0 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)
      ∧ m' ((c.tc : Thread Cert.DownFwdReferenceIdeal.nD Cert.DownFwdReferenceIdeal.τ).loc Cert.DownFwdReferenceIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v5) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v4) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v3) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_XoFwd_XoFwdIdeal : Prop :=
  True

def algebraic_XoFwdIdeal_XoFwdReferenceIdeal [hXoFwdIdeal : Cert.XoFwdIdeal.Facts] [hXoFwdReferenceIdeal : Cert.XoFwdReferenceIdeal.Facts] : Prop :=
  ∀ (m : (ℓ : Loc Cert.XoFwdIdeal.nD Cert.XoFwdIdeal.τ Cert.XoFwdIdeal.sig) → Buf (Elt Ideal) ℓ) (g : Dev Cert.XoFwdIdeal.nD → PrngReg)
    (m' : (ℓ : Loc Cert.XoFwdReferenceIdeal.nD Cert.XoFwdReferenceIdeal.τ Cert.XoFwdReferenceIdeal.sig) → Buf (Elt Ideal) ℓ) (g' : Dev Cert.XoFwdReferenceIdeal.nD → PrngReg), Pre_XoFwdIdeal m →
    (∀ c : Dev Cert.XoFwdIdeal.nD,
      m' ((c.tc : Thread Cert.XoFwdReferenceIdeal.nD Cert.XoFwdReferenceIdeal.τ).loc Cert.XoFwdReferenceIdeal.main_arg0) = m ((c.tc : Thread Cert.XoFwdIdeal.nD Cert.XoFwdIdeal.τ).loc Cert.XoFwdIdeal.main_arg0)
      ∧ m' ((c.tc : Thread Cert.XoFwdReferenceIdeal.nD Cert.XoFwdReferenceIdeal.τ).loc Cert.XoFwdReferenceIdeal.main_arg1) = m ((c.tc : Thread Cert.XoFwdIdeal.nD Cert.XoFwdIdeal.τ).loc Cert.XoFwdIdeal.main_arg1)
      ∧ m' ((c.tc : Thread Cert.XoFwdReferenceIdeal.nD Cert.XoFwdReferenceIdeal.τ).loc Cert.XoFwdReferenceIdeal.main_arg2) = m ((c.tc : Thread Cert.XoFwdIdeal.nD Cert.XoFwdIdeal.τ).loc Cert.XoFwdIdeal.main_arg2)) →
    ∃ (v0 : (c : Dev Cert.XoFwdIdeal.nD) → Buf (Elt Ideal) ((c.tc : Thread Cert.XoFwdIdeal.nD Cert.XoFwdIdeal.τ).loc Cert.XoFwdIdeal.main_v0)),
      θ_run (Cert.XoFwdIdeal.defs (F := Ideal)) (onTc (τ := Cert.XoFwdIdeal.τ) (Cert.XoFwdIdeal.main (F := Ideal))) ⟨m, fun _ => 0, g⟩ (fun r => ∀ c : Dev Cert.XoFwdIdeal.nD,
          r.2.mem ((c.tc : Thread Cert.XoFwdIdeal.nD Cert.XoFwdIdeal.τ).loc Cert.XoFwdIdeal.main_v0) = v0 c
          ∧ r.2.mem ((c.tc : Thread Cert.XoFwdIdeal.nD Cert.XoFwdIdeal.τ).loc Cert.XoFwdIdeal.main_arg0) = m ((c.tc : Thread Cert.XoFwdIdeal.nD Cert.XoFwdIdeal.τ).loc Cert.XoFwdIdeal.main_arg0)
          ∧ r.2.mem ((c.tc : Thread Cert.XoFwdIdeal.nD Cert.XoFwdIdeal.τ).loc Cert.XoFwdIdeal.main_arg1) = m ((c.tc : Thread Cert.XoFwdIdeal.nD Cert.XoFwdIdeal.τ).loc Cert.XoFwdIdeal.main_arg1)
          ∧ r.2.mem ((c.tc : Thread Cert.XoFwdIdeal.nD Cert.XoFwdIdeal.τ).loc Cert.XoFwdIdeal.main_arg2) = m ((c.tc : Thread Cert.XoFwdIdeal.nD Cert.XoFwdIdeal.τ).loc Cert.XoFwdIdeal.main_arg2))
      ∧ θ_run (Cert.XoFwdReferenceIdeal.defs (F := Ideal)) (onTc (τ := Cert.XoFwdReferenceIdeal.τ) (Cert.XoFwdReferenceIdeal.main (F := Ideal))) ⟨m', fun _ => 0, g'⟩ (fun r => ∀ c : Dev Cert.XoFwdReferenceIdeal.nD,
          r.2.mem ((c.tc : Thread Cert.XoFwdReferenceIdeal.nD Cert.XoFwdReferenceIdeal.τ).loc Cert.XoFwdReferenceIdeal.main_v3) = v0 c
          ∧ r.2.mem ((c.tc : Thread Cert.XoFwdReferenceIdeal.nD Cert.XoFwdReferenceIdeal.τ).loc Cert.XoFwdReferenceIdeal.main_arg0) = m' ((c.tc : Thread Cert.XoFwdReferenceIdeal.nD Cert.XoFwdReferenceIdeal.τ).loc Cert.XoFwdReferenceIdeal.main_arg0)
          ∧ r.2.mem ((c.tc : Thread Cert.XoFwdReferenceIdeal.nD Cert.XoFwdReferenceIdeal.τ).loc Cert.XoFwdReferenceIdeal.main_arg1) = m' ((c.tc : Thread Cert.XoFwdReferenceIdeal.nD Cert.XoFwdReferenceIdeal.τ).loc Cert.XoFwdReferenceIdeal.main_arg1)
          ∧ r.2.mem ((c.tc : Thread Cert.XoFwdReferenceIdeal.nD Cert.XoFwdReferenceIdeal.τ).loc Cert.XoFwdReferenceIdeal.main_arg2) = m' ((c.tc : Thread Cert.XoFwdReferenceIdeal.nD Cert.XoFwdReferenceIdeal.τ).loc Cert.XoFwdReferenceIdeal.main_arg2))

def preserves_XqFwd_XqFwdIdeal : Prop :=
  True

def algebraic_XqFwdIdeal_XqFwdReferenceIdeal [hXqFwdIdeal : Cert.XqFwdIdeal.Facts] [hXqFwdReferenceIdeal : Cert.XqFwdReferenceIdeal.Facts] : Prop :=
  ∀ (m : (ℓ : Loc Cert.XqFwdIdeal.nD Cert.XqFwdIdeal.τ Cert.XqFwdIdeal.sig) → Buf (Elt Ideal) ℓ) (g : Dev Cert.XqFwdIdeal.nD → PrngReg)
    (m' : (ℓ : Loc Cert.XqFwdReferenceIdeal.nD Cert.XqFwdReferenceIdeal.τ Cert.XqFwdReferenceIdeal.sig) → Buf (Elt Ideal) ℓ) (g' : Dev Cert.XqFwdReferenceIdeal.nD → PrngReg), Pre_XqFwdIdeal m →
    (∀ c : Dev Cert.XqFwdIdeal.nD,
      m' ((c.tc : Thread Cert.XqFwdReferenceIdeal.nD Cert.XqFwdReferenceIdeal.τ).loc Cert.XqFwdReferenceIdeal.main_arg0) = m ((c.tc : Thread Cert.XqFwdIdeal.nD Cert.XqFwdIdeal.τ).loc Cert.XqFwdIdeal.main_arg0)
      ∧ m' ((c.tc : Thread Cert.XqFwdReferenceIdeal.nD Cert.XqFwdReferenceIdeal.τ).loc Cert.XqFwdReferenceIdeal.main_arg1) = m ((c.tc : Thread Cert.XqFwdIdeal.nD Cert.XqFwdIdeal.τ).loc Cert.XqFwdIdeal.main_arg1)) →
    ∃ (v0 : (c : Dev Cert.XqFwdIdeal.nD) → Buf (Elt Ideal) ((c.tc : Thread Cert.XqFwdIdeal.nD Cert.XqFwdIdeal.τ).loc Cert.XqFwdIdeal.main_v0)),
      θ_run (Cert.XqFwdIdeal.defs (F := Ideal)) (onTc (τ := Cert.XqFwdIdeal.τ) (Cert.XqFwdIdeal.main (F := Ideal))) ⟨m, fun _ => 0, g⟩ (fun r => ∀ c : Dev Cert.XqFwdIdeal.nD,
          r.2.mem ((c.tc : Thread Cert.XqFwdIdeal.nD Cert.XqFwdIdeal.τ).loc Cert.XqFwdIdeal.main_v0) = v0 c
          ∧ r.2.mem ((c.tc : Thread Cert.XqFwdIdeal.nD Cert.XqFwdIdeal.τ).loc Cert.XqFwdIdeal.main_arg0) = m ((c.tc : Thread Cert.XqFwdIdeal.nD Cert.XqFwdIdeal.τ).loc Cert.XqFwdIdeal.main_arg0)
          ∧ r.2.mem ((c.tc : Thread Cert.XqFwdIdeal.nD Cert.XqFwdIdeal.τ).loc Cert.XqFwdIdeal.main_arg1) = m ((c.tc : Thread Cert.XqFwdIdeal.nD Cert.XqFwdIdeal.τ).loc Cert.XqFwdIdeal.main_arg1))
      ∧ θ_run (Cert.XqFwdReferenceIdeal.defs (F := Ideal)) (onTc (τ := Cert.XqFwdReferenceIdeal.τ) (Cert.XqFwdReferenceIdeal.main (F := Ideal))) ⟨m', fun _ => 0, g'⟩ (fun r => ∀ c : Dev Cert.XqFwdReferenceIdeal.nD,
          r.2.mem ((c.tc : Thread Cert.XqFwdReferenceIdeal.nD Cert.XqFwdReferenceIdeal.τ).loc Cert.XqFwdReferenceIdeal.main_v3) = v0 c
          ∧ r.2.mem ((c.tc : Thread Cert.XqFwdReferenceIdeal.nD Cert.XqFwdReferenceIdeal.τ).loc Cert.XqFwdReferenceIdeal.main_arg0) = m' ((c.tc : Thread Cert.XqFwdReferenceIdeal.nD Cert.XqFwdReferenceIdeal.τ).loc Cert.XqFwdReferenceIdeal.main_arg0)
          ∧ r.2.mem ((c.tc : Thread Cert.XqFwdReferenceIdeal.nD Cert.XqFwdReferenceIdeal.τ).loc Cert.XqFwdReferenceIdeal.main_arg1) = m' ((c.tc : Thread Cert.XqFwdReferenceIdeal.nD Cert.XqFwdReferenceIdeal.τ).loc Cert.XqFwdReferenceIdeal.main_arg1))

def preserves_SmallFwd_SmallFwdIdeal : Prop :=
  True

def algebraic_SmallFwdIdeal_SmallFwdReferenceIdeal [hSmallFwdIdeal : Cert.SmallFwdIdeal.Facts] [hSmallFwdReferenceIdeal : Cert.SmallFwdReferenceIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg)
    (m' : (ℓ : Loc Cert.SmallFwdReferenceIdeal.nD Cert.SmallFwdReferenceIdeal.τ Cert.SmallFwdReferenceIdeal.sig) → Buf (Elt Ideal) ℓ) (g' : Dev Cert.SmallFwdReferenceIdeal.nD → PrngReg), Pre_SmallFwdIdeal m →
    (∀ c : Dev Cert.SmallFwdIdeal.nD,
      m' ((c.tc : Thread Cert.SmallFwdReferenceIdeal.nD Cert.SmallFwdReferenceIdeal.τ).loc Cert.SmallFwdReferenceIdeal.main_arg0) = m ((c.tc : Thread Cert.SmallFwdIdeal.nD Cert.SmallFwdIdeal.τ).loc Cert.SmallFwdIdeal.main_arg0)
      ∧ m' ((c.tc : Thread Cert.SmallFwdReferenceIdeal.nD Cert.SmallFwdReferenceIdeal.τ).loc Cert.SmallFwdReferenceIdeal.main_arg1) = m ((c.tc : Thread Cert.SmallFwdIdeal.nD Cert.SmallFwdIdeal.τ).loc Cert.SmallFwdIdeal.main_arg1)) →
    ∃ (v0 : (c : Dev Cert.SmallFwdIdeal.nD) → Buf (Elt Ideal) ((c.tc : Thread Cert.SmallFwdIdeal.nD Cert.SmallFwdIdeal.τ).loc Cert.SmallFwdIdeal.main_v0)),
      θ_run (Cert.SmallFwdIdeal.defs (F := Ideal)) (onTc (τ := Cert.SmallFwdIdeal.τ) (Cert.SmallFwdIdeal.main (F := Ideal))) ⟨m, fun _ => 0, g⟩ (fun r => ∀ c : Dev Cert.SmallFwdIdeal.nD,
          r.2.mem ((c.tc : Thread Cert.SmallFwdIdeal.nD Cert.SmallFwdIdeal.τ).loc Cert.SmallFwdIdeal.main_v0) = v0 c
          ∧ r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
          ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ θ_run (Cert.SmallFwdReferenceIdeal.defs (F := Ideal)) (onTc (τ := Cert.SmallFwdReferenceIdeal.τ) (Cert.SmallFwdReferenceIdeal.main (F := Ideal))) ⟨m', fun _ => 0, g'⟩ (fun r => ∀ c : Dev Cert.SmallFwdReferenceIdeal.nD,
          r.2.mem ((c.tc : Thread Cert.SmallFwdReferenceIdeal.nD Cert.SmallFwdReferenceIdeal.τ).loc Cert.SmallFwdReferenceIdeal.main_v3) = v0 c
          ∧ r.2.mem ((c.tc : Thread Cert.SmallFwdReferenceIdeal.nD Cert.SmallFwdReferenceIdeal.τ).loc Cert.SmallFwdReferenceIdeal.main_arg0) = m' ((c.tc : Thread Cert.SmallFwdReferenceIdeal.nD Cert.SmallFwdReferenceIdeal.τ).loc Cert.SmallFwdReferenceIdeal.main_arg0)
          ∧ r.2.mem ((c.tc : Thread Cert.SmallFwdReferenceIdeal.nD Cert.SmallFwdReferenceIdeal.τ).loc Cert.SmallFwdReferenceIdeal.main_arg1) = m' ((c.tc : Thread Cert.SmallFwdReferenceIdeal.nD Cert.SmallFwdReferenceIdeal.τ).loc Cert.SmallFwdReferenceIdeal.main_arg1))

def preserves_Xo_XoIdeal : Prop :=
  True

def algebraic_XoIdeal_XoReferenceIdeal [hXoIdeal : Cert.XoIdeal.Facts] [hXoReferenceIdeal : Cert.XoReferenceIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoIdeal m →
    (∀ c : Dev Cert.XoIdeal.nD,
      m' ((c.tc : Thread Cert.XoReferenceIdeal.nD Cert.XoReferenceIdeal.τ).loc Cert.XoReferenceIdeal.main_arg0) = m ((c.tc : Thread Cert.XoIdeal.nD Cert.XoIdeal.τ).loc Cert.XoIdeal.main_arg0)
      ∧ m' ((c.tc : Thread Cert.XoReferenceIdeal.nD Cert.XoReferenceIdeal.τ).loc Cert.XoReferenceIdeal.main_arg1) = m ((c.tc : Thread Cert.XoIdeal.nD Cert.XoIdeal.τ).loc Cert.XoIdeal.main_arg1)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v5) = v0 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)
      ∧ m' ((c.tc : Thread Cert.MergeFwdReferenceIdeal.nD Cert.MergeFwdReferenceIdeal.τ).loc Cert.MergeFwdReferenceIdeal.main_arg5) = m ((c.tc : Thread Cert.MergeFwdIdeal.nD Cert.MergeFwdIdeal.τ).loc Cert.MergeFwdIdeal.main_arg5)
      ∧ m' ((c.tc : Thread Cert.MergeFwdReferenceIdeal.nD Cert.MergeFwdReferenceIdeal.τ).loc Cert.MergeFwdReferenceIdeal.main_arg6) = m ((c.tc : Thread Cert.MergeFwdIdeal.nD Cert.MergeFwdIdeal.τ).loc Cert.MergeFwdIdeal.main_arg6)
      ∧ m' ((c.tc : Thread Cert.MergeFwdReferenceIdeal.nD Cert.MergeFwdReferenceIdeal.τ).loc Cert.MergeFwdReferenceIdeal.main_arg7) = m ((c.tc : Thread Cert.MergeFwdIdeal.nD Cert.MergeFwdIdeal.τ).loc Cert.MergeFwdIdeal.main_arg7)
      ∧ m' ((c.tc : Thread Cert.MergeFwdReferenceIdeal.nD Cert.MergeFwdReferenceIdeal.τ).loc Cert.MergeFwdReferenceIdeal.main_arg8) = m ((c.tc : Thread Cert.MergeFwdIdeal.nD Cert.MergeFwdIdeal.τ).loc Cert.MergeFwdIdeal.main_arg8)
      ∧ m' ((c.tc : Thread Cert.MergeFwdReferenceIdeal.nD Cert.MergeFwdReferenceIdeal.τ).loc Cert.MergeFwdReferenceIdeal.main_arg9) = m ((c.tc : Thread Cert.MergeFwdIdeal.nD Cert.MergeFwdIdeal.τ).loc Cert.MergeFwdIdeal.main_arg9)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v42) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8)
          ∧ r.2.mem ((c.tc : Thread Cert.MergeFwdReferenceIdeal.nD Cert.MergeFwdReferenceIdeal.τ).loc Cert.MergeFwdReferenceIdeal.main_arg9) = m' ((c.tc : Thread Cert.MergeFwdReferenceIdeal.nD Cert.MergeFwdReferenceIdeal.τ).loc Cert.MergeFwdReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v1)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)) (v7 : (c : Dev Cert.MergeIdeal.nD) → Buf (Elt Ideal) ((c.tc : Thread Cert.MergeIdeal.nD Cert.MergeIdeal.τ).loc Cert.MergeIdeal.main_v0_7)) (v8 : (c : Dev Cert.MergeIdeal.nD) → Buf (Elt Ideal) ((c.tc : Thread Cert.MergeIdeal.nD Cert.MergeIdeal.τ).loc Cert.MergeIdeal.main_v0_8)) (v9 : (c : Dev Cert.MergeIdeal.nD) → Buf (Elt Ideal) ((c.tc : Thread Cert.MergeIdeal.nD Cert.MergeIdeal.τ).loc Cert.MergeIdeal.main_v0_9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_v0_7) = v7 c
          ∧ r.2.mem ((c.tc : Thread Cert.MergeIdeal.nD Cert.MergeIdeal.τ).loc Cert.MergeIdeal.main_v0_8) = v8 c
          ∧ r.2.mem ((c.tc : Thread Cert.MergeIdeal.nD Cert.MergeIdeal.τ).loc Cert.MergeIdeal.main_v0_9) = v9 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v78) = v0 c
          ∧ r.2.mem ((c.tc : Thread Cert.MergeReferenceIdeal.nD Cert.MergeReferenceIdeal.τ).loc Cert.MergeReferenceIdeal.main_v79) = v1 c
          ∧ r.2.mem ((c.tc : Thread Cert.MergeReferenceIdeal.nD Cert.MergeReferenceIdeal.τ).loc Cert.MergeReferenceIdeal.main_v80) = v2 c
          ∧ r.2.mem ((c.tc : Thread Cert.MergeReferenceIdeal.nD Cert.MergeReferenceIdeal.τ).loc Cert.MergeReferenceIdeal.main_v81) = v3 c
          ∧ r.2.mem ((c.tc : Thread Cert.MergeReferenceIdeal.nD Cert.MergeReferenceIdeal.τ).loc Cert.MergeReferenceIdeal.main_v76) = v4 c
          ∧ r.2.mem ((c.tc : Thread Cert.MergeReferenceIdeal.nD Cert.MergeReferenceIdeal.τ).loc Cert.MergeReferenceIdeal.main_v68) = v5 c
          ∧ r.2.mem ((c.tc : Thread Cert.MergeReferenceIdeal.nD Cert.MergeReferenceIdeal.τ).loc Cert.MergeReferenceIdeal.main_v60) = v6 c
          ∧ r.2.mem ((c.tc : Thread Cert.MergeReferenceIdeal.nD Cert.MergeReferenceIdeal.τ).loc Cert.MergeReferenceIdeal.main_v72) = v7 c
          ∧ r.2.mem ((c.tc : Thread Cert.MergeReferenceIdeal.nD Cert.MergeReferenceIdeal.τ).loc Cert.MergeReferenceIdeal.main_v64) = v8 c
          ∧ r.2.mem ((c.tc : Thread Cert.MergeReferenceIdeal.nD Cert.MergeReferenceIdeal.τ).loc Cert.MergeReferenceIdeal.main_v56) = v9 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_XoW_XoWIdeal : Prop :=
  True

def algebraic_XoWIdeal_XoWReferenceIdeal [hXoWIdeal : Cert.XoWIdeal.Facts] [hXoWReferenceIdeal : Cert.XoWReferenceIdeal.Facts] : Prop :=
  ∀ (m : (ℓ : Loc Cert.XoWIdeal.nD Cert.XoWIdeal.τ Cert.XoWIdeal.sig) → Buf (Elt Ideal) ℓ) (g : Dev Cert.XoWIdeal.nD → PrngReg)
    (m' : (ℓ : Loc Cert.XoWReferenceIdeal.nD Cert.XoWReferenceIdeal.τ Cert.XoWReferenceIdeal.sig) → Buf (Elt Ideal) ℓ) (g' : Dev Cert.XoWReferenceIdeal.nD → PrngReg), Pre_XoWIdeal m →
    (∀ c : Dev Cert.XoWIdeal.nD,
      m' ((c.tc : Thread Cert.XoWReferenceIdeal.nD Cert.XoWReferenceIdeal.τ).loc Cert.XoWReferenceIdeal.main_arg0) = m ((c.tc : Thread Cert.XoWIdeal.nD Cert.XoWIdeal.τ).loc Cert.XoWIdeal.main_arg0)
      ∧ m' ((c.tc : Thread Cert.XoWReferenceIdeal.nD Cert.XoWReferenceIdeal.τ).loc Cert.XoWReferenceIdeal.main_arg1) = m ((c.tc : Thread Cert.XoWIdeal.nD Cert.XoWIdeal.τ).loc Cert.XoWIdeal.main_arg1)) →
    ∃ (v0 : (c : Dev Cert.XoWIdeal.nD) → Buf (Elt Ideal) ((c.tc : Thread Cert.XoWIdeal.nD Cert.XoWIdeal.τ).loc Cert.XoWIdeal.main_v0)),
      θ_run (Cert.XoWIdeal.defs (F := Ideal)) (onTc (τ := Cert.XoWIdeal.τ) (Cert.XoWIdeal.main (F := Ideal))) ⟨m, fun _ => 0, g⟩ (fun r => ∀ c : Dev Cert.XoWIdeal.nD,
          r.2.mem ((c.tc : Thread Cert.XoWIdeal.nD Cert.XoWIdeal.τ).loc Cert.XoWIdeal.main_v0) = v0 c
          ∧ r.2.mem ((c.tc : Thread Cert.XoWIdeal.nD Cert.XoWIdeal.τ).loc Cert.XoWIdeal.main_arg0) = m ((c.tc : Thread Cert.XoWIdeal.nD Cert.XoWIdeal.τ).loc Cert.XoWIdeal.main_arg0)
          ∧ r.2.mem ((c.tc : Thread Cert.XoWIdeal.nD Cert.XoWIdeal.τ).loc Cert.XoWIdeal.main_arg1) = m ((c.tc : Thread Cert.XoWIdeal.nD Cert.XoWIdeal.τ).loc Cert.XoWIdeal.main_arg1))
      ∧ θ_run (Cert.XoWReferenceIdeal.defs (F := Ideal)) (onTc (τ := Cert.XoWReferenceIdeal.τ) (Cert.XoWReferenceIdeal.main (F := Ideal))) ⟨m', fun _ => 0, g'⟩ (fun r => ∀ c : Dev Cert.XoWReferenceIdeal.nD,
          r.2.mem ((c.tc : Thread Cert.XoWReferenceIdeal.nD Cert.XoWReferenceIdeal.τ).loc Cert.XoWReferenceIdeal.main_v8) = v0 c
          ∧ r.2.mem ((c.tc : Thread Cert.XoWReferenceIdeal.nD Cert.XoWReferenceIdeal.τ).loc Cert.XoWReferenceIdeal.main_arg0) = m' ((c.tc : Thread Cert.XoWReferenceIdeal.nD Cert.XoWReferenceIdeal.τ).loc Cert.XoWReferenceIdeal.main_arg0)
          ∧ r.2.mem ((c.tc : Thread Cert.XoWReferenceIdeal.nD Cert.XoWReferenceIdeal.τ).loc Cert.XoWReferenceIdeal.main_arg1) = m' ((c.tc : Thread Cert.XoWReferenceIdeal.nD Cert.XoWReferenceIdeal.τ).loc Cert.XoWReferenceIdeal.main_arg1))

def preserves_XqW_XqWIdeal : Prop :=
  True

def algebraic_XqWIdeal_XqWReferenceIdeal [hXqWIdeal : Cert.XqWIdeal.Facts] [hXqWReferenceIdeal : Cert.XqWReferenceIdeal.Facts] : Prop :=
  ∀ (m : (ℓ : Loc Cert.XqWIdeal.nD Cert.XqWIdeal.τ Cert.XqWIdeal.sig) → Buf (Elt Ideal) ℓ) (g : Dev Cert.XqWIdeal.nD → PrngReg)
    (m' : (ℓ : Loc Cert.XqWReferenceIdeal.nD Cert.XqWReferenceIdeal.τ Cert.XqWReferenceIdeal.sig) → Buf (Elt Ideal) ℓ) (g' : Dev Cert.XqWReferenceIdeal.nD → PrngReg), Pre_XqWIdeal m →
    (∀ c : Dev Cert.XqWIdeal.nD,
      m' ((c.tc : Thread Cert.XqWReferenceIdeal.nD Cert.XqWReferenceIdeal.τ).loc Cert.XqWReferenceIdeal.main_arg0) = m ((c.tc : Thread Cert.XqWIdeal.nD Cert.XqWIdeal.τ).loc Cert.XqWIdeal.main_arg0)
      ∧ m' ((c.tc : Thread Cert.XqWReferenceIdeal.nD Cert.XqWReferenceIdeal.τ).loc Cert.XqWReferenceIdeal.main_arg1) = m ((c.tc : Thread Cert.XqWIdeal.nD Cert.XqWIdeal.τ).loc Cert.XqWIdeal.main_arg1)) →
    ∃ (v0 : (c : Dev Cert.XqWIdeal.nD) → Buf (Elt Ideal) ((c.tc : Thread Cert.XqWIdeal.nD Cert.XqWIdeal.τ).loc Cert.XqWIdeal.main_v0)),
      θ_run (Cert.XqWIdeal.defs (F := Ideal)) (onTc (τ := Cert.XqWIdeal.τ) (Cert.XqWIdeal.main (F := Ideal))) ⟨m, fun _ => 0, g⟩ (fun r => ∀ c : Dev Cert.XqWIdeal.nD,
          r.2.mem ((c.tc : Thread Cert.XqWIdeal.nD Cert.XqWIdeal.τ).loc Cert.XqWIdeal.main_v0) = v0 c
          ∧ r.2.mem ((c.tc : Thread Cert.XqWIdeal.nD Cert.XqWIdeal.τ).loc Cert.XqWIdeal.main_arg0) = m ((c.tc : Thread Cert.XqWIdeal.nD Cert.XqWIdeal.τ).loc Cert.XqWIdeal.main_arg0)
          ∧ r.2.mem ((c.tc : Thread Cert.XqWIdeal.nD Cert.XqWIdeal.τ).loc Cert.XqWIdeal.main_arg1) = m ((c.tc : Thread Cert.XqWIdeal.nD Cert.XqWIdeal.τ).loc Cert.XqWIdeal.main_arg1))
      ∧ θ_run (Cert.XqWReferenceIdeal.defs (F := Ideal)) (onTc (τ := Cert.XqWReferenceIdeal.τ) (Cert.XqWReferenceIdeal.main (F := Ideal))) ⟨m', fun _ => 0, g'⟩ (fun r => ∀ c : Dev Cert.XqWReferenceIdeal.nD,
          r.2.mem ((c.tc : Thread Cert.XqWReferenceIdeal.nD Cert.XqWReferenceIdeal.τ).loc Cert.XqWReferenceIdeal.main_v8) = v0 c
          ∧ r.2.mem ((c.tc : Thread Cert.XqWReferenceIdeal.nD Cert.XqWReferenceIdeal.τ).loc Cert.XqWReferenceIdeal.main_arg0) = m' ((c.tc : Thread Cert.XqWReferenceIdeal.nD Cert.XqWReferenceIdeal.τ).loc Cert.XqWReferenceIdeal.main_arg0)
          ∧ r.2.mem ((c.tc : Thread Cert.XqWReferenceIdeal.nD Cert.XqWReferenceIdeal.τ).loc Cert.XqWReferenceIdeal.main_arg1) = m' ((c.tc : Thread Cert.XqWReferenceIdeal.nD Cert.XqWReferenceIdeal.τ).loc Cert.XqWReferenceIdeal.main_arg1))

def preserves_Xq_XqIdeal : Prop :=
  True

def algebraic_XqIdeal_XqReferenceIdeal [hXqIdeal : Cert.XqIdeal.Facts] [hXqReferenceIdeal : Cert.XqReferenceIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqIdeal m →
    (∀ c : Dev Cert.XqIdeal.nD,
      m' ((c.tc : Thread Cert.XqReferenceIdeal.nD Cert.XqReferenceIdeal.τ).loc Cert.XqReferenceIdeal.main_arg0) = m ((c.tc : Thread Cert.XqIdeal.nD Cert.XqIdeal.τ).loc Cert.XqIdeal.main_arg0)
      ∧ m' ((c.tc : Thread Cert.XqReferenceIdeal.nD Cert.XqReferenceIdeal.τ).loc Cert.XqReferenceIdeal.main_arg1) = m ((c.tc : Thread Cert.XqIdeal.nD Cert.XqIdeal.τ).loc Cert.XqIdeal.main_arg1)
      ∧ m' ((c.tc : Thread Cert.XqReferenceIdeal.nD Cert.XqReferenceIdeal.τ).loc Cert.XqReferenceIdeal.main_arg2) = m ((c.tc : Thread Cert.XqIdeal.nD Cert.XqIdeal.τ).loc Cert.XqIdeal.main_arg2)
      ∧ m' ((c.tc : Thread Cert.XqReferenceIdeal.nD Cert.XqReferenceIdeal.τ).loc Cert.XqReferenceIdeal.main_arg3) = m ((c.tc : Thread Cert.XqIdeal.nD Cert.XqIdeal.τ).loc Cert.XqIdeal.main_arg3)
      ∧ m' ((c.tc : Thread Cert.XqReferenceIdeal.nD Cert.XqReferenceIdeal.τ).loc Cert.XqReferenceIdeal.main_arg4) = m ((c.tc : Thread Cert.XqIdeal.nD Cert.XqIdeal.τ).loc Cert.XqIdeal.main_arg4)) →
    ∃ (v0 : (c : Dev Cert.XqIdeal.nD) → Buf (Elt Ideal) ((c.tc : Thread Cert.XqIdeal.nD Cert.XqIdeal.τ).loc Cert.XqIdeal.main_v0_0)) (v1 : (c : Dev Cert.XqIdeal.nD) → Buf (Elt Ideal) ((c.tc : Thread Cert.XqIdeal.nD Cert.XqIdeal.τ).loc Cert.XqIdeal.main_v0_1)) (v2 : (c : Dev Cert.XqIdeal.nD) → Buf (Elt Ideal) ((c.tc : Thread Cert.XqIdeal.nD Cert.XqIdeal.τ).loc Cert.XqIdeal.main_v0_2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0_0) = v0 c
          ∧ r.2.mem ((c.tc : Thread Cert.XqIdeal.nD Cert.XqIdeal.τ).loc Cert.XqIdeal.main_v0_1) = v1 c
          ∧ r.2.mem ((c.tc : Thread Cert.XqIdeal.nD Cert.XqIdeal.τ).loc Cert.XqIdeal.main_v0_2) = v2 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
          ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
          ∧ r.2.mem ((c.tc : Thread Cert.XqIdeal.nD Cert.XqIdeal.τ).loc Cert.XqIdeal.main_arg4) = m ((c.tc : Thread Cert.XqIdeal.nD Cert.XqIdeal.τ).loc Cert.XqIdeal.main_arg4))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v38) = v0 c
          ∧ r.2.mem ((c.tc : Thread Cert.XqReferenceIdeal.nD Cert.XqReferenceIdeal.τ).loc Cert.XqReferenceIdeal.main_v39) = v1 c
          ∧ r.2.mem ((c.tc : Thread Cert.XqReferenceIdeal.nD Cert.XqReferenceIdeal.τ).loc Cert.XqReferenceIdeal.main_v21) = v2 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0)
          ∧ r.2.mem ((c.tc : Thread Cert.XqReferenceIdeal.nD Cert.XqReferenceIdeal.τ).loc Cert.XqReferenceIdeal.main_arg1) = m' ((c.tc : Thread Cert.XqReferenceIdeal.nD Cert.XqReferenceIdeal.τ).loc Cert.XqReferenceIdeal.main_arg1)
          ∧ r.2.mem ((c.tc : Thread Cert.XqReferenceIdeal.nD Cert.XqReferenceIdeal.τ).loc Cert.XqReferenceIdeal.main_arg2) = m' ((c.tc : Thread Cert.XqReferenceIdeal.nD Cert.XqReferenceIdeal.τ).loc Cert.XqReferenceIdeal.main_arg2)
          ∧ r.2.mem ((c.tc : Thread Cert.XqReferenceIdeal.nD Cert.XqReferenceIdeal.τ).loc Cert.XqReferenceIdeal.main_arg3) = m' ((c.tc : Thread Cert.XqReferenceIdeal.nD Cert.XqReferenceIdeal.τ).loc Cert.XqReferenceIdeal.main_arg3)
          ∧ r.2.mem ((c.tc : Thread Cert.XqReferenceIdeal.nD Cert.XqReferenceIdeal.τ).loc Cert.XqReferenceIdeal.main_arg4) = m' ((c.tc : Thread Cert.XqReferenceIdeal.nD Cert.XqReferenceIdeal.τ).loc Cert.XqReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hDownW : Cert.DownW.Facts) (hDownWIdeal : Cert.DownWIdeal.Facts) (hDownWReferenceIdeal : Cert.DownWReferenceIdeal.Facts) (hUp : Cert.Up.Facts) (hUpIdeal : Cert.UpIdeal.Facts) (hUpReferenceIdeal : Cert.UpReferenceIdeal.Facts) (hUpW : Cert.UpW.Facts) (hUpWIdeal : Cert.UpWIdeal.Facts) (hUpWReferenceIdeal : Cert.UpWReferenceIdeal.Facts) (hIn : Cert.In.Facts) (hInIdeal : Cert.InIdeal.Facts) (hInReferenceIdeal : Cert.InReferenceIdeal.Facts) (hInW : Cert.InW.Facts) (hInWIdeal : Cert.InWIdeal.Facts) (hInWReferenceIdeal : Cert.InWReferenceIdeal.Facts) (hOut : Cert.Out.Facts) (hOutIdeal : Cert.OutIdeal.Facts) (hOutReferenceIdeal : Cert.OutReferenceIdeal.Facts) (hOutW : Cert.OutW.Facts) (hOutWIdeal : Cert.OutWIdeal.Facts) (hOutWReferenceIdeal : Cert.OutWReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hInFwd : Cert.InFwd.Facts) (hInFwdIdeal : Cert.InFwdIdeal.Facts) (hInFwdReferenceIdeal : Cert.InFwdReferenceIdeal.Facts) (hOutFwd : Cert.OutFwd.Facts) (hOutFwdIdeal : Cert.OutFwdIdeal.Facts) (hOutFwdReferenceIdeal : Cert.OutFwdReferenceIdeal.Facts) (hXoFwd : Cert.XoFwd.Facts) (hXoFwdIdeal : Cert.XoFwdIdeal.Facts) (hXoFwdReferenceIdeal : Cert.XoFwdReferenceIdeal.Facts) (hXqFwd : Cert.XqFwd.Facts) (hXqFwdIdeal : Cert.XqFwdIdeal.Facts) (hXqFwdReferenceIdeal : Cert.XqFwdReferenceIdeal.Facts) (hSmallFwd : Cert.SmallFwd.Facts) (hSmallFwdIdeal : Cert.SmallFwdIdeal.Facts) (hSmallFwdReferenceIdeal : Cert.SmallFwdReferenceIdeal.Facts) (hXo : Cert.Xo.Facts) (hXoIdeal : Cert.XoIdeal.Facts) (hXoReferenceIdeal : Cert.XoReferenceIdeal.Facts) (hMergeFwd : Cert.MergeFwd.Facts) (hMergeFwdIdeal : Cert.MergeFwdIdeal.Facts) (hMergeFwdReferenceIdeal : Cert.MergeFwdReferenceIdeal.Facts) (hMerge : Cert.Merge.Facts) (hMergeIdeal : Cert.MergeIdeal.Facts) (hMergeReferenceIdeal : Cert.MergeReferenceIdeal.Facts) (hXoW : Cert.XoW.Facts) (hXoWIdeal : Cert.XoWIdeal.Facts) (hXoWReferenceIdeal : Cert.XoWReferenceIdeal.Facts) (hXqW : Cert.XqW.Facts) (hXqWIdeal : Cert.XqWIdeal.Facts) (hXqWReferenceIdeal : Cert.XqWReferenceIdeal.Facts) (hXq : Cert.Xq.Facts) (hXqIdeal : Cert.XqIdeal.Facts) (hXqReferenceIdeal : Cert.XqReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_Up (hUp := hUp)
    ∧ quiescent_UpIdeal (hUpIdeal := hUpIdeal)
    ∧ quiescent_UpReferenceIdeal (hUpReferenceIdeal := hUpReferenceIdeal)
    ∧ quiescent_UpW (hUpW := hUpW)
    ∧ quiescent_UpWIdeal (hUpWIdeal := hUpWIdeal)
    ∧ quiescent_UpWReferenceIdeal (hUpWReferenceIdeal := hUpWReferenceIdeal)
    ∧ quiescent_In (hIn := hIn)
    ∧ quiescent_InIdeal (hInIdeal := hInIdeal)
    ∧ quiescent_InReferenceIdeal (hInReferenceIdeal := hInReferenceIdeal)
    ∧ quiescent_InW (hInW := hInW)
    ∧ quiescent_InWIdeal (hInWIdeal := hInWIdeal)
    ∧ quiescent_InWReferenceIdeal (hInWReferenceIdeal := hInWReferenceIdeal)
    ∧ quiescent_Out (hOut := hOut)
    ∧ quiescent_OutIdeal (hOutIdeal := hOutIdeal)
    ∧ quiescent_OutReferenceIdeal (hOutReferenceIdeal := hOutReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_XoFwd (hXoFwd := hXoFwd)
    ∧ quiescent_XoFwdIdeal (hXoFwdIdeal := hXoFwdIdeal)
    ∧ quiescent_XoFwdReferenceIdeal (hXoFwdReferenceIdeal := hXoFwdReferenceIdeal)
    ∧ quiescent_XqFwd (hXqFwd := hXqFwd)
    ∧ quiescent_XqFwdIdeal (hXqFwdIdeal := hXqFwdIdeal)
    ∧ quiescent_XqFwdReferenceIdeal (hXqFwdReferenceIdeal := hXqFwdReferenceIdeal)
    ∧ quiescent_SmallFwd (hSmallFwd := hSmallFwd)
    ∧ quiescent_SmallFwdIdeal (hSmallFwdIdeal := hSmallFwdIdeal)
    ∧ quiescent_SmallFwdReferenceIdeal (hSmallFwdReferenceIdeal := hSmallFwdReferenceIdeal)
    ∧ quiescent_Xo (hXo := hXo)
    ∧ quiescent_XoIdeal (hXoIdeal := hXoIdeal)
    ∧ quiescent_XoReferenceIdeal (hXoReferenceIdeal := hXoReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_XoW (hXoW := hXoW)
    ∧ quiescent_XoWIdeal (hXoWIdeal := hXoWIdeal)
    ∧ quiescent_XoWReferenceIdeal (hXoWReferenceIdeal := hXoWReferenceIdeal)
    ∧ quiescent_XqW (hXqW := hXqW)
    ∧ quiescent_XqWIdeal (hXqWIdeal := hXqWIdeal)
    ∧ quiescent_XqWReferenceIdeal (hXqWReferenceIdeal := hXqWReferenceIdeal)
    ∧ quiescent_Xq (hXq := hXq)
    ∧ quiescent_XqIdeal (hXqIdeal := hXqIdeal)
    ∧ quiescent_XqReferenceIdeal (hXqReferenceIdeal := hXqReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_DownW_DownWIdeal
    ∧ algebraic_DownWIdeal_DownWReferenceIdeal (hDownWIdeal := hDownWIdeal) (hDownWReferenceIdeal := hDownWReferenceIdeal)
    ∧ preserves_Up_UpIdeal
    ∧ algebraic_UpIdeal_UpReferenceIdeal (hUpIdeal := hUpIdeal) (hUpReferenceIdeal := hUpReferenceIdeal)
    ∧ preserves_UpW_UpWIdeal
    ∧ algebraic_UpWIdeal_UpWReferenceIdeal (hUpWIdeal := hUpWIdeal) (hUpWReferenceIdeal := hUpWReferenceIdeal)
    ∧ preserves_In_InIdeal
    ∧ algebraic_InIdeal_InReferenceIdeal (hInIdeal := hInIdeal) (hInReferenceIdeal := hInReferenceIdeal)
    ∧ preserves_InW_InWIdeal
    ∧ algebraic_InWIdeal_InWReferenceIdeal (hInWIdeal := hInWIdeal) (hInWReferenceIdeal := hInWReferenceIdeal)
    ∧ preserves_Out_OutIdeal
    ∧ algebraic_OutIdeal_OutReferenceIdeal (hOutIdeal := hOutIdeal) (hOutReferenceIdeal := hOutReferenceIdeal)
    ∧ preserves_OutW_OutWIdeal
    ∧ algebraic_OutWIdeal_OutWReferenceIdeal (hOutWIdeal := hOutWIdeal) (hOutWReferenceIdeal := hOutWReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_InFwd_InFwdIdeal
    ∧ algebraic_InFwdIdeal_InFwdReferenceIdeal (hInFwdIdeal := hInFwdIdeal) (hInFwdReferenceIdeal := hInFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_XoFwd_XoFwdIdeal
    ∧ algebraic_XoFwdIdeal_XoFwdReferenceIdeal (hXoFwdIdeal := hXoFwdIdeal) (hXoFwdReferenceIdeal := hXoFwdReferenceIdeal)
    ∧ preserves_XqFwd_XqFwdIdeal
    ∧ algebraic_XqFwdIdeal_XqFwdReferenceIdeal (hXqFwdIdeal := hXqFwdIdeal) (hXqFwdReferenceIdeal := hXqFwdReferenceIdeal)
    ∧ preserves_SmallFwd_SmallFwdIdeal
    ∧ algebraic_SmallFwdIdeal_SmallFwdReferenceIdeal (hSmallFwdIdeal := hSmallFwdIdeal) (hSmallFwdReferenceIdeal := hSmallFwdReferenceIdeal)
    ∧ preserves_Xo_XoIdeal
    ∧ algebraic_XoIdeal_XoReferenceIdeal (hXoIdeal := hXoIdeal) (hXoReferenceIdeal := hXoReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_Merge_MergeIdeal
    ∧ algebraic_MergeIdeal_MergeReferenceIdeal (hMergeIdeal := hMergeIdeal) (hMergeReferenceIdeal := hMergeReferenceIdeal)
    ∧ preserves_XoW_XoWIdeal
    ∧ algebraic_XoWIdeal_XoWReferenceIdeal (hXoWIdeal := hXoWIdeal) (hXoWReferenceIdeal := hXoWReferenceIdeal)
    ∧ preserves_XqW_XqWIdeal
    ∧ algebraic_XqWIdeal_XqWReferenceIdeal (hXqWIdeal := hXqWIdeal) (hXqWReferenceIdeal := hXqWReferenceIdeal)
    ∧ preserves_Xq_XqIdeal
    ∧ algebraic_XqIdeal_XqReferenceIdeal (hXqIdeal := hXqIdeal) (hXqReferenceIdeal := hXqReferenceIdeal)
-- ==== Pre_finite.lean ====
abbrev S4096x5760 : Shape := ⟨2, ![4096, 5760]⟩
abbrev S8x4096 : Shape := ⟨2, ![8, 4096]⟩
abbrev S4096x256 : Shape := ⟨2, ![4096, 256]⟩
abbrev S_ : Shape := ⟨0, ![]⟩

class Facts : Prop where
  bitsLt_bf16_f32 : FTy.bits .bf16 < FTy.bits .f32
  bcast_S_S4096x5760 : S_.BroadcastsInDim S4096x5760 (![] : Fin 0 → Fin S4096x5760.rank)
  reducesTo_S4096x5760_S_d0_1 : S4096x5760.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x5760 .bf16) (main_arg1 : FVec F S8x4096 .f32) (main_arg2 : FVec F S4096x256 .bf16) : IVec S_ 1 :=
  let main_v0 : FVec F S4096x5760 .f32 := (extf .f32 · bitsLt_bf16_f32) main_arg0
  let main_v1 : FVec F S4096x5760 .f32 := Host.absf main_v0
  let main_cst : FVec F S_ .f32 := constant S_ .f32 0x7F800000#32
  let main_v2 : FVec F S4096x5760 .f32 := broadcastInDim S4096x5760 ![] bcast_S_S4096x5760 main_cst
  let main_v3 : IVec S4096x5760 1 := cmpf .olt main_v1 main_v2
  let main_c : IVec S_ 1 := constantI S_ 1 1#1
  let main_v4 : IVec S_ 1 := (fun x v => Host.reduce IntOp.andi x v reducesTo_S4096x5760_S_d0_1 h_S_) main_v3 main_c
  let main_v5 : FVec F S8x4096 .f32 := Host.absf main_arg1
  let main_cst_0 : FVec F S_ .f32 := constant S_ .f32 0x7F800000#32
  let main_v6 : FVec F S8x4096 .f32 := broadcastInDim S8x4096 ![] bcast_S_S8x4096 main_cst_0
  let main_v7 : IVec S8x4096 1 := cmpf .olt main_v5 main_v6
  let main_c_1 : IVec S_ 1 := constantI S_ 1 1#1
  let main_v8 : IVec S_ 1 := (fun x v => Host.reduce IntOp.andi x v reducesTo_S8x4096_S_d0_1 h_S_) main_v7 main_c_1
  let main_v9 : IVec S_ 1 := andi main_v4 main_v8
  let main_v10 : FVec F S4096x256 .f32 := (extf .f32 · bitsLt_bf16_f32) main_arg2
  let main_v11 : FVec F S4096x256 .f32 := Host.absf main_v10
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  let main_c_3 : IVec S_ 1 := constantI S_ 1 1#1
  let main_v14 : IVec S_ 1 := (fun x v => Host.reduce IntOp.andi x v reducesTo_S4096x256_S_d0_1 h_S_) main_v13 main_c_3
  let main_v15 : IVec S_ 1 := andi main_v9 main_v14
  main_v15
-- ==== Kernel.lean ====
abbrev S4096x5760 : Shape := ⟨2, ![4096, 5760]⟩
abbrev S8x4096 : Shape := ⟨2, ![8, 4096]⟩
abbrev S4096x256 : Shape := ⟨2, ![4096, 256]⟩
abbrev S4096x8 : Shape := ⟨2, ![4096, 8]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4096x4 : Shape := ⟨2, ![4096, 4]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S512x256 : Shape := ⟨2, ![512, 256]⟩
abbrev S8x512 : Shape := ⟨2, ![8, 512]⟩
abbrev S512x8 : Shape := ⟨2, ![512, 8]⟩
abbrev S512x128 : Shape := ⟨2, ![512, 128]⟩
abbrev S1x128 : Shape := ⟨2, ![1, 128]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S512x1024 : Shape := ⟨2, ![512, 1024]⟩
abbrev S1024x128 : Shape := ⟨2, ![1024, 128]⟩
abbrev S1024x512 : Shape := ⟨2, ![1024, 512]⟩

abbrev nBuf : Space → Nat
  | .hbm => 112
  | .vmem => 26
  | .smem => 0
  | _ => 0

abbrev bufTy : (tb : Table) → Fin (tcTables nBuf tb) → BufTy
  | .hbm, ⟨0, _⟩ => ⟨S4096x5760, .bf16⟩
  | .hbm, ⟨1, _⟩ => ⟨S8x4096, .f32⟩
  | .hbm, ⟨2, _⟩ => ⟨S4096x256, .bf16⟩
  | .hbm, ⟨3, _⟩ => ⟨S4096x5760, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x8, .f32⟩
  | .hbm, ⟨8, _⟩ => ⟨S4096x4x64, .f32⟩
  | .hbm, ⟨9, _⟩ => ⟨S4x4096x64, .f32⟩
  | .hbm, ⟨10, _⟩ => ⟨S4096x4x64, .f32⟩
  | .hbm, ⟨11, _⟩ => ⟨S4x4096x64, .f32⟩
  | .hbm, ⟨12, _⟩ => ⟨S4096x4x64, .f32⟩
  | .hbm, ⟨13, _⟩ => ⟨S4x4096x64, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4096x4, .f32⟩
  | .hbm, ⟨23, _⟩ => ⟨S4x4096, .f32⟩
  | .hbm, ⟨24, _⟩ => ⟨S4x1x4096, .f32⟩
  | .hbm, ⟨25, _⟩ => ⟨S4x4096x4096, .f32⟩
  | .hbm, ⟨26, _⟩ => ⟨S4x4096x4096, .f32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S1x4096x4096, .i1⟩
  | .hbm, ⟨37, _⟩ => ⟨S_, .f32⟩
  | .hbm, ⟨38, _⟩ => ⟨S_, .f32⟩
  | .hbm, ⟨39, _⟩ => ⟨S4x4096x4096, .i1⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S4x4096x4096, .f32⟩
  | .hbm, ⟨55, _⟩ => ⟨S4x4096x4096, .f32⟩
  | .hbm, ⟨56, _⟩ => ⟨S4x4096x64, .f32⟩
  | .hbm, ⟨57, _⟩ => ⟨S4096x4x64, .f32⟩
  | .hbm, ⟨58, _⟩ => ⟨S4096x256, .f32⟩
  | .hbm, ⟨59, _⟩ => ⟨S4096x256, .bf16⟩
  | .hbm, ⟨60, _⟩ => ⟨S4096x4x64, .f32⟩
  | .hbm, ⟨61, _⟩ => ⟨S4x4096x64, .f32⟩
  | .hbm, ⟨62, _⟩ => ⟨S4096x4x64, .f32⟩
  | .hbm, ⟨63, _⟩ => ⟨S4x4096x64, .f32⟩
  | .hbm, ⟨64, _⟩ => ⟨S4096x4x64, .f32⟩
  | .hbm, ⟨65, _⟩ => ⟨S4x4096x64, .f32⟩
  | .hbm, ⟨66, _⟩ => ⟨S4x4096x4096, .f32⟩
  | .hbm, ⟨67, _⟩ => ⟨S_, .f32⟩
  | .hbm, ⟨68, _⟩ => ⟨S4x4096x4096, .f32⟩
  | .hbm, ⟨69, _⟩ => ⟨S4x4096x4096, .f32⟩
  | .hbm, ⟨70, _⟩ => ⟨S4x4096, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S4096x4, .f32⟩
  | .hbm, ⟨75, _⟩ => ⟨S4x4096, .f32⟩
  | .hbm, ⟨76, _⟩ => ⟨S4x1x4096, .f32⟩
  | .hbm, ⟨77, _⟩ => ⟨S4x4096x4096, .f32⟩
  | .hbm, ⟨78, _⟩ => ⟨S4x4096x4096, .f32⟩
  | .hbm, ⟨79, _⟩ => ⟨S4096, .i32⟩
  | .hbm, ⟨80, _⟩ => ⟨S1x4096, .i32⟩
  | .hbm, ⟨81, _⟩ => ⟨S4096x1, .i32⟩
  | .hbm, ⟨82, _⟩ => ⟨S_, .i32⟩
  | .hbm, ⟨83, _⟩ => ⟨S4096x1, .i32⟩
  | .hbm, ⟨84, _⟩ => ⟨S4096x1, .i32⟩
  | .hbm, ⟨85, _⟩ => ⟨S4096x4096, .i32⟩
  | .hbm, ⟨86, _⟩ => ⟨S4096x4096, .i32⟩
  | .hbm, ⟨87, _⟩ => ⟨S4096x4096, .i1⟩
  | .hbm, ⟨88, _⟩ => ⟨S1x4096x4096, .i1⟩
  | .hbm, ⟨89, _⟩ => ⟨S_, .f32⟩
  | .hbm, ⟨90, _⟩ => ⟨S_, .f32⟩
  | .hbm, ⟨91, _⟩ => ⟨S4x4096x4096, .i1⟩
  | .hbm, ⟨92, _⟩ => ⟨S4x4096x4096, .f32⟩
  | .hbm, ⟨93, _⟩ => ⟨S4x4096x4096, .f32⟩
  | .hbm, ⟨94, _⟩ => ⟨S_, .f32⟩
  | .hbm, ⟨95, _⟩ => ⟨S4x4096, .f32⟩
  | .hbm, ⟨96, _⟩ => ⟨S4x4096x1, .f32⟩
  | .hbm, ⟨97, _⟩ => ⟨S4x4096x4096, .f32⟩
  | .hbm, ⟨98, _⟩ => ⟨S4x4096x4096, .f32⟩
  | .hbm, ⟨99, _⟩ => ⟨S4x4096x4096, .f32⟩
  | .hbm, ⟨100, _⟩ => ⟨S_, .f32⟩
  | .hbm, ⟨101, _⟩ => ⟨S4x4096, .f32⟩
  | .hbm, ⟨102, _⟩ => ⟨S4x4096, .f32⟩
  | .hbm, ⟨103, _⟩ => ⟨S4x4096, .f32⟩
  | .hbm, ⟨104, _⟩ => ⟨S_, .i32⟩
  | .hbm, ⟨105, _⟩ => ⟨S_, .f32⟩
  | .hbm, ⟨106, _⟩ => ⟨S8x4096, .f32⟩
  | .hbm, ⟨107, _⟩ => ⟨S4096x256, .f32⟩
  | .hbm, ⟨108, _⟩ => ⟨S4096x256, .f32⟩
  | .hbm, ⟨109, _⟩ => ⟨S4096x256, .f32⟩
  | .hbm, ⟨110, _⟩ => ⟨S4096x8, .f32⟩
  | .hbm, ⟨111, _⟩ => ⟨S8x4096, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S512x8, .f32⟩
  | .local _ .vmem, ⟨15, _⟩ => ⟨S512x8, .f32⟩
  | .local _ .vmem, ⟨16, _⟩ => ⟨S4096x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x8, .f32⟩
  | .local _ .vmem, ⟨22, _⟩ => ⟨S512x8, .f32⟩
  | .local _ .vmem, ⟨23, _⟩ => ⟨S8x4096, .f32⟩
  | .local _ .vmem, ⟨24, _⟩ => ⟨S512x256, .f32⟩
  | .local _ .vmem, ⟨25, _⟩ => ⟨S512x256, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_c_5 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_6 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_8 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c_9 : Ref sig .tc := ⟨.hbm, 104, rfl⟩
abbrev main_call2_v0 : Ref sig .tc := ⟨.hbm, 105, rfl⟩
abbrev main_v84 : Ref sig .tc := ⟨.hbm, 106, rfl⟩
abbrev main_v85_0 : Ref sig .tc := ⟨.hbm, 107, rfl⟩
abbrev main_v85_1 : Ref sig .tc := ⟨.hbm, 108, rfl⟩
abbrev main_v85_2 : Ref sig .tc := ⟨.hbm, 109, rfl⟩
abbrev main_v85_3 : Ref sig .tc := ⟨.hbm, 110, rfl⟩
abbrev main_v85_4 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let arg0 : BitVec 32 := BitVec.ofNat 32 (i 0).val
  let v8 : BitVec 1 := Scalar.cmpi .sgt arg1 arg0
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c512_i32 : BitVec 32 := 512#32
  let v17 : BitVec 32 := Scalar.muli arg1 c512_i32
  v17
def k0_off1 (i : grid0.Coords) : Fin 2 → Nat :=
  let c0_39 : Index := 0#32
  let arg1 : BitVec 32 := BitVec.ofNat 32 (i 1).val
  let c512_i32 : BitVec 32 := 512#32
  let v17 : BitVec 32 := Scalar.muli arg1 c512_i32
  let v18 : BitVec 32 := v17
  let v89 : Index := Scalar.indexCast v18
  ![0, v89.toNat]
def k0_off2 (i : grid0.Coords) : Fin 2 → Nat :=
  let c1_67 : Index := 1#32
  let arg1 : BitVec 32 := BitVec.ofNat 32 (i 1).val
  let c512_i32 : BitVec 32 := 512#32
  let v17 : BitVec 32 := Scalar.muli arg1 c512_i32
  let v18 : BitVec 32 := v17
  let v162 : Index := Scalar.indexCast v18
  ![1, v162.toNat]
def k0_off3 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v230 : Index := Scalar.indexCast v18
  let c0_93 : Index := 0#32
  ![v230.toNat, 0]
def k0_off4 (i : grid0.Coords) : Fin 2 → Nat :=
  let c2_136 : Index := 2#32
  let arg1 : BitVec 32 := BitVec.ofNat 32 (i 1).val
  let c512_i32 : BitVec 32 := 512#32
  let v17 : BitVec 32 := Scalar.muli arg1 c512_i32
  let v18 : BitVec 32 := v17
  let v329 : Index := Scalar.indexCast v18
  ![2, v329.toNat]
def k0_off5 (i : grid0.Coords) : Fin 2 → Nat :=
  let c3_165 : Index := 3#32
  let arg1 : BitVec 32 := BitVec.ofNat 32 (i 1).val
  let c512_i32 : BitVec 32 := 512#32
  let v17 : BitVec 32 := Scalar.muli arg1 c512_i32
  let v18 : BitVec 32 := v17
  let v402 : Index := Scalar.indexCast v18
  ![3, v402.toNat]
def k0_off6 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v470 : Index := Scalar.indexCast v18
  let c128_191 : Index := 128#32
  ![v470.toNat, 128]
def k0_cond4 (i : grid0.Coords) : BitVec 1 :=
  let arg1 : BitVec 32 := BitVec.ofNat 32 (i 1).val
  let arg0 : BitVec 32 := BitVec.ofNat 32 (i 0).val
  let v11 : BitVec 1 := Scalar.cmpi .eq arg1 arg0
  let v12 : BitVec 32 := Scalar.extui v11
  let c0_i32_4 : BitVec 32 := 0#32
  let v13 : BitVec 1 := Scalar.cmpi .ne v12 c0_i32_4
  v13

def k0_mult2 (i : grid0.Coords) : BitVec 32 :=
  let arg1 : BitVec 32 := BitVec.ofNat 32 (i 1).val
  let c512_i32 : BitVec 32 := 512#32
  let v20 : BitVec 32 := Scalar.muli arg1 c512_i32
  v20
def k0_off7 (i : grid0.Coords) : Fin 2 → Nat :=
  let c0_40 : Index := 0#32
  let arg1 : BitVec 32 := BitVec.ofNat 32 (i 1).val
  let c512_i32 : BitVec 32 := 512#32
  let v20 : BitVec 32 := Scalar.muli arg1 c512_i32
  let v21 : BitVec 32 := v20
  let v94 : Index := Scalar.indexCast v21
  ![0, v94.toNat]
def k0_off8 (i : grid0.Coords) : Fin 2 → Nat :=
  let c1_69 : Index := 1#32
  let arg1 : BitVec 32 := BitVec.ofNat 32 (i 1).val
  let c512_i32 : BitVec 32 := 512#32
  let v20 : BitVec 32 := Scalar.muli arg1 c512_i32
  let v21 : BitVec 32 := v20
  let v169 : Index := Scalar.indexCast v21
  ![1, v169.toNat]
def k0_off9 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v237 : Index := Scalar.indexCast v21
  let c0_95 : Index := 0#32
  ![v237.toNat, 0]
def k0_off10 (i : grid0.Coords) : Fin 2 → Nat :=
  let c2_139 : Index := 2#32
  let arg1 : BitVec 32 := BitVec.ofNat 32 (i 1).val
  let c512_i32 : BitVec 32 := 512#32
  let v20 : BitVec 32 := Scalar.muli arg1 c512_i32
  let v21 : BitVec 32 := v20
  let v338 : Index := Scalar.indexCast v21
  ![2, v338.toNat]
def k0_off11 (i : grid0.Coords) : Fin 2 → Nat :=
  let c3_169 : Index := 3#32
  let arg1 : BitVec 32 := BitVec.ofNat 32 (i 1).val
  let c512_i32 : BitVec 32 := 512#32
  let v20 : BitVec 32 := Scalar.muli arg1 c512_i32
  let v21 : BitVec 32 := v20
  let v413 : Index := Scalar.indexCast v21
  ![3, v413.toNat]
def k0_off12 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v481 : Index := Scalar.indexCast v21
  let c128_195 : Index := 128#32
  ![v481.toNat, 128]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_5 : BitVec 32 := 0#32
  let v16 : BitVec 1 := Scalar.cmpi .ne v15 c0_i32_5
  v16

def k0_cond2 (i : grid0.Coords) : BitVec 1 :=
  let arg1 : BitVec 32 := BitVec.ofNat 32 (i 1).val
  let arg0 : BitVec 32 := BitVec.ofNat 32 (i 0).val
  let v5 : BitVec 1 := Scalar.cmpi .eq arg1 arg0
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c16_i32 : BitVec 32 := 16#32
  let c0_i32 : BitVec 32 := 0#32
  ![v0.toNat, c16_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, c18_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4096x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S8x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "log2e" => some (((Real.log 2)⁻¹ : ℝ) : EReal)
  | "mask" => some ⊥
  | "scale_log2e" => some ((8⁻¹ * (Real.log 2)⁻¹ : ℝ) : EReal)
  | _ => none
-- ==== ReferenceIdeal.lean ====
abbrev S4096x5760 : Shape := ⟨2, ![4096, 5760]⟩
abbrev S8x4096 : Shape := ⟨2, ![8, 4096]⟩
abbrev S4096x256 : Shape := ⟨2, ![4096, 256]⟩
abbrev S4096x8 : Shape := ⟨2, ![4096, 8]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4096x4 : Shape := ⟨2, ![4096, 4]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x64x4096 : Shape := ⟨3, ![4, 64, 4096]⟩

abbrev nBuf : Space → Nat
  | .hbm => 135
  | .vmem => 0
  | .smem => 0
  | _ => 0

abbrev hbmTy0_0 (i : Nat) : BufTy := match i % 128 with
  | 0 => ⟨S4096x5760, .bf16⟩
  | 1 => ⟨S8x4096, .f32⟩
  | 2 => ⟨S4096x256, .bf16⟩
  | 3 => ⟨S4096x5760, .f32⟩
  | 4 => ⟨S4096x256, .f32⟩
  | 5 => ⟨S4096x256, .f32⟩
  | 6 => ⟨S4096x256, .f32⟩
  | 7 => ⟨S4096x8, .f32⟩
  | 8 => ⟨S4096x4x64, .f32⟩
  | 9 => ⟨S4x4096x64, .f32⟩
  | 10 => ⟨S4096x4x64, .f32⟩
  | 11 => ⟨S4x4096x64, .f32⟩
  | 12 => ⟨S4096x4x64, .f32⟩
  | 13 => ⟨S4x4096x64, .f32⟩
  | 14 => ⟨S4x4096x4096, .f32⟩
  | 15 => ⟨S_, .f32⟩
  | 16 => ⟨S4x4096x4096, .f32⟩
  | 17 => ⟨S4x4096x4096, .f32⟩
  | 18 => ⟨S4x4096, .f32⟩
  | 19 => ⟨S4x4096x1, .f32⟩
  | 20 => ⟨S4x4096x4096, .f32⟩
  | 21 => ⟨S4x4096x4096, .f32⟩
  | 22 => ⟨S4096x4, .f32⟩
  | 23 => ⟨S4x4096, .f32⟩
  | 24 => ⟨S4x1x4096, .f32⟩
  | 25 => ⟨S4x4096x4096, .f32⟩
  | 26 => ⟨S4x4096x4096, .f32⟩
  | 27 => ⟨S4096, .i32⟩
  | 28 => ⟨S1x4096, .i32⟩
  | 29 => ⟨S4096x1, .i32⟩
  | 30 => ⟨S_, .i32⟩
  | 31 => ⟨S4096x1, .i32⟩
  | 32 => ⟨S4096x1, .i32⟩
  | 33 => ⟨S4096x4096, .i32⟩
  | 34 => ⟨S4096x4096, .i32⟩
  | 35 => ⟨S4096x4096, .i1⟩
  | 36 => ⟨S1x4096x4096, .i1⟩
  | 37 => ⟨S_, .f32⟩
  | 38 => ⟨S_, .f32⟩
  | 39 => ⟨S4x4096x4096, .i1⟩
  | 40 => ⟨S4x4096x4096, .f32⟩
  | 41 => ⟨S4x4096x4096, .f32⟩
  | 42 => ⟨S_, .f32⟩
  | 43 => ⟨S4x4096x4096, .f32⟩
  | 44 => ⟨S_, .f32⟩
  | 45 => ⟨S4x4096, .f32⟩
  | 46 => ⟨S4x4096x1, .f32⟩
  | 47 => ⟨S4x4096x4096, .f32⟩
  | 48 => ⟨S4x4096x4096, .i1⟩
  | 49 => ⟨S4x4096x4096, .f32⟩
  | 50 => ⟨S_, .f32⟩
  | 51 => ⟨S4x4096, .f32⟩
  | 52 => ⟨S_, .f32⟩
  | 53 => ⟨S4x4096, .f32⟩
  | 54 => ⟨S4x4096, .f32⟩
  | 55 => ⟨S_, .f32⟩
  | 56 => ⟨S4x4096, .f32⟩
  | 57 => ⟨S4x4096, .i1⟩
  | 58 => ⟨S_, .f32⟩
  | 59 => ⟨S4x4096, .f32⟩
  | 60 => ⟨S4x4096, .i1⟩
  | 61 => ⟨S_, .f32⟩
  | 62 => ⟨S4x4096, .f32⟩
  | 63 => ⟨S_, .f32⟩
  | 64 => ⟨S4x4096, .f32⟩
  | 65 => ⟨S_, .f32⟩
  | 66 => ⟨S4x4096, .f32⟩
  | 67 => ⟨S4x4096, .f32⟩
  | 68 => ⟨S4x4096, .f32⟩
  | 69 => ⟨S4x4096x1, .f32⟩
  | 70 => ⟨S4x4096x4096, .f32⟩
  | 71 => ⟨S4x4096x4096, .f32⟩
  | 72 => ⟨S4x4096x4096, .f32⟩
  | 73 => ⟨S_, .f32⟩
  | 74 => ⟨S4x4096, .f32⟩
  | 75 => ⟨S4x4096x1, .f32⟩
  | 76 => ⟨S4x4096x4096, .f32⟩
  | 77 => ⟨S4x4096x4096, .f32⟩
  | 78 => ⟨S4x4096x1, .f32⟩
  | 79 => ⟨S_, .f32⟩
  | 80 => ⟨S4x4096x1, .f32⟩
  | 81 => ⟨S4x4096x1, .f32⟩
  | 82 => ⟨S4x4096x64, .f32⟩
  | 83 => ⟨S4096x4x64, .f32⟩
  | 84 => ⟨S4096x256, .f32⟩
  | 85 => ⟨S4096x256, .f32⟩
  | 86 => ⟨S4096x4x64, .f32⟩
  | 87 => ⟨S4x4096x64, .f32⟩
  | 88 => ⟨S4x64x4096, .f32⟩
  | 89 => ⟨S4x4096x64, .f32⟩
  | 90 => ⟨S4x4096x4096, .f32⟩
  | 91 => ⟨S4x4096x4096, .f32⟩
  | 92 => ⟨S4x4096x4096, .f32⟩
  | 93 => ⟨S4x4096x4096, .f32⟩
  | 94 => ⟨S_, .f32⟩
  | 95 => ⟨S4x4096, .f32⟩
  | 96 => ⟨S4x4096x1, .f32⟩
  | 97 => ⟨S4x4096x1, .f32⟩
  | 98 => ⟨S4x4096x4096, .f32⟩
  | 99 => ⟨S4x4096x4096, .f32⟩
  | 100 => ⟨S_, .f32⟩
  | 101 => ⟨S4x4096, .f32⟩
  | 102 => ⟨S4x4096x4096, .f32⟩
  | 103 => ⟨S4x4096x4096, .f32⟩
  | 104 => ⟨S4x4096x4096, .f32⟩
  | 105 => ⟨S_, .f32⟩
  | 106 => ⟨S4x4096x4096, .f32⟩
  | 107 => ⟨S4x4096x4096, .f32⟩
  | 108 => ⟨S4x4096x4096, .f32⟩
  | 109 => ⟨S_, .f32⟩
  | 110 => ⟨S4x4096, .f32⟩
  | 111 => ⟨S4x1x4096, .f32⟩
  | 112 => ⟨S_, .f32⟩
  | 113 => ⟨S4x4096, .f32⟩
  | 114 => ⟨S4096x4, .f32⟩
  | 115 => ⟨S_, .f32⟩
  | 116 => ⟨S4096x8, .f32⟩
  | 117 => ⟨S_, .f32⟩
  | 118 => ⟨S4x4096, .f32⟩
  | 119 => ⟨S4x4096x1, .f32⟩
  | 120 => ⟨S_, .f32⟩
  | 121 => ⟨S4x4096, .f32⟩
  | 122 => ⟨S_, .f32⟩
  | 123 => ⟨S8x4096, .f32⟩
  | 124 => ⟨S_, .f32⟩
  | 125 => ⟨S4x4096x4096, .f32⟩
  | 126 => ⟨S4x4096x4096, .f32⟩
  | 127 => ⟨S4x4096x64, .f32⟩
  | _ => ⟨S4096x5760, .bf16⟩

abbrev hbmTy0_1 (i : Nat) : BufTy := match i % 128 with
  | 0 => ⟨S4x4096x64, .f32⟩
  | 1 => ⟨S4096x4x64, .f32⟩
  | 2 => ⟨S4096x256, .f32⟩
  | 3 => ⟨S4096x4x64, .f32⟩
  | 4 => ⟨S4096x256, .f32⟩
  | 5 => ⟨S4096x4x64, .f32⟩
  | 6 => ⟨S4096x256, .f32⟩
  | _ => ⟨S4096x5760, .bf16⟩

abbrev hbmTy (i : Nat) : BufTy := match i / 128 with
  | 0 => hbmTy0_0 i
  | 1 => hbmTy0_1 i
  | _ => ⟨S4096x5760, .bf16⟩

abbrev bufTy : (tb : Table) → Fin (tcTables nBuf tb) → BufTy
  | .hbm, ⟨i, _⟩ => hbmTy i
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_call0_v0 : Ref sig .tc := ⟨.hbm, 38, rfl⟩
abbrev main_v32_1 : Ref sig .tc := ⟨.hbm, 39, rfl⟩
abbrev main_call0_v2 : Ref sig .tc := ⟨.hbm, 40, rfl⟩
abbrev main_v32_0 : Ref sig .tc := ⟨.hbm, 41, rfl⟩
abbrev main_call0_cst : Ref sig .tc := ⟨.hbm, 42, rfl⟩
abbrev main_v32_2 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call1_cst : Ref sig .tc := ⟨.hbm, 105, rfl⟩
abbrev main_call1_v0 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DownW.lean ====
abbrev S4096x4096 : Shape := ⟨2, ![4096, 4096]⟩
abbrev S4096x1024 : Shape := ⟨2, ![4096, 1024]⟩
abbrev S8x4096x128 : Shape := ⟨3, ![8, 4096, 128]⟩
abbrev S1024x1024 : Shape := ⟨2, ![1024, 1024]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x4096x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024x128, .bf16⟩
  | .local _ .vmem, ⟨5, _⟩ => ⟨S8x1024x128, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4096x8x128 : Shape := ⟨3, ![4096, 8, 128]⟩
abbrev S8x4096x128 : Shape := ⟨3, ![8, 4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x8x128, .f32⟩
  | .hbm, ⟨14, _⟩ => ⟨S8x4096x128, .f32⟩
  | .hbm, ⟨15, _⟩ => ⟨S8x4096x128, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Up.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_26 : BitVec 32 := 0#32
  let v47 : BitVec 1 := Scalar.cmpi .ne v46 c0_i32_26
  v47

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== UpReferenceIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== UpW.lean ====
abbrev S4096x1024 : Shape := ⟨2, ![4096, 1024]⟩
abbrev S4096x4096 : Shape := ⟨2, ![4096, 4096]⟩
abbrev S32x1024x128 : Shape := ⟨3, ![32, 1024, 128]⟩
abbrev S1024x1024 : Shape := ⟨2, ![1024, 1024]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S32x1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024x128, .bf16⟩
  | .local _ .vmem, ⟨5, _⟩ => ⟨S8x1024x128, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x32x128 : Shape := ⟨3, ![1024, 32, 128]⟩
abbrev S32x1024x128 : Shape := ⟨3, ![32, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x32x128, .f32⟩
  | .hbm, ⟨10, _⟩ => ⟨S32x1024x128, .f32⟩
  | .hbm, ⟨11, _⟩ => ⟨S32x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== In.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S512x3072 : Shape := ⟨2, ![512, 3072]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_26 : BitVec 32 := 0#32
  let v47 : BitVec 1 := Scalar.cmpi .ne v46 c0_i32_26
  v47

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== InReferenceIdeal.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x6144, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== InW.lean ====
abbrev S4096x1024 : Shape := ⟨2, ![4096, 1024]⟩
abbrev S4096x6144 : Shape := ⟨2, ![4096, 6144]⟩
abbrev S48x1024x128 : Shape := ⟨3, ![48, 1024, 128]⟩
abbrev S1024x1024 : Shape := ⟨2, ![1024, 1024]⟩
abbrev S1024x2048 : Shape := ⟨2, ![1024, 2048]⟩
abbrev S16x1024x128 : Shape := ⟨3, ![16, 1024, 128]⟩
abbrev S1024x128 : Shape := ⟨2, ![1024, 128]⟩
abbrev S1x1024x128 : Shape := ⟨3, ![1, 1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S48x1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S16x1024x128, .bf16⟩
  | .local _ .vmem, ⟨5, _⟩ => ⟨S16x1024x128, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWReferenceIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x48x128 : Shape := ⟨3, ![1024, 48, 128]⟩
abbrev S48x1024x128 : Shape := ⟨3, ![48, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x48x128, .f32⟩
  | .hbm, ⟨10, _⟩ => ⟨S48x1024x128, .f32⟩
  | .hbm, ⟨11, _⟩ => ⟨S48x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4096x1024 : Shape := ⟨2, ![4096, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024x128, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWReferenceIdeal.lean ====
abbrev S4096x1024 : Shape := ⟨2, ![4096, 1024]⟩
abbrev S_ : Shape := ⟨0, ![]⟩
abbrev S1024x1024 : Shape := ⟨2, ![1024, 1024]⟩
abbrev S1024x8x128 : Shape := ⟨3, ![1024, 8, 128]⟩
abbrev S8x1024x128 : Shape := ⟨3, ![8, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x8x128, .f32⟩
  | .hbm, ⟨10, _⟩ => ⟨S8x1024x128, .f32⟩
  | .hbm, ⟨11, _⟩ => ⟨S8x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpFwd.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InFwd.lean ====
abbrev S4096x1024 : Shape := ⟨2, ![4096, 1024]⟩
abbrev S1024x6144 : Shape := ⟨2, ![1024, 6144]⟩
abbrev S4096x5760 : Shape := ⟨2, ![4096, 5760]⟩
abbrev S1024x1024 : Shape := ⟨2, ![1024, 1024]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1920, .bf16⟩
  | .local _ .vmem, ⟨5, _⟩ => ⟨S1024x1920, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S4096x1024 : Shape := ⟨2, ![4096, 1024]⟩
abbrev S1024x6144 : Shape := ⟨2, ![1024, 6144]⟩
abbrev S1024x5760 : Shape := ⟨2, ![1024, 5760]⟩
abbrev S4096x5760 : Shape := ⟨2, ![4096, 5760]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x5760, .bf16⟩
  | .hbm, ⟨4, _⟩ => ⟨S1024x5760, .f32⟩
  | .hbm, ⟨5, _⟩ => ⟨S4096x5760, .f32⟩
  | .hbm, ⟨6, _⟩ => ⟨S4096x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XoFwd.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoFwdReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XqFwd.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqFwdReferenceIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SmallFwd.lean ====
abbrev S4096x1024 : Shape := ⟨2, ![4096, 1024]⟩
abbrev S1024x6144 : Shape := ⟨2, ![1024, 6144]⟩
abbrev S4096x384 : Shape := ⟨2, ![4096, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi arg1 c15_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallFwdReferenceIdeal.lean ====
abbrev S4096x1024 : Shape := ⟨2, ![4096, 1024]⟩
abbrev S1024x6144 : Shape := ⟨2, ![1024, 6144]⟩
abbrev S1024x384 : Shape := ⟨2, ![1024, 384]⟩
abbrev S4096x384 : Shape := ⟨2, ![4096, 384]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x384, .bf16⟩
  | .hbm, ⟨4, _⟩ => ⟨S1024x384, .f32⟩
  | .hbm, ⟨5, _⟩ => ⟨S4096x384, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xo.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeFwd.lean ====
abbrev S4096x5760 : Shape := ⟨2, ![4096, 5760]⟩
abbrev S4096x256 : Shape := ⟨2, ![4096, 256]⟩
abbrev S4096x512 : Shape := ⟨2, ![4096, 512]⟩
abbrev S1x1024 : Shape := ⟨2, ![1, 1024]⟩
abbrev S256x1024 : Shape := ⟨2, ![256, 1024]⟩
abbrev S512x1024 : Shape := ⟨2, ![512, 1024]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x5760, .bf16⟩
  | .hbm, ⟨1, _⟩ => ⟨S4096x256, .bf16⟩
  | .hbm, ⟨2, _⟩ => ⟨S4096x512, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S512x1024, .bf16⟩
  | .local _ .vmem, ⟨17, _⟩ => ⟨S256x1024, .bf16⟩
  | .local _ .vmem, ⟨18, _⟩ => ⟨S512x1024, .bf16⟩
  | .local _ .vmem, ⟨19, _⟩ => ⟨S512x1024, .bf16⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdReferenceIdeal.lean ====
abbrev S4096x5760 : Shape := ⟨2, ![4096, 5760]⟩
abbrev S4096x256 : Shape := ⟨2, ![4096, 256]⟩
abbrev S4096x512 : Shape := ⟨2, ![4096, 512]⟩
abbrev S1x1024 : Shape := ⟨2, ![1, 1024]⟩
abbrev S256x1024 : Shape := ⟨2, ![256, 1024]⟩
abbrev S512x1024 : Shape := ⟨2, ![512, 1024]⟩
abbrev S4096x1024 : Shape := ⟨2, ![4096, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x256, .bf16⟩
  | .hbm, ⟨2, _⟩ => ⟨S4096x512, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S4096x256, .f32⟩
  | .hbm, ⟨11, _⟩ => ⟨S4096x512, .f32⟩
  | .hbm, ⟨12, _⟩ => ⟨S4096x256, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S4096x5760, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Merge.lean ====
abbrev S4096x5760 : Shape := ⟨2, ![4096, 5760]⟩
abbrev S4096x256 : Shape := ⟨2, ![4096, 256]⟩
abbrev S4096x512 : Shape := ⟨2, ![4096, 512]⟩
abbrev S1x1024 : Shape := ⟨2, ![1, 1024]⟩
abbrev S256x1024 : Shape := ⟨2, ![256, 1024]⟩
abbrev S512x1024 : Shape := ⟨2, ![512, 1024]⟩
abbrev S4096x1024 : Shape := ⟨2, ![4096, 1024]⟩
abbrev S4096x6144 : Shape := ⟨2, ![4096, 6144]⟩
abbrev S512x256 : Shape := ⟨2, ![512, 256]⟩
abbrev S512x512 : Shape := ⟨2, ![512, 512]⟩
abbrev S512x3072 : Shape := ⟨2, ![512, 3072]⟩
abbrev S1024 : Shape := ⟨1, ![1024]⟩
abbrev S4096x3072 : Shape := ⟨2, ![4096, 3072]⟩

abbrev nBuf : Space → Nat
  | .hbm => 22
  | .vmem => 34
  | .smem => 0
  | _ => 0

abbrev bufTy : (tb : Table) → Fin (tcTables nBuf tb) → BufTy
  | .hbm, ⟨0, _⟩ => ⟨S4096x5760, .bf16⟩
  | .hbm, ⟨1, _⟩ => ⟨S4096x256, .bf16⟩
  | .hbm, ⟨2, _⟩ => ⟨S4096x512, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S4096x1024, .f32⟩
  | .hbm, ⟨11, _⟩ => ⟨S4096x6144, .bf16⟩
  | .hbm, ⟨12, _⟩ => ⟨S4096x256, .bf16⟩
  | .hbm, ⟨13, _⟩ => ⟨S4096x512, .bf16⟩
  | .hbm, ⟨14, _⟩ => ⟨S4096x256, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S256x1024, .f32⟩
  | .hbm, ⟨19, _⟩ => ⟨S512x1024, .f32⟩
  | .hbm, ⟨20, _⟩ => ⟨S256x1024, .f32⟩
  | .hbm, ⟨21, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S512x1024, .bf16⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | .local _ .vmem, ⟨20, _⟩ => ⟨S512x3072, .bf16⟩
  | .local _ .vmem, ⟨21, _⟩ => ⟨S512x3072, .bf16⟩
  | .local _ .vmem, ⟨22, _⟩ => ⟨S512x256, .bf16⟩
  | .local _ .vmem, ⟨23, _⟩ => ⟨S512x256, .bf16⟩
  | .local _ .vmem, ⟨24, _⟩ => ⟨S512x512, .bf16⟩
  | .local _ .vmem, ⟨25, _⟩ => ⟨S512x512, .bf16⟩
  | .local _ .vmem, ⟨26, _⟩ => ⟨S512x256, .bf16⟩
  | .local _ .vmem, ⟨27, _⟩ => ⟨S512x256, .bf16⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .f32⟩
  | .local _ .vmem, ⟨32, _⟩ => ⟨S512x1024, .f32⟩
  | .local _ .vmem, ⟨33, _⟩ => ⟨S256x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v135 : BitVec 1 := Scalar.cmpi .eq arg0 c0_i32
  let v136 : BitVec 32 := Scalar.extui v135
  let c0_i32_67 : BitVec 32 := 0#32
  let v137 : BitVec 1 := Scalar.cmpi .ne v136 c0_i32_67
  v137

def k0_cond2 (i : grid0.Coords) : BitVec 1 :=
  let arg0 : BitVec 32 := BitVec.ofNat 32 (i 0).val
  let c0_i32 : BitVec 32 := 0#32
  let v135 : BitVec 1 := Scalar.cmpi .eq arg0 c0_i32
  let v_true : BitVec 1 := 1#1
  let v138 : BitVec 1 := Scalar.xori v135 v_true
  let v139 : BitVec 32 := Scalar.extui v138
  let c0_i32_68 : BitVec 32 := 0#32
  let v140 : BitVec 1 := Scalar.cmpi .ne v139 c0_i32_68
  v140

def k0_cond3 (i : grid0.Coords) : BitVec 1 :=
  let arg0 : BitVec 32 := BitVec.ofNat 32 (i 0).val
  let c0_i32 : BitVec 32 := 0#32
  let v135 : BitVec 1 := Scalar.cmpi .eq arg0 c0_i32
  let v141 : BitVec 32 := Scalar.extui v135
  let c0_i32_69 : BitVec 32 := 0#32
  let v142 : BitVec 1 := Scalar.cmpi .ne v141 c0_i32_69
  v142

def k0_cond4 (i : grid0.Coords) : BitVec 1 :=
  let arg0 : BitVec 32 := BitVec.ofNat 32 (i 0).val
  let c0_i32 : BitVec 32 := 0#32
  let v135 : BitVec 1 := Scalar.cmpi .eq arg0 c0_i32
  let true_70 : BitVec 1 := 1#1
  let v143 : BitVec 1 := Scalar.xori v135 true_70
  let v144 : BitVec 32 := Scalar.extui v143
  let c0_i32_71 : BitVec 32 := 0#32
  let v145 : BitVec 1 := Scalar.cmpi .ne v144 c0_i32_71
  v145

def k0_cond5 (i : grid0.Coords) : BitVec 1 :=
  let arg0 : BitVec 32 := BitVec.ofNat 32 (i 0).val
  let c0_i32 : BitVec 32 := 0#32
  let v135 : BitVec 1 := Scalar.cmpi .eq arg0 c0_i32
  let v146 : BitVec 32 := Scalar.extui v135
  let c0_i32_72 : BitVec 32 := 0#32
  let v147 : BitVec 1 := Scalar.cmpi .ne v146 c0_i32_72
  v147

def k0_cond6 (i : grid0.Coords) : BitVec 1 :=
  let arg0 : BitVec 32 := BitVec.ofNat 32 (i 0).val
  let c0_i32 : BitVec 32 := 0#32
  let v135 : BitVec 1 := Scalar.cmpi .eq arg0 c0_i32
  let true_73 : BitVec 1 := 1#1
  let v148 : BitVec 1 := Scalar.xori v135 true_73
  let v149 : BitVec 32 := Scalar.extui v148
  let c0_i32_74 : BitVec 32 := 0#32
  let v150 : BitVec 1 := Scalar.cmpi .ne v149 c0_i32_74
  v150

def k0_cond7 (i : grid0.Coords) : BitVec 1 :=
  let arg0 : BitVec 32 := BitVec.ofNat 32 (i 0).val
  let c0_i32 : BitVec 32 := 0#32
  let v135 : BitVec 1 := Scalar.cmpi .eq arg0 c0_i32
  let v151 : BitVec 32 := Scalar.extui v135
  let c0_i32_75 : BitVec 32 := 0#32
  let v152 : BitVec 1 := Scalar.cmpi .ne v151 c0_i32_75
  v152

def k0_cond8 (i : grid0.Coords) : BitVec 1 :=
  let arg0 : BitVec 32 := BitVec.ofNat 32 (i 0).val
  let c0_i32 : BitVec 32 := 0#32
  let v135 : BitVec 1 := Scalar.cmpi .eq arg0 c0_i32
  let true_76 : BitVec 1 := 1#1
  let v153 : BitVec 1 := Scalar.xori v135 true_76
  let v154 : BitVec 32 := Scalar.extui v153
  let c0_i32_77 : BitVec 32 := 0#32
  let v155 : BitVec 1 := Scalar.cmpi .ne v154 c0_i32_77
  v155

def k0_cond9 (i : grid0.Coords) : BitVec 1 :=
  let arg0 : BitVec 32 := BitVec.ofNat 32 (i 0).val
  let c0_i32 : BitVec 32 := 0#32
  let v135 : BitVec 1 := Scalar.cmpi .eq arg0 c0_i32
  let v156 : BitVec 32 := Scalar.extui v135
  let c0_i32_78 : BitVec 32 := 0#32
  let v157 : BitVec 1 := Scalar.cmpi .ne v156 c0_i32_78
  v157

def k0_cond10 (i : grid0.Coords) : BitVec 1 :=
  let arg0 : BitVec 32 := BitVec.ofNat 32 (i 0).val
  let c0_i32 : BitVec 32 := 0#32
  let v135 : BitVec 1 := Scalar.cmpi .eq arg0 c0_i32
  let true_79 : BitVec 1 := 1#1
  let v158 : BitVec 1 := Scalar.xori v135 true_79
  let v159 : BitVec 32 := Scalar.extui v158
  let c0_i32_80 : BitVec 32 := 0#32
  let v160 : BitVec 1 := Scalar.cmpi .ne v159 c0_i32_80
  v160

def k0_cond11 (i : grid0.Coords) : BitVec 1 :=
  let arg0 : BitVec 32 := BitVec.ofNat 32 (i 0).val
  let c0_i32 : BitVec 32 := 0#32
  let v135 : BitVec 1 := Scalar.cmpi .eq arg0 c0_i32
  let v161 : BitVec 32 := Scalar.extui v135
  let c0_i32_81 : BitVec 32 := 0#32
  let v162 : BitVec 1 := Scalar.cmpi .ne v161 c0_i32_81
  v162

def k0_cond12 (i : grid0.Coords) : BitVec 1 :=
  let arg0 : BitVec 32 := BitVec.ofNat 32 (i 0).val
  let c0_i32 : BitVec 32 := 0#32
  let v135 : BitVec 1 := Scalar.cmpi .eq arg0 c0_i32
  let true_82 : BitVec 1 := 1#1
  let v163 : BitVec 1 := Scalar.xori v135 true_82
  let v164 : BitVec 32 := Scalar.extui v163
  let c0_i32_83 : BitVec 32 := 0#32
  let v165 : BitVec 1 := Scalar.cmpi .ne v164 c0_i32_83
  v165

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MergeReferenceIdeal.lean ====
abbrev S4096x5760 : Shape := ⟨2, ![4096, 5760]⟩
abbrev S4096x256 : Shape := ⟨2, ![4096, 256]⟩
abbrev S4096x512 : Shape := ⟨2, ![4096, 512]⟩
abbrev S1x1024 : Shape := ⟨2, ![1, 1024]⟩
abbrev S256x1024 : Shape := ⟨2, ![256, 1024]⟩
abbrev S512x1024 : Shape := ⟨2, ![512, 1024]⟩
abbrev S4096x1024 : Shape := ⟨2, ![4096, 1024]⟩
abbrev S_ : Shape := ⟨0, ![]⟩
abbrev S1024x256 : Shape := ⟨2, ![1024, 256]⟩
abbrev S1024 : Shape := ⟨1, ![1024]⟩
abbrev S1024x512 : Shape := ⟨2, ![1024, 512]⟩
abbrev S4096x3072 : Shape := ⟨2, ![4096, 3072]⟩

abbrev nBuf : Space → Nat
  | .hbm => 105
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x256, .bf16⟩
  | .hbm, ⟨2, _⟩ => ⟨S4096x512, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S4096x1024, .f32⟩
  | .hbm, ⟨11, _⟩ => ⟨S4096x256, .f32⟩
  | .hbm, ⟨12, _⟩ => ⟨S4096x512, .f32⟩
  | .hbm, ⟨13, _⟩ => ⟨S4096x256, .f32⟩
  | .hbm, ⟨14, _⟩ => ⟨S256x1024, .f32⟩
  | .hbm, ⟨15, _⟩ => ⟨S512x1024, .f32⟩
  | .hbm, ⟨16, _⟩ => ⟨S256x1024, .f32⟩
  | .hbm, ⟨17, _⟩ => ⟨S4096x5760, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x256, .f32⟩
  | .hbm, ⟨76, _⟩ => ⟨S256x1024, .f32⟩
  | .hbm, ⟨77, _⟩ => ⟨S4096x256, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S1024x512, .f32⟩
  | .hbm, ⟨85, _⟩ => ⟨S512x1024, .f32⟩
  | .hbm, ⟨86, _⟩ => ⟨S4096x512, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S1024x256, .f32⟩
  | .hbm, ⟨94, _⟩ => ⟨S256x1024, .f32⟩
  | .hbm, ⟨95, _⟩ => ⟨S4096x256, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S4096x3072, .f32⟩
  | .hbm, ⟨101, _⟩ => ⟨S4096x3072, .bf16⟩
  | .hbm, ⟨102, _⟩ => ⟨S4096x256, .bf16⟩
  | .hbm, ⟨103, _⟩ => ⟨S4096x512, .bf16⟩
  | .hbm, ⟨104, _⟩ => ⟨S4096x256, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== XoW.lean ====
abbrev S4096x512 : Shape := ⟨2, ![4096, 512]⟩
abbrev S4096x1024 : Shape := ⟨2, ![4096, 1024]⟩
abbrev S8x512x128 : Shape := ⟨3, ![8, 512, 128]⟩
abbrev S1024x512 : Shape := ⟨2, ![1024, 512]⟩
abbrev S1024x1024 : Shape := ⟨2, ![1024, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S8x512x128, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x128, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoWReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== XqW.lean ====
abbrev S4096x1024 : Shape := ⟨2, ![4096, 1024]⟩
abbrev S4096x512 : Shape := ⟨2, ![4096, 512]⟩
abbrev S4x1024x128 : Shape := ⟨3, ![4, 1024, 128]⟩
abbrev S1024x1024 : Shape := ⟨2, ![1024, 1024]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4x1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S4x1024x128, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqWReferenceIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩
abbrev S1024x4x128 : Shape := ⟨3, ![1024, 4, 128]⟩
abbrev S4x1024x128 : Shape := ⟨3, ![4, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x4x128, .f32⟩
  | .hbm, ⟨10, _⟩ => ⟨S4x1024x128, .f32⟩
  | .hbm, ⟨11, _⟩ => ⟨S4x1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Xq.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== XqReferenceIdeal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x512, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Whole.lean ====
/- Stores into a buffer of which one covered it whole: what is read afterwards does not depend on the contents before. -/
module

public import Idealize.ShloMosaic.Lib.VecWindow
public import Idealize.ShloMosaic.Lib.WritesUnit

@[expose] public section

namespace Fox

open Idealize.ShloMosaic

/-- Two readings of a list of stores agree, whatever the buffers held, when one of the stores is of the whole shape. -/
theorem read_writes_of_whole {sig : RefSig} {κ : Kind} {sp : Space} {s : Shape} {e : EltTy} {Val : EltTy → Type}
    (v : View sig κ sp s e) (f g : v.ty.Contents Val) (L : List (View.Piece Val s e)) {off : Fin s.rank → ℕ}
    (inb : ∀ a, off a + s.size a ≤ s.size a) (w : s.Idx → Val e)
    (h : (⟨Rect.unit off s.size inb, w⟩ : View.Piece Val s e) ∈ L) :
    v.read Val (v.writes Val f L) = v.read Val (v.writes Val g L) :=
  funext fun y => View.read_writes_apply_eq v f v g y L ⟨_, h, (Rect.mem_set_unit (inb := inb)).mpr fun a => by
    have h1 := inb a
    have h2 := (y a).isLt
    exact ⟨by omega, by omega⟩⟩

end Fox
-- ==== Proof.RunFirst.lean ====
/- The body at the first grid point: everything is zeroed, then the diagonal block's shares are added. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at the first grid point: everything is zeroed, then the diagonal block's shares are added, each buffer's as a list (the last one first), with the proof that from buffers of
    any named contents the body runs to its end, the inputs as they were and each written buffer at its contents with the
    stores made. -/
def runFirst (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : k0_cond1 i = 1#1) (hc1 : k0_cond2 i = 1#1) (hc2 : ¬ k0_cond3 i = 1#1) (hc3 : k0_cond4 i = 1#1) (hc4 : ¬ k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) :
    Σ' (L0 : List (View.Piece (Elt F) S4096x256 .f32)), Σ' (L3 : List (View.Piece (Elt F) S512x8 .f32)), Σ' (L4 : List (View.Piece (Elt F) S8x4096 .f32)), Σ' (L5 : List (View.Piece (Elt F) S512x256 .f32)), { L6 : List (View.Piece (Elt F) S512x256 .f32) //
      ∀ (x8 : Vec F S4096x256 .f32) (x9 : Vec F S512x256 .f32) (x10 : Vec F S512x256 .f32) (x11 : Vec F S512x8 .f32) (x12 : Vec F S8x4096 .f32) (x13 : Vec F S512x256 .f32) (x14 : Vec F S512x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (arg10.view.read (Elt F) (arg10.view.writes (Elt F) arg10.view.junk L0)) ∗ owns c arg11 fullShare x9 ∗ owns c arg12 fullShare x10 ∗ owns c arg13 fullShare (arg13.view.read (Elt F) (arg13.view.writes (Elt F) arg13.view.junk L3)) ∗ owns c arg14 fullShare (arg14.view.read (Elt F) (arg14.view.writes (Elt F) arg14.view.junk L4)) ∗ owns c arg15 fullShare (arg15.view.read (Elt F) (arg15.view.writes (Elt F) arg15.view.junk L5)) ∗ owns c arg16 fullShare (arg16.view.read (Elt F) (arg16.view.writes (Elt F) arg16.view.junk L6))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x8 x9 x10 x11 x12 x13 x14 E K => ?run⟩
  case run =>
    rw [cc0_fox_bwd_eq_skeleton]; unfold cc0_fox_bwd_skel
    rw [k0_part23_eq_skeleton]; unfold k0_part23_skel
    rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact Fox.read_writes_of_whole _ _ _ _ _ _ (List.mem_cons_of_mem _ (List.mem_cons_of_mem _ (List.mem_cons_self)))
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact Fox.read_writes_of_whole _ _ _ _ _ _ (List.mem_cons_of_mem _ (List.mem_cons_of_mem _ (List.mem_cons_of_mem _ (List.mem_cons_of_mem _ (List.mem_cons_self)))))
    isplitl [H12]
    · iexists _; isplitr; swap; · iexact H12
      ipureintro; exact Fox.read_writes_of_whole _ _ _ _ _ _ (List.mem_cons_of_mem _ (List.mem_cons_of_mem _ (List.mem_cons_of_mem _ (List.mem_cons_of_mem _ (List.mem_cons_self)))))
    isplitl [H13]
    · iexists _; isplitr; swap; · iexact H13
      ipureintro; exact Fox.read_writes_of_whole _ _ _ _ _ _ (List.mem_cons_of_mem _ (List.mem_cons_of_mem _ (List.mem_cons_self)))
    iexists _; isplitr; swap; · iexact H14
    ipureintro; exact Fox.read_writes_of_whole _ _ _ _ _ _ (List.mem_cons_of_mem _ (List.mem_cons_of_mem _ (List.mem_cons_self)))

end Cert.KernelIdeal.Fox

end
-- ==== Proof.RunBelow.lean ====
/- The body at a grid point below the diagonal that is not the last of its key block. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at a grid point below the diagonal that is not the last of its key block, each buffer's as a list (the last one first), with the proof that from buffers of
    any named contents the body runs to its end, the inputs as they were and each written buffer at its contents with the
    stores made. -/
def runBelow (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x11 : Vec F S512x8 .f32) (x12 : Vec F S8x4096 .f32) (x13 : Vec F S512x256 .f32) (x14 : Vec F S512x256 .f32) :
    Σ' (L0 : List (View.Piece (Elt F) S4096x256 .f32)), Σ' (L3 : List (View.Piece (Elt F) S512x8 .f32)), Σ' (L4 : List (View.Piece (Elt F) S8x4096 .f32)), Σ' (L5 : List (View.Piece (Elt F) S512x256 .f32)), { L6 : List (View.Piece (Elt F) S512x256 .f32) //
      ∀ (x9 : Vec F S512x256 .f32) (x10 : Vec F S512x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (arg10.view.read (Elt F) (arg10.view.writes (Elt F) (harg10.unread x8) L0)) ∗ owns c arg11 fullShare x9 ∗ owns c arg12 fullShare x10 ∗ owns c arg13 fullShare (arg13.view.read (Elt F) (arg13.view.writes (Elt F) (harg13.unread x11) L3)) ∗ owns c arg14 fullShare (arg14.view.read (Elt F) (arg14.view.writes (Elt F) (harg14.unread x12) L4)) ∗ owns c arg15 fullShare (arg15.view.read (Elt F) (arg15.view.writes (Elt F) (harg15.unread x13) L5)) ∗ owns c arg16 fullShare (arg16.view.read (Elt F) (arg16.view.writes (Elt F) (harg16.unread x14) L6))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x9 x10 E K => ?run⟩
  case run =>
    rw [cc0_fox_bwd_eq_skeleton]; unfold cc0_fox_bwd_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; rfl
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Fox

end
-- ==== Proof.RunBelowLast.lean ====
/- The body at a grid point below the diagonal that is the last of its key block: the two accumulators are copied out. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at a grid point below the diagonal that is the last of its key block: the two accumulators are copied out, each buffer's as a list (the last one first), with the proof that from buffers of
    any named contents the body runs to its end, the inputs as they were and each written buffer at its contents with the
    stores made. -/
def runBelowLast (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x11 : Vec F S512x8 .f32) (x12 : Vec F S8x4096 .f32) (x13 : Vec F S512x256 .f32) (x14 : Vec F S512x256 .f32) :
    Σ' (L0 : List (View.Piece (Elt F) S4096x256 .f32)), Σ' (L1 : List (View.Piece (Elt F) S512x256 .f32)), Σ' (L2 : List (View.Piece (Elt F) S512x256 .f32)), Σ' (L3 : List (View.Piece (Elt F) S512x8 .f32)), Σ' (L4 : List (View.Piece (Elt F) S8x4096 .f32)), Σ' (L5 : List (View.Piece (Elt F) S512x256 .f32)), { L6 : List (View.Piece (Elt F) S512x256 .f32) //
      ∀ (x9 : Vec F S512x256 .f32) (x10 : Vec F S512x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (arg10.view.read (Elt F) (arg10.view.writes (Elt F) (harg10.unread x8) L0)) ∗ owns c arg11 fullShare (arg11.view.read (Elt F) (arg11.view.writes (Elt F) arg11.view.junk L1)) ∗ owns c arg12 fullShare (arg12.view.read (Elt F) (arg12.view.writes (Elt F) arg12.view.junk L2)) ∗ owns c arg13 fullShare (arg13.view.read (Elt F) (arg13.view.writes (Elt F) (harg13.unread x11) L3)) ∗ owns c arg14 fullShare (arg14.view.read (Elt F) (arg14.view.writes (Elt F) (harg14.unread x12) L4)) ∗ owns c arg15 fullShare (arg15.view.read (Elt F) (arg15.view.writes (Elt F) (harg15.unread x13) L5)) ∗ owns c arg16 fullShare (arg16.view.read (Elt F) (arg16.view.writes (Elt F) (harg16.unread x14) L6))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun x9 x10 E K => ?run⟩
  case run =>
    rw [cc0_fox_bwd_eq_skeleton]; unfold cc0_fox_bwd_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; rfl
    isplitl [H9]
    · iexists _; isplitr; swap; · iexact H9
      ipureintro; exact Fox.read_writes_of_whole _ _ _ _ _ _ (List.mem_cons_self)
    isplitl [H10]
    · iexists _; isplitr; swap; · iexact H10
      ipureintro; exact Fox.read_writes_of_whole _ _ _ _ _ _ (List.mem_cons_self)
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Fox

end
-- ==== Proof.RunAbove.lean ====
/- The body at a grid point above the diagonal: nothing is done. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at a grid point above the diagonal: nothing is done, each buffer's as a list (the last one first), with the proof that from buffers of
    any named contents the body runs to its end, the inputs as they were and each written buffer at its contents with the
    stores made. -/
theorem runAbove (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x9 : Vec F S512x256 .f32) (x10 : Vec F S512x256 .f32) (x11 : Vec F S512x8 .f32) (x12 : Vec F S8x4096 .f32) (x13 : Vec F S512x256 .f32) (x14 : Vec F S512x256 .f32) :
      ∀ (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  rw [cc0_fox_bwd_eq_skeleton]; unfold cc0_fox_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; exact harg14.read_unread _
  isplitl [H13]
  · iexists _; isplitr; swap; · iexact H13
    ipureintro; exact harg15.read_unread _
  iexists _; isplitr; swap; · iexact H14
  ipureintro; exact harg16.read_unread _

end Cert.KernelIdeal.Fox

end
-- ==== Proof.RunDiag.lean ====
/- The body at a diagonal grid point but the first and the last: the key block's accumulators are zeroed, then the diagonal block's shares are added. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at a diagonal grid point but the first and the last: the key block's accumulators are zeroed, then the diagonal block's shares are added, each buffer's as a list (the last one first), with the proof that from buffers of
    any named contents the body runs to its end, the inputs as they were and each written buffer at its contents with the
    stores made. -/
def runDiag (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : k0_cond2 i = 1#1) (hc2 : ¬ k0_cond3 i = 1#1) (hc3 : k0_cond4 i = 1#1) (hc4 : ¬ k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x12 : Vec F S8x4096 .f32) :
    Σ' (L0 : List (View.Piece (Elt F) S4096x256 .f32)), Σ' (L3 : List (View.Piece (Elt F) S512x8 .f32)), Σ' (L4 : List (View.Piece (Elt F) S8x4096 .f32)), Σ' (L5 : List (View.Piece (Elt F) S512x256 .f32)), { L6 : List (View.Piece (Elt F) S512x256 .f32) //
      ∀ (x9 : Vec F S512x256 .f32) (x10 : Vec F S512x256 .f32) (x11 : Vec F S512x8 .f32) (x13 : Vec F S512x256 .f32) (x14 : Vec F S512x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (arg10.view.read (Elt F) (arg10.view.writes (Elt F) (harg10.unread x8) L0)) ∗ owns c arg11 fullShare x9 ∗ owns c arg12 fullShare x10 ∗ owns c arg13 fullShare (arg13.view.read (Elt F) (arg13.view.writes (Elt F) arg13.view.junk L3)) ∗ owns c arg14 fullShare (arg14.view.read (Elt F) (arg14.view.writes (Elt F) (harg14.unread x12) L4)) ∗ owns c arg15 fullShare (arg15.view.read (Elt F) (arg15.view.writes (Elt F) arg15.view.junk L5)) ∗ owns c arg16 fullShare (arg16.view.read (Elt F) (arg16.view.writes (Elt F) arg16.view.junk L6))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x9 x10 x11 x13 x14 E K => ?run⟩
  case run =>
    rw [cc0_fox_bwd_eq_skeleton]; unfold cc0_fox_bwd_skel
    rw [k0_part23_eq_skeleton]; unfold k0_part23_skel
    rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; rfl
    isplitl [H9]
    · iexists _; isplitr; swap; · iexact H9
      ipureintro; exact harg11.read_unread _
    isplitl [H10]
    · iexists _; isplitr; swap; · iexact H10
      ipureintro; exact harg12.read_unread _
    isplitl [H11]
    · iexists _; isplitr; swap; · iexact H11
      ipureintro; exact Fox.read_writes_of_whole _ _ _ _ _ _ (List.mem_cons_of_mem _ (List.mem_cons_of_mem _ (List.mem_cons_of_mem _ (List.mem_cons_of_mem _ (List.mem_cons_self)))))
    isplitl [H12]
    · iexists _; isplitr; swap; · iexact H12
      ipureintro; rfl
    isplitl [H13]
    · iexists _; isplitr; swap; · iexact H13
      ipureintro; exact Fox.read_writes_of_whole _ _ _ _ _ _ (List.mem_cons_of_mem _ (List.mem_cons_of_mem _ (List.mem_cons_self)))
    iexists _; isplitr; swap; · iexact H14
    ipureintro; exact Fox.read_writes_of_whole _ _ _ _ _ _ (List.mem_cons_of_mem _ (List.mem_cons_of_mem _ (List.mem_cons_self)))

end Cert.KernelIdeal.Fox

end
-- ==== Proof.RunDiagLast.lean ====
/- The body at the last grid point: on the diagonal, and the last of its key block. -/
module

public import proofs.«01_k».proof.Proof.Whole
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The stores the body makes at the last grid point: on the diagonal, and the last of its key block, each buffer's as a list (the last one first), with the proof that from buffers of
    any named contents the body runs to its end, the inputs as they were and each written buffer at its contents with the
    stores made. -/
def runDiagLast (c : Dev nD) (i : grid0.Coords)
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : k0_cond2 i = 1#1) (hc2 : ¬ k0_cond3 i = 1#1) (hc3 : k0_cond4 i = 1#1) (hc4 : k0_cond5 i = 1#1)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x12 : Vec F S8x4096 .f32) :
    Σ' (L0 : List (View.Piece (Elt F) S4096x256 .f32)), Σ' (L1 : List (View.Piece (Elt F) S512x256 .f32)), Σ' (L2 : List (View.Piece (Elt F) S512x256 .f32)), Σ' (L3 : List (View.Piece (Elt F) S512x8 .f32)), Σ' (L4 : List (View.Piece (Elt F) S8x4096 .f32)), Σ' (L5 : List (View.Piece (Elt F) S512x256 .f32)), { L6 : List (View.Piece (Elt F) S512x256 .f32) //
      ∀ (x9 : Vec F S512x256 .f32) (x10 : Vec F S512x256 .f32) (x11 : Vec F S512x8 .f32) (x13 : Vec F S512x256 .f32) (x14 : Vec F S512x256 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare (arg10.view.read (Elt F) (arg10.view.writes (Elt F) (harg10.unread x8) L0)) ∗ owns c arg11 fullShare (arg11.view.read (Elt F) (arg11.view.writes (Elt F) arg11.view.junk L1)) ∗ owns c arg12 fullShare (arg12.view.read (Elt F) (arg12.view.writes (Elt F) arg12.view.junk L2)) ∗ owns c arg13 fullShare (arg13.view.read (Elt F) (arg13.view.writes (Elt F) arg13.view.junk L3)) ∗ owns c arg14 fullShare (arg14.view.read (Elt F) (arg14.view.writes (Elt F) (harg14.unread x12) L4)) ∗ owns c arg15 fullShare (arg15.view.read (Elt F) (arg15.view.writes (Elt F) arg15.view.junk L5)) ∗ owns c arg16 fullShare (arg16.view.read (Elt F) (arg16.view.writes (Elt F) arg16.view.junk L6))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun x9 x10 x11 x13 x14 E K => ?run⟩
  case run =>
    rw [cc0_fox_bwd_eq_skeleton]; unfold cc0_fox_bwd_skel
    rw [k0_part23_eq_skeleton]; unfold k0_part23_skel
    rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; rfl
    isplitl [H9]
    · iexists _; isplitr; swap; · iexact H9
      ipureintro; exact Fox.read_writes_of_whole _ _ _ _ _ _ (List.mem_cons_self)
    isplitl [H10]
    · iexists _; isplitr; swap; · iexact H10
      ipureintro; exact Fox.read_writes_of_whole _ _ _ _ _ _ (List.mem_cons_self)
    isplitl [H11]
    · iexists _; isplitr; swap; · iexact H11
      ipureintro; exact Fox.read_writes_of_whole _ _ _ _ _ _ (List.mem_cons_of_mem _ (List.mem_cons_of_mem _ (List.mem_cons_of_mem _ (List.mem_cons_of_mem _ (List.mem_cons_self)))))
    isplitl [H12]
    · iexists _; isplitr; swap; · iexact H12
      ipureintro; rfl
    isplitl [H13]
    · iexists _; isplitr; swap; · iexact H13
      ipureintro; exact Fox.read_writes_of_whole _ _ _ _ _ _ (List.mem_cons_of_mem _ (List.mem_cons_of_mem _ (List.mem_cons_self)))
    iexists _; isplitr; swap; · iexact H14
    ipureintro; exact Fox.read_writes_of_whole _ _ _ _ _ _ (List.mem_cons_of_mem _ (List.mem_cons_of_mem _ (List.mem_cons_self)))

end Cert.KernelIdeal.Fox

end
-- ==== Proof.FrameIdeal.lean ====
/- The kernel's body at every grid point, whatever the outputs and the two accumulators hold, and from it the run of the whole
   program: it ends, its arguments as they were and every semaphore back at zero. Nothing is said here of the results. -/
module

public import proofs.«01_k».proof.Proof.RunFirst
public import proofs.«01_k».proof.Proof.RunBelow
public import proofs.«01_k».proof.Proof.RunBelowLast
public import proofs.«01_k».proof.Proof.RunAbove
public import proofs.«01_k».proof.Proof.RunDiag
public import proofs.«01_k».proof.Proof.RunDiagLast
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Every grid point is of one of the six kinds the body tells apart. -/
theorem kinds : ∀ t : Fin cfg0.N, ((k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1 ∧ k0_cond5 (grid0.coords t) = 1#1)
    ∨ (¬ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1 ∧ k0_cond5 (grid0.coords t) = 1#1)) := by decide +kernel

/-- The body at a point of any kind, from buffers of any contents: it runs to its end and leaves the inputs as they were. -/
theorem rough (c : Dev nD) (i : grid0.Coords)
    (hk : (k0_cond1 i = 1#1 ∧ k0_cond2 i = 1#1 ∧ ¬ k0_cond3 i = 1#1 ∧ k0_cond4 i = 1#1 ∧ ¬ k0_cond5 i = 1#1)
    ∨ (¬ k0_cond1 i = 1#1 ∧ ¬ k0_cond2 i = 1#1 ∧ k0_cond3 i = 1#1 ∧ ¬ k0_cond4 i = 1#1 ∧ ¬ k0_cond5 i = 1#1)
    ∨ (¬ k0_cond1 i = 1#1 ∧ ¬ k0_cond2 i = 1#1 ∧ k0_cond3 i = 1#1 ∧ ¬ k0_cond4 i = 1#1 ∧ k0_cond5 i = 1#1)
    ∨ (¬ k0_cond1 i = 1#1 ∧ ¬ k0_cond2 i = 1#1 ∧ ¬ k0_cond3 i = 1#1 ∧ ¬ k0_cond4 i = 1#1 ∧ ¬ k0_cond5 i = 1#1)
    ∨ (¬ k0_cond1 i = 1#1 ∧ k0_cond2 i = 1#1 ∧ ¬ k0_cond3 i = 1#1 ∧ k0_cond4 i = 1#1 ∧ ¬ k0_cond5 i = 1#1)
    ∨ (¬ k0_cond1 i = 1#1 ∧ k0_cond2 i = 1#1 ∧ ¬ k0_cond3 i = 1#1 ∧ k0_cond4 i = 1#1 ∧ k0_cond5 i = 1#1))
    (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (x0 : Vec F S512x256 .bf16) (x1 : Vec F S512x256 .bf16) (x2 : Vec F S512x256 .bf16) (x3 : Vec F S512x256 .bf16) (x4 : Vec F S512x256 .bf16) (x5 : Vec F S8x512 .f32) (x6 : Vec F S8x512 .f32) (x7 : Vec F S512x8 .f32) (x8 : Vec F S4096x256 .f32) (x9 : Vec F S512x256 .f32) (x10 : Vec F S512x256 .f32) (x11 : Vec F S512x8 .f32) (x12 : Vec F S8x4096 .f32) (x13 : Vec F S512x256 .f32) (x14 : Vec F S512x256 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ (∃ X, owns c arg10 fullShare X) ∗ (∃ X, owns c arg11 fullShare X) ∗ (∃ X, owns c arg12 fullShare X) ∗ (∃ X, owns c arg13 fullShare X) ∗ (∃ X, owns c arg14 fullShare X) ∗ (∃ X, owns c arg15 fullShare X) ∗ (∃ X, owns c arg16 fullShare X)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  rcases hk with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  · iapply ((runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7).2.2.2.2.2 x8 x9 x10 x11 x12 x13 x14 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply ((runBelow (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x11 x12 x13 x14).2.2.2.2.2 x9 x10 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply ((runBelowLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x11 x12 x13 x14).2.2.2.2.2.2.2 x9 x10 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply (runAbove (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 x11 x12 x13 x14 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply ((runDiag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x12).2.2.2.2.2 x9 x10 x11 x13 x14 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply ((runDiagLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x12).2.2.2.2.2.2.2 x9 x10 x11 x13 x14 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

variable (m : (ℓ : Loc nD τ sig) → Buf (Elt F) ℓ) (ρ : Dev nD → PrngReg)

/-- The pipeline's proof data with the outputs unnamed: the arrays as the region finds them, each input's buffer at its block. -/
def roughDats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => Dat.unnamed 9 t
    | ⟨10, _⟩ => Dat.unnamed 10 t
    | ⟨11, _⟩ => Dat.unnamed 11 t
    | ⟨12, _⟩ => Dat.unnamed 12 t
  Φ _ := Pipeline.ΦA spec0 c
  q w := Pipeline.shareOf spec0 w
  owed _ := 0

/-- The windows whose contents are not named: the outputs. -/
def outs : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true

theorem rough_A (c : Dev nD) (w : Fin cfg0.W) : (roughDats m 0 c).A w = V m c (Pipeline.arrRef spec0 w) := by
  dsimp only [roughDats]

theorem rough_after0 (c : Dev nD) (t : Fin cfg0.N) : (roughDats m 0 c).after 0 t = X0_0 m c t := by dsimp only [roughDats]
theorem rough_after1 (c : Dev nD) (t : Fin cfg0.N) : (roughDats m 0 c).after 1 t = X0_1 m c t := by dsimp only [roughDats]
theorem rough_after2 (c : Dev nD) (t : Fin cfg0.N) : (roughDats m 0 c).after 2 t = X0_2 m c t := by dsimp only [roughDats]
theorem rough_after3 (c : Dev nD) (t : Fin cfg0.N) : (roughDats m 0 c).after 3 t = iblk m c 3 t := by dsimp only [roughDats]
theorem rough_after4 (c : Dev nD) (t : Fin cfg0.N) : (roughDats m 0 c).after 4 t = iblk m c 4 t := by dsimp only [roughDats]
theorem rough_after5 (c : Dev nD) (t : Fin cfg0.N) : (roughDats m 0 c).after 5 t = iblk m c 5 t := by dsimp only [roughDats]
theorem rough_after6 (c : Dev nD) (t : Fin cfg0.N) : (roughDats m 0 c).after 6 t = iblk m c 6 t := by dsimp only [roughDats]
theorem rough_after7 (c : Dev nD) (t : Fin cfg0.N) : (roughDats m 0 c).after 7 t = iblk m c 7 t := by dsimp only [roughDats]
theorem rough_before0 (c : Dev nD) (t : Fin cfg0.N) (d) : (roughDats m 0 c).before 0 t d = X0_0 m c t :=
  before0_0_of m (roughDats m 0 c) (rough_A m c 0) (rough_after0 m c) t d
theorem rough_before1 (c : Dev nD) (t : Fin cfg0.N) (d) : (roughDats m 0 c).before 1 t d = X0_1 m c t :=
  before0_1_of m (roughDats m 0 c) (rough_A m c 1) (rough_after1 m c) t d
theorem rough_before2 (c : Dev nD) (t : Fin cfg0.N) (d) : (roughDats m 0 c).before 2 t d = X0_2 m c t :=
  before0_2_of m (roughDats m 0 c) (rough_A m c 2) (rough_after2 m c) t d
theorem rough_before3 (c : Dev nD) (t : Fin cfg0.N) (d) : (roughDats m 0 c).before 3 t d = iblk m c 3 t :=
  before0_3_of m (roughDats m 0 c) (rough_A m c 3) (rough_after3 m c) t d
theorem rough_before4 (c : Dev nD) (t : Fin cfg0.N) (d) : (roughDats m 0 c).before 4 t d = iblk m c 4 t :=
  before0_4_of m (roughDats m 0 c) (rough_A m c 4) (rough_after4 m c) t d
theorem rough_before5 (c : Dev nD) (t : Fin cfg0.N) (d) : (roughDats m 0 c).before 5 t d = iblk m c 5 t :=
  before0_5_of m (roughDats m 0 c) (rough_A m c 5) (rough_after5 m c) t d
theorem rough_before6 (c : Dev nD) (t : Fin cfg0.N) (d) : (roughDats m 0 c).before 6 t d = iblk m c 6 t :=
  before0_6_of m (roughDats m 0 c) (rough_A m c 6) (rough_after6 m c) t d
theorem rough_before7 (c : Dev nD) (t : Fin cfg0.N) (d) : (roughDats m 0 c).before 7 t d = iblk m c 7 t :=
  before0_7_of m (roughDats m 0 c) (rough_A m c 7) (rough_after7 m c) t d

/-- What the body is called with at point `t`, the outputs at any contents, -/
def roughPre (c : Dev nD) (t : Fin cfg0.N) : sProp 𝕄 :=
  iprop((roughDats m 0 c).Φ t.castSucc ∗ (roughDats m 0 c).owesAt () t.castSucc
    ∗ (∃ d, owns c (st0_0 t) fullShare ((roughDats m 0 c).before 0 t d))
    ∗ (∃ d, owns c (st0_1 t) fullShare ((roughDats m 0 c).before 1 t d))
    ∗ (∃ d, owns c (st0_2 t) fullShare ((roughDats m 0 c).before 2 t d))
    ∗ (∃ d, owns c (st0_3 t) fullShare ((roughDats m 0 c).before 3 t d))
    ∗ (∃ d, owns c (st0_4 t) fullShare ((roughDats m 0 c).before 4 t d))
    ∗ (∃ d, owns c (st0_5 t) fullShare ((roughDats m 0 c).before 5 t d))
    ∗ (∃ d, owns c (st0_6 t) fullShare ((roughDats m 0 c).before 6 t d))
    ∗ (∃ d, owns c (st0_7 t) fullShare ((roughDats m 0 c).before 7 t d))
    ∗ (∃ X, owns c (st0_8 t) fullShare X)
    ∗ (∃ X, owns c (st0_9 t) fullShare X)
    ∗ (∃ X, owns c (st0_10 t) fullShare X)
    ∗ (∃ X, owns c (st0_11 t) fullShare X)
    ∗ (∃ X, owns c (st0_12 t) fullShare X))

/-- and what it returns. -/
def roughPost (c : Dev nD) (t : Fin cfg0.N) : sProp 𝕄 :=
  iprop((roughDats m 0 c).Φ t.succ ∗ (roughDats m 0 c).owesAt () t.succ
    ∗ owns c (st0_0 t) fullShare ((roughDats m 0 c).after 0 t)
    ∗ owns c (st0_1 t) fullShare ((roughDats m 0 c).after 1 t)
    ∗ owns c (st0_2 t) fullShare ((roughDats m 0 c).after 2 t)
    ∗ owns c (st0_3 t) fullShare ((roughDats m 0 c).after 3 t)
    ∗ owns c (st0_4 t) fullShare ((roughDats m 0 c).after 4 t)
    ∗ owns c (st0_5 t) fullShare ((roughDats m 0 c).after 5 t)
    ∗ owns c (st0_6 t) fullShare ((roughDats m 0 c).after 6 t)
    ∗ owns c (st0_7 t) fullShare ((roughDats m 0 c).after 7 t)
    ∗ (∃ X, owns c (st0_8 t) fullShare X)
    ∗ (∃ X, owns c (st0_9 t) fullShare X)
    ∗ (∃ X, owns c (st0_10 t) fullShare X)
    ∗ (∃ X, owns c (st0_11 t) fullShare X)
    ∗ (∃ X, owns c (st0_12 t) fullShare X))

theorem rough_body (c : Dev nD) (t : Fin cfg0.N) :
    roughPre m c t ⊢ wp frame (wpE (defs₀ (F := F)) Variants.none c none) Set.univ (bodyAt0 t) (fun _ => roughPost m c t) := by
  unfold roughPre roughPost bodyAt0
  simp only [rough_before0, rough_before1, rough_before2, rough_before3, rough_before4, rough_before5, rough_before6, rough_before7]
  rw [show (roughDats m 0 c).Φ t.succ = (roughDats m 0 c).Φ t.castSucc from rfl,
    show (roughDats m 0 c).owesAt () t.succ = (roughDats m 0 c).owesAt () t.castSucc from rfl,
    rough_after0, rough_after1, rough_after2, rough_after3, rough_after4, rough_after5, rough_after6, rough_after7]
  rw [show (roughDats m 0 c).Φ t.castSucc = Pipeline.ΦA spec0 c from rfl]
  unfold Pipeline.ΦA
  rw [scopedRest0_eq]
  iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (rough c (grid0.coords t) (kinds t) _ _ _ _ _ _ _ _ _ _ _ _ _ _ _ _ _ _ _ _ _ _ _ _ _ _ _ _ _ _ (X0_0 m c t) (X0_1 m c t) (X0_2 m c t) (iblk m c 3 t) (iblk m c 4 t) (iblk m c 5 t) (iblk m c 6 t) (iblk m c 7 t) d8 d9 d10 d11 d12 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · rw [owns_whole]; iexact S0
  isplitl [S1]; · rw [owns_whole]; iexact S1
  iintro ⟨H0, H1, H2, H3, H4, H5, H6, H7, H8, H9, H10, H11, H12, ⟨%y0, S0⟩, ⟨%y1, S1⟩⟩
  isplitl [S0 S1 Hr]
  · isplitl [S0 S1]
    · isplitl [S0]
      · iexists y0; iapply (Entails.of_eq (owns_whole (c : Thread nD τ) cc0_scratch0 fullShare y0)); iexact S0
      · iexists y1; iapply (Entails.of_eq (owns_whole (c : Thread nD τ) cc0_scratch1 fullShare y1)); iexact S1
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem row (t : Fin cfg0.N) :
    defs₀ (F := F) .tc cfg0.body (cfg0.bodyArgs t (cfg0.slots t)) = bodyAt0 t := by
  unfold defs₀; rw [Defs.onTc_tc]

theorem rough_obligation (c : Dev nD) : BodyObligation (roughDats (F := F) m 0 c) (defs₀ (F := F)) Variants.none () Set.univ outs := fun t => by
  rw [bigSep_W0, bigSep_W0, row]
  exact triple_restated (rough_body m c t) rfl .rfl fun _ => .rfl

set_option backward.isDefEq.respectTransparency.types false in
/-- The whole run, the outputs unnamed: it ends, the arrays at contents the pipeline may leave, every counter at zero. -/
theorem rough_run : θ_run defs (onTc (τ := τ) (main (F := F))) (s₀ m ρ)
    (fun r => (Pipeline.RDat.FramePost cfg0 (fun c => (roughDats m 0 c).toRForget outs) (V m)) r ∧ r.2.sem = fun _ => 0) :=
  Pipeline.θ_run_frame_forget_shared (Q' := _) cfgs (roughDats m) (0 : Fin 1) launch₀0 defs₀ Variants.none outs m ρ main
    (hbody := fun c => (rough_obligation m c).loose) (hq := fun _ _ _ => rfl)
    (howed := fun _ _ => rfl) (V := V m) (hmain := hmain m Variants.none) (hA := rough_A m) (hΦ := fun _ _ => rfl)

/-- After a run, the array behind an input window is as the region found it. -/
theorem in_kept (dat : (c : Dev nD) → Dat τ (Elt F) Unit ℕ (UR sig nD τ) ℕ cfg0 c)
    (hA : ∀ c w, (dat c).A w = V m c (Pipeline.arrRef spec0 w)) (r : PUnit × MemSt nD τ sig (Elt F))
    (h : Pipeline.RDat.FramePost cfg0 (fun c => (dat c).toRForget outs) (V m) r) (c : Dev nD) (w : Fin cfg0.W)
    (hw : (cfg0.win w).isOut = false) :
    r.2.mem ((cfg0.spec w).arr.view.loc (c.tc : Thread nD τ)) = V m c (Pipeline.arrRef spec0 w) :=
  (Pipeline.RDat.FramePost.arr_in h c w hw).trans ((congrFun ((dat c).toRForget_A outs) w).trans (hA c w))

theorem rough_args (r : PUnit × MemSt nD τ sig (Elt F))
    (h : Pipeline.RDat.FramePost cfg0 (fun c => (roughDats m 0 c).toRForget outs) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(in_kept m (roughDats m 0) (rough_A m) r h c 2 rfl).trans (V_main_arg0 m c),
   (in_kept m (roughDats m 0) (rough_A m) r h c 6 rfl).trans (V_main_arg1 m c),
   (in_kept m (roughDats m 0) (rough_A m) r h c 4 rfl).trans (V_main_arg2 m c)⟩

/-- The program runs to its end, its arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨rough_args m r h.1, h.2⟩) (rough_run m ρ)

end Cert.KernelIdeal.Fox

end
-- ==== Proof.Frames.lean ====
/- What is said of the programs besides their values: each runs to its end with its arguments unchanged and its
   semaphores at zero, and the two kernels differ by the three named constants only. -/
module

public import proofs.«01_k».proof.Defs
public import proofs.«01_k».proof.Proof.Gen.ReferenceIdeal
public import proofs.«01_k».proof.Proof.Gen.ReferenceIdeal.Run
public import proofs.«01_k».proof.Proof.FrameIdeal
public import proofs.«01_k».proof.Proof.Gen.Kernel
public import Idealize.ShloMosaic.Lib.Quiescent

@[expose] public section

set_option maxRecDepth 16384

noncomputable section

namespace Cert.Fox

open Idealize.ShloMosaic Idealize.SL.Sem

/-- A named constant's bits, for the printed program: with it the ideal kernel's text is the printed kernel's. -/
@[reducible] def printed : Named Bits where
  named _ _ bits := FloatOps.ofBits bits

attribute [local instance] printed

set_option maxHeartbeats 8000000 in
theorem defs_printed : Cert.Kernel.defs (F := Bits) = Cert.KernelIdeal.defs (F := Bits) :=
  congrArg (Pipeline.defs Cert.Kernel.pcfgs) (congrArg Defs.onTc (funext fun l => funext fun x => match l, x with
    | ⟨0, _⟩, (_, _) => rfl))

set_option maxHeartbeats 8000000 in
theorem main_printed : Cert.Kernel.main (F := Bits) = Cert.KernelIdeal.main (F := Bits) := rfl

set_option maxHeartbeats 8000000 in
/-- The printed kernel at its own formats. -/
theorem kernel : Cert.quiescent_Kernel := fun m ρ _ =>
  Eq.mpr (congrArg₂ (fun d p => θ_run d (onTc p) _ _) defs_printed main_printed) (Cert.KernelIdeal.Fox.frame (F := Bits) m ρ)

/-- The kernel on the extended reals. -/
theorem kernelIdeal : Cert.quiescent_KernelIdeal := fun m ρ _ => Cert.KernelIdeal.Fox.frame (F := Ideal) m ρ

/-- The reference allocates no semaphore, so its counters stay at zero. -/
theorem referenceIdeal : Cert.quiescent_ReferenceIdeal := fun m ρ _ =>
  (θ_run _ _ _).mono (fun r h => ⟨fun c => (h c).2.2.2.2.2, sem_eq_zero_of_no_sems (by decide) r.2⟩)
    (Cert.ReferenceIdeal.Value.run (F := Ideal) m ρ)

/-- The three constants the ideal kernel names. -/
theorem preserves : Cert.preserves_Kernel_KernelIdeal :=
  ⟨IdealRules.named_const.statement _ _ .f32 _ _ rfl, IdealRules.named_const.statement _ _ .f32 _ _ rfl,
    IdealRules.named_const.statement _ _ .f32 _ _ rfl⟩

end Cert.Fox

end
-- ==== Proof.Pieces.lean ====
/- What one block of the gradient pass is worth, over 128-lane blocks: the scores, the probabilities and the score
   gradient of one head (lanes `64 j … 64 j + 63`), at key `a` and query `b`. -/
module

public import proofs.«01_k».proof.Proof.Gen.KernelIdeal.Skeleton
public import Idealize.ShloMosaic.Lib.Pointwise
public import Idealize.ShloMosaic.Lib.WordCmp

@[expose] public section

noncomputable section

namespace Cert.KernelIdeal.Fox

open Cert.KernelIdeal Cert.KernelIdeal.Gen
open Idealize.ShloMosaic Idealize.ShloMosaic.TcCoe Idealize.ShloMosaic.Tactic

/-- Lane `d` of head `j` of a 128-lane block. -/
def ln (j : Fin 2) (d : Fin 64) : Fin 128 := ⟨64 * j.val + d.val, by omega⟩

/-- The scale of the scores times `log2 e`, `log2 e`, the mask's value and the scale. -/
def scaleLog2e : EReal := Named.named (F := Ideal) κ "scale_log2e" (φ := .f32) 0x3E38AA3B#32
def log2e : EReal := Named.named (F := Ideal) κ "log2e" (φ := .f32) 0x3FB8AA3B#32
def maskv : EReal := Named.named (F := Ideal) κ "mask" (φ := .f32) 0xF149F2CA#32
def eighth : EReal := Ideal.ofBits .f32 0x3E000000#32

/-- The score of key `a` and query `b`, in powers of two, without the query's terms. -/
def sc (Q K : Vec Ideal S512x128 .bf16) (ck : Vec Ideal S512x1 .f32) (j : Fin 2) (a b : Fin 512) : EReal :=
  (∑ d : Fin 64, K (ix2 a (ln j d)) * Q (ix2 b (ln j d))) * scaleLog2e - ck (ix2 a 0) * log2e

/-- The probability of key `a` at query `b`; on the diagonal block (`msk`) a key after the query has the mask's score. -/
def pr (msk : Bool) (Q K : Vec Ideal S512x128 .bf16) (ck : Vec Ideal S512x1 .f32) (lse cq : Vec Ideal S1x512 .f32) (j : Fin 2)
    (a b : Fin 512) : EReal :=
  Ideal.exp2 ((if msk = true ∧ b < a then maskv else sc Q K ck j a b) - (lse (ix2 0 b) - cq (ix2 0 b)) * log2e)

/-- The gradient of the score of key `a` and query `b`. -/
def ds (msk : Bool) (Q K V D O : Vec Ideal S512x128 .bf16) (ck : Vec Ideal S512x1 .f32) (lse cq : Vec Ideal S1x512 .f32) (j : Fin 2)
    (a b : Fin 512) : EReal :=
  pr msk Q K ck lse cq j a b
    * ((∑ d : Fin 64, V (ix2 a (ln j d)) * D (ix2 b (ln j d))) - ∑ d : Fin 64, D (ix2 b (ln j d)) * O (ix2 b (ln j d)))

theorem mask_lo (x : Fin 128) :
    IntOp.andi (IntOp.cmpi .sge (BitVec.ofNat 32 x.val) 0#32) (IntOp.cmpi .slt (BitVec.ofNat 32 x.val) 64#32)
      = if x.val < 64 then 1#1 else 0#1 := by
  revert x; decide

theorem mask_hi (x : Fin 128) :
    IntOp.andi (IntOp.cmpi .sge (BitVec.ofNat 32 x.val) 64#32) (IntOp.cmpi .slt (BitVec.ofNat 32 x.val) 128#32)
      = if x.val < 64 then 0#1 else 1#1 := by
  revert x; decide

theorem keep_word (a b : Fin 512) :
    IntOp.cmpi .sle (BitVec.ofNat 32 a.val) (BitVec.ofNat 32 b.val) = if b < a then 0#1 else 1#1 := by
  have ha : (BitVec.ofNat 32 a.val).toNat = a.val := by
    rw [BitVec.toNat_ofNat]; exact Nat.mod_eq_of_lt (by omega)
  have hb : (BitVec.ofNat 32 b.val).toNat = b.val := by
    rw [BitVec.toNat_ofNat]; exact Nat.mod_eq_of_lt (by omega)
  rw [WordCmp.cmpi_sle_of_lt (by rw [ha]; omega) (by rw [hb]; omega), ha, hb]
  by_cases h : b < a
  · have h' : ¬ a.val ≤ b.val := by rw [Fin.lt_def] at h; omega
    rw [if_pos h]; simp [h']
  · have h' : a.val ≤ b.val := by rw [Fin.lt_def] at h; omega
    rw [if_neg h]; simp [h']

theorem select_lo (x : Fin 128) (y z : EReal) :
    Scalar.select (IntOp.andi (IntOp.cmpi .sge (BitVec.ofNat 32 x.val) 0#32) (IntOp.cmpi .slt (BitVec.ofNat 32 x.val) 64#32)) y z
      = if x.val < 64 then y else z := by
  rw [mask_lo]; by_cases h : x.val < 64 <;> simp [h, Scalar.select]

theorem select_hi (x : Fin 128) (y z : EReal) :
    Scalar.select (IntOp.andi (IntOp.cmpi .sge (BitVec.ofNat 32 x.val) 64#32) (IntOp.cmpi .slt (BitVec.ofNat 32 x.val) 128#32)) y z
      = if x.val < 64 then z else y := by
  rw [mask_hi]; by_cases h : x.val < 64 <;> simp [h, Scalar.select]

theorem select_keep (a b : Fin 512) (y z : EReal) :
    Scalar.select (IntOp.cmpi .sle (BitVec.ofNat 32 a.val) (BitVec.ofNat 32 b.val)) y z = if b < a then z else y := by
  rw [keep_word]; by_cases h : b < a <;> simp [h, Scalar.select]

/-- A sum over the 128 lanes that keeps the first head's lanes is the sum over that head's lanes. -/
theorem sum_lo (f : Fin 128 → EReal) : (∑ x : Fin 128, if x.val < 64 then f x else 0) = ∑ d : Fin 64, f (ln 0 d) := by
  have h := Fin.sum_univ_add (a := 64) (b := 64) (fun x : Fin 128 => if x.val < 64 then f x else 0)
  refine h.trans ?_
  rw [Finset.sum_eq_zero (s := Finset.univ) (f := fun i : Fin 64 => if (Fin.natAdd 64 i : Fin 128).val < 64 then f (Fin.natAdd 64 i) else 0)
    (fun i _ => if_neg (by simp)), add_zero]
  refine Finset.sum_congr rfl fun d _ => ?_
  rw [if_pos (by simp)]
  exact congrArg f (Fin.ext (by simp [ln]))

theorem sum_hi (f : Fin 128 → EReal) : (∑ x : Fin 128, if x.val < 64 then 0 else f x) = ∑ d : Fin 64, f (ln 1 d) := by
  have h := Fin.sum_univ_add (a := 64) (b := 64) (fun x : Fin 128 => if x.val < 64 then 0 else f x)
  refine h.trans ?_
  rw [Finset.sum_eq_zero (s := Finset.univ) (f := fun i : Fin 64 => if (Fin.castAdd 64 i : Fin 128).val < 64 then 0 else f (Fin.castAdd 64 i))
    (fun i _ => if_pos (by simp)), zero_add]
  refine Finset.sum_congr rfl fun d _ => ?_
  rw [if_neg (by simp)]
  exact congrArg f (Fin.ext (by simp [ln, Nat.add_comm]))

theorem exp2_def' (x : EReal) : (FloatOps.exp2 (F := Ideal) (φ := .f32) x : EReal) = Ideal.exp2 x := rfl

/-- The two heads' shares of a 128-lane block: each lane takes its own head's. -/
theorem two_heads {n : ℕ} (l : Fin 128) (f g : Fin n → EReal) :
    (∑ x : Fin n, if l.val < 64 then f x else 0) + (∑ x : Fin n, if l.val < 64 then 0 else g x)
      = if l.val < 64 then ∑ x : Fin n, f x else ∑ x : Fin n, g x := by
  by_cases h : l.val < 64 <;> simp [h]

end Cert.KernelIdeal.Fox

end
-- ==== Proof.PayBelow.lean ====
/- The body's stored values below the diagonal, at an index: what each head's columns, rows and products add. -/
module

public import proofs.«01_k».proof.Proof.Pieces

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
/-- Head 0's probabilities. -/
theorem pU0 (Q K : Vec Ideal S512x128 .bf16) (cka : Vec Ideal S512x1 .f32) (lsea cqa : Vec Ideal S1x512 .f32) (a b : Fin 512) :
    (k0_pay11 (k0_pay9 Q K cka) (k0_pay10 lsea cqa)) (ix2 a b) = pr false Q K cka lsea cqa 0 a b := by
  pointwise [k0_pay9, k0_pay10, k0_pay11, k0_pay12, k0_pay20, k0_pay36, k0_pay45]
  simp only [select_lo, select_hi, select_keep, sum_lo, sum_hi, exp2_def', mul_ite, mul_zero]
  simp [pr, sc, scaleLog2e, log2e, maskv]

/-- Head 0's score gradients, scaled. -/
theorem eU0 (Q K V D O : Vec Ideal S512x128 .bf16) (cka : Vec Ideal S512x1 .f32) (lsea cqa : Vec Ideal S1x512 .f32) (a b : Fin 512) :
    (k0_pay16 (k0_pay12 V D (k0_pay8 D O) (k0_pay9 Q K cka) (k0_pay10 lsea cqa))) (ix2 a b) = ds false Q K V D O cka lsea cqa 0 a b * eighth := by
  pointwise [k0_pay8, k0_pay9, k0_pay10, k0_pay11, k0_pay12, k0_pay16, k0_pay20, k0_pay36, k0_pay45]
  simp only [select_lo, select_hi, select_keep, sum_lo, sum_hi, exp2_def', mul_ite, mul_zero]
  simp [ds, pr, sc, scaleLog2e, log2e, maskv, eighth]

/-- Head 1's probabilities. -/
theorem pU1 (Q K : Vec Ideal S512x128 .bf16) (ckb : Vec Ideal S512x1 .f32) (lseb cqb : Vec Ideal S1x512 .f32) (a b : Fin 512) :
    (k0_pay17 Q K ckb lseb cqb) (ix2 a b) = pr false Q K ckb lseb cqb 1 a b := by
  pointwise [k0_pay11, k0_pay12, k0_pay17, k0_pay20, k0_pay36, k0_pay45]
  simp only [select_lo, select_hi, select_keep, sum_lo, sum_hi, exp2_def', mul_ite, mul_zero]
  simp [pr, sc, scaleLog2e, log2e, maskv]

/-- Head 1's score gradients, scaled. -/
theorem eU1 (Q K V D O : Vec Ideal S512x128 .bf16) (ckb : Vec Ideal S512x1 .f32) (lseb cqb : Vec Ideal S1x512 .f32) (a b : Fin 512) :
    (k0_pay23 V D (k0_pay8 D O) (k0_pay17 Q K ckb lseb cqb) k0_pay18 k0_pay19) (ix2 a b) = ds false Q K V D O ckb lseb cqb 1 a b * eighth := by
  pointwise [k0_pay8, k0_pay11, k0_pay12, k0_pay17, k0_pay18, k0_pay19, k0_pay20, k0_pay23, k0_pay36, k0_pay45]
  simp only [select_lo, select_hi, select_keep, sum_lo, sum_hi, exp2_def', mul_ite, mul_zero]
  simp [ds, pr, sc, scaleLog2e, log2e, maskv, eighth]

/-- Head 2's probabilities. -/
theorem pU2 (Q K : Vec Ideal S512x128 .bf16) (cka : Vec Ideal S512x1 .f32) (lsea cqa : Vec Ideal S1x512 .f32) (a b : Fin 512) :
    (k0_pay34 Q K cka lsea cqa) (ix2 a b) = pr false Q K cka lsea cqa 0 a b := by
  pointwise [k0_pay11, k0_pay12, k0_pay20, k0_pay34, k0_pay36, k0_pay45]
  simp only [select_lo, select_hi, select_keep, sum_lo, sum_hi, exp2_def', mul_ite, mul_zero]
  simp [pr, sc, scaleLog2e, log2e, maskv]

/-- Head 2's score gradients, scaled. -/
theorem eU2 (Q K V D O : Vec Ideal S512x128 .bf16) (cka : Vec Ideal S512x1 .f32) (lsea cqa : Vec Ideal S1x512 .f32) (a b : Fin 512) :
    (k0_pay40 V D (k0_pay33 D O) (k0_pay34 Q K cka lsea cqa) k0_pay35 (FloatOps.ofBits FTy.bf16 0#16)) (ix2 a b) = ds false Q K V D O cka lsea cqa 0 a b * eighth := by
  pointwise [k0_pay11, k0_pay12, k0_pay20, k0_pay33, k0_pay34, k0_pay35, k0_pay36, k0_pay40, k0_pay45]
  simp only [select_lo, select_hi, select_keep, sum_lo, sum_hi, exp2_def', mul_ite, mul_zero]
  simp [ds, pr, sc, scaleLog2e, log2e, maskv, eighth]

/-- Head 3's probabilities. -/
theorem pU3 (Q K : Vec Ideal S512x128 .bf16) (ckb : Vec Ideal S512x1 .f32) (lseb cqb : Vec Ideal S1x512 .f32) (a b : Fin 512) :
    (k0_pay42 Q K (iota Kind.tc S1x128 32 [1] iota_S1x128_d1_w32) k0_pay41 (128#32) ckb lseb cqb) (ix2 a b) = pr false Q K ckb lseb cqb 1 a b := by
  pointwise [k0_pay11, k0_pay12, k0_pay20, k0_pay36, k0_pay41, k0_pay42, k0_pay45]
  simp only [select_lo, select_hi, select_keep, sum_lo, sum_hi, exp2_def', mul_ite, mul_zero]
  simp [pr, sc, scaleLog2e, log2e, maskv]

/-- Head 3's score gradients, scaled. -/
theorem eU3 (Q K V D O : Vec Ideal S512x128 .bf16) (ckb : Vec Ideal S512x1 .f32) (lseb cqb : Vec Ideal S1x512 .f32) (a b : Fin 512) :
    (k0_pay48 (k0_pay33 D O) (k0_pay42 Q K (iota Kind.tc S1x128 32 [1] iota_S1x128_d1_w32) k0_pay41 (128#32) ckb lseb cqb) (k0_pay43 V D) k0_pay44 (FloatOps.ofBits FTy.f32 0#32)) (ix2 a b) = ds false Q K V D O ckb lseb cqb 1 a b * eighth := by
  pointwise [k0_pay11, k0_pay12, k0_pay20, k0_pay33, k0_pay36, k0_pay41, k0_pay42, k0_pay43, k0_pay44, k0_pay45, k0_pay48]
  simp only [select_lo, select_hi, select_keep, sum_lo, sum_hi, exp2_def', mul_ite, mul_zero]
  simp [ds, pr, sc, scaleLog2e, log2e, maskv, eighth]

theorem dckU0 (Q K V D O : Vec Ideal S512x128 .bf16) (cka : Vec Ideal S512x1 .f32) (lsea cqa : Vec Ideal S1x512 .f32) (old : Vec Ideal S512x1 .f32) (a : Fin 512) :
    k0_pay13 V D (k0_pay8 D O) (k0_pay9 Q K cka) (k0_pay10 lsea cqa) old (ix2 a 0) = old (ix2 a 0) - ∑ b : Fin 512, ds false Q K V D O cka lsea cqa 0 a b := by
  pointwise [k0_pay8, k0_pay9, k0_pay10, k0_pay11, k0_pay12, k0_pay13, k0_pay20, k0_pay36, k0_pay45]
  simp only [select_lo, select_hi, select_keep, sum_lo, sum_hi, exp2_def', mul_ite, mul_zero]
  simp [ds, pr, sc, scaleLog2e, log2e, maskv]

theorem dckU1 (Q K V D O : Vec Ideal S512x128 .bf16) (ckb : Vec Ideal S512x1 .f32) (lseb cqb : Vec Ideal S1x512 .f32) (old : Vec Ideal S512x1 .f32) (a : Fin 512) :
    k0_pay21 V D (k0_pay8 D O) (k0_pay17 Q K ckb lseb cqb) k0_pay18 k0_pay19 old (ix2 a 0) = old (ix2 a 0) - ∑ b : Fin 512, ds false Q K V D O ckb lseb cqb 1 a b := by
  pointwise [k0_pay8, k0_pay11, k0_pay12, k0_pay17, k0_pay18, k0_pay19, k0_pay20, k0_pay21, k0_pay36, k0_pay45]
  simp only [select_lo, select_hi, select_keep, sum_lo, sum_hi, exp2_def', mul_ite, mul_zero]
  simp [ds, pr, sc, scaleLog2e, log2e, maskv]

theorem dckU2 (Q K V D O : Vec Ideal S512x128 .bf16) (cka : Vec Ideal S512x1 .f32) (lsea cqa : Vec Ideal S1x512 .f32) (old : Vec Ideal S512x1 .f32) (a : Fin 512) :
    k0_pay37 V D (k0_pay33 D O) (k0_pay34 Q K cka lsea cqa) k0_pay35 (FloatOps.ofBits FTy.bf16 0#16) old (ix2 a 0) = old (ix2 a 0) - ∑ b : Fin 512, ds false Q K V D O cka lsea cqa 0 a b := by
  pointwise [k0_pay11, k0_pay12, k0_pay20, k0_pay33, k0_pay34, k0_pay35, k0_pay36, k0_pay37, k0_pay45]
  simp only [select_lo, select_hi, select_keep, sum_lo, sum_hi, exp2_def', mul_ite, mul_zero]
  simp [ds, pr, sc, scaleLog2e, log2e, maskv]

theorem dckU3 (Q K V D O : Vec Ideal S512x128 .bf16) (ckb : Vec Ideal S512x1 .f32) (lseb cqb : Vec Ideal S1x512 .f32) (old : Vec Ideal S512x1 .f32) (a : Fin 512) :
    k0_pay46 (k0_pay33 D O) (k0_pay42 Q K (iota Kind.tc S1x128 32 [1] iota_S1x128_d1_w32) k0_pay41 (128#32) ckb lseb cqb) (k0_pay43 V D) k0_pay44 (FloatOps.ofBits FTy.f32 0#32) old (ix2 a 0) = old (ix2 a 0) - ∑ b : Fin 512, ds false Q K V D O ckb lseb cqb 1 a b := by
  pointwise [k0_pay11, k0_pay12, k0_pay20, k0_pay33, k0_pay36, k0_pay41, k0_pay42, k0_pay43, k0_pay44, k0_pay45, k0_pay46]
  simp only [select_lo, select_hi, select_keep, sum_lo, sum_hi, exp2_def', mul_ite, mul_zero]
  simp [ds, pr, sc, scaleLog2e, log2e, maskv]

theorem dcqU0 (Q K V D O : Vec Ideal S512x128 .bf16) (cka : Vec Ideal S512x1 .f32) (lsea cqa : Vec Ideal S1x512 .f32) (old : Vec Ideal S1x512 .f32) (b : Fin 512) :
    k0_pay14 V D (k0_pay8 D O) (k0_pay9 Q K cka) (k0_pay10 lsea cqa) old (ix2 0 b) = old (ix2 0 b) + ∑ a : Fin 512, ds false Q K V D O cka lsea cqa 0 a b := by
  pointwise [k0_pay8, k0_pay9, k0_pay10, k0_pay11, k0_pay12, k0_pay14, k0_pay20, k0_pay36, k0_pay45]
  simp only [select_lo, select_hi, select_keep, sum_lo, sum_hi, exp2_def', mul_ite, mul_zero]
  simp [ds, pr, sc, scaleLog2e, log2e, maskv]

theorem dcqU1 (Q K V D O : Vec Ideal S512x128 .bf16) (ckb : Vec Ideal S512x1 .f32) (lseb cqb : Vec Ideal S1x512 .f32) (old : Vec Ideal S1x512 .f32) (b : Fin 512) :
    k0_pay22 V D (k0_pay8 D O) (k0_pay17 Q K ckb lseb cqb) k0_pay18 k0_pay19 old (ix2 0 b) = old (ix2 0 b) + ∑ a : Fin 512, ds false Q K V D O ckb lseb cqb 1 a b := by
  pointwise [k0_pay8, k0_pay11, k0_pay12, k0_pay17, k0_pay18, k0_pay19, k0_pay20, k0_pay22, k0_pay36, k0_pay45]
  simp only [select_lo, select_hi, select_keep, sum_lo, sum_hi, exp2_def', mul_ite, mul_zero]
  simp [ds, pr, sc, scaleLog2e, log2e, maskv]

theorem dcqU2 (Q K V D O : Vec Ideal S512x128 .bf16) (cka : Vec Ideal S512x1 .f32) (lsea cqa : Vec Ideal S1x512 .f32) (old : Vec Ideal S1x512 .f32) (b : Fin 512) :
    k0_pay38 V D (k0_pay33 D O) (k0_pay34 Q K cka lsea cqa) k0_pay35 (FloatOps.ofBits FTy.bf16 0#16) old (ix2 0 b) = old (ix2 0 b) + ∑ a : Fin 512, ds false Q K V D O cka lsea cqa 0 a b := by
  pointwise [k0_pay11, k0_pay12, k0_pay20, k0_pay33, k0_pay34, k0_pay35, k0_pay36, k0_pay38, k0_pay45]
  simp only [select_lo, select_hi, select_keep, sum_lo, sum_hi, exp2_def', mul_ite, mul_zero]
  simp [ds, pr, sc, scaleLog2e, log2e, maskv]

theorem dcqU3 (Q K V D O : Vec Ideal S512x128 .bf16) (ckb : Vec Ideal S512x1 .f32) (lseb cqb : Vec Ideal S1x512 .f32) (old : Vec Ideal S1x512 .f32) (b : Fin 512) :
    k0_pay47 (k0_pay33 D O) (k0_pay42 Q K (iota Kind.tc S1x128 32 [1] iota_S1x128_d1_w32) k0_pay41 (128#32) ckb lseb cqb) (k0_pay43 V D) k0_pay44 (FloatOps.ofBits FTy.f32 0#32) old (ix2 0 b) = old (ix2 0 b) + ∑ a : Fin 512, ds false Q K V D O ckb lseb cqb 1 a b := by
  pointwise [k0_pay11, k0_pay12, k0_pay20, k0_pay33, k0_pay36, k0_pay41, k0_pay42, k0_pay43, k0_pay44, k0_pay45, k0_pay47]
  simp only [select_lo, select_hi, select_keep, sum_lo, sum_hi, exp2_def', mul_ite, mul_zero]
  simp [ds, pr, sc, scaleLog2e, log2e, maskv]

theorem dvU0 (Q K D : Vec Ideal S512x128 .bf16) (cka ckb : Vec Ideal S512x1 .f32) (lsea cqa lseb cqb : Vec Ideal S1x512 .f32) (old : Vec Ideal S512x128 .f32) (r : Fin 512) (l : Fin 128) :
    k0_pay26 D old (k0_pay24 (k0_pay15 (k0_pay11 (k0_pay9 Q K cka) (k0_pay10 lsea cqa))) (k0_pay17 Q K ckb lseb cqb)) (iota Kind.tc S1x128 32 [1] iota_S1x128_d1_w32) k0_pay25 (ix2 r l)
      = old (ix2 r l) + if l.val < 64 then ∑ b : Fin 512, pr false Q K cka lsea cqa 0 r b * D (ix2 b l) else ∑ b : Fin 512, pr false Q K ckb lseb cqb 1 r b * D (ix2 b l) := by
  have ha := pU0 Q K cka lsea cqa
  have hb := pU1 Q K ckb lseb cqb
  generalize (k0_pay11 (k0_pay9 Q K cka) (k0_pay10 lsea cqa)) = PA at ha ⊢
  generalize (k0_pay17 Q K ckb lseb cqb) = PB at hb ⊢
  pointwise [k0_pay15, k0_pay24, k0_pay25, k0_pay26]
  simp only [select_lo, select_hi, two_heads, ha, hb]

theorem dvU1 (Q K D : Vec Ideal S512x128 .bf16) (cka ckb : Vec Ideal S512x1 .f32) (lsea cqa lseb cqb : Vec Ideal S1x512 .f32) (old : Vec Ideal S512x128 .f32) (r : Fin 512) (l : Fin 128) :
    k0_pay52 D old (k0_pay49 (k0_pay39 (k0_pay34 Q K cka lsea cqa)) (k0_pay42 Q K (iota Kind.tc S1x128 32 [1] iota_S1x128_d1_w32) k0_pay41 (128#32) ckb lseb cqb)) (k0_pay50 D) (iota Kind.tc S1x128 32 [1] iota_S1x128_d1_w32) k0_pay51 (ix2 r l)
      = old (ix2 r l) + if l.val < 64 then ∑ b : Fin 512, pr false Q K cka lsea cqa 0 r b * D (ix2 b l) else ∑ b : Fin 512, pr false Q K ckb lseb cqb 1 r b * D (ix2 b l) := by
  have ha := pU2 Q K cka lsea cqa
  have hb := pU3 Q K ckb lseb cqb
  generalize (k0_pay34 Q K cka lsea cqa) = PA at ha ⊢
  generalize (k0_pay42 Q K (iota Kind.tc S1x128 32 [1] iota_S1x128_d1_w32) k0_pay41 (128#32) ckb lseb cqb) = PB at hb ⊢
  pointwise [k0_pay39, k0_pay49, k0_pay50, k0_pay51, k0_pay52]
  simp only [select_lo, select_hi, two_heads, ha, hb]

theorem dkU0 (Q K V D O : Vec Ideal S512x128 .bf16) (cka ckb : Vec Ideal S512x1 .f32) (lsea cqa lseb cqb : Vec Ideal S1x512 .f32) (old : Vec Ideal S512x128 .f32) (r : Fin 512) (l : Fin 128) :
    k0_pay31 Q old (k0_pay27 (k0_pay16 (k0_pay12 V D (k0_pay8 D O) (k0_pay9 Q K cka) (k0_pay10 lsea cqa))) (k0_pay23 V D (k0_pay8 D O) (k0_pay17 Q K ckb lseb cqb) k0_pay18 k0_pay19)) (k0_pay28 Q) k0_pay29 k0_pay30 (ix2 r l)
      = old (ix2 r l) + if l.val < 64 then ∑ b : Fin 512, (ds false Q K V D O cka lsea cqa 0 r b * eighth) * Q (ix2 b l) else ∑ b : Fin 512, (ds false Q K V D O ckb lseb cqb 1 r b * eighth) * Q (ix2 b l) := by
  have ha := eU0 Q K V D O cka lsea cqa
  have hb := eU1 Q K V D O ckb lseb cqb
  generalize (k0_pay16 (k0_pay12 V D (k0_pay8 D O) (k0_pay9 Q K cka) (k0_pay10 lsea cqa))) = PA at ha ⊢
  generalize (k0_pay23 V D (k0_pay8 D O) (k0_pay17 Q K ckb lseb cqb) k0_pay18 k0_pay19) = PB at hb ⊢
  pointwise [k0_pay27, k0_pay28, k0_pay29, k0_pay30, k0_pay31]
  simp only [select_lo, select_hi, two_heads, ha, hb]

theorem dkU1 (Q K V D O : Vec Ideal S512x128 .bf16) (cka ckb : Vec Ideal S512x1 .f32) (lsea cqa lseb cqb : Vec Ideal S1x512 .f32) (old : Vec Ideal S512x128 .f32) (r : Fin 512) (l : Fin 128) :
    k0_pay53 Q (k0_pay40 V D (k0_pay33 D O) (k0_pay34 Q K cka lsea cqa) k0_pay35 (FloatOps.ofBits FTy.bf16 0#16)) (k0_pay48 (k0_pay33 D O) (k0_pay42 Q K (iota Kind.tc S1x128 32 [1] iota_S1x128_d1_w32) k0_pay41 (128#32) ckb lseb cqb) (k0_pay43 V D) k0_pay44 (FloatOps.ofBits FTy.f32 0#32)) old (ix2 r l)
      = old (ix2 r l) + if l.val < 64 then ∑ b : Fin 512, (ds false Q K V D O cka lsea cqa 0 r b * eighth) * Q (ix2 b l) else ∑ b : Fin 512, (ds false Q K V D O ckb lseb cqb 1 r b * eighth) * Q (ix2 b l) := by
  have ha := eU2 Q K V D O cka lsea cqa
  have hb := eU3 Q K V D O ckb lseb cqb
  generalize (k0_pay40 V D (k0_pay33 D O) (k0_pay34 Q K cka lsea cqa) k0_pay35 (FloatOps.ofBits FTy.bf16 0#16)) = PA at ha ⊢
  generalize (k0_pay48 (k0_pay33 D O) (k0_pay42 Q K (iota Kind.tc S1x128 32 [1] iota_S1x128_d1_w32) k0_pay41 (128#32) ckb lseb cqb) (k0_pay43 V D) k0_pay44 (FloatOps.ofBits FTy.f32 0#32)) = PB at hb ⊢
  pointwise [k0_pay53]
  simp only [select_lo, select_hi, two_heads, ha, hb]

theorem dqU0 (Q K V D O : Vec Ideal S512x128 .bf16) (cka ckb : Vec Ideal S512x1 .f32) (lsea cqa lseb cqb : Vec Ideal S1x512 .f32) (old : Vec Ideal S512x128 .f32) (r : Fin 512) (l : Fin 128) :
    k0_pay32 K (k0_pay16 (k0_pay12 V D (k0_pay8 D O) (k0_pay9 Q K cka) (k0_pay10 lsea cqa))) (k0_pay23 V D (k0_pay8 D O) (k0_pay17 Q K ckb lseb cqb) k0_pay18 k0_pay19) old (ix2 r l)
      = old (ix2 r l) + if l.val < 64 then ∑ a : Fin 512, (ds false Q K V D O cka lsea cqa 0 a r * eighth) * K (ix2 a l) else ∑ a : Fin 512, (ds false Q K V D O ckb lseb cqb 1 a r * eighth) * K (ix2 a l) := by
  have ha := eU0 Q K V D O cka lsea cqa
  have hb := eU1 Q K V D O ckb lseb cqb
  generalize (k0_pay16 (k0_pay12 V D (k0_pay8 D O) (k0_pay9 Q K cka) (k0_pay10 lsea cqa))) = PA at ha ⊢
  generalize (k0_pay23 V D (k0_pay8 D O) (k0_pay17 Q K ckb lseb cqb) k0_pay18 k0_pay19) = PB at hb ⊢
  pointwise [k0_pay32]
  simp only [select_lo, select_hi, two_heads, ha, hb]

theorem dqU1 (Q K V D O : Vec Ideal S512x128 .bf16) (cka ckb : Vec Ideal S512x1 .f32) (lsea cqa lseb cqb : Vec Ideal S1x512 .f32) (old : Vec Ideal S512x128 .f32) (r : Fin 512) (l : Fin 128) :
    k0_pay6 K (k0_pay40 V D (k0_pay33 D O) (k0_pay34 Q K cka lsea cqa) k0_pay35 (FloatOps.ofBits FTy.bf16 0#16)) (k0_pay48 (k0_pay33 D O) (k0_pay42 Q K (iota Kind.tc S1x128 32 [1] iota_S1x128_d1_w32) k0_pay41 (128#32) ckb lseb cqb) (k0_pay43 V D) k0_pay44 (FloatOps.ofBits FTy.f32 0#32)) old (ix2 r l)
      = old (ix2 r l) + if l.val < 64 then ∑ a : Fin 512, (ds false Q K V D O cka lsea cqa 0 a r * eighth) * K (ix2 a l) else ∑ a : Fin 512, (ds false Q K V D O ckb lseb cqb 1 a r * eighth) * K (ix2 a l) := by
  have ha := eU2 Q K V D O cka lsea cqa
  have hb := eU3 Q K V D O ckb lseb cqb
  generalize (k0_pay40 V D (k0_pay33 D O) (k0_pay34 Q K cka lsea cqa) k0_pay35 (FloatOps.ofBits FTy.bf16 0#16)) = PA at ha ⊢
  generalize (k0_pay48 (k0_pay33 D O) (k0_pay42 Q K (iota Kind.tc S1x128 32 [1] iota_S1x128_d1_w32) k0_pay41 (128#32) ckb lseb cqb) (k0_pay43 V D) k0_pay44 (FloatOps.ofBits FTy.f32 0#32)) = PB at hb ⊢
  pointwise [k0_pay6]
  simp only [select_lo, select_hi, two_heads, ha, hb]

end Cert.KernelIdeal.Fox

end
-- ==== Proof.PayDiag.lean ====
/- The body's stored values on the diagonal block, at an index: what each head's columns, rows and products add. -/
module

public import proofs.«01_k».proof.Proof.Pieces

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
/-- Head 0's probabilities. -/
theorem pM0 (Q K : Vec Ideal S512x128 .bf16) (cka : Vec Ideal S512x1 .f32) (lsea cqa : Vec Ideal S1x512 .f32) (a b : Fin 512) :
    (k0_pay58 (k0_pay56 Q K cka) (k0_pay57 lsea) cqa) (ix2 a b) = pr true Q K cka lsea cqa 0 a b := by
  pointwise [k0_pay54, k0_pay56, k0_pay57, k0_pay58, k0_pay59, k0_pay65, k0_pay67, k0_pay81, k0_pay82, k0_pay89]
  simp only [select_lo, select_hi, select_keep, sum_lo, sum_hi, exp2_def', mul_ite, mul_zero]
  simp [pr, sc, scaleLog2e, log2e, maskv]

/-- Head 0's score gradients, scaled. -/
theorem eM0 (Q K V D O : Vec Ideal S512x128 .bf16) (cka : Vec Ideal S512x1 .f32) (lsea cqa : Vec Ideal S1x512 .f32) (a b : Fin 512) :
    (k0_pay64 (k0_pay59 V D (k0_pay55 D O) (k0_pay56 Q K cka) (k0_pay57 lsea) cqa)) (ix2 a b) = ds true Q K V D O cka lsea cqa 0 a b * eighth := by
  pointwise [k0_pay54, k0_pay55, k0_pay56, k0_pay57, k0_pay58, k0_pay59, k0_pay64, k0_pay65, k0_pay67, k0_pay81, k0_pay82, k0_pay89]
  simp only [select_lo, select_hi, select_keep, sum_lo, sum_hi, exp2_def', mul_ite, mul_zero]
  simp [ds, pr, sc, scaleLog2e, log2e, maskv, eighth]

/-- Head 1's probabilities. -/
theorem pM1 (Q K : Vec Ideal S512x128 .bf16) (ckb : Vec Ideal S512x1 .f32) (lseb cqb : Vec Ideal S1x512 .f32) (a b : Fin 512) :
    (k0_pay65 k0_pay54 Q K ckb lseb cqb) (ix2 a b) = pr true Q K ckb lseb cqb 1 a b := by
  pointwise [k0_pay54, k0_pay58, k0_pay59, k0_pay65, k0_pay67, k0_pay81, k0_pay82, k0_pay89]
  simp only [select_lo, select_hi, select_keep, sum_lo, sum_hi, exp2_def', mul_ite, mul_zero]
  simp [pr, sc, scaleLog2e, log2e, maskv]

/-- Head 1's score gradients, scaled. -/
theorem eM1 (Q K V D O : Vec Ideal S512x128 .bf16) (ckb : Vec Ideal S512x1 .f32) (lseb cqb : Vec Ideal S1x512 .f32) (a b : Fin 512) :
    (k0_pay71 V D (k0_pay55 D O) (k0_pay65 k0_pay54 Q K ckb lseb cqb) (iota Kind.tc S1x128 32 [1] iota_S1x128_d1_w32) k0_pay66) (ix2 a b) = ds true Q K V D O ckb lseb cqb 1 a b * eighth := by
  pointwise [k0_pay54, k0_pay55, k0_pay58, k0_pay59, k0_pay65, k0_pay66, k0_pay67, k0_pay71, k0_pay81, k0_pay82, k0_pay89]
  simp only [select_lo, select_hi, select_keep, sum_lo, sum_hi, exp2_def', mul_ite, mul_zero]
  simp [ds, pr, sc, scaleLog2e, log2e, maskv, eighth]

/-- Head 2's probabilities. -/
theorem pM2 (Q K : Vec Ideal S512x128 .bf16) (cka : Vec Ideal S512x1 .f32) (lsea cqa : Vec Ideal S1x512 .f32) (a b : Fin 512) :
    (k0_pay81 (k0_pay79 k0_pay54 Q K cka) (k0_pay80 lsea cqa)) (ix2 a b) = pr true Q K cka lsea cqa 0 a b := by
  pointwise [k0_pay54, k0_pay58, k0_pay59, k0_pay65, k0_pay67, k0_pay79, k0_pay80, k0_pay81, k0_pay82, k0_pay89]
  simp only [select_lo, select_hi, select_keep, sum_lo, sum_hi, exp2_def', mul_ite, mul_zero]
  simp [pr, sc, scaleLog2e, log2e, maskv]

/-- Head 2's score gradients, scaled. -/
theorem eM2 (Q K V D O : Vec Ideal S512x128 .bf16) (cka : Vec Ideal S512x1 .f32) (lsea cqa : Vec Ideal S1x512 .f32) (a b : Fin 512) :
    (k0_pay86 (k0_pay82 V D (k0_pay78 D O) (k0_pay79 k0_pay54 Q K cka) (k0_pay80 lsea cqa))) (ix2 a b) = ds true Q K V D O cka lsea cqa 0 a b * eighth := by
  pointwise [k0_pay54, k0_pay58, k0_pay59, k0_pay65, k0_pay67, k0_pay78, k0_pay79, k0_pay80, k0_pay81, k0_pay82, k0_pay86, k0_pay89]
  simp only [select_lo, select_hi, select_keep, sum_lo, sum_hi, exp2_def', mul_ite, mul_zero]
  simp [ds, pr, sc, scaleLog2e, log2e, maskv, eighth]

/-- Head 3's probabilities. -/
theorem pM3 (Q K : Vec Ideal S512x128 .bf16) (ckb : Vec Ideal S512x1 .f32) (lseb cqb : Vec Ideal S1x512 .f32) (a b : Fin 512) :
    (k0_pay87 k0_pay54 Q K ckb lseb cqb) (ix2 a b) = pr true Q K ckb lseb cqb 1 a b := by
  pointwise [k0_pay54, k0_pay58, k0_pay59, k0_pay65, k0_pay67, k0_pay81, k0_pay82, k0_pay87, k0_pay89]
  simp only [select_lo, select_hi, select_keep, sum_lo, sum_hi, exp2_def', mul_ite, mul_zero]
  simp [pr, sc, scaleLog2e, log2e, maskv]

/-- Head 3's score gradients, scaled. -/
theorem eM3 (Q K V D O : Vec Ideal S512x128 .bf16) (ckb : Vec Ideal S512x1 .f32) (lseb cqb : Vec Ideal S1x512 .f32) (a b : Fin 512) :
    (k0_pay92 V D (k0_pay78 D O) (k0_pay87 k0_pay54 Q K ckb lseb cqb) k0_pay88 (FloatOps.ofBits FTy.bf16 0#16)) (ix2 a b) = ds true Q K V D O ckb lseb cqb 1 a b * eighth := by
  pointwise [k0_pay54, k0_pay58, k0_pay59, k0_pay65, k0_pay67, k0_pay78, k0_pay81, k0_pay82, k0_pay87, k0_pay88, k0_pay89, k0_pay92]
  simp only [select_lo, select_hi, select_keep, sum_lo, sum_hi, exp2_def', mul_ite, mul_zero]
  simp [ds, pr, sc, scaleLog2e, log2e, maskv, eighth]

theorem dckM0 (Q K V D O : Vec Ideal S512x128 .bf16) (cka : Vec Ideal S512x1 .f32) (lsea cqa : Vec Ideal S1x512 .f32) (old : Vec Ideal S512x1 .f32) (a : Fin 512) :
    k0_pay60 V D (k0_pay55 D O) (k0_pay56 Q K cka) (k0_pay57 lsea) cqa old (ix2 a 0) = old (ix2 a 0) - ∑ b : Fin 512, ds true Q K V D O cka lsea cqa 0 a b := by
  pointwise [k0_pay54, k0_pay55, k0_pay56, k0_pay57, k0_pay58, k0_pay59, k0_pay60, k0_pay65, k0_pay67, k0_pay81, k0_pay82, k0_pay89]
  simp only [select_lo, select_hi, select_keep, sum_lo, sum_hi, exp2_def', mul_ite, mul_zero]
  simp [ds, pr, sc, scaleLog2e, log2e, maskv]

theorem dckM1 (Q K V D O : Vec Ideal S512x128 .bf16) (ckb : Vec Ideal S512x1 .f32) (lseb cqb : Vec Ideal S1x512 .f32) (old : Vec Ideal S512x1 .f32) (a : Fin 512) :
    k0_pay68 V D (k0_pay55 D O) (k0_pay65 k0_pay54 Q K ckb lseb cqb) (iota Kind.tc S1x128 32 [1] iota_S1x128_d1_w32) k0_pay66 old (ix2 a 0) = old (ix2 a 0) - ∑ b : Fin 512, ds true Q K V D O ckb lseb cqb 1 a b := by
  pointwise [k0_pay54, k0_pay55, k0_pay58, k0_pay59, k0_pay65, k0_pay66, k0_pay67, k0_pay68, k0_pay81, k0_pay82, k0_pay89]
  simp only [select_lo, select_hi, select_keep, sum_lo, sum_hi, exp2_def', mul_ite, mul_zero]
  simp [ds, pr, sc, scaleLog2e, log2e, maskv]

theorem dckM2 (Q K V D O : Vec Ideal S512x128 .bf16) (cka : Vec Ideal S512x1 .f32) (lsea cqa : Vec Ideal S1x512 .f32) (old : Vec Ideal S512x1 .f32) (a : Fin 512) :
    k0_pay83 V D (k0_pay78 D O) (k0_pay79 k0_pay54 Q K cka) (k0_pay80 lsea cqa) old (ix2 a 0) = old (ix2 a 0) - ∑ b : Fin 512, ds true Q K V D O cka lsea cqa 0 a b := by
  pointwise [k0_pay54, k0_pay58, k0_pay59, k0_pay65, k0_pay67, k0_pay78, k0_pay79, k0_pay80, k0_pay81, k0_pay82, k0_pay83, k0_pay89]
  simp only [select_lo, select_hi, select_keep, sum_lo, sum_hi, exp2_def', mul_ite, mul_zero]
  simp [ds, pr, sc, scaleLog2e, log2e, maskv]

theorem dckM3 (Q K V D O : Vec Ideal S512x128 .bf16) (ckb : Vec Ideal S512x1 .f32) (lseb cqb : Vec Ideal S1x512 .f32) (old : Vec Ideal S512x1 .f32) (a : Fin 512) :
    k0_pay90 V D (k0_pay78 D O) (k0_pay87 k0_pay54 Q K ckb lseb cqb) k0_pay88 (FloatOps.ofBits FTy.bf16 0#16) old (ix2 a 0) = old (ix2 a 0) - ∑ b : Fin 512, ds true Q K V D O ckb lseb cqb 1 a b := by
  pointwise [k0_pay54, k0_pay58, k0_pay59, k0_pay65, k0_pay67, k0_pay78, k0_pay81, k0_pay82, k0_pay87, k0_pay88, k0_pay89, k0_pay90]
  simp only [select_lo, select_hi, select_keep, sum_lo, sum_hi, exp2_def', mul_ite, mul_zero]
  simp [ds, pr, sc, scaleLog2e, log2e, maskv]

theorem dcqM0 (Q K V D O : Vec Ideal S512x128 .bf16) (cka : Vec Ideal S512x1 .f32) (lsea cqa : Vec Ideal S1x512 .f32) (old : Vec Ideal S1x512 .f32) (b : Fin 512) :
    k0_pay62 (k0_pay59 V D (k0_pay55 D O) (k0_pay56 Q K cka) (k0_pay57 lsea) cqa) (k0_pay61 old) (ix2 0 b) = old (ix2 0 b) + ∑ a : Fin 512, ds true Q K V D O cka lsea cqa 0 a b := by
  pointwise [k0_pay54, k0_pay55, k0_pay56, k0_pay57, k0_pay58, k0_pay59, k0_pay61, k0_pay62, k0_pay65, k0_pay67, k0_pay81, k0_pay82, k0_pay89]
  simp only [select_lo, select_hi, select_keep, sum_lo, sum_hi, exp2_def', mul_ite, mul_zero]
  simp [ds, pr, sc, scaleLog2e, log2e, maskv]

theorem dcqM1 (Q K V D O : Vec Ideal S512x128 .bf16) (ckb : Vec Ideal S512x1 .f32) (lseb cqb : Vec Ideal S1x512 .f32) (old : Vec Ideal S1x512 .f32) (b : Fin 512) :
    k0_pay69 V D (k0_pay55 D O) (k0_pay65 k0_pay54 Q K ckb lseb cqb) (iota Kind.tc S1x128 32 [1] iota_S1x128_d1_w32) k0_pay66 old (ix2 0 b) = old (ix2 0 b) + ∑ a : Fin 512, ds true Q K V D O ckb lseb cqb 1 a b := by
  pointwise [k0_pay54, k0_pay55, k0_pay58, k0_pay59, k0_pay65, k0_pay66, k0_pay67, k0_pay69, k0_pay81, k0_pay82, k0_pay89]
  simp only [select_lo, select_hi, select_keep, sum_lo, sum_hi, exp2_def', mul_ite, mul_zero]
  simp [ds, pr, sc, scaleLog2e, log2e, maskv]

theorem dcqM2 (Q K V D O : Vec Ideal S512x128 .bf16) (cka : Vec Ideal S512x1 .f32) (lsea cqa : Vec Ideal S1x512 .f32) (old : Vec Ideal S1x512 .f32) (b : Fin 512) :
    k0_pay84 V D (k0_pay78 D O) (k0_pay79 k0_pay54 Q K cka) (k0_pay80 lsea cqa) old (ix2 0 b) = old (ix2 0 b) + ∑ a : Fin 512, ds true Q K V D O cka lsea cqa 0 a b := by
  pointwise [k0_pay54, k0_pay58, k0_pay59, k0_pay65, k0_pay67, k0_pay78, k0_pay79, k0_pay80, k0_pay81, k0_pay82, k0_pay84, k0_pay89]
  simp only [select_lo, select_hi, select_keep, sum_lo, sum_hi, exp2_def', mul_ite, mul_zero]
  simp [ds, pr, sc, scaleLog2e, log2e, maskv]

theorem dcqM3 (Q K V D O : Vec Ideal S512x128 .bf16) (ckb : Vec Ideal S512x1 .f32) (lseb cqb : Vec Ideal S1x512 .f32) (old : Vec Ideal S1x512 .f32) (b : Fin 512) :
    k0_pay91 V D (k0_pay78 D O) (k0_pay87 k0_pay54 Q K ckb lseb cqb) k0_pay88 (FloatOps.ofBits FTy.bf16 0#16) old (ix2 0 b) = old (ix2 0 b) + ∑ a : Fin 512, ds true Q K V D O ckb lseb cqb 1 a b := by
  pointwise [k0_pay54, k0_pay58, k0_pay59, k0_pay65, k0_pay67, k0_pay78, k0_pay81, k0_pay82, k0_pay87, k0_pay88, k0_pay89, k0_pay91]
  simp only [select_lo, select_hi, select_keep, sum_lo, sum_hi, exp2_def', mul_ite, mul_zero]
  simp [ds, pr, sc, scaleLog2e, log2e, maskv]

theorem dvM0 (Q K D : Vec Ideal S512x128 .bf16) (cka ckb : Vec Ideal S512x1 .f32) (lsea cqa lseb cqb : Vec Ideal S1x512 .f32) (old : Vec Ideal S512x128 .f32) (r : Fin 512) (l : Fin 128) :
    k0_pay73 D (k0_pay63 (k0_pay58 (k0_pay56 Q K cka) (k0_pay57 lsea) cqa)) (k0_pay70 (k0_pay65 k0_pay54 Q K ckb lseb cqb)) old (ix2 r l)
      = old (ix2 r l) + if l.val < 64 then ∑ b : Fin 512, pr true Q K cka lsea cqa 0 r b * D (ix2 b l) else ∑ b : Fin 512, pr true Q K ckb lseb cqb 1 r b * D (ix2 b l) := by
  have ha := pM0 Q K cka lsea cqa
  have hb := pM1 Q K ckb lseb cqb
  generalize (k0_pay58 (k0_pay56 Q K cka) (k0_pay57 lsea) cqa) = PA at ha ⊢
  generalize (k0_pay65 k0_pay54 Q K ckb lseb cqb) = PB at hb ⊢
  pointwise [k0_pay63, k0_pay70, k0_pay73]
  simp only [select_lo, select_hi, two_heads, ha, hb]

theorem dvM1 (Q K D : Vec Ideal S512x128 .bf16) (cka ckb : Vec Ideal S512x1 .f32) (lsea cqa lseb cqb : Vec Ideal S1x512 .f32) (old : Vec Ideal S512x128 .f32) (r : Fin 512) (l : Fin 128) :
    k0_pay94 D old (k0_pay93 (k0_pay85 (k0_pay81 (k0_pay79 k0_pay54 Q K cka) (k0_pay80 lsea cqa))) (k0_pay87 k0_pay54 Q K ckb lseb cqb)) (iota Kind.tc S1x128 32 [1] iota_S1x128_d1_w32) (ix2 r l)
      = old (ix2 r l) + if l.val < 64 then ∑ b : Fin 512, pr true Q K cka lsea cqa 0 r b * D (ix2 b l) else ∑ b : Fin 512, pr true Q K ckb lseb cqb 1 r b * D (ix2 b l) := by
  have ha := pM2 Q K cka lsea cqa
  have hb := pM3 Q K ckb lseb cqb
  generalize (k0_pay81 (k0_pay79 k0_pay54 Q K cka) (k0_pay80 lsea cqa)) = PA at ha ⊢
  generalize (k0_pay87 k0_pay54 Q K ckb lseb cqb) = PB at hb ⊢
  pointwise [k0_pay85, k0_pay93, k0_pay94]
  simp only [select_lo, select_hi, two_heads, ha, hb]

theorem dkM0 (Q K V D O : Vec Ideal S512x128 .bf16) (cka ckb : Vec Ideal S512x1 .f32) (lsea cqa lseb cqb : Vec Ideal S1x512 .f32) (old : Vec Ideal S512x128 .f32) (r : Fin 512) (l : Fin 128) :
    k0_pay76 Q old (k0_pay74 (k0_pay64 (k0_pay59 V D (k0_pay55 D O) (k0_pay56 Q K cka) (k0_pay57 lsea) cqa)) (k0_pay71 V D (k0_pay55 D O) (k0_pay65 k0_pay54 Q K ckb lseb cqb) (iota Kind.tc S1x128 32 [1] iota_S1x128_d1_w32) k0_pay66)) (k0_pay75 Q) (iota Kind.tc S1x128 32 [1] iota_S1x128_d1_w32) 64#32 (ix2 r l)
      = old (ix2 r l) + if l.val < 64 then ∑ b : Fin 512, (ds true Q K V D O cka lsea cqa 0 r b * eighth) * Q (ix2 b l) else ∑ b : Fin 512, (ds true Q K V D O ckb lseb cqb 1 r b * eighth) * Q (ix2 b l) := by
  have ha := eM0 Q K V D O cka lsea cqa
  have hb := eM1 Q K V D O ckb lseb cqb
  generalize (k0_pay64 (k0_pay59 V D (k0_pay55 D O) (k0_pay56 Q K cka) (k0_pay57 lsea) cqa)) = PA at ha ⊢
  generalize (k0_pay71 V D (k0_pay55 D O) (k0_pay65 k0_pay54 Q K ckb lseb cqb) (iota Kind.tc S1x128 32 [1] iota_S1x128_d1_w32) k0_pay66) = PB at hb ⊢
  pointwise [k0_pay72, k0_pay74, k0_pay75, k0_pay76]
  simp only [select_lo, select_hi, two_heads, ha, hb]

theorem dkM1 (Q K V D O : Vec Ideal S512x128 .bf16) (cka ckb : Vec Ideal S512x1 .f32) (lsea cqa lseb cqb : Vec Ideal S1x512 .f32) (old : Vec Ideal S512x128 .f32) (r : Fin 512) (l : Fin 128) :
    k0_pay98 Q old (k0_pay95 (k0_pay86 (k0_pay82 V D (k0_pay78 D O) (k0_pay79 k0_pay54 Q K cka) (k0_pay80 lsea cqa))) (k0_pay92 V D (k0_pay78 D O) (k0_pay87 k0_pay54 Q K ckb lseb cqb) k0_pay88 (FloatOps.ofBits FTy.bf16 0#16))) (k0_pay96 Q) k0_pay97 (ix2 r l)
      = old (ix2 r l) + if l.val < 64 then ∑ b : Fin 512, (ds true Q K V D O cka lsea cqa 0 r b * eighth) * Q (ix2 b l) else ∑ b : Fin 512, (ds true Q K V D O ckb lseb cqb 1 r b * eighth) * Q (ix2 b l) := by
  have ha := eM2 Q K V D O cka lsea cqa
  have hb := eM3 Q K V D O ckb lseb cqb
  generalize (k0_pay86 (k0_pay82 V D (k0_pay78 D O) (k0_pay79 k0_pay54 Q K cka) (k0_pay80 lsea cqa))) = PA at ha ⊢
  generalize (k0_pay92 V D (k0_pay78 D O) (k0_pay87 k0_pay54 Q K ckb lseb cqb) k0_pay88 (FloatOps.ofBits FTy.bf16 0#16)) = PB at hb ⊢
  pointwise [k0_pay95, k0_pay96, k0_pay97, k0_pay98]
  simp only [select_lo, select_hi, two_heads, ha, hb]

theorem dqM0 (Q K V D O : Vec Ideal S512x128 .bf16) (cka ckb : Vec Ideal S512x1 .f32) (lsea cqa lseb cqb : Vec Ideal S1x512 .f32) (old : Vec Ideal S512x128 .f32) (r : Fin 512) (l : Fin 128) :
    k0_pay77 K (k0_pay64 (k0_pay59 V D (k0_pay55 D O) (k0_pay56 Q K cka) (k0_pay57 lsea) cqa)) (k0_pay72 (k0_pay71 V D (k0_pay55 D O) (k0_pay65 k0_pay54 Q K ckb lseb cqb) (iota Kind.tc S1x128 32 [1] iota_S1x128_d1_w32) k0_pay66)) old (ix2 r l)
      = old (ix2 r l) + if l.val < 64 then ∑ a : Fin 512, (ds true Q K V D O cka lsea cqa 0 a r * eighth) * K (ix2 a l) else ∑ a : Fin 512, (ds true Q K V D O ckb lseb cqb 1 a r * eighth) * K (ix2 a l) := by
  have ha := eM0 Q K V D O cka lsea cqa
  have hb := eM1 Q K V D O ckb lseb cqb
  generalize (k0_pay64 (k0_pay59 V D (k0_pay55 D O) (k0_pay56 Q K cka) (k0_pay57 lsea) cqa)) = PA at ha ⊢
  generalize (k0_pay71 V D (k0_pay55 D O) (k0_pay65 k0_pay54 Q K ckb lseb cqb) (iota Kind.tc S1x128 32 [1] iota_S1x128_d1_w32) k0_pay66) = PB at hb ⊢
  pointwise [k0_pay72, k0_pay77]
  simp only [select_lo, select_hi, two_heads, ha, hb]

theorem dqM1 (Q K V D O : Vec Ideal S512x128 .bf16) (cka ckb : Vec Ideal S512x1 .f32) (lsea cqa lseb cqb : Vec Ideal S1x512 .f32) (old : Vec Ideal S512x128 .f32) (r : Fin 512) (l : Fin 128) :
    k0_pay7 (k0_pay99 old) (k0_pay100 K (k0_pay86 (k0_pay82 V D (k0_pay78 D O) (k0_pay79 k0_pay54 Q K cka) (k0_pay80 lsea cqa))) (k0_pay92 V D (k0_pay78 D O) (k0_pay87 k0_pay54 Q K ckb lseb cqb) k0_pay88 (FloatOps.ofBits FTy.bf16 0#16))) (ix2 r l)
      = old (ix2 r l) + if l.val < 64 then ∑ a : Fin 512, (ds true Q K V D O cka lsea cqa 0 a r * eighth) * K (ix2 a l) else ∑ a : Fin 512, (ds true Q K V D O ckb lseb cqb 1 a r * eighth) * K (ix2 a l) := by
  have ha := eM2 Q K V D O cka lsea cqa
  have hb := eM3 Q K V D O ckb lseb cqb
  generalize (k0_pay86 (k0_pay82 V D (k0_pay78 D O) (k0_pay79 k0_pay54 Q K cka) (k0_pay80 lsea cqa))) = PA at ha ⊢
  generalize (k0_pay92 V D (k0_pay78 D O) (k0_pay87 k0_pay54 Q K ckb lseb cqb) k0_pay88 (FloatOps.ofBits FTy.bf16 0#16)) = PB at hb ⊢
  pointwise [k0_pay7, k0_pay99, k0_pay100]
  simp only [select_lo, select_hi, two_heads, ha, hb]

end Cert.KernelIdeal.Fox

end
-- ==== Proof.BlockMath.lean ====
/- One grid point's blocks, what each head makes of them, and each buffer with the block's shares added. -/
module

public import proofs.«01_k».proof.Proof.PayBelow
public import proofs.«01_k».proof.Proof.PayDiag
public import Idealize.ShloMosaic.Lib.VecWindow
public import Idealize.ShloMosaic.Lib.WritesUnit

@[expose] public section

noncomputable section

namespace Cert.KernelIdeal.Fox

open Cert.KernelIdeal Cert.KernelIdeal.Gen
open Idealize.ShloMosaic Idealize.ShloMosaic.TcCoe Idealize.ShloMosaic.Tactic

/-- The blocks a grid point reads: queries, keys, values, the forward output and its gradient, the queries' log-sums and
    decays, the keys' decays. -/
structure Blk where
  q : Vec Ideal S512x256 .bf16
  k : Vec Ideal S512x256 .bf16
  v : Vec Ideal S512x256 .bf16
  o : Vec Ideal S512x256 .bf16
  d : Vec Ideal S512x256 .bf16
  lse : Vec Ideal S8x512 .f32
  cq : Vec Ideal S8x512 .f32
  ck : Vec Ideal S512x8 .f32

/-- Lane `d` of head `h`. -/
def col (h : Fin 4) (d : Fin 64) : Fin 256 := ⟨64 * h.val + d.val, by omega⟩
/-- The head of a lane. -/
def headOf (l : Fin 256) : Fin 4 := ⟨l.val / 64, by omega⟩
/-- Head `h` among the eight rows the decays are kept in. -/
def h8 (h : Fin 4) : Fin 8 := ⟨h.val, by omega⟩
/-- Head `j` of lane group `g`. -/
def hd (g j : Fin 2) : Fin 4 := ⟨2 * g.val + j.val, by omega⟩
/-- Lane `l` of lane group `g`. -/
def hl (g : Fin 2) (l : Fin 128) : Fin 256 := ⟨128 * g.val + l.val, by omega⟩

def halfw (g : Fin 2) (x : Vec Ideal S512x256 .bf16) : Vec Ideal S512x128 .bf16 := fun j => x (ix2 (j 0) (hl g (j 1)))
def colv (h : Fin 4) (x : Vec Ideal S512x8 .f32) : Vec Ideal S512x1 .f32 := fun j => x (ix2 (j 0) (h8 h))
def rowv (h : Fin 4) (x : Vec Ideal S8x512 .f32) : Vec Ideal S1x512 .f32 := fun j => x (ix2 (h8 h) (j 1))

namespace Blk

def sc (B : Blk) (h : Fin 4) (a b : Fin 512) : EReal :=
  (∑ d : Fin 64, B.k (ix2 a (col h d)) * B.q (ix2 b (col h d))) * scaleLog2e - B.ck (ix2 a (h8 h)) * log2e

def pr (B : Blk) (msk : Bool) (h : Fin 4) (a b : Fin 512) : EReal :=
  Ideal.exp2 ((if msk = true ∧ b < a then maskv else B.sc h a b) - (B.lse (ix2 (h8 h) b) - B.cq (ix2 (h8 h) b)) * log2e)

def ds (B : Blk) (msk : Bool) (h : Fin 4) (a b : Fin 512) : EReal :=
  B.pr msk h a b
    * ((∑ d : Fin 64, B.v (ix2 a (col h d)) * B.d (ix2 b (col h d))) - ∑ d : Fin 64, B.d (ix2 b (col h d)) * B.o (ix2 b (col h d)))

end Blk

theorem hl_ln (g j : Fin 2) (d : Fin 64) : hl g (ln j d) = col (hd g j) d :=
  Fin.ext (by show 128 * g.val + (64 * j.val + d.val) = 64 * (2 * g.val + j.val) + d.val; omega)

theorem halfw_ln (g j : Fin 2) (x : Vec Ideal S512x256 .bf16) (a : Fin 512) (d : Fin 64) :
    halfw g x (ix2 a (ln j d)) = x (ix2 a (col (hd g j) d)) := by
  show x (ix2 a (hl g (ln j d))) = _
  rw [hl_ln]

theorem pr_half (B : Blk) (msk : Bool) (g j : Fin 2) (h : Fin 4) (hh : hd g j = h) (a b : Fin 512) :
    pr msk (halfw g B.q) (halfw g B.k) (colv h B.ck) (rowv h B.lse) (rowv h B.cq) j a b = B.pr msk h a b := by
  subst hh
  simp only [pr, sc, halfw_ln]
  rfl

theorem ds_half (B : Blk) (msk : Bool) (g j : Fin 2) (h : Fin 4) (hh : hd g j = h) (a b : Fin 512) :
    ds msk (halfw g B.q) (halfw g B.k) (halfw g B.v) (halfw g B.d) (halfw g B.o) (colv h B.ck) (rowv h B.lse) (rowv h B.cq) j a b
      = B.ds msk h a b := by
  simp only [ds, pr_half B msk g j h hh]
  subst hh
  simp only [halfw_ln]
  rfl

namespace Blk

/-- The queries' gradient with the block's share added to rows `o … o + 511`. -/
def addDq (B : Blk) (msk : Bool) (o : ℕ) (old : Vec Ideal S4096x256 .f32) : Vec Ideal S4096x256 .f32 := fun y =>
  if h : o ≤ (y 0).val ∧ (y 0).val < o + 512 then
    old y + ∑ a : Fin 512, (B.ds msk (headOf (y 1)) a ⟨(y 0).val - o, by omega⟩ * eighth) * B.k (ix2 a (y 1))
  else old y

/-- The keys' gradient with the block's share added. -/
def addDk (B : Blk) (msk : Bool) (old : Vec Ideal S512x256 .f32) : Vec Ideal S512x256 .f32 := fun y =>
  old y + ∑ b : Fin 512, (B.ds msk (headOf (y 1)) (y 0) b * eighth) * B.q (ix2 b (y 1))

/-- The values' gradient with the block's share added. -/
def addDv (B : Blk) (msk : Bool) (old : Vec Ideal S512x256 .f32) : Vec Ideal S512x256 .f32 := fun y =>
  old y + ∑ b : Fin 512, B.pr msk (headOf (y 1)) (y 0) b * B.d (ix2 b (y 1))

/-- The gradient of the keys' decays with the block's share taken off. -/
def addDck (B : Blk) (msk : Bool) (old : Vec Ideal S512x8 .f32) : Vec Ideal S512x8 .f32 := fun y =>
  if h : (y 1).val < 4 then old y - ∑ b : Fin 512, B.ds msk ⟨(y 1).val, h⟩ (y 0) b else old y

/-- The gradient of the queries' decays with the block's share added to columns `o … o + 511`. -/
def addDcq (B : Blk) (msk : Bool) (o : ℕ) (old : Vec Ideal S8x4096 .f32) : Vec Ideal S8x4096 .f32 := fun y =>
  if h : (y 0).val < 4 ∧ o ≤ (y 1).val ∧ (y 1).val < o + 512 then
    old y + ∑ a : Fin 512, B.ds msk ⟨(y 0).val, h.1⟩ a ⟨(y 1).val - o, by omega⟩
  else old y

end Blk

section Loads

/-- A load of a window of a buffer whose content is known, at an index. -/
theorem load_at {s : Shape} {e : EltTy} (m : Memref sig .tc .vmem s e) (hm : m.IsWhole) (x : Vec Ideal s e)
    {off size : Fin s.rank → ℕ} (inb : ∀ a, off a + size a ≤ s.size a) (y : (Rect.unit off size inb).shape.Idx) :
    View.readAt (Elt Ideal) m.view (Rect.unit off size inb).toLoadRect (hm.unread x) y = x ((Rect.unit off size inb).emb y) := by
  rw [View.readAt_unit _ _ _ rfl (inb' := inb), hm.read_unread]
  rfl

theorem load_lo (m : Memref sig .tc .vmem S512x256 .bf16) (hm : m.IsWhole) (x : Vec Ideal S512x256 .bf16)
    (inb : ∀ a, (![0, 0] : Fin 2 → ℕ) a + S512x128.size a ≤ S512x256.size a) :
    View.readAt (Elt Ideal) m.view (Rect.unit (s := S512x256) ![0, 0] S512x128.size inb).toLoadRect (hm.unread x) = halfw 0 x := by
  funext y
  refine (load_at m hm x inb y).trans (congrArg x (funext fun a => Fin.ext ?_))
  fin_cases a
  · show 0 + 1 * (y 0).val = (y 0).val; omega
  · show 0 + 1 * (y 1).val = 128 * 0 + (y 1).val; omega

theorem load_hi (m : Memref sig .tc .vmem S512x256 .bf16) (hm : m.IsWhole) (x : Vec Ideal S512x256 .bf16)
    (inb : ∀ a, (![0, 128] : Fin 2 → ℕ) a + S512x128.size a ≤ S512x256.size a) :
    View.readAt (Elt Ideal) m.view (Rect.unit (s := S512x256) ![0, 128] S512x128.size inb).toLoadRect (hm.unread x) = halfw 1 x := by
  funext y
  refine (load_at m hm x inb y).trans (congrArg x (funext fun a => Fin.ext ?_))
  fin_cases a
  · show 0 + 1 * (y 0).val = (y 0).val; omega
  · show 128 + 1 * (y 1).val = 128 * 1 + (y 1).val; omega

theorem load_col0 (m : Memref sig .tc .vmem S512x8 .f32) (hm : m.IsWhole) (x : Vec Ideal S512x8 .f32)
    (inb : ∀ a, (![0, 0] : Fin 2 → ℕ) a + S512x1.size a ≤ S512x8.size a) :
    View.readAt (Elt Ideal) m.view (Rect.unit (s := S512x8) ![0, 0] S512x1.size inb).toLoadRect (hm.unread x) = colv 0 x := by
  funext y
  refine (load_at m hm x inb y).trans (congrArg x (funext fun a => Fin.ext ?_))
  fin_cases a
  · show 0 + 1 * (y 0).val = (y 0).val; omega
  · have h1 : (y 1).val < 1 := (y 1).isLt
    show 0 + 1 * (y 1).val = 0; omega

theorem load_row0 (m : Memref sig .tc .vmem S8x512 .f32) (hm : m.IsWhole) (x : Vec Ideal S8x512 .f32)
    (inb : ∀ a, (![0, 0] : Fin 2 → ℕ) a + S1x512.size a ≤ S8x512.size a) :
    View.readAt (Elt Ideal) m.view (Rect.unit (s := S8x512) ![0, 0] S1x512.size inb).toLoadRect (hm.unread x) = rowv 0 x := by
  funext y
  refine (load_at m hm x inb y).trans (congrArg x (funext fun a => Fin.ext ?_))
  fin_cases a
  · have h1 : (y 0).val < 1 := (y 0).isLt
    show 0 + 1 * (y 0).val = 0; omega
  · show 0 + 1 * (y 1).val = (y 1).val; omega

theorem load_col1 (m : Memref sig .tc .vmem S512x8 .f32) (hm : m.IsWhole) (x : Vec Ideal S512x8 .f32)
    (inb : ∀ a, (![0, 1] : Fin 2 → ℕ) a + S512x1.size a ≤ S512x8.size a) :
    View.readAt (Elt Ideal) m.view (Rect.unit (s := S512x8) ![0, 1] S512x1.size inb).toLoadRect (hm.unread x) = colv 1 x := by
  funext y
  refine (load_at m hm x inb y).trans (congrArg x (funext fun a => Fin.ext ?_))
  fin_cases a
  · show 0 + 1 * (y 0).val = (y 0).val; omega
  · have h1 : (y 1).val < 1 := (y 1).isLt
    show 1 + 1 * (y 1).val = 1; omega

theorem load_row1 (m : Memref sig .tc .vmem S8x512 .f32) (hm : m.IsWhole) (x : Vec Ideal S8x512 .f32)
    (inb : ∀ a, (![1, 0] : Fin 2 → ℕ) a + S1x512.size a ≤ S8x512.size a) :
    View.readAt (Elt Ideal) m.view (Rect.unit (s := S8x512) ![1, 0] S1x512.size inb).toLoadRect (hm.unread x) = rowv 1 x := by
  funext y
  refine (load_at m hm x inb y).trans (congrArg x (funext fun a => Fin.ext ?_))
  fin_cases a
  · have h1 : (y 0).val < 1 := (y 0).isLt
    show 1 + 1 * (y 0).val = 1; omega
  · show 0 + 1 * (y 1).val = (y 1).val; omega

theorem load_col2 (m : Memref sig .tc .vmem S512x8 .f32) (hm : m.IsWhole) (x : Vec Ideal S512x8 .f32)
    (inb : ∀ a, (![0, 2] : Fin 2 → ℕ) a + S512x1.size a ≤ S512x8.size a) :
    View.readAt (Elt Ideal) m.view (Rect.unit (s := S512x8) ![0, 2] S512x1.size inb).toLoadRect (hm.unread x) = colv 2 x := by
  funext y
  refine (load_at m hm x inb y).trans (congrArg x (funext fun a => Fin.ext ?_))
  fin_cases a
  · show 0 + 1 * (y 0).val = (y 0).val; omega
  · have h1 : (y 1).val < 1 := (y 1).isLt
    show 2 + 1 * (y 1).val = 2; omega

theorem load_row2 (m : Memref sig .tc .vmem S8x512 .f32) (hm : m.IsWhole) (x : Vec Ideal S8x512 .f32)
    (inb : ∀ a, (![2, 0] : Fin 2 → ℕ) a + S1x512.size a ≤ S8x512.size a) :
    View.readAt (Elt Ideal) m.view (Rect.unit (s := S8x512) ![2, 0] S1x512.size inb).toLoadRect (hm.unread x) = rowv 2 x := by
  funext y
  refine (load_at m hm x inb y).trans (congrArg x (funext fun a => Fin.ext ?_))
  fin_cases a
  · have h1 : (y 0).val < 1 := (y 0).isLt
    show 2 + 1 * (y 0).val = 2; omega
  · show 0 + 1 * (y 1).val = (y 1).val; omega

theorem load_col3 (m : Memref sig .tc .vmem S512x8 .f32) (hm : m.IsWhole) (x : Vec Ideal S512x8 .f32)
    (inb : ∀ a, (![0, 3] : Fin 2 → ℕ) a + S512x1.size a ≤ S512x8.size a) :
    View.readAt (Elt Ideal) m.view (Rect.unit (s := S512x8) ![0, 3] S512x1.size inb).toLoadRect (hm.unread x) = colv 3 x := by
  funext y
  refine (load_at m hm x inb y).trans (congrArg x (funext fun a => Fin.ext ?_))
  fin_cases a
  · show 0 + 1 * (y 0).val = (y 0).val; omega
  · have h1 : (y 1).val < 1 := (y 1).isLt
    show 3 + 1 * (y 1).val = 3; omega

theorem load_row3 (m : Memref sig .tc .vmem S8x512 .f32) (hm : m.IsWhole) (x : Vec Ideal S8x512 .f32)
    (inb : ∀ a, (![3, 0] : Fin 2 → ℕ) a + S1x512.size a ≤ S8x512.size a) :
    View.readAt (Elt Ideal) m.view (Rect.unit (s := S8x512) ![3, 0] S1x512.size inb).toLoadRect (hm.unread x) = rowv 3 x := by
  funext y
  refine (load_at m hm x inb y).trans (congrArg x (funext fun a => Fin.ext ?_))
  fin_cases a
  · have h1 : (y 0).val < 1 := (y 0).isLt
    show 3 + 1 * (y 0).val = 3; omega
  · show 0 + 1 * (y 1).val = (y 1).val; omega

end Loads

section Lists

theorem idx_lt1 {R C : ℕ} (y : (⟨2, ![R, C]⟩ : Shape).Idx) : (y 1).val < C := (y 1).isLt

/-- Two stores of 128 lanes over the same 512 rows, side by side. -/
theorem two_halves {sp : Space} {R : ℕ} (v : View sig .tc sp ⟨2, ![R, 256]⟩ .f32) (f : v.ty.Contents (Elt Ideal)) (o : ℕ)
    {off1 off0 : Fin 2 → ℕ}
    (inb1 : ∀ a, off1 a + (![512, 128] : Fin 2 → ℕ) a ≤ (⟨2, ![R, 256]⟩ : Shape).size a)
    (inb0 : ∀ a, off0 a + (![512, 128] : Fin 2 → ℕ) a ≤ (⟨2, ![R, 256]⟩ : Shape).size a)
    (w1 w0 : Vec Ideal S512x128 .f32) (L : List (View.Piece (Elt Ideal) ⟨2, ![R, 256]⟩ .f32))
    (h1 : off1 = ![o, 128]) (h0 : off0 = ![o, 0]) (y : (⟨2, ![R, 256]⟩ : Shape).Idx) :
    v.read (Elt Ideal) (v.writes (Elt Ideal) f (⟨Rect.unit (s := ⟨2, ![R, 256]⟩) off1 ![512, 128] inb1, w1⟩
        :: ⟨Rect.unit (s := ⟨2, ![R, 256]⟩) off0 ![512, 128] inb0, w0⟩ :: L)) y
      = if h : o ≤ (y 0).val ∧ (y 0).val < o + 512 then
          if h' : 128 ≤ (y 1).val then w1 (ix2 ⟨(y 0).val - o, by omega⟩ ⟨(y 1).val - 128, by have := idx_lt1 y; omega⟩)
          else w0 (ix2 ⟨(y 0).val - o, by omega⟩ ⟨(y 1).val, by omega⟩)
        else v.read (Elt Ideal) (v.writes (Elt Ideal) f L) y := by
  split
  · next h =>
    split
    · next h' =>
      refine View.read_writes_cons_unit_of_mem v f inb1 w1 _ y (ix2 _ _) h1 (fun a => ?_)
      fin_cases a
      · show (y 0).val = o + ((y 0).val - o); omega
      · show (y 1).val = 128 + ((y 1).val - 128); omega
    · next h' =>
      rw [View.read_writes_cons_unit_of_not_mem v f inb1 w1 _ y h1 1 (Or.inl (show (y 1).val < 128 by omega))]
      refine View.read_writes_cons_unit_of_mem v f inb0 w0 _ y (ix2 _ _) h0 (fun a => ?_)
      fin_cases a
      · show (y 0).val = o + ((y 0).val - o); omega
      · show (y 1).val = 0 + (y 1).val; omega
  · next h =>
    have hn : (y 0).val < o ∨ o + 512 ≤ (y 0).val := by omega
    rw [View.read_writes_cons_unit_of_not_mem v f inb1 w1 _ y h1 0 hn,
      View.read_writes_cons_unit_of_not_mem v f inb0 w0 _ y h0 0 hn]

/-- Stores of the first four columns. -/
theorem four_cols {sp : Space} (v : View sig .tc sp S512x8 .f32) (f : v.ty.Contents (Elt Ideal))
    (inb3 : ∀ a, (![0, 3] : Fin 2 → ℕ) a + (![512, 1] : Fin 2 → ℕ) a ≤ S512x8.size a)
    (inb2 : ∀ a, (![0, 2] : Fin 2 → ℕ) a + (![512, 1] : Fin 2 → ℕ) a ≤ S512x8.size a)
    (inb1 : ∀ a, (![0, 1] : Fin 2 → ℕ) a + (![512, 1] : Fin 2 → ℕ) a ≤ S512x8.size a)
    (inb0 : ∀ a, (![0, 0] : Fin 2 → ℕ) a + (![512, 1] : Fin 2 → ℕ) a ≤ S512x8.size a)
    (w3 w2 w1 w0 : Vec Ideal S512x1 .f32) (L : List (View.Piece (Elt Ideal) S512x8 .f32)) (y : S512x8.Idx) :
    v.read (Elt Ideal) (v.writes (Elt Ideal) f (⟨Rect.unit (s := S512x8) ![0, 3] ![512, 1] inb3, w3⟩
        :: ⟨Rect.unit (s := S512x8) ![0, 2] ![512, 1] inb2, w2⟩ :: ⟨Rect.unit (s := S512x8) ![0, 1] ![512, 1] inb1, w1⟩
        :: ⟨Rect.unit (s := S512x8) ![0, 0] ![512, 1] inb0, w0⟩ :: L)) y
      = if (y 1).val = 3 then w3 (ix2 (y 0) 0) else if (y 1).val = 2 then w2 (ix2 (y 0) 0)
        else if (y 1).val = 1 then w1 (ix2 (y 0) 0) else if (y 1).val = 0 then w0 (ix2 (y 0) 0)
        else v.read (Elt Ideal) (v.writes (Elt Ideal) f L) y := by
  have key : ∀ (k : ℕ) (inb : ∀ a, (![0, k] : Fin 2 → ℕ) a + (![512, 1] : Fin 2 → ℕ) a ≤ S512x8.size a) (w : Vec Ideal S512x1 .f32)
      (L : List (View.Piece (Elt Ideal) S512x8 .f32)),
      v.read (Elt Ideal) (v.writes (Elt Ideal) f (⟨Rect.unit (s := S512x8) ![0, k] ![512, 1] inb, w⟩ :: L)) y
        = if (y 1).val = k then w (ix2 (y 0) 0) else v.read (Elt Ideal) (v.writes (Elt Ideal) f L) y := by
    intro k inb w L
    split
    · next h =>
      refine View.read_writes_cons_unit_of_mem v f inb w _ y (ix2 _ _) rfl (fun a => ?_)
      fin_cases a
      · show (y 0).val = 0 + (y 0).val; omega
      · show (y 1).val = k + 0; omega
    · next h =>
      exact View.read_writes_cons_unit_of_not_mem v f inb w _ y rfl 1 (show (y 1).val < k ∨ k + 1 ≤ (y 1).val by omega)
  rw [key, key, key, key]

/-- Stores of the first four rows over the same 512 columns. -/
theorem four_rows {sp : Space} (v : View sig .tc sp S8x4096 .f32) (f : v.ty.Contents (Elt Ideal)) (o : ℕ)
    {off3 off2 off1 off0 : Fin 2 → ℕ}
    (inb3 : ∀ a, off3 a + (![1, 512] : Fin 2 → ℕ) a ≤ S8x4096.size a)
    (inb2 : ∀ a, off2 a + (![1, 512] : Fin 2 → ℕ) a ≤ S8x4096.size a)
    (inb1 : ∀ a, off1 a + (![1, 512] : Fin 2 → ℕ) a ≤ S8x4096.size a)
    (inb0 : ∀ a, off0 a + (![1, 512] : Fin 2 → ℕ) a ≤ S8x4096.size a)
    (w3 w2 w1 w0 : Vec Ideal S1x512 .f32) (L : List (View.Piece (Elt Ideal) S8x4096 .f32))
    (h3 : off3 = ![3, o]) (h2 : off2 = ![2, o]) (h1 : off1 = ![1, o]) (h0 : off0 = ![0, o]) (y : S8x4096.Idx) :
    v.read (Elt Ideal) (v.writes (Elt Ideal) f (⟨Rect.unit (s := S8x4096) off3 ![1, 512] inb3, w3⟩
        :: ⟨Rect.unit (s := S8x4096) off2 ![1, 512] inb2, w2⟩ :: ⟨Rect.unit (s := S8x4096) off1 ![1, 512] inb1, w1⟩
        :: ⟨Rect.unit (s := S8x4096) off0 ![1, 512] inb0, w0⟩ :: L)) y
      = if h : o ≤ (y 1).val ∧ (y 1).val < o + 512 then
          if (y 0).val = 3 then w3 (ix2 0 ⟨(y 1).val - o, by omega⟩) else if (y 0).val = 2 then w2 (ix2 0 ⟨(y 1).val - o, by omega⟩)
          else if (y 0).val = 1 then w1 (ix2 0 ⟨(y 1).val - o, by omega⟩) else if (y 0).val = 0 then w0 (ix2 0 ⟨(y 1).val - o, by omega⟩)
          else v.read (Elt Ideal) (v.writes (Elt Ideal) f L) y
        else v.read (Elt Ideal) (v.writes (Elt Ideal) f L) y := by
  have key : ∀ (k : ℕ) {off : Fin 2 → ℕ} (inb : ∀ a, off a + (![1, 512] : Fin 2 → ℕ) a ≤ S8x4096.size a) (w : Vec Ideal S1x512 .f32)
      (L : List (View.Piece (Elt Ideal) S8x4096 .f32)) (hoff : off = ![k, o]),
      v.read (Elt Ideal) (v.writes (Elt Ideal) f (⟨Rect.unit (s := S8x4096) off ![1, 512] inb, w⟩ :: L)) y
        = if h : o ≤ (y 1).val ∧ (y 1).val < o + 512 then
            if (y 0).val = k then w (ix2 0 ⟨(y 1).val - o, by omega⟩) else v.read (Elt Ideal) (v.writes (Elt Ideal) f L) y
          else v.read (Elt Ideal) (v.writes (Elt Ideal) f L) y := by
    intro k off inb w L hoff
    split
    · next h =>
      split
      · next h' =>
        refine View.read_writes_cons_unit_of_mem v f inb w _ y (ix2 _ _) hoff (fun a => ?_)
        fin_cases a
        · show (y 0).val = k + 0; omega
        · show (y 1).val = o + ((y 1).val - o); omega
      · next h' =>
        exact View.read_writes_cons_unit_of_not_mem v f inb w _ y hoff 0 (show (y 0).val < k ∨ k + 1 ≤ (y 0).val by omega)
    · next h =>
      exact View.read_writes_cons_unit_of_not_mem v f inb w _ y hoff 1 (show (y 1).val < o ∨ o + 512 ≤ (y 1).val by omega)
  rw [key 3 inb3 w3 _ h3, key 2 inb2 w2 _ h2, key 1 inb1 w1 _ h1, key 0 inb0 w0 _ h0]
  by_cases h : o ≤ (y 1).val ∧ (y 1).val < o + 512
  · rw [dif_pos h, dif_pos h, dif_pos h, dif_pos h, dif_pos h]
  · rw [dif_neg h, dif_neg h, dif_neg h, dif_neg h, dif_neg h]

end Lists

end Cert.KernelIdeal.Fox

end
-- ==== Proof.Steps.lean ====
/- The lists of stores the body makes, read as whole buffers: the old contents with the block's shares added. -/
module

public import proofs.«01_k».proof.Proof.BlockMath

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

theorem hl_inj (g : Fin 2) (l : Fin 128) (y : Fin 256) (h : (hl g l).val = y.val) : hl g l = y := Fin.ext h

theorem lane_pick (T : Fin 4 → EReal) (g : Fin 2) (l : Fin 128) :
    (if l.val < 64 then T (hd g 0) else T (hd g 1)) = T (headOf (hl g l)) := by
  have hg : g.val < 2 := g.isLt
  split
  · next h => exact congrArg T (Fin.ext (by show 2 * g.val + 0 = (128 * g.val + l.val) / 64; omega))
  · next h => exact congrArg T (Fin.ext (by show 2 * g.val + 1 = (128 * g.val + l.val) / 64; omega))

/-- Any index of a rank-2 shape by its coordinates. -/
theorem ix2_eta {R C : ℕ} (y : (⟨2, ![R, C]⟩ : Shape).Idx) : ix2 (y 0) (y 1) = y := by
  funext a; fin_cases a <;> rfl

theorem dq_lane0 (B : Blk) (msk : Bool) (r : Fin 512) (l : Fin 128) :
    (0 : EReal)
        + (if l.val < 64 then ∑ a : Fin 512, (ds msk (halfw 0 B.q) (halfw 0 B.k) (halfw 0 B.v) (halfw 0 B.d) (halfw 0 B.o) (colv 0 B.ck) (rowv 0 B.lse) (rowv 0 B.cq) 0 a r * eighth) * halfw 0 B.k (ix2 a l)
          else ∑ a : Fin 512, (ds msk (halfw 0 B.q) (halfw 0 B.k) (halfw 0 B.v) (halfw 0 B.d) (halfw 0 B.o) (colv 1 B.ck) (rowv 1 B.lse) (rowv 1 B.cq) 1 a r * eighth) * halfw 0 B.k (ix2 a l))
      = ∑ a : Fin 512, (B.ds msk (headOf (hl 0 l)) a r * eighth) * B.k (ix2 a (hl 0 l)) := by
  rw [zero_add]
  have hb0 := fun x y => ds_half B msk 0 0 0 rfl x y
  have hb1 := fun x y => ds_half B msk 0 1 1 rfl x y
  simp only [hb0, hb1]
  exact lane_pick (fun h => ∑ a : Fin 512, (B.ds msk h a r * eighth) * B.k (ix2 a (hl 0 l))) 0 l

theorem dq_lane1 (B : Blk) (msk : Bool) (r : Fin 512) (l : Fin 128) :
    (0 : EReal)
        + (if l.val < 64 then ∑ a : Fin 512, (ds msk (halfw 1 B.q) (halfw 1 B.k) (halfw 1 B.v) (halfw 1 B.d) (halfw 1 B.o) (colv 2 B.ck) (rowv 2 B.lse) (rowv 2 B.cq) 0 a r * eighth) * halfw 1 B.k (ix2 a l)
          else ∑ a : Fin 512, (ds msk (halfw 1 B.q) (halfw 1 B.k) (halfw 1 B.v) (halfw 1 B.d) (halfw 1 B.o) (colv 3 B.ck) (rowv 3 B.lse) (rowv 3 B.cq) 1 a r * eighth) * halfw 1 B.k (ix2 a l))
      = ∑ a : Fin 512, (B.ds msk (headOf (hl 1 l)) a r * eighth) * B.k (ix2 a (hl 1 l)) := by
  rw [zero_add]
  have hb0 := fun x y => ds_half B msk 1 0 2 rfl x y
  have hb1 := fun x y => ds_half B msk 1 1 3 rfl x y
  simp only [hb0, hb1]
  exact lane_pick (fun h => ∑ a : Fin 512, (B.ds msk h a r * eighth) * B.k (ix2 a (hl 1 l))) 1 l

/-- The two halves of the rows a grid point adds the queries' gradient to. -/
theorem dq_step {sp : Space} (B : Blk) (msk : Bool) (v : View sig .tc sp S4096x256 .f32) (f : v.ty.Contents (Elt Ideal)) (o : ℕ)
    (ho : o + 512 ≤ 4096) (old : Vec Ideal S4096x256 .f32) {off1 off0 : Fin 2 → ℕ}
    {inb1 : ∀ a, off1 a + (![512, 128] : Fin 2 → ℕ) a ≤ S4096x256.size a}
    {inb0 : ∀ a, off0 a + (![512, 128] : Fin 2 → ℕ) a ≤ S4096x256.size a}
    {w1 w0 : Vec Ideal S512x128 .f32} {L : List (View.Piece (Elt Ideal) S4096x256 .f32)}
    (h1 : off1 = ![o, 128]) (h0 : off0 = ![o, 0])
    (e1 : ∀ (r : Fin 512) (l : Fin 128), w1 (ix2 r l) = old (ix2 ⟨o + r.val, by omega⟩ (hl 1 l))
        + (if l.val < 64 then ∑ a : Fin 512, (ds msk (halfw 1 B.q) (halfw 1 B.k) (halfw 1 B.v) (halfw 1 B.d) (halfw 1 B.o) (colv 2 B.ck) (rowv 2 B.lse) (rowv 2 B.cq) 0 a r * eighth) * halfw 1 B.k (ix2 a l)
          else ∑ a : Fin 512, (ds msk (halfw 1 B.q) (halfw 1 B.k) (halfw 1 B.v) (halfw 1 B.d) (halfw 1 B.o) (colv 3 B.ck) (rowv 3 B.lse) (rowv 3 B.cq) 1 a r * eighth) * halfw 1 B.k (ix2 a l)))
    (e0 : ∀ (r : Fin 512) (l : Fin 128), w0 (ix2 r l) = old (ix2 ⟨o + r.val, by omega⟩ (hl 0 l))
        + (if l.val < 64 then ∑ a : Fin 512, (ds msk (halfw 0 B.q) (halfw 0 B.k) (halfw 0 B.v) (halfw 0 B.d) (halfw 0 B.o) (colv 0 B.ck) (rowv 0 B.lse) (rowv 0 B.cq) 0 a r * eighth) * halfw 0 B.k (ix2 a l)
          else ∑ a : Fin 512, (ds msk (halfw 0 B.q) (halfw 0 B.k) (halfw 0 B.v) (halfw 0 B.d) (halfw 0 B.o) (colv 1 B.ck) (rowv 1 B.lse) (rowv 1 B.cq) 1 a r * eighth) * halfw 0 B.k (ix2 a l)))
    (eL : ∀ y : S4096x256.Idx, v.read (Elt Ideal) (v.writes (Elt Ideal) f L) y = old y) :
    v.read (Elt Ideal) (v.writes (Elt Ideal) f (⟨Rect.unit (s := S4096x256) off1 ![512, 128] inb1, w1⟩
        :: ⟨Rect.unit (s := S4096x256) off0 ![512, 128] inb0, w0⟩ :: L)) = B.addDq msk o old := by
  funext y
  refine (two_halves v f o inb1 inb0 w1 w0 L h1 h0 y).trans ?_
  by_cases h : o ≤ (y 0).val ∧ (y 0).val < o + 512
  · have hy : ∀ (h' : o + ((y 0).val - o) < 4096), (⟨o + ((y 0).val - o), h'⟩ : Fin 4096) = y 0 := fun _ => Fin.ext (by show o + ((y 0).val - o) = (y 0).val; omega)
    have hyy : ∀ {h' : o + ((y 0).val - o) < 4096}, ix2 (⟨o + ((y 0).val - o), h'⟩ : Fin 4096) (y 1) = y := fun {h'} =>
      (congrArg (fun z => ix2 z (y 1)) (hy h')).trans (ix2_eta y)
    have hy1 : (y 1).val < 256 := (y 1).isLt
    rw [dif_pos h, Blk.addDq, dif_pos h]
    split
    · next h' =>
      have hl1 : hl 1 ⟨(y 1).val - 128, by omega⟩ = y 1 := Fin.ext (by show 128 * 1 + ((y 1).val - 128) = (y 1).val; omega)
      have hs := dq_lane1 B msk ⟨(y 0).val - o, by omega⟩ ⟨(y 1).val - 128, by omega⟩
      rw [zero_add] at hs
      refine (e1 _ _).trans ?_
      rw [hs, hl1]
      exact congrArg₂ (· + ·) (congrArg old hyy) rfl
    · next h' =>
      have hl1 : hl 0 ⟨(y 1).val, by omega⟩ = y 1 := Fin.ext (by show 128 * 0 + (y 1).val = (y 1).val; omega)
      have hs := dq_lane0 B msk ⟨(y 0).val - o, by omega⟩ ⟨(y 1).val, by omega⟩
      rw [zero_add] at hs
      refine (e0 _ _).trans ?_
      rw [hs, hl1]
      exact congrArg₂ (· + ·) (congrArg old hyy) rfl
  · rw [dif_neg h, Blk.addDq, dif_neg h, eL]

theorem dk_lane0 (B : Blk) (msk : Bool) (r : Fin 512) (l : Fin 128) :
    (0 : EReal)
        + (if l.val < 64 then ∑ b : Fin 512, (ds msk (halfw 0 B.q) (halfw 0 B.k) (halfw 0 B.v) (halfw 0 B.d) (halfw 0 B.o) (colv 0 B.ck) (rowv 0 B.lse) (rowv 0 B.cq) 0 r b * eighth) * halfw 0 B.q (ix2 b l)
          else ∑ b : Fin 512, (ds msk (halfw 0 B.q) (halfw 0 B.k) (halfw 0 B.v) (halfw 0 B.d) (halfw 0 B.o) (colv 1 B.ck) (rowv 1 B.lse) (rowv 1 B.cq) 1 r b * eighth) * halfw 0 B.q (ix2 b l))
      = ∑ b : Fin 512, (B.ds msk (headOf (hl 0 l)) r b * eighth) * B.q (ix2 b (hl 0 l)) := by
  rw [zero_add]
  have hb0 := fun x y => ds_half B msk 0 0 0 rfl x y
  have hb1 := fun x y => ds_half B msk 0 1 1 rfl x y
  simp only [hb0, hb1]
  exact lane_pick (fun h => ∑ b : Fin 512, (B.ds msk h r b * eighth) * B.q (ix2 b (hl 0 l))) 0 l

theorem dk_lane1 (B : Blk) (msk : Bool) (r : Fin 512) (l : Fin 128) :
    (0 : EReal)
        + (if l.val < 64 then ∑ b : Fin 512, (ds msk (halfw 1 B.q) (halfw 1 B.k) (halfw 1 B.v) (halfw 1 B.d) (halfw 1 B.o) (colv 2 B.ck) (rowv 2 B.lse) (rowv 2 B.cq) 0 r b * eighth) * halfw 1 B.q (ix2 b l)
          else ∑ b : Fin 512, (ds msk (halfw 1 B.q) (halfw 1 B.k) (halfw 1 B.v) (halfw 1 B.d) (halfw 1 B.o) (colv 3 B.ck) (rowv 3 B.lse) (rowv 3 B.cq) 1 r b * eighth) * halfw 1 B.q (ix2 b l))
      = ∑ b : Fin 512, (B.ds msk (headOf (hl 1 l)) r b * eighth) * B.q (ix2 b (hl 1 l)) := by
  rw [zero_add]
  have hb0 := fun x y => ds_half B msk 1 0 2 rfl x y
  have hb1 := fun x y => ds_half B msk 1 1 3 rfl x y
  simp only [hb0, hb1]
  exact lane_pick (fun h => ∑ b : Fin 512, (B.ds msk h r b * eighth) * B.q (ix2 b (hl 1 l))) 1 l

/-- The two halves of the keys' gradient. -/
theorem dk_step {sp : Space} (B : Blk) (msk : Bool) (v : View sig .tc sp S512x256 .f32) (f : v.ty.Contents (Elt Ideal))
    (old : Vec Ideal S512x256 .f32)
    {inb1 : ∀ a, (![0, 128] : Fin 2 → ℕ) a + (![512, 128] : Fin 2 → ℕ) a ≤ S512x256.size a}
    {inb0 : ∀ a, (![0, 0] : Fin 2 → ℕ) a + (![512, 128] : Fin 2 → ℕ) a ≤ S512x256.size a}
    {w1 w0 : Vec Ideal S512x128 .f32} {L : List (View.Piece (Elt Ideal) S512x256 .f32)}
    (e1 : ∀ (r : Fin 512) (l : Fin 128), w1 (ix2 r l) = old (ix2 r (hl 1 l))
        + (if l.val < 64 then ∑ b : Fin 512, (ds msk (halfw 1 B.q) (halfw 1 B.k) (halfw 1 B.v) (halfw 1 B.d) (halfw 1 B.o) (colv 2 B.ck) (rowv 2 B.lse) (rowv 2 B.cq) 0 r b * eighth) * halfw 1 B.q (ix2 b l)
          else ∑ b : Fin 512, (ds msk (halfw 1 B.q) (halfw 1 B.k) (halfw 1 B.v) (halfw 1 B.d) (halfw 1 B.o) (colv 3 B.ck) (rowv 3 B.lse) (rowv 3 B.cq) 1 r b * eighth) * halfw 1 B.q (ix2 b l)))
    (e0 : ∀ (r : Fin 512) (l : Fin 128), w0 (ix2 r l) = old (ix2 r (hl 0 l))
        + (if l.val < 64 then ∑ b : Fin 512, (ds msk (halfw 0 B.q) (halfw 0 B.k) (halfw 0 B.v) (halfw 0 B.d) (halfw 0 B.o) (colv 0 B.ck) (rowv 0 B.lse) (rowv 0 B.cq) 0 r b * eighth) * halfw 0 B.q (ix2 b l)
          else ∑ b : Fin 512, (ds msk (halfw 0 B.q) (halfw 0 B.k) (halfw 0 B.v) (halfw 0 B.d) (halfw 0 B.o) (colv 1 B.ck) (rowv 1 B.lse) (rowv 1 B.cq) 1 r b * eighth) * halfw 0 B.q (ix2 b l))) :
    v.read (Elt Ideal) (v.writes (Elt Ideal) f (⟨Rect.unit (s := S512x256) ![0, 128] ![512, 128] inb1, w1⟩
        :: ⟨Rect.unit (s := S512x256) ![0, 0] ![512, 128] inb0, w0⟩ :: L)) = B.addDk msk old := by
  funext y
  refine (two_halves v f 0 inb1 inb0 w1 w0 L rfl rfl y).trans ?_
  have hy0 : (y 0).val < 512 := (y 0).isLt
  have hy1 : (y 1).val < 256 := (y 1).isLt
  have hy : ∀ (h' : (y 0).val - 0 < 512), (⟨(y 0).val - 0, h'⟩ : Fin 512) = y 0 := fun _ => rfl
  rw [dif_pos ⟨Nat.zero_le _, by omega⟩, Blk.addDk]
  split
  · next h' =>
    have hl1 : hl 1 ⟨(y 1).val - 128, by omega⟩ = y 1 := Fin.ext (by show 128 * 1 + ((y 1).val - 128) = (y 1).val; omega)
    have hs := dk_lane1 B msk (y 0) ⟨(y 1).val - 128, by omega⟩
    rw [zero_add] at hs
    refine (e1 (y 0) _).trans ?_
    rw [hs, hl1]
    exact congrArg₂ (· + ·) (congrArg old (ix2_eta y)) rfl
  · next h' =>
    have hl1 : hl 0 ⟨(y 1).val, by omega⟩ = y 1 := Fin.ext (by show 128 * 0 + (y 1).val = (y 1).val; omega)
    have hs := dk_lane0 B msk (y 0) ⟨(y 1).val, by omega⟩
    rw [zero_add] at hs
    refine (e0 (y 0) _).trans ?_
    rw [hs, hl1]
    exact congrArg₂ (· + ·) (congrArg old (ix2_eta y)) rfl

theorem dv_lane0 (B : Blk) (msk : Bool) (r : Fin 512) (l : Fin 128) :
    (0 : EReal)
        + (if l.val < 64 then ∑ b : Fin 512, pr msk (halfw 0 B.q) (halfw 0 B.k) (colv 0 B.ck) (rowv 0 B.lse) (rowv 0 B.cq) 0 r b * halfw 0 B.d (ix2 b l)
          else ∑ b : Fin 512, pr msk (halfw 0 B.q) (halfw 0 B.k) (colv 1 B.ck) (rowv 1 B.lse) (rowv 1 B.cq) 1 r b * halfw 0 B.d (ix2 b l))
      = ∑ b : Fin 512, B.pr msk (headOf (hl 0 l)) r b * B.d (ix2 b (hl 0 l)) := by
  rw [zero_add]
  have hb0 := fun x y => pr_half B msk 0 0 0 rfl x y
  have hb1 := fun x y => pr_half B msk 0 1 1 rfl x y
  simp only [hb0, hb1]
  exact lane_pick (fun h => ∑ b : Fin 512, B.pr msk h r b * B.d (ix2 b (hl 0 l))) 0 l

theorem dv_lane1 (B : Blk) (msk : Bool) (r : Fin 512) (l : Fin 128) :
    (0 : EReal)
        + (if l.val < 64 then ∑ b : Fin 512, pr msk (halfw 1 B.q) (halfw 1 B.k) (colv 2 B.ck) (rowv 2 B.lse) (rowv 2 B.cq) 0 r b * halfw 1 B.d (ix2 b l)
          else ∑ b : Fin 512, pr msk (halfw 1 B.q) (halfw 1 B.k) (colv 3 B.ck) (rowv 3 B.lse) (rowv 3 B.cq) 1 r b * halfw 1 B.d (ix2 b l))
      = ∑ b : Fin 512, B.pr msk (headOf (hl 1 l)) r b * B.d (ix2 b (hl 1 l)) := by
  rw [zero_add]
  have hb0 := fun x y => pr_half B msk 1 0 2 rfl x y
  have hb1 := fun x y => pr_half B msk 1 1 3 rfl x y
  simp only [hb0, hb1]
  exact lane_pick (fun h => ∑ b : Fin 512, B.pr msk h r b * B.d (ix2 b (hl 1 l))) 1 l

/-- The two halves of the values' gradient. -/
theorem dv_step {sp : Space} (B : Blk) (msk : Bool) (v : View sig .tc sp S512x256 .f32) (f : v.ty.Contents (Elt Ideal))
    (old : Vec Ideal S512x256 .f32)
    {inb1 : ∀ a, (![0, 128] : Fin 2 → ℕ) a + (![512, 128] : Fin 2 → ℕ) a ≤ S512x256.size a}
    {inb0 : ∀ a, (![0, 0] : Fin 2 → ℕ) a + (![512, 128] : Fin 2 → ℕ) a ≤ S512x256.size a}
    {w1 w0 : Vec Ideal S512x128 .f32} {L : List (View.Piece (Elt Ideal) S512x256 .f32)}
    (e1 : ∀ (r : Fin 512) (l : Fin 128), w1 (ix2 r l) = old (ix2 r (hl 1 l))
        + (if l.val < 64 then ∑ b : Fin 512, pr msk (halfw 1 B.q) (halfw 1 B.k) (colv 2 B.ck) (rowv 2 B.lse) (rowv 2 B.cq) 0 r b * halfw 1 B.d (ix2 b l)
          else ∑ b : Fin 512, pr msk (halfw 1 B.q) (halfw 1 B.k) (colv 3 B.ck) (rowv 3 B.lse) (rowv 3 B.cq) 1 r b * halfw 1 B.d (ix2 b l)))
    (e0 : ∀ (r : Fin 512) (l : Fin 128), w0 (ix2 r l) = old (ix2 r (hl 0 l))
        + (if l.val < 64 then ∑ b : Fin 512, pr msk (halfw 0 B.q) (halfw 0 B.k) (colv 0 B.ck) (rowv 0 B.lse) (rowv 0 B.cq) 0 r b * halfw 0 B.d (ix2 b l)
          else ∑ b : Fin 512, pr msk (halfw 0 B.q) (halfw 0 B.k) (colv 1 B.ck) (rowv 1 B.lse) (rowv 1 B.cq) 1 r b * halfw 0 B.d (ix2 b l))) :
    v.read (Elt Ideal) (v.writes (Elt Ideal) f (⟨Rect.unit (s := S512x256) ![0, 128] ![512, 128] inb1, w1⟩
        :: ⟨Rect.unit (s := S512x256) ![0, 0] ![512, 128] inb0, w0⟩ :: L)) = B.addDv msk old := by
  funext y
  refine (two_halves v f 0 inb1 inb0 w1 w0 L rfl rfl y).trans ?_
  have hy0 : (y 0).val < 512 := (y 0).isLt
  have hy1 : (y 1).val < 256 := (y 1).isLt
  have hy : ∀ (h' : (y 0).val - 0 < 512), (⟨(y 0).val - 0, h'⟩ : Fin 512) = y 0 := fun _ => rfl
  rw [dif_pos ⟨Nat.zero_le _, by omega⟩, Blk.addDv]
  split
  · next h' =>
    have hl1 : hl 1 ⟨(y 1).val - 128, by omega⟩ = y 1 := Fin.ext (by show 128 * 1 + ((y 1).val - 128) = (y 1).val; omega)
    have hs := dv_lane1 B msk (y 0) ⟨(y 1).val - 128, by omega⟩
    rw [zero_add] at hs
    refine (e1 (y 0) _).trans ?_
    rw [hs, hl1]
    exact congrArg₂ (· + ·) (congrArg old (ix2_eta y)) rfl
  · next h' =>
    have hl1 : hl 0 ⟨(y 1).val, by omega⟩ = y 1 := Fin.ext (by show 128 * 0 + (y 1).val = (y 1).val; omega)
    have hs := dv_lane0 B msk (y 0) ⟨(y 1).val, by omega⟩
    rw [zero_add] at hs
    refine (e0 (y 0) _).trans ?_
    rw [hs, hl1]
    exact congrArg₂ (· + ·) (congrArg old (ix2_eta y)) rfl

/-- The four columns of the gradient of the keys' decays. -/
theorem dck_step {sp : Space} (B : Blk) (msk : Bool) (v : View sig .tc sp S512x8 .f32) (f : v.ty.Contents (Elt Ideal))
    (old : Vec Ideal S512x8 .f32)
    {inb3 : ∀ a, (![0, 3] : Fin 2 → ℕ) a + (![512, 1] : Fin 2 → ℕ) a ≤ S512x8.size a}
    {inb2 : ∀ a, (![0, 2] : Fin 2 → ℕ) a + (![512, 1] : Fin 2 → ℕ) a ≤ S512x8.size a}
    {inb1 : ∀ a, (![0, 1] : Fin 2 → ℕ) a + (![512, 1] : Fin 2 → ℕ) a ≤ S512x8.size a}
    {inb0 : ∀ a, (![0, 0] : Fin 2 → ℕ) a + (![512, 1] : Fin 2 → ℕ) a ≤ S512x8.size a}
    {w3 w2 w1 w0 : Vec Ideal S512x1 .f32} {L : List (View.Piece (Elt Ideal) S512x8 .f32)}
    (e3 : ∀ a : Fin 512, w3 (ix2 a 0) = old (ix2 a 3) - ∑ b : Fin 512, ds msk (halfw 1 B.q) (halfw 1 B.k) (halfw 1 B.v) (halfw 1 B.d) (halfw 1 B.o) (colv 3 B.ck) (rowv 3 B.lse) (rowv 3 B.cq) 1 a b)
    (e2 : ∀ a : Fin 512, w2 (ix2 a 0) = old (ix2 a 2) - ∑ b : Fin 512, ds msk (halfw 1 B.q) (halfw 1 B.k) (halfw 1 B.v) (halfw 1 B.d) (halfw 1 B.o) (colv 2 B.ck) (rowv 2 B.lse) (rowv 2 B.cq) 0 a b)
    (e1 : ∀ a : Fin 512, w1 (ix2 a 0) = old (ix2 a 1) - ∑ b : Fin 512, ds msk (halfw 0 B.q) (halfw 0 B.k) (halfw 0 B.v) (halfw 0 B.d) (halfw 0 B.o) (colv 1 B.ck) (rowv 1 B.lse) (rowv 1 B.cq) 1 a b)
    (e0 : ∀ a : Fin 512, w0 (ix2 a 0) = old (ix2 a 0) - ∑ b : Fin 512, ds msk (halfw 0 B.q) (halfw 0 B.k) (halfw 0 B.v) (halfw 0 B.d) (halfw 0 B.o) (colv 0 B.ck) (rowv 0 B.lse) (rowv 0 B.cq) 0 a b)
    (eL : ∀ y : S512x8.Idx, v.read (Elt Ideal) (v.writes (Elt Ideal) f L) y = old y) :
    v.read (Elt Ideal) (v.writes (Elt Ideal) f (⟨Rect.unit (s := S512x8) ![0, 3] ![512, 1] inb3, w3⟩
        :: ⟨Rect.unit (s := S512x8) ![0, 2] ![512, 1] inb2, w2⟩ :: ⟨Rect.unit (s := S512x8) ![0, 1] ![512, 1] inb1, w1⟩
        :: ⟨Rect.unit (s := S512x8) ![0, 0] ![512, 1] inb0, w0⟩ :: L)) = B.addDck msk old := by
  funext y
  refine (four_cols v f inb3 inb2 inb1 inb0 w3 w2 w1 w0 L y).trans ?_
  have hy : ∀ c : Fin 8, (y 1).val = c.val → ix2 (y 0) c = y := fun c hc => by
    exact (congrArg (ix2 (y 0)) (Fin.ext hc : y 1 = c)).symm.trans (ix2_eta y)
  by_cases h3 : (y 1).val = 3
  · have hd : ∀ h', (⟨(y 1).val, h'⟩ : Fin 4) = 3 := fun _ => Fin.ext h3
    have hs := fun a b => ds_half B msk 1 1 3 rfl a b
    simp only [hs] at e3
    rw [if_pos h3, Blk.addDck, dif_pos (show (y 1).val < 4 by omega)]
    refine (e3 (y 0)).trans ?_
    rw [hd]
    exact congrArg₂ (· - ·) (congrArg old (hy 3 h3)) rfl
  by_cases h2 : (y 1).val = 2
  · have hd : ∀ h', (⟨(y 1).val, h'⟩ : Fin 4) = 2 := fun _ => Fin.ext h2
    have hs := fun a b => ds_half B msk 1 0 2 rfl a b
    simp only [hs] at e2
    rw [if_neg h3, if_pos h2, Blk.addDck, dif_pos (show (y 1).val < 4 by omega)]
    refine (e2 (y 0)).trans ?_
    rw [hd]
    exact congrArg₂ (· - ·) (congrArg old (hy 2 h2)) rfl
  by_cases h1 : (y 1).val = 1
  · have hd : ∀ h', (⟨(y 1).val, h'⟩ : Fin 4) = 1 := fun _ => Fin.ext h1
    have hs := fun a b => ds_half B msk 0 1 1 rfl a b
    simp only [hs] at e1
    rw [if_neg h3, if_neg h2, if_pos h1, Blk.addDck, dif_pos (show (y 1).val < 4 by omega)]
    refine (e1 (y 0)).trans ?_
    rw [hd]
    exact congrArg₂ (· - ·) (congrArg old (hy 1 h1)) rfl
  by_cases h0 : (y 1).val = 0
  · have hd : ∀ h', (⟨(y 1).val, h'⟩ : Fin 4) = 0 := fun _ => Fin.ext h0
    have hs := fun a b => ds_half B msk 0 0 0 rfl a b
    simp only [hs] at e0
    rw [if_neg h3, if_neg h2, if_neg h1, if_pos h0, Blk.addDck, dif_pos (show (y 1).val < 4 by omega)]
    refine (e0 (y 0)).trans ?_
    rw [hd]
    exact congrArg₂ (· - ·) (congrArg old (hy 0 h0)) rfl
  rw [if_neg h3, if_neg h2, if_neg h1, if_neg h0, Blk.addDck, dif_neg (show ¬ (y 1).val < 4 by omega), eL]

/-- The four rows of the gradient of the queries' decays. -/
theorem dcq_step {sp : Space} (B : Blk) (msk : Bool) (v : View sig .tc sp S8x4096 .f32) (f : v.ty.Contents (Elt Ideal)) (o : ℕ)
    (ho : o + 512 ≤ 4096) (old : Vec Ideal S8x4096 .f32) {off3 off2 off1 off0 : Fin 2 → ℕ}
    {inb3 : ∀ a, off3 a + (![1, 512] : Fin 2 → ℕ) a ≤ S8x4096.size a}
    {inb2 : ∀ a, off2 a + (![1, 512] : Fin 2 → ℕ) a ≤ S8x4096.size a}
    {inb1 : ∀ a, off1 a + (![1, 512] : Fin 2 → ℕ) a ≤ S8x4096.size a}
    {inb0 : ∀ a, off0 a + (![1, 512] : Fin 2 → ℕ) a ≤ S8x4096.size a}
    {w3 w2 w1 w0 : Vec Ideal S1x512 .f32} {L : List (View.Piece (Elt Ideal) S8x4096 .f32)}
    (h3 : off3 = ![3, o]) (h2 : off2 = ![2, o]) (h1 : off1 = ![1, o]) (h0 : off0 = ![0, o])
    (e3 : ∀ b : Fin 512, w3 (ix2 0 b) = old (ix2 3 ⟨o + b.val, by omega⟩) + ∑ a : Fin 512, ds msk (halfw 1 B.q) (halfw 1 B.k) (halfw 1 B.v) (halfw 1 B.d) (halfw 1 B.o) (colv 3 B.ck) (rowv 3 B.lse) (rowv 3 B.cq) 1 a b)
    (e2 : ∀ b : Fin 512, w2 (ix2 0 b) = old (ix2 2 ⟨o + b.val, by omega⟩) + ∑ a : Fin 512, ds msk (halfw 1 B.q) (halfw 1 B.k) (halfw 1 B.v) (halfw 1 B.d) (halfw 1 B.o) (colv 2 B.ck) (rowv 2 B.lse) (rowv 2 B.cq) 0 a b)
    (e1 : ∀ b : Fin 512, w1 (ix2 0 b) = old (ix2 1 ⟨o + b.val, by omega⟩) + ∑ a : Fin 512, ds msk (halfw 0 B.q) (halfw 0 B.k) (halfw 0 B.v) (halfw 0 B.d) (halfw 0 B.o) (colv 1 B.ck) (rowv 1 B.lse) (rowv 1 B.cq) 1 a b)
    (e0 : ∀ b : Fin 512, w0 (ix2 0 b) = old (ix2 0 ⟨o + b.val, by omega⟩) + ∑ a : Fin 512, ds msk (halfw 0 B.q) (halfw 0 B.k) (halfw 0 B.v) (halfw 0 B.d) (halfw 0 B.o) (colv 0 B.ck) (rowv 0 B.lse) (rowv 0 B.cq) 0 a b)
    (eL : ∀ y : S8x4096.Idx, v.read (Elt Ideal) (v.writes (Elt Ideal) f L) y = old y) :
    v.read (Elt Ideal) (v.writes (Elt Ideal) f (⟨Rect.unit (s := S8x4096) off3 ![1, 512] inb3, w3⟩
        :: ⟨Rect.unit (s := S8x4096) off2 ![1, 512] inb2, w2⟩ :: ⟨Rect.unit (s := S8x4096) off1 ![1, 512] inb1, w1⟩
        :: ⟨Rect.unit (s := S8x4096) off0 ![1, 512] inb0, w0⟩ :: L)) = B.addDcq msk o old := by
  funext y
  refine (four_rows v f o inb3 inb2 inb1 inb0 w3 w2 w1 w0 L h3 h2 h1 h0 y).trans ?_
  by_cases h : o ≤ (y 1).val ∧ (y 1).val < o + 512
  · rw [dif_pos h]
    have hy : ∀ (c : Fin 8) (h' : o + ((y 1).val - o) < 4096), (y 0).val = c.val → ix2 c (⟨o + ((y 1).val - o), h'⟩ : Fin 4096) = y := fun c h' hc => by
      exact (congrArg₂ ix2 (Fin.ext hc : y 0 = c).symm (Fin.ext (by show o + ((y 1).val - o) = (y 1).val; omega) : (⟨o + ((y 1).val - o), h'⟩ : Fin 4096) = y 1)).trans (ix2_eta y)
    by_cases g3 : (y 0).val = 3
    · have hd : ∀ h', (⟨(y 0).val, h'⟩ : Fin 4) = 3 := fun _ => Fin.ext g3
      have hs := fun a b => ds_half B msk 1 1 3 rfl a b
      simp only [hs] at e3
      rw [if_pos g3, Blk.addDcq, dif_pos ⟨show (y 0).val < 4 by omega, h⟩]
      refine (e3 _).trans ?_
      rw [hd]
      exact congrArg₂ (· + ·) (congrArg old (hy 3 _ g3)) rfl
    by_cases g2 : (y 0).val = 2
    · have hd : ∀ h', (⟨(y 0).val, h'⟩ : Fin 4) = 2 := fun _ => Fin.ext g2
      have hs := fun a b => ds_half B msk 1 0 2 rfl a b
      simp only [hs] at e2
      rw [if_neg g3, if_pos g2, Blk.addDcq, dif_pos ⟨show (y 0).val < 4 by omega, h⟩]
      refine (e2 _).trans ?_
      rw [hd]
      exact congrArg₂ (· + ·) (congrArg old (hy 2 _ g2)) rfl
    by_cases g1 : (y 0).val = 1
    · have hd : ∀ h', (⟨(y 0).val, h'⟩ : Fin 4) = 1 := fun _ => Fin.ext g1
      have hs := fun a b => ds_half B msk 0 1 1 rfl a b
      simp only [hs] at e1
      rw [if_neg g3, if_neg g2, if_pos g1, Blk.addDcq, dif_pos ⟨show (y 0).val < 4 by omega, h⟩]
      refine (e1 _).trans ?_
      rw [hd]
      exact congrArg₂ (· + ·) (congrArg old (hy 1 _ g1)) rfl
    by_cases g0 : (y 0).val = 0
    · have hd : ∀ h', (⟨(y 0).val, h'⟩ : Fin 4) = 0 := fun _ => Fin.ext g0
      have hs := fun a b => ds_half B msk 0 0 0 rfl a b
      simp only [hs] at e0
      rw [if_neg g3, if_neg g2, if_neg g1, if_pos g0, Blk.addDcq, dif_pos ⟨show (y 0).val < 4 by omega, h⟩]
      refine (e0 _).trans ?_
      rw [hd]
      exact congrArg₂ (· + ·) (congrArg old (hy 0 _ g0)) rfl
    rw [if_neg g3, if_neg g2, if_neg g1, if_neg g0, Blk.addDcq, dif_neg (fun hh => by omega), eL]
  · rw [dif_neg h, Blk.addDcq, dif_neg (fun hh => h hh.2), eL]

end Cert.KernelIdeal.Fox

end
-- ==== Proof.Reads.lean ====
/- Loads of what a buffer held before, at an index: from named contents, and from zeros partly stored over. -/
module

public import proofs.«01_k».proof.Proof.Steps

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-- The word a grid point computes as its first row. -/
theorem row_word (n : ℕ) (hn : n < 8) :
    BitVec.toNat (Scalar.indexCast (Scalar.muli (BitVec.ofNat 32 n) 512#32)) = 512 * n := by
  have h : ∀ n : Fin 8, BitVec.toNat (Scalar.indexCast (Scalar.muli (BitVec.ofNat 32 n.val) 512#32)) = 512 * n.val := by decide
  exact h ⟨n, hn⟩

theorem off_row (n c : ℕ) (hn : n < 8) :
    (![BitVec.toNat (Scalar.indexCast (Scalar.muli (BitVec.ofNat 32 n) 512#32)), c] : Fin 2 → ℕ) = ![512 * n, c] := by
  rw [row_word n hn]

theorem off_colm (n c : ℕ) (hn : n < 8) :
    (![c, BitVec.toNat (Scalar.indexCast (Scalar.muli (BitVec.ofNat 32 n) 512#32))] : Fin 2 → ℕ) = ![c, 512 * n] := by
  rw [row_word n hn]

/-- A load of a window after stores, at an index. -/
theorem after_at {sp : Space} {s : Shape} {e : EltTy} (v : View sig .tc sp s e) (f : v.ty.Contents (Elt Ideal))
    {off size : Fin s.rank → ℕ} (inb : ∀ a, off a + size a ≤ s.size a) (y : (Rect.unit off size inb).shape.Idx) :
    View.readAt (Elt Ideal) v (Rect.unit off size inb).toLoadRect f y = v.read (Elt Ideal) f ((Rect.unit off size inb).emb y) := by
  rw [View.readAt_unit _ _ _ rfl (inb' := inb)]
  rfl

theorem load_off {R C m n : ℕ} (v : Memref sig .tc .vmem ⟨2, ![R, C]⟩ .f32) (hv : v.IsWhole) (x : Vec Ideal ⟨2, ![R, C]⟩ .f32)
    {off : Fin 2 → ℕ} (inb : ∀ a, off a + (![m, n] : Fin 2 → ℕ) a ≤ (⟨2, ![R, C]⟩ : Shape).size a) (p q : ℕ) (h : off = ![p, q])
    (r : Fin m) (l : Fin n) (r' : Fin R) (l' : Fin C) (hr : r'.val = p + r.val) (hl : l'.val = q + l.val) :
    View.readAt (Elt Ideal) v.view (Rect.unit (s := ⟨2, ![R, C]⟩) off ![m, n] inb).toLoadRect (hv.unread x) (ix2 r l) = x (ix2 r' l') := by
  subst h
  refine (load_at v hv x inb (ix2 r l)).trans (congrArg x (funext fun a => Fin.ext ?_))
  fin_cases a
  · show p + 1 * r.val = r'.val; omega
  · show q + 1 * l.val = l'.val; omega

/-- A load from a buffer a whole store of one value of which some windows were stored over since, away from them. -/
theorem zero_off {sp : Space} {R C m n : ℕ} (v : View sig .tc sp ⟨2, ![R, C]⟩ .f32) (f : v.ty.Contents (Elt Ideal))
    (L : List (View.Piece (Elt Ideal) ⟨2, ![R, C]⟩ .f32))
    {off : Fin 2 → ℕ} (inb : ∀ a, off a + (![m, n] : Fin 2 → ℕ) a ≤ (⟨2, ![R, C]⟩ : Shape).size a) (p q : ℕ) (h : off = ![p, q])
    (r : Fin m) (l : Fin n) (z : EReal)
    (hL : ∀ y : (⟨2, ![R, C]⟩ : Shape).Idx, p ≤ (y 0).val → (y 0).val < p + m → q ≤ (y 1).val → (y 1).val < q + n →
      v.read (Elt Ideal) (v.writes (Elt Ideal) f L) y = z) :
    View.readAt (Elt Ideal) v (Rect.unit (s := ⟨2, ![R, C]⟩) off ![m, n] inb).toLoadRect (v.writes (Elt Ideal) f L) (ix2 r l) = z := by
  subst h
  have hr := r.isLt
  have hl := l.isLt
  refine (after_at v _ inb (ix2 r l)).trans (hL _ ?_ ?_ ?_ ?_)
  · show p ≤ p + 1 * r.val; omega
  · show p + 1 * r.val < p + m; omega
  · show q ≤ q + 1 * l.val; omega
  · show q + 1 * l.val < q + n; omega

/-- An element to which the newest store's window does not reach reads what the rest of the stores left. -/
theorem skip_piece {sp : Space} {R C : ℕ} (v : View sig .tc sp ⟨2, ![R, C]⟩ .f32) (f : v.ty.Contents (Elt Ideal))
    {off size : Fin 2 → ℕ} (inb : ∀ a, off a + size a ≤ (⟨2, ![R, C]⟩ : Shape).size a)
    (w : Vec Ideal ⟨2, size⟩ .f32) (L : List (View.Piece (Elt Ideal) ⟨2, ![R, C]⟩ .f32)) (y : (⟨2, ![R, C]⟩ : Shape).Idx) (p q : ℕ)
    (h : off = ![p, q]) (hy : (y 0).val < p ∨ p + size 0 ≤ (y 0).val ∨ (y 1).val < q ∨ q + size 1 ≤ (y 1).val) {z : EReal}
    (hz : v.read (Elt Ideal) (v.writes (Elt Ideal) f L) y = z) :
    v.read (Elt Ideal) (v.writes (Elt Ideal) f (⟨Rect.unit (s := ⟨2, ![R, C]⟩) off size inb, w⟩ :: L)) y = z := by
  refine Eq.trans ?_ hz
  rcases hy with hy | hy | hy | hy
  · exact View.read_writes_cons_unit_of_not_mem v f inb w L y h 0 (Or.inl hy)
  · exact View.read_writes_cons_unit_of_not_mem v f inb w L y h 0 (Or.inr hy)
  · exact View.read_writes_cons_unit_of_not_mem v f inb w L y h 1 (Or.inl hy)
  · exact View.read_writes_cons_unit_of_not_mem v f inb w L y h 1 (Or.inr hy)

/-- A store of the whole buffer is what is read. -/
theorem whole_piece {sp : Space} {s : Shape} (v : View sig .tc sp s .f32) (f : v.ty.Contents (Elt Ideal))
    {off : Fin s.rank → ℕ} (inb : ∀ a, off a + s.size a ≤ s.size a) (w : Vec Ideal s .f32) (L : List (View.Piece (Elt Ideal) s .f32))
    (y : s.Idx) {z : EReal} (hz : w y = z) :
    v.read (Elt Ideal) (v.writes (Elt Ideal) f (⟨Rect.unit off s.size inb, w⟩ :: L)) y = z :=
  (congrFun (View.read_writes_full v f inb w L) y).trans hz

theorem zero1 (y : S4096x256.Idx) : (k0_pay1 (F := Ideal)) y = (0 : EReal) := by
  show Ideal.ofBits .f32 0#32 = 0
  simp
theorem zero2 (y : S8x4096.Idx) : (k0_pay2 (F := Ideal)) y = (0 : EReal) := by
  show Ideal.ofBits .f32 0#32 = 0
  simp
theorem zero3 (y : S512x256.Idx) : (k0_pay3 (F := Ideal)) y = (0 : EReal) := by
  show Ideal.ofBits .f32 0#32 = 0
  simp
theorem zero4 (y : S512x256.Idx) : (k0_pay4 (F := Ideal)) y = (0 : EReal) := by
  show Ideal.ofBits .f32 0#32 = 0
  simp
theorem zero5 (y : S512x8.Idx) : (k0_pay5 (F := Ideal)) y = (0 : EReal) := by
  show Ideal.ofBits .f32 0#32 = 0
  simp

end Cert.KernelIdeal.Fox

end
-- ==== Proof.ValFirst.lean ====
/- What the body leaves in each buffer at the first grid point: everything is zeroed, then the diagonal block's shares are added. -/
module

public import proofs.«01_k».proof.Proof.Reads
public import proofs.«01_k».proof.Proof.RunFirst

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : k0_cond1 i = 1#1) (hc1 : k0_cond2 i = 1#1) (hc2 : ¬ k0_cond3 i = 1#1) (hc3 : k0_cond4 i = 1#1) (hc4 : ¬ k0_cond5 i = 1#1)
    (B : Blk) (x8 : Vec Ideal S4096x256 .f32) (x9 : Vec Ideal S512x256 .f32) (x10 : Vec Ideal S512x256 .f32) (x11 : Vec Ideal S512x8 .f32) (x12 : Vec Ideal S8x4096 .f32) (x13 : Vec Ideal S512x256 .f32) (x14 : Vec Ideal S512x256 .f32)

theorem valFirst_dq (hi : (i 1).val < 8) :
    arg10.view.read (Elt Ideal) (arg10.view.writes (Elt Ideal) arg10.view.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck ).1) = B.addDq true (512 * (i 1).val) (fun _ => (0 : EReal)) := by
  unfold runFirst; dsimp only; sl_unfold_words
  refine dq_step B true _ _ (512 * (i 1).val) (by omega) (fun _ => (0 : EReal)) (off_row (i 1).val 128 hi) (off_row (i 1).val 0 hi) (fun r l => ?_) (fun r l => ?_) (fun y => ?_)
  · rw [dqM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ (512 * (i 1).val) 128 (off_row (i 1).val 128 hi) _ _ _ (fun y h1 h2 h3 h4 => ?_)
    refine skip_piece _ _ _ _ _ _ (512 * (i 1).val) 0 (off_row (i 1).val 0 hi) (Or.inr (Or.inr (Or.inr h3))) ?_
    exact whole_piece _ _ _ _ _ _ (zero1 _)
  · rw [dqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ (512 * (i 1).val) 0 (off_row (i 1).val 0 hi) _ _ _ (fun y h1 h2 h3 h4 => ?_)
    exact whole_piece _ _ _ _ _ _ (zero1 _)
  · exact whole_piece _ _ _ _ _ _ (zero1 _)

theorem valFirst_dck :
    arg13.view.read (Elt Ideal) (arg13.view.writes (Elt Ideal) arg13.view.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck ).2.1) = B.addDck true (fun _ => (0 : EReal)) := by
  unfold runFirst; dsimp only; sl_unfold_words
  refine dck_step B true _ _ (fun _ => (0 : EReal)) (fun a => ?_) (fun a => ?_) (fun a => ?_) (fun a => ?_) (fun y => ?_)
  · rw [dckM3]; refine congrArg₂ (· - ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    refine zero_off _ _ _ _ 0 3 rfl _ _ _ (fun y h1 h2 h3 h4 => ?_)
    refine skip_piece _ _ _ _ _ _ 0 2 rfl (Or.inr (Or.inr (Or.inr (show 2 + 1 ≤ (y 1).val by omega)))) ?_
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM2]; refine congrArg₂ (· - ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    refine zero_off _ _ _ _ 0 2 rfl _ _ _ (fun y h1 h2 h3 h4 => ?_)
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM1]; refine congrArg₂ (· - ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    refine zero_off _ _ _ _ 0 1 rfl _ _ _ (fun y h1 h2 h3 h4 => ?_)
    refine skip_piece _ _ _ _ _ _ 0 0 rfl (Or.inr (Or.inr (Or.inr (show 0 + 1 ≤ (y 1).val by omega)))) ?_
    exact whole_piece _ _ _ _ _ _ (zero5 _)
  · rw [dckM0]; refine congrArg₂ (· - ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    refine zero_off _ _ _ _ 0 0 rfl _ _ _ (fun y h1 h2 h3 h4 => ?_)
    exact whole_piece _ _ _ _ _ _ (zero5 _)
  · exact whole_piece _ _ _ _ _ _ (zero5 _)

theorem valFirst_dcq (hi : (i 1).val < 8) :
    arg14.view.read (Elt Ideal) (arg14.view.writes (Elt Ideal) arg14.view.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck ).2.2.1) = B.addDcq true (512 * (i 1).val) (fun _ => (0 : EReal)) := by
  unfold runFirst; dsimp only; sl_unfold_words
  refine dcq_step B true _ _ (512 * (i 1).val) (by omega) (fun _ => (0 : EReal)) (off_colm (i 1).val 3 hi) (off_colm (i 1).val 2 hi) (off_colm (i 1).val 1 hi) (off_colm (i 1).val 0 hi) (fun b => ?_) (fun b => ?_) (fun b => ?_) (fun b => ?_) (fun y => ?_)
  · rw [dcqM3]; refine congrArg₂ (· + ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    refine zero_off _ _ _ _ 3 (512 * (i 1).val) (off_colm (i 1).val 3 hi) _ _ _ (fun y h1 h2 h3 h4 => ?_)
    refine skip_piece _ _ _ _ _ _ 2 (512 * (i 1).val) (off_colm (i 1).val 2 hi) (Or.inr (Or.inl (show 2 + 1 ≤ (y 0).val by omega))) ?_
    refine skip_piece _ _ _ _ _ _ 1 (512 * (i 1).val) (off_colm (i 1).val 1 hi) (Or.inr (Or.inl (show 1 + 1 ≤ (y 0).val by omega))) ?_
    refine skip_piece _ _ _ _ _ _ 0 (512 * (i 1).val) (off_colm (i 1).val 0 hi) (Or.inr (Or.inl (show 0 + 1 ≤ (y 0).val by omega))) ?_
    exact whole_piece _ _ _ _ _ _ (zero2 _)
  · rw [dcqM2]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    refine zero_off _ _ _ _ 2 (512 * (i 1).val) (off_colm (i 1).val 2 hi) _ _ _ (fun y h1 h2 h3 h4 => ?_)
    refine skip_piece _ _ _ _ _ _ 1 (512 * (i 1).val) (off_colm (i 1).val 1 hi) (Or.inr (Or.inl (show 1 + 1 ≤ (y 0).val by omega))) ?_
    refine skip_piece _ _ _ _ _ _ 0 (512 * (i 1).val) (off_colm (i 1).val 0 hi) (Or.inr (Or.inl (show 0 + 1 ≤ (y 0).val by omega))) ?_
    exact whole_piece _ _ _ _ _ _ (zero2 _)
  · rw [dcqM1]; refine congrArg₂ (· + ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    refine zero_off _ _ _ _ 1 (512 * (i 1).val) (off_colm (i 1).val 1 hi) _ _ _ (fun y h1 h2 h3 h4 => ?_)
    refine skip_piece _ _ _ _ _ _ 0 (512 * (i 1).val) (off_colm (i 1).val 0 hi) (Or.inr (Or.inl (show 0 + 1 ≤ (y 0).val by omega))) ?_
    exact whole_piece _ _ _ _ _ _ (zero2 _)
  · rw [dcqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    refine zero_off _ _ _ _ 0 (512 * (i 1).val) (off_colm (i 1).val 0 hi) _ _ _ (fun y h1 h2 h3 h4 => ?_)
    exact whole_piece _ _ _ _ _ _ (zero2 _)
  · exact whole_piece _ _ _ _ _ _ (zero2 _)

theorem valFirst_dk :
    arg15.view.read (Elt Ideal) (arg15.view.writes (Elt Ideal) arg15.view.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck ).2.2.2.1) = B.addDk true (fun _ => (0 : EReal)) := by
  unfold runFirst; dsimp only; sl_unfold_words
  refine dk_step B true _ _ (fun _ => (0 : EReal)) (fun r l => ?_) (fun r l => ?_)
  · rw [dkM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero3 _)
  · rw [dkM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero3 _)

theorem valFirst_dv :
    arg16.view.read (Elt Ideal) (arg16.view.writes (Elt Ideal) arg16.view.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck ).2.2.2.2.1) = B.addDv true (fun _ => (0 : EReal)) := by
  unfold runFirst; dsimp only; sl_unfold_words
  refine dv_step B true _ _ (fun _ => (0 : EReal)) (fun r l => ?_) (fun r l => ?_)
  · rw [dvM1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero4 _)
  · rw [dvM0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero4 _)

end Cert.KernelIdeal.Fox

end
-- ==== Proof.ValBelow.lean ====
/- What the body leaves in each buffer at a grid point below the diagonal that is not the last of its key block. -/
module

public import proofs.«01_k».proof.Proof.Reads
public import proofs.«01_k».proof.Proof.RunBelow

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (B : Blk) (x8 : Vec Ideal S4096x256 .f32) (x9 : Vec Ideal S512x256 .f32) (x10 : Vec Ideal S512x256 .f32) (x11 : Vec Ideal S512x8 .f32) (x12 : Vec Ideal S8x4096 .f32) (x13 : Vec Ideal S512x256 .f32) (x14 : Vec Ideal S512x256 .f32)

theorem valBelow_dq (hi : (i 1).val < 8) :
    arg10.view.read (Elt Ideal) (arg10.view.writes (Elt Ideal) (harg10.unread x8) (runBelow c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).1) = B.addDq false (512 * (i 1).val) x8 := by
  unfold runBelow; dsimp only; sl_unfold_words
  refine dq_step B false _ _ (512 * (i 1).val) (by omega) x8 (off_row (i 1).val 128 hi) (off_row (i 1).val 0 hi) (fun r l => ?_) (fun r l => ?_) (fun y => ?_)
  · rw [dqU1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ (512 * (i 1).val) 128 (off_row (i 1).val 128 hi) _ _ _ _ rfl rfl
  · rw [dqU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ (512 * (i 1).val) 0 (off_row (i 1).val 0 hi) _ _ _ _ rfl rfl
  · exact congrFun (harg10.read_unread x8) y

theorem valBelow_dck :
    arg13.view.read (Elt Ideal) (arg13.view.writes (Elt Ideal) (harg13.unread x11) (runBelow c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.1) = B.addDck false x11 := by
  unfold runBelow; dsimp only; sl_unfold_words
  refine dck_step B false _ _ x11 (fun a => ?_) (fun a => ?_) (fun a => ?_) (fun a => ?_) (fun y => ?_)
  · rw [dckU3]; refine congrArg₂ (· - ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 0 3 rfl _ _ _ _ (Nat.zero_add _).symm rfl
  · rw [dckU2]; refine congrArg₂ (· - ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 0 2 rfl _ _ _ _ (Nat.zero_add _).symm rfl
  · rw [dckU1]; refine congrArg₂ (· - ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 0 1 rfl _ _ _ _ (Nat.zero_add _).symm rfl
  · rw [dckU0]; refine congrArg₂ (· - ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 0 rfl _ _ _ _ (Nat.zero_add _).symm rfl
  · exact congrFun (harg13.read_unread x11) y

theorem valBelow_dcq (hi : (i 1).val < 8) :
    arg14.view.read (Elt Ideal) (arg14.view.writes (Elt Ideal) (harg14.unread x12) (runBelow c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.1) = B.addDcq false (512 * (i 1).val) x12 := by
  unfold runBelow; dsimp only; sl_unfold_words
  refine dcq_step B false _ _ (512 * (i 1).val) (by omega) x12 (off_colm (i 1).val 3 hi) (off_colm (i 1).val 2 hi) (off_colm (i 1).val 1 hi) (off_colm (i 1).val 0 hi) (fun b => ?_) (fun b => ?_) (fun b => ?_) (fun b => ?_) (fun y => ?_)
  · rw [dcqU3]; refine congrArg₂ (· + ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 3 (512 * (i 1).val) (off_colm (i 1).val 3 hi) _ _ _ _ rfl rfl
  · rw [dcqU2]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 2 (512 * (i 1).val) (off_colm (i 1).val 2 hi) _ _ _ _ rfl rfl
  · rw [dcqU1]; refine congrArg₂ (· + ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 1 (512 * (i 1).val) (off_colm (i 1).val 1 hi) _ _ _ _ rfl rfl
  · rw [dcqU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 (512 * (i 1).val) (off_colm (i 1).val 0 hi) _ _ _ _ rfl rfl
  · exact congrFun (harg14.read_unread x12) y

theorem valBelow_dk :
    arg15.view.read (Elt Ideal) (arg15.view.writes (Elt Ideal) (harg15.unread x13) (runBelow c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.1) = B.addDk false x13 := by
  unfold runBelow; dsimp only; sl_unfold_words
  refine dk_step B false _ _ x13 (fun r l => ?_) (fun r l => ?_)
  · rw [dkU1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dkU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

theorem valBelow_dv :
    arg16.view.read (Elt Ideal) (arg16.view.writes (Elt Ideal) (harg16.unread x14) (runBelow c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.2.1) = B.addDv false x14 := by
  unfold runBelow; dsimp only; sl_unfold_words
  refine dv_step B false _ _ x14 (fun r l => ?_) (fun r l => ?_)
  · rw [dvU1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dvU0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

end Cert.KernelIdeal.Fox

end
-- ==== Proof.ValBelowLast.lean ====
/- What the body leaves in each buffer at a grid point below the diagonal that is the last of its key block: the two accumulators are copied out. -/
module

public import proofs.«01_k».proof.Proof.Reads
public import proofs.«01_k».proof.Proof.RunBelowLast

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : k0_cond5 i = 1#1)
    (B : Blk) (x8 : Vec Ideal S4096x256 .f32) (x9 : Vec Ideal S512x256 .f32) (x10 : Vec Ideal S512x256 .f32) (x11 : Vec Ideal S512x8 .f32) (x12 : Vec Ideal S8x4096 .f32) (x13 : Vec Ideal S512x256 .f32) (x14 : Vec Ideal S512x256 .f32)

theorem valBelowLast_dq (hi : (i 1).val < 8) :
    arg10.view.read (Elt Ideal) (arg10.view.writes (Elt Ideal) (harg10.unread x8) (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).1) = B.addDq false (512 * (i 1).val) x8 := by
  unfold runBelowLast; dsimp only; sl_unfold_words
  refine dq_step B false _ _ (512 * (i 1).val) (by omega) x8 (off_row (i 1).val 128 hi) (off_row (i 1).val 0 hi) (fun r l => ?_) (fun r l => ?_) (fun y => ?_)
  · rw [dqU1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ (512 * (i 1).val) 128 (off_row (i 1).val 128 hi) _ _ _ _ rfl rfl
  · rw [dqU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ (512 * (i 1).val) 0 (off_row (i 1).val 0 hi) _ _ _ _ rfl rfl
  · exact congrFun (harg10.read_unread x8) y

theorem valBelowLast_dck :
    arg13.view.read (Elt Ideal) (arg13.view.writes (Elt Ideal) (harg13.unread x11) (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.1) = B.addDck false x11 := by
  unfold runBelowLast; dsimp only; sl_unfold_words
  refine dck_step B false _ _ x11 (fun a => ?_) (fun a => ?_) (fun a => ?_) (fun a => ?_) (fun y => ?_)
  · rw [dckU3]; refine congrArg₂ (· - ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 0 3 rfl _ _ _ _ (Nat.zero_add _).symm rfl
  · rw [dckU2]; refine congrArg₂ (· - ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 0 2 rfl _ _ _ _ (Nat.zero_add _).symm rfl
  · rw [dckU1]; refine congrArg₂ (· - ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 0 1 rfl _ _ _ _ (Nat.zero_add _).symm rfl
  · rw [dckU0]; refine congrArg₂ (· - ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 0 rfl _ _ _ _ (Nat.zero_add _).symm rfl
  · exact congrFun (harg13.read_unread x11) y

theorem valBelowLast_dcq (hi : (i 1).val < 8) :
    arg14.view.read (Elt Ideal) (arg14.view.writes (Elt Ideal) (harg14.unread x12) (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.2.1) = B.addDcq false (512 * (i 1).val) x12 := by
  unfold runBelowLast; dsimp only; sl_unfold_words
  refine dcq_step B false _ _ (512 * (i 1).val) (by omega) x12 (off_colm (i 1).val 3 hi) (off_colm (i 1).val 2 hi) (off_colm (i 1).val 1 hi) (off_colm (i 1).val 0 hi) (fun b => ?_) (fun b => ?_) (fun b => ?_) (fun b => ?_) (fun y => ?_)
  · rw [dcqU3]; refine congrArg₂ (· + ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 3 (512 * (i 1).val) (off_colm (i 1).val 3 hi) _ _ _ _ rfl rfl
  · rw [dcqU2]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 2 (512 * (i 1).val) (off_colm (i 1).val 2 hi) _ _ _ _ rfl rfl
  · rw [dcqU1]; refine congrArg₂ (· + ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 1 (512 * (i 1).val) (off_colm (i 1).val 1 hi) _ _ _ _ rfl rfl
  · rw [dcqU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 (512 * (i 1).val) (off_colm (i 1).val 0 hi) _ _ _ _ rfl rfl
  · exact congrFun (harg14.read_unread x12) y

theorem valBelowLast_dk :
    arg15.view.read (Elt Ideal) (arg15.view.writes (Elt Ideal) (harg15.unread x13) (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.2.2.1) = B.addDk false x13 := by
  unfold runBelowLast; dsimp only; sl_unfold_words
  refine dk_step B false _ _ x13 (fun r l => ?_) (fun r l => ?_)
  · rw [dkU1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dkU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

theorem valBelowLast_dkOut :
    arg11.view.read (Elt Ideal) (arg11.view.writes (Elt Ideal) arg11.view.junk (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.1) = B.addDk false x13 := by
  unfold runBelowLast; dsimp only; sl_unfold_words
  refine (View.read_writes_full _ _ _ _ _).trans ?_
  refine (View.readAt_full _ _ _).trans ?_
  refine dk_step B false _ _ x13 (fun r l => ?_) (fun r l => ?_)
  · rw [dkU1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dkU0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

theorem valBelowLast_dv :
    arg16.view.read (Elt Ideal) (arg16.view.writes (Elt Ideal) (harg16.unread x14) (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.2.2.2.2.1) = B.addDv false x14 := by
  unfold runBelowLast; dsimp only; sl_unfold_words
  refine dv_step B false _ _ x14 (fun r l => ?_) (fun r l => ?_)
  · rw [dvU1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dvU0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

theorem valBelowLast_dvOut :
    arg12.view.read (Elt Ideal) (arg12.view.writes (Elt Ideal) arg12.view.junk (runBelowLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x11 x12 x13 x14).2.2.1) = B.addDv false x14 := by
  unfold runBelowLast; dsimp only; sl_unfold_words
  refine (View.read_writes_full _ _ _ _ _).trans ?_
  refine (View.readAt_full _ _ _).trans ?_
  refine dv_step B false _ _ x14 (fun r l => ?_) (fun r l => ?_)
  · rw [dvU1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    exact load_off _ _ _ _ 0 128 rfl _ _ _ _ (Nat.zero_add _).symm rfl
  · rw [dvU0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    exact load_off _ _ _ _ 0 0 rfl _ _ _ _ (Nat.zero_add _).symm rfl

end Cert.KernelIdeal.Fox

end
-- ==== Proof.ValDiag.lean ====
/- What the body leaves in each buffer at a diagonal grid point but the first and the last: the key block's accumulators are zeroed, then the diagonal block's shares are added. -/
module

public import proofs.«01_k».proof.Proof.Reads
public import proofs.«01_k».proof.Proof.RunDiag

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : k0_cond2 i = 1#1) (hc2 : ¬ k0_cond3 i = 1#1) (hc3 : k0_cond4 i = 1#1) (hc4 : ¬ k0_cond5 i = 1#1)
    (B : Blk) (x8 : Vec Ideal S4096x256 .f32) (x9 : Vec Ideal S512x256 .f32) (x10 : Vec Ideal S512x256 .f32) (x11 : Vec Ideal S512x8 .f32) (x12 : Vec Ideal S8x4096 .f32) (x13 : Vec Ideal S512x256 .f32) (x14 : Vec Ideal S512x256 .f32)

theorem valDiag_dq (hi : (i 1).val < 8) :
    arg10.view.read (Elt Ideal) (arg10.view.writes (Elt Ideal) (harg10.unread x8) (runDiag c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).1) = B.addDq true (512 * (i 1).val) x8 := by
  unfold runDiag; dsimp only; sl_unfold_words
  refine dq_step B true _ _ (512 * (i 1).val) (by omega) x8 (off_row (i 1).val 128 hi) (off_row (i 1).val 0 hi) (fun r l => ?_) (fun r l => ?_) (fun y => ?_)
  · rw [dqM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ (512 * (i 1).val) 128 (off_row (i 1).val 128 hi) _ _ _ _ rfl rfl
  · rw [dqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ (512 * (i 1).val) 0 (off_row (i 1).val 0 hi) _ _ _ _ rfl rfl
  · exact congrFun (harg10.read_unread x8) y

theorem valDiag_dck :
    arg13.view.read (Elt Ideal) (arg13.view.writes (Elt Ideal) arg13.view.junk (runDiag c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.1) = B.addDck true (fun _ => (0 : EReal)) := by
  unfold runDiag; dsimp only; sl_unfold_words
  refine dck_step B true _ _ (fun _ => (0 : EReal)) (fun a => ?_) (fun a => ?_) (fun a => ?_) (fun a => ?_) (fun y => ?_)
  · rw [dckM3]; refine congrArg₂ (· - ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    refine zero_off _ _ _ _ 0 3 rfl _ _ _ (fun y h1 h2 h3 h4 => ?_)
    refine skip_piece _ _ _ _ _ _ 0 2 rfl (Or.inr (Or.inr (Or.inr (show 2 + 1 ≤ (y 1).val by omega)))) ?_
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM2]; refine congrArg₂ (· - ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    refine zero_off _ _ _ _ 0 2 rfl _ _ _ (fun y h1 h2 h3 h4 => ?_)
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM1]; refine congrArg₂ (· - ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    refine zero_off _ _ _ _ 0 1 rfl _ _ _ (fun y h1 h2 h3 h4 => ?_)
    refine skip_piece _ _ _ _ _ _ 0 0 rfl (Or.inr (Or.inr (Or.inr (show 0 + 1 ≤ (y 1).val by omega)))) ?_
    exact whole_piece _ _ _ _ _ _ (zero5 _)
  · rw [dckM0]; refine congrArg₂ (· - ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    refine zero_off _ _ _ _ 0 0 rfl _ _ _ (fun y h1 h2 h3 h4 => ?_)
    exact whole_piece _ _ _ _ _ _ (zero5 _)
  · exact whole_piece _ _ _ _ _ _ (zero5 _)

theorem valDiag_dcq (hi : (i 1).val < 8) :
    arg14.view.read (Elt Ideal) (arg14.view.writes (Elt Ideal) (harg14.unread x12) (runDiag c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.1) = B.addDcq true (512 * (i 1).val) x12 := by
  unfold runDiag; dsimp only; sl_unfold_words
  refine dcq_step B true _ _ (512 * (i 1).val) (by omega) x12 (off_colm (i 1).val 3 hi) (off_colm (i 1).val 2 hi) (off_colm (i 1).val 1 hi) (off_colm (i 1).val 0 hi) (fun b => ?_) (fun b => ?_) (fun b => ?_) (fun b => ?_) (fun y => ?_)
  · rw [dcqM3]; refine congrArg₂ (· + ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 3 (512 * (i 1).val) (off_colm (i 1).val 3 hi) _ _ _ _ rfl rfl
  · rw [dcqM2]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 2 (512 * (i 1).val) (off_colm (i 1).val 2 hi) _ _ _ _ rfl rfl
  · rw [dcqM1]; refine congrArg₂ (· + ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 1 (512 * (i 1).val) (off_colm (i 1).val 1 hi) _ _ _ _ rfl rfl
  · rw [dcqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 (512 * (i 1).val) (off_colm (i 1).val 0 hi) _ _ _ _ rfl rfl
  · exact congrFun (harg14.read_unread x12) y

theorem valDiag_dk :
    arg15.view.read (Elt Ideal) (arg15.view.writes (Elt Ideal) arg15.view.junk (runDiag c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.1) = B.addDk true (fun _ => (0 : EReal)) := by
  unfold runDiag; dsimp only; sl_unfold_words
  refine dk_step B true _ _ (fun _ => (0 : EReal)) (fun r l => ?_) (fun r l => ?_)
  · rw [dkM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero3 _)
  · rw [dkM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero3 _)

theorem valDiag_dv :
    arg16.view.read (Elt Ideal) (arg16.view.writes (Elt Ideal) arg16.view.junk (runDiag c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.2.1) = B.addDv true (fun _ => (0 : EReal)) := by
  unfold runDiag; dsimp only; sl_unfold_words
  refine dv_step B true _ _ (fun _ => (0 : EReal)) (fun r l => ?_) (fun r l => ?_)
  · rw [dvM1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero4 _)
  · rw [dvM0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero4 _)

end Cert.KernelIdeal.Fox

end
-- ==== Proof.ValDiagLast.lean ====
/- What the body leaves in each buffer at the last grid point: on the diagonal, and the last of its key block. -/
module

public import proofs.«01_k».proof.Proof.Reads
public import proofs.«01_k».proof.Proof.RunDiagLast

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S8x512 .f32) (harg7 : arg7.IsWhole) (arg8 : Memref sig .tc .vmem S8x512 .f32) (harg8 : arg8.IsWhole) (arg9 : Memref sig .tc .vmem S512x8 .f32) (harg9 : arg9.IsWhole) (arg10 : Memref sig .tc .vmem S4096x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x8 .f32) (harg13 : arg13.IsWhole) (arg14 : Memref sig .tc .vmem S8x4096 .f32) (harg14 : arg14.IsWhole) (arg15 : Memref sig .tc .vmem S512x256 .f32) (harg15 : arg15.IsWhole) (arg16 : Memref sig .tc .vmem S512x256 .f32) (harg16 : arg16.IsWhole)
    (hc0 : ¬ k0_cond1 i = 1#1) (hc1 : k0_cond2 i = 1#1) (hc2 : ¬ k0_cond3 i = 1#1) (hc3 : k0_cond4 i = 1#1) (hc4 : k0_cond5 i = 1#1)
    (B : Blk) (x8 : Vec Ideal S4096x256 .f32) (x9 : Vec Ideal S512x256 .f32) (x10 : Vec Ideal S512x256 .f32) (x11 : Vec Ideal S512x8 .f32) (x12 : Vec Ideal S8x4096 .f32) (x13 : Vec Ideal S512x256 .f32) (x14 : Vec Ideal S512x256 .f32)

theorem valDiagLast_dq (hi : (i 1).val < 8) :
    arg10.view.read (Elt Ideal) (arg10.view.writes (Elt Ideal) (harg10.unread x8) (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).1) = B.addDq true (512 * (i 1).val) x8 := by
  unfold runDiagLast; dsimp only; sl_unfold_words
  refine dq_step B true _ _ (512 * (i 1).val) (by omega) x8 (off_row (i 1).val 128 hi) (off_row (i 1).val 0 hi) (fun r l => ?_) (fun r l => ?_) (fun y => ?_)
  · rw [dqM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    exact load_off _ _ _ _ (512 * (i 1).val) 128 (off_row (i 1).val 128 hi) _ _ _ _ rfl rfl
  · rw [dqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    exact load_off _ _ _ _ (512 * (i 1).val) 0 (off_row (i 1).val 0 hi) _ _ _ _ rfl rfl
  · exact congrFun (harg10.read_unread x8) y

theorem valDiagLast_dck :
    arg13.view.read (Elt Ideal) (arg13.view.writes (Elt Ideal) arg13.view.junk (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.1) = B.addDck true (fun _ => (0 : EReal)) := by
  unfold runDiagLast; dsimp only; sl_unfold_words
  refine dck_step B true _ _ (fun _ => (0 : EReal)) (fun a => ?_) (fun a => ?_) (fun a => ?_) (fun a => ?_) (fun y => ?_)
  · rw [dckM3]; refine congrArg₂ (· - ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    refine zero_off _ _ _ _ 0 3 rfl _ _ _ (fun y h1 h2 h3 h4 => ?_)
    refine skip_piece _ _ _ _ _ _ 0 2 rfl (Or.inr (Or.inr (Or.inr (show 2 + 1 ≤ (y 1).val by omega)))) ?_
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM2]; refine congrArg₂ (· - ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    refine zero_off _ _ _ _ 0 2 rfl _ _ _ (fun y h1 h2 h3 h4 => ?_)
    refine skip_piece _ _ _ _ _ _ 0 1 rfl (Or.inr (Or.inr (Or.inr (show 1 + 1 ≤ (y 1).val by omega)))) ?_
    refine skip_piece _ _ _ _ _ _ 0 0 rfl (Or.inr (Or.inr (Or.inr (show 0 + 1 ≤ (y 1).val by omega)))) ?_
    exact whole_piece _ _ _ _ _ _ (zero5 _)
  · rw [dckM1]; refine congrArg₂ (· - ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    refine zero_off _ _ _ _ 0 1 rfl _ _ _ (fun y h1 h2 h3 h4 => ?_)
    refine skip_piece _ _ _ _ _ _ 0 0 rfl (Or.inr (Or.inr (Or.inr (show 0 + 1 ≤ (y 1).val by omega)))) ?_
    exact whole_piece _ _ _ _ _ _ (zero5 _)
  · rw [dckM0]; refine congrArg₂ (· - ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    refine zero_off _ _ _ _ 0 0 rfl _ _ _ (fun y h1 h2 h3 h4 => ?_)
    exact whole_piece _ _ _ _ _ _ (zero5 _)
  · exact whole_piece _ _ _ _ _ _ (zero5 _)

theorem valDiagLast_dcq (hi : (i 1).val < 8) :
    arg14.view.read (Elt Ideal) (arg14.view.writes (Elt Ideal) (harg14.unread x12) (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.2.1) = B.addDcq true (512 * (i 1).val) x12 := by
  unfold runDiagLast; dsimp only; sl_unfold_words
  refine dcq_step B true _ _ (512 * (i 1).val) (by omega) x12 (off_colm (i 1).val 3 hi) (off_colm (i 1).val 2 hi) (off_colm (i 1).val 1 hi) (off_colm (i 1).val 0 hi) (fun b => ?_) (fun b => ?_) (fun b => ?_) (fun b => ?_) (fun y => ?_)
  · rw [dcqM3]; refine congrArg₂ (· + ·) ?_ (by rw [load_hi arg2 harg2 B.q, load_hi arg3 harg3 B.k, load_hi arg4 harg4 B.v, load_hi arg6 harg6 B.d, load_hi arg5 harg5 B.o, load_col3 arg9 harg9 B.ck, load_row3 arg7 harg7 B.lse, load_row3 arg8 harg8 B.cq])
    exact load_off _ _ _ _ 3 (512 * (i 1).val) (off_colm (i 1).val 3 hi) _ _ _ _ rfl rfl
  · rw [dcqM2]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq])
    exact load_off _ _ _ _ 2 (512 * (i 1).val) (off_colm (i 1).val 2 hi) _ _ _ _ rfl rfl
  · rw [dcqM1]; refine congrArg₂ (· + ·) ?_ (by rw [load_lo arg2 harg2 B.q, load_lo arg3 harg3 B.k, load_lo arg4 harg4 B.v, load_lo arg6 harg6 B.d, load_lo arg5 harg5 B.o, load_col1 arg9 harg9 B.ck, load_row1 arg7 harg7 B.lse, load_row1 arg8 harg8 B.cq])
    exact load_off _ _ _ _ 1 (512 * (i 1).val) (off_colm (i 1).val 1 hi) _ _ _ _ rfl rfl
  · rw [dcqM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq])
    exact load_off _ _ _ _ 0 (512 * (i 1).val) (off_colm (i 1).val 0 hi) _ _ _ _ rfl rfl
  · exact congrFun (harg14.read_unread x12) y

theorem valDiagLast_dk :
    arg15.view.read (Elt Ideal) (arg15.view.writes (Elt Ideal) arg15.view.junk (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.2.2.1) = B.addDk true (fun _ => (0 : EReal)) := by
  unfold runDiagLast; dsimp only; sl_unfold_words
  refine dk_step B true _ _ (fun _ => (0 : EReal)) (fun r l => ?_) (fun r l => ?_)
  · rw [dkM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero3 _)
  · rw [dkM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero3 _)

theorem valDiagLast_dkOut :
    arg11.view.read (Elt Ideal) (arg11.view.writes (Elt Ideal) arg11.view.junk (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.1) = B.addDk true (fun _ => (0 : EReal)) := by
  unfold runDiagLast; dsimp only; sl_unfold_words
  refine (View.read_writes_full _ _ _ _ _).trans ?_
  refine (View.readAt_full _ _ _).trans ?_
  refine dk_step B true _ _ (fun _ => (0 : EReal)) (fun r l => ?_) (fun r l => ?_)
  · rw [dkM1]; refine congrArg₂ (· + ·) ?_ (by rw [load_hi arg2 harg2 B.q, load_hi arg3 harg3 B.k, load_hi arg4 harg4 B.v, load_hi arg6 harg6 B.d, load_hi arg5 harg5 B.o, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero3 _)
  · rw [dkM0]; refine congrArg₂ (· + ·) ?_ (by rw [load_lo arg2 harg2 B.q, load_lo arg3 harg3 B.k, load_lo arg4 harg4 B.v, load_lo arg6 harg6 B.d, load_lo arg5 harg5 B.o, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero3 _)

theorem valDiagLast_dv :
    arg16.view.read (Elt Ideal) (arg16.view.writes (Elt Ideal) arg16.view.junk (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.2.2.2.2.1) = B.addDv true (fun _ => (0 : EReal)) := by
  unfold runDiagLast; dsimp only; sl_unfold_words
  refine dv_step B true _ _ (fun _ => (0 : EReal)) (fun r l => ?_) (fun r l => ?_)
  · rw [dvM1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero4 _)
  · rw [dvM0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero4 _)

theorem valDiagLast_dvOut :
    arg12.view.read (Elt Ideal) (arg12.view.writes (Elt Ideal) arg12.view.junk (runDiagLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck x8 x12).2.2.1) = B.addDv true (fun _ => (0 : EReal)) := by
  unfold runDiagLast; dsimp only; sl_unfold_words
  refine (View.read_writes_full _ _ _ _ _).trans ?_
  refine (View.readAt_full _ _ _).trans ?_
  refine dv_step B true _ _ (fun _ => (0 : EReal)) (fun r l => ?_) (fun r l => ?_)
  · rw [dvM1]; refine congrArg₂ (· + ·) ?_ (by rw [load_hi arg2 harg2 B.q, load_hi arg3 harg3 B.k, load_hi arg6 harg6 B.d, load_col2 arg9 harg9 B.ck, load_row2 arg7 harg7 B.lse, load_row2 arg8 harg8 B.cq, load_col3 arg9 harg9 B.ck, load_row3 arg7 harg7 B.lse, load_row3 arg8 harg8 B.cq])
    refine zero_off _ _ _ _ 0 128 rfl _ _ _ (fun y h1 h2 h3 h4 => ?_)
    refine skip_piece _ _ _ _ _ _ 0 0 rfl (Or.inr (Or.inr (Or.inr h3))) ?_
    exact whole_piece _ _ _ _ _ _ (zero4 _)
  · rw [dvM0]; refine congrArg₂ (· + ·) ?_ (by rw [load_lo arg2 harg2 B.q, load_lo arg3 harg3 B.k, load_lo arg6 harg6 B.d, load_col0 arg9 harg9 B.ck, load_row0 arg7 harg7 B.lse, load_row0 arg8 harg8 B.cq, load_col1 arg9 harg9 B.ck, load_row1 arg7 harg7 B.lse, load_row1 arg8 harg8 B.cq])
    refine zero_off _ _ _ _ 0 0 rfl _ _ _ (fun y h1 h2 h3 h4 => ?_)
    exact whole_piece _ _ _ _ _ _ (zero4 _)

end Cert.KernelIdeal.Fox

end
-- ==== Proof.ValSteps.lean ====
/- The body at each kind of grid point, with what it leaves named: the running sums with the point's shares added. -/
module

public import proofs.«01_k».proof.Proof.ValFirst
public import proofs.«01_k».proof.Proof.ValBelow
public import proofs.«01_k».proof.Proof.ValBelowLast
public import proofs.«01_k».proof.Proof.ValDiag
public import proofs.«01_k».proof.Proof.ValDiagLast
public import proofs.«01_k».proof.Proof.RunAbove

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer of the launch. -/
abbrev Buffer := Memref sig .tc .vmem

/-- The running sums: the queries' gradient, the queries' decays', the keys' decays', and the two accumulators a key block's
    gradients are gathered in. -/
structure St where
  dq : Vec Ideal S4096x256 .f32
  dcq : Vec Ideal S8x4096 .f32
  dck : Vec Ideal S512x8 .f32
  acck : Vec Ideal S512x256 .f32
  accv : Vec Ideal S512x256 .f32

/-- The sums after a point's shares: the first point starts all from zero, a diagonal point its key block's. -/
def Blk.next (B : Blk) (first diag : Bool) (o : ℕ) (s : St) : St where
  dq := B.addDq diag o (bif first then (fun _ => (0 : EReal)) else s.dq)
  dcq := B.addDcq diag o (bif first then (fun _ => (0 : EReal)) else s.dcq)
  dck := B.addDck diag (bif diag then (fun _ => (0 : EReal)) else s.dck)
  acck := B.addDk diag (bif diag then (fun _ => (0 : EReal)) else s.acck)
  accv := B.addDv diag (bif diag then (fun _ => (0 : EReal)) else s.accv)

set_option maxHeartbeats 1000000 in
theorem stepFirst (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : k0_cond1 i = 1#1) (hc1 : k0_cond2 i = 1#1) (hc2 : ¬ k0_cond3 i = 1#1) (hc3 : k0_cond4 i = 1#1) (hc4 : ¬ k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (B.next true true (512 * (i 1).val) s).dq ∗ owns c arg11 fullShare x9 ∗ owns c arg12 fullShare x10 ∗ owns c arg13 fullShare (B.next true true (512 * (i 1).val) s).dck ∗ owns c arg14 fullShare (B.next true true (512 * (i 1).val) s).dcq ∗ owns c arg15 fullShare (B.next true true (512 * (i 1).val) s).acck ∗ owns c arg16 fullShare (B.next true true (512 * (i 1).val) s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  iapply ((runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck).2.2.2.2.2 s.dq x9 x10 s.dck s.dcq s.acck s.accv E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (Entails.of_eq (congrArg (owns (c : Thread nD τ) arg10 fullShare) (valFirst_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B  hi))); iexact H8
  isplitl [H9]; · iexact H9
  isplitl [H10]; · iexact H10
  isplitl [H11]; · iapply (Entails.of_eq (congrArg (owns (c : Thread nD τ) arg13 fullShare) (valFirst_dck c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B ))); iexact H11
  isplitl [H12]; · iapply (Entails.of_eq (congrArg (owns (c : Thread nD τ) arg14 fullShare) (valFirst_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B  hi))); iexact H12
  isplitl [H13]; · iapply (Entails.of_eq (congrArg (owns (c : Thread nD τ) arg15 fullShare) (valFirst_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B ))); iexact H13
  iapply (Entails.of_eq (congrArg (owns (c : Thread nD τ) arg16 fullShare) (valFirst_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B ))); iexact H14

set_option maxHeartbeats 1000000 in
theorem stepBelow (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (B.next false false (512 * (i 1).val) s).dq ∗ owns c arg11 fullShare x9 ∗ owns c arg12 fullShare x10 ∗ owns c arg13 fullShare (B.next false false (512 * (i 1).val) s).dck ∗ owns c arg14 fullShare (B.next false false (512 * (i 1).val) s).dcq ∗ owns c arg15 fullShare (B.next false false (512 * (i 1).val) s).acck ∗ owns c arg16 fullShare (B.next false false (512 * (i 1).val) s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  iapply ((runBelow (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck s.dq s.dck s.dcq s.acck s.accv).2.2.2.2.2 x9 x10 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (Entails.of_eq (congrArg (owns (c : Thread nD τ) arg10 fullShare) (valBelow_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv hi))); iexact H8
  isplitl [H9]; · iexact H9
  isplitl [H10]; · iexact H10
  isplitl [H11]; · iapply (Entails.of_eq (congrArg (owns (c : Thread nD τ) arg13 fullShare) (valBelow_dck c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H11
  isplitl [H12]; · iapply (Entails.of_eq (congrArg (owns (c : Thread nD τ) arg14 fullShare) (valBelow_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv hi))); iexact H12
  isplitl [H13]; · iapply (Entails.of_eq (congrArg (owns (c : Thread nD τ) arg15 fullShare) (valBelow_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H13
  iapply (Entails.of_eq (congrArg (owns (c : Thread nD τ) arg16 fullShare) (valBelow_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H14

set_option maxHeartbeats 1000000 in
theorem stepBelowLast (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : ¬ k0_cond1 i = 1#1) (hc1 : ¬ k0_cond2 i = 1#1) (hc2 : k0_cond3 i = 1#1) (hc3 : ¬ k0_cond4 i = 1#1) (hc4 : k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (B.next false false (512 * (i 1).val) s).dq ∗ owns c arg11 fullShare (B.next false false (512 * (i 1).val) s).acck ∗ owns c arg12 fullShare (B.next false false (512 * (i 1).val) s).accv ∗ owns c arg13 fullShare (B.next false false (512 * (i 1).val) s).dck ∗ owns c arg14 fullShare (B.next false false (512 * (i 1).val) s).dcq ∗ owns c arg15 fullShare (B.next false false (512 * (i 1).val) s).acck ∗ owns c arg16 fullShare (B.next false false (512 * (i 1).val) s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  iapply ((runBelowLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck s.dq s.dck s.dcq s.acck s.accv).2.2.2.2.2.2.2 x9 x10 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (Entails.of_eq (congrArg (owns (c : Thread nD τ) arg10 fullShare) (valBelowLast_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv hi))); iexact H8
  isplitl [H9]; · iapply (Entails.of_eq (congrArg (owns (c : Thread nD τ) arg11 fullShare) (valBelowLast_dkOut c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H9
  isplitl [H10]; · iapply (Entails.of_eq (congrArg (owns (c : Thread nD τ) arg12 fullShare) (valBelowLast_dvOut c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H10
  isplitl [H11]; · iapply (Entails.of_eq (congrArg (owns (c : Thread nD τ) arg13 fullShare) (valBelowLast_dck c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H11
  isplitl [H12]; · iapply (Entails.of_eq (congrArg (owns (c : Thread nD τ) arg14 fullShare) (valBelowLast_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv hi))); iexact H12
  isplitl [H13]; · iapply (Entails.of_eq (congrArg (owns (c : Thread nD τ) arg15 fullShare) (valBelowLast_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H13
  iapply (Entails.of_eq (congrArg (owns (c : Thread nD τ) arg16 fullShare) (valBelowLast_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dck s.dcq s.acck s.accv))); iexact H14

set_option maxHeartbeats 1000000 in
theorem stepAbove (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (s).dq ∗ owns c arg11 fullShare x9 ∗ owns c arg12 fullShare x10 ∗ owns c arg13 fullShare (s).dck ∗ owns c arg14 fullShare (s).dcq ∗ owns c arg15 fullShare (s).acck ∗ owns c arg16 fullShare (s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  exact runAbove (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck s.dq x9 x10 s.dck s.dcq s.acck s.accv E K

set_option maxHeartbeats 1000000 in
theorem stepDiag (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : ¬ k0_cond1 i = 1#1) (hc1 : k0_cond2 i = 1#1) (hc2 : ¬ k0_cond3 i = 1#1) (hc3 : k0_cond4 i = 1#1) (hc4 : ¬ k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (B.next false true (512 * (i 1).val) s).dq ∗ owns c arg11 fullShare x9 ∗ owns c arg12 fullShare x10 ∗ owns c arg13 fullShare (B.next false true (512 * (i 1).val) s).dck ∗ owns c arg14 fullShare (B.next false true (512 * (i 1).val) s).dcq ∗ owns c arg15 fullShare (B.next false true (512 * (i 1).val) s).acck ∗ owns c arg16 fullShare (B.next false true (512 * (i 1).val) s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  iapply ((runDiag (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck s.dq s.dcq).2.2.2.2.2 x9 x10 s.dck s.acck s.accv E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (Entails.of_eq (congrArg (owns (c : Thread nD τ) arg10 fullShare) (valDiag_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq hi))); iexact H8
  isplitl [H9]; · iexact H9
  isplitl [H10]; · iexact H10
  isplitl [H11]; · iapply (Entails.of_eq (congrArg (owns (c : Thread nD τ) arg13 fullShare) (valDiag_dck c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H11
  isplitl [H12]; · iapply (Entails.of_eq (congrArg (owns (c : Thread nD τ) arg14 fullShare) (valDiag_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq hi))); iexact H12
  isplitl [H13]; · iapply (Entails.of_eq (congrArg (owns (c : Thread nD τ) arg15 fullShare) (valDiag_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H13
  iapply (Entails.of_eq (congrArg (owns (c : Thread nD τ) arg16 fullShare) (valDiag_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H14

set_option maxHeartbeats 1000000 in
theorem stepDiagLast (c : Dev nD) (i : grid0.Coords) (hi : (i 1).val < 8)
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (hc0 : ¬ k0_cond1 i = 1#1) (hc1 : k0_cond2 i = 1#1) (hc2 : ¬ k0_cond3 i = 1#1) (hc3 : k0_cond4 i = 1#1) (hc4 : k0_cond5 i = 1#1)
    (B : Blk) (s : St) (x9 x10 : Vec Ideal S512x256 .f32) (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare (B.next false true (512 * (i 1).val) s).dq ∗ owns c arg11 fullShare (B.next false true (512 * (i 1).val) s).acck ∗ owns c arg12 fullShare (B.next false true (512 * (i 1).val) s).accv ∗ owns c arg13 fullShare (B.next false true (512 * (i 1).val) s).dck ∗ owns c arg14 fullShare (B.next false true (512 * (i 1).val) s).dcq ∗ owns c arg15 fullShare (B.next false true (512 * (i 1).val) s).acck ∗ owns c arg16 fullShare (B.next false true (512 * (i 1).val) s).accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  iapply ((runDiagLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B.q B.k B.v B.o B.d B.lse B.cq B.ck s.dq s.dcq).2.2.2.2.2.2.2 x9 x10 s.dck s.acck s.accv E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (Entails.of_eq (congrArg (owns (c : Thread nD τ) arg10 fullShare) (valDiagLast_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq hi))); iexact H8
  isplitl [H9]; · iapply (Entails.of_eq (congrArg (owns (c : Thread nD τ) arg11 fullShare) (valDiagLast_dkOut c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H9
  isplitl [H10]; · iapply (Entails.of_eq (congrArg (owns (c : Thread nD τ) arg12 fullShare) (valDiagLast_dvOut c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H10
  isplitl [H11]; · iapply (Entails.of_eq (congrArg (owns (c : Thread nD τ) arg13 fullShare) (valDiagLast_dck c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H11
  isplitl [H12]; · iapply (Entails.of_eq (congrArg (owns (c : Thread nD τ) arg14 fullShare) (valDiagLast_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq hi))); iexact H12
  isplitl [H13]; · iapply (Entails.of_eq (congrArg (owns (c : Thread nD τ) arg15 fullShare) (valDiagLast_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H13
  iapply (Entails.of_eq (congrArg (owns (c : Thread nD τ) arg16 fullShare) (valDiagLast_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B s.dq s.dcq))); iexact H14

/-- The body at a point of any kind. -/
theorem step (c : Dev nD) (i : grid0.Coords) (hi : (i 1).val < 8) (B : Blk) (s n : St) (x9 x10 y9 y10 : Vec Ideal S512x256 .f32)
    (hk : ((k0_cond1 i = 1#1 ∧ k0_cond2 i = 1#1 ∧ ¬ k0_cond3 i = 1#1 ∧ k0_cond4 i = 1#1 ∧ ¬ k0_cond5 i = 1#1) ∧ n = B.next true true (512 * (i 1).val) s ∧ y9 = x9 ∧ y10 = x10)
    ∨ ((¬ k0_cond1 i = 1#1 ∧ ¬ k0_cond2 i = 1#1 ∧ k0_cond3 i = 1#1 ∧ ¬ k0_cond4 i = 1#1 ∧ ¬ k0_cond5 i = 1#1) ∧ n = B.next false false (512 * (i 1).val) s ∧ y9 = x9 ∧ y10 = x10)
    ∨ ((¬ k0_cond1 i = 1#1 ∧ ¬ k0_cond2 i = 1#1 ∧ k0_cond3 i = 1#1 ∧ ¬ k0_cond4 i = 1#1 ∧ k0_cond5 i = 1#1) ∧ n = B.next false false (512 * (i 1).val) s ∧ y9 = n.acck ∧ y10 = n.accv)
    ∨ ((¬ k0_cond1 i = 1#1 ∧ ¬ k0_cond2 i = 1#1 ∧ ¬ k0_cond3 i = 1#1 ∧ ¬ k0_cond4 i = 1#1 ∧ ¬ k0_cond5 i = 1#1) ∧ n = s ∧ y9 = x9 ∧ y10 = x10)
    ∨ ((¬ k0_cond1 i = 1#1 ∧ k0_cond2 i = 1#1 ∧ ¬ k0_cond3 i = 1#1 ∧ k0_cond4 i = 1#1 ∧ ¬ k0_cond5 i = 1#1) ∧ n = B.next false true (512 * (i 1).val) s ∧ y9 = x9 ∧ y10 = x10)
    ∨ ((¬ k0_cond1 i = 1#1 ∧ k0_cond2 i = 1#1 ∧ ¬ k0_cond3 i = 1#1 ∧ k0_cond4 i = 1#1 ∧ k0_cond5 i = 1#1) ∧ n = B.next false true (512 * (i 1).val) s ∧ y9 = n.acck ∧ y10 = n.accv))
    (arg2 : Buffer S512x256 .bf16) (harg2 : arg2.IsWhole) (arg3 : Buffer S512x256 .bf16) (harg3 : arg3.IsWhole) (arg4 : Buffer S512x256 .bf16) (harg4 : arg4.IsWhole) (arg5 : Buffer S512x256 .bf16) (harg5 : arg5.IsWhole) (arg6 : Buffer S512x256 .bf16) (harg6 : arg6.IsWhole) (arg7 : Buffer S8x512 .f32) (harg7 : arg7.IsWhole) (arg8 : Buffer S8x512 .f32) (harg8 : arg8.IsWhole) (arg9 : Buffer S512x8 .f32) (harg9 : arg9.IsWhole) (arg10 : Buffer S4096x256 .f32) (harg10 : arg10.IsWhole) (arg11 : Buffer S512x256 .f32) (harg11 : arg11.IsWhole) (arg12 : Buffer S512x256 .f32) (harg12 : arg12.IsWhole) (arg13 : Buffer S512x8 .f32) (harg13 : arg13.IsWhole) (arg14 : Buffer S8x4096 .f32) (harg14 : arg14.IsWhole) (arg15 : Buffer S512x256 .f32) (harg15 : arg15.IsWhole) (arg16 : Buffer S512x256 .f32) (harg16 : arg16.IsWhole)
    (E : Set ℕ) (K : PUnit → sProp 𝕄) :
    iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare s.dq ∗ owns c arg11 fullShare x9 ∗ owns c arg12 fullShare x10 ∗ owns c arg13 fullShare s.dck ∗ owns c arg14 fullShare s.dcq ∗ owns c arg15 fullShare s.acck ∗ owns c arg16 fullShare s.accv
        ∗ (iprop(owns c arg2 fullShare B.q ∗ owns c arg3 fullShare B.k ∗ owns c arg4 fullShare B.v ∗ owns c arg5 fullShare B.o ∗ owns c arg6 fullShare B.d ∗ owns c arg7 fullShare B.lse ∗ owns c arg8 fullShare B.cq ∗ owns c arg9 fullShare B.ck ∗ owns c arg10 fullShare n.dq ∗ owns c arg11 fullShare y9 ∗ owns c arg12 fullShare y10 ∗ owns c arg13 fullShare n.dck ∗ owns c arg14 fullShare n.dcq ∗ owns c arg15 fullShare n.acck ∗ owns c arg16 fullShare n.accv) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rcases hk with ⟨⟨hc0, hc1, hc2, hc3, hc4⟩, rfl, rfl, rfl⟩ | ⟨⟨hc0, hc1, hc2, hc3, hc4⟩, rfl, rfl, rfl⟩ | ⟨⟨hc0, hc1, hc2, hc3, hc4⟩, rfl, rfl, rfl⟩ | ⟨⟨hc0, hc1, hc2, hc3, hc4⟩, rfl, rfl, rfl⟩ | ⟨⟨hc0, hc1, hc2, hc3, hc4⟩, rfl, rfl, rfl⟩ | ⟨⟨hc0, hc1, hc2, hc3, hc4⟩, rfl, rfl, rfl⟩
  · exact stepFirst c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K
  · exact stepBelow c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K
  · exact stepBelowLast c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K
  · exact stepAbove c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K
  · exact stepDiag c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K
  · exact stepDiagLast c i hi arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 B _ _ _ E K

end Cert.KernelIdeal.Fox

end
-- ==== Proof.ValueRun.lean ====
/- The run with the outputs named: at every grid point the running sums with the point's shares added. -/
module

public import proofs.«01_k».proof.Proof.ValSteps
public import proofs.«01_k».proof.Proof.FrameIdeal

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The blocks grid point `t` reads. -/
def blk (c : Dev nD) (t : Fin cfg0.N) : Blk where
  q := X0_0 m c t
  k := X0_1 m c t
  v := X0_2 m c t
  o := iblk m c 3 t
  d := iblk m c 4 t
  lse := iblk m c 5 t
  cq := iblk m c 6 t
  ck := iblk m c 7 t

/-- The sums after grid point `t`, key block `t / 8` against query block `t % 8`. -/
def stepAt (c : Dev nD) (t : Fin cfg0.N) (s : St) : St :=
  if t.val / 8 ≤ t.val % 8 then (blk m c t).next (decide (t.val = 0)) (decide (t.val % 9 = 0)) (512 * (t.val % 8)) s else s

/-- The sums before grid point `n`. -/
def st (c : Dev nD) : ℕ → St
  | 0 => ⟨fun _ => (0 : EReal), fun _ => (0 : EReal), fun _ => (0 : EReal), fun _ => (0 : EReal), fun _ => (0 : EReal)⟩
  | n + 1 => if h : n < cfg0.N then stepAt m c ⟨n, h⟩ (st c n) else st c n

theorem st_succ (c : Dev nD) (t : Fin cfg0.N) : st m c (t.val + 1) = stepAt m c t (st m c t.val) := by
  rw [st, dif_pos t.isLt]

/-- The kind of each grid point by its number. -/
theorem kinds_at : ∀ t : Fin cfg0.N, ((k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1) ∧ t.val = 0)
    ∨ ((¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1) ∧ t.val / 8 < t.val % 8 ∧ t.val % 8 ≠ 7)
    ∨ ((¬ k0_cond1 (grid0.coords t) = 1#1 ∧ ¬ k0_cond2 (grid0.coords t) = 1#1 ∧ k0_cond3 (grid0.coords t) = 1#1 ∧ ¬ k0_cond4 (grid0.coords t) = 1#1 ∧ k0_cond5 (grid0.coords t) = 1#1) ∧ t.val / 8 < t.val % 8 ∧ t.val % 8 = 7)
    ∨ ((¬ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1) ∧ t.val % 8 < t.val / 8)
    ∨ ((¬ k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1) ∧ t.val % 9 = 0 ∧ t.val ≠ 0 ∧ t.val ≠ 63)
    ∨ ((¬ k0_cond1 (grid0.coords t) = 1#1 ∧ k0_cond2 (grid0.coords t) = 1#1 ∧ ¬ k0_cond3 (grid0.coords t) = 1#1 ∧ k0_cond4 (grid0.coords t) = 1#1 ∧ k0_cond5 (grid0.coords t) = 1#1) ∧ t.val = 63) := by decide +kernel
theorem coord1 : ∀ t : Fin cfg0.N, (grid0.coords t 1).val = t.val % 8 := by decide +kernel
theorem idle_8 : ∀ t : Fin cfg0.N, cfg0.idle 8 (cfg0.grid.coords t) = decide (t.val % 8 < t.val / 8) := by decide +kernel
theorem idle_11 : ∀ t : Fin cfg0.N, cfg0.idle 11 (cfg0.grid.coords t) = decide (t.val % 8 < t.val / 8) := by decide +kernel
theorem idle_12 : ∀ t : Fin cfg0.N, cfg0.idle 12 (cfg0.grid.coords t) = decide (t.val % 8 < t.val / 8) := by decide +kernel
theorem idle_9 : ∀ t : Fin cfg0.N, cfg0.idle 9 (cfg0.grid.coords t) = decide (t.val % 8 ≠ 7) := by decide +kernel
theorem idle_10 : ∀ t : Fin cfg0.N, cfg0.idle 10 (cfg0.grid.coords t) = decide (t.val % 8 ≠ 7) := by decide +kernel
theorem flush_8 : ∀ t : Fin cfg0.N, (cfg0.win 8).flush t = decide (t.val = 63) := by decide +kernel
theorem flush_12 : ∀ t : Fin cfg0.N, (cfg0.win 12).flush t = decide (t.val = 63) := by decide +kernel
theorem flush_9 : ∀ t : Fin cfg0.N, (cfg0.win 9).flush t = decide (t.val % 8 = 7) := by decide +kernel
theorem flush_10 : ∀ t : Fin cfg0.N, (cfg0.win 10).flush t = decide (t.val % 8 = 7) := by decide +kernel
theorem flush_11 : ∀ t : Fin cfg0.N, (cfg0.win 11).flush t = decide (t.val % 8 = 7) := by decide +kernel

/-- The pipeline's proof data: the arrays as the region finds them, each input's buffer at its block, each output's at the
    running sums; between points the accumulators hold the running sums too. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c (t.val + 1)).dq
    | ⟨9, _⟩ => (st m c (t.val + 1)).acck
    | ⟨10, _⟩ => (st m c (t.val + 1)).accv
    | ⟨11, _⟩ => (st m c (t.val + 1)).dck
    | ⟨12, _⟩ => (st m c (t.val + 1)).dcq
  Φ t := iprop((∃ a : Vec Ideal S512x256 .f32, ∃ b : Vec Ideal S512x256 .f32, ⌜t.val ≠ 0 → a = (st m c t.val).acck ∧ b = (st m c t.val).accv⌝
      ∗ (((c : Thread nD τ).loc cc0_scratch0) ↦{fullShare} a) ∗ (((c : Thread nD τ).loc cc0_scratch1) ↦{fullShare} b)) ∗ ∃ r, prngReg c r)
  q w := Pipeline.shareOf spec0 w
  owed _ := 0

theorem dats_Φ (c : Dev nD) (t : Fin (cfg0.N + 1)) : (dats m 0 c).Φ t = iprop((∃ a : Vec Ideal S512x256 .f32, ∃ b : Vec Ideal S512x256 .f32, ⌜t.val ≠ 0 → a = (st m c t.val).acck ∧ b = (st m c t.val).accv⌝
      ∗ (((c : Thread nD τ).loc cc0_scratch0) ↦{fullShare} a) ∗ (((c : Thread nD τ).loc cc0_scratch1) ↦{fullShare} b)) ∗ ∃ r, prngReg c r) := by
  dsimp only [dats]

theorem dats_A (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_0' (c : Dev nD) (t : Fin cfg0.N) : (dats m 0 c).after 0 t = (blk m c t).q := after_0 m c t
theorem after_1 (c : Dev nD) (t : Fin cfg0.N) : (dats m 0 c).after 1 t = X0_1 m c t := by dsimp only [dats]
theorem after_1' (c : Dev nD) (t : Fin cfg0.N) : (dats m 0 c).after 1 t = (blk m c t).k := after_1 m c t
theorem after_2 (c : Dev nD) (t : Fin cfg0.N) : (dats m 0 c).after 2 t = X0_2 m c t := by dsimp only [dats]
theorem after_2' (c : Dev nD) (t : Fin cfg0.N) : (dats m 0 c).after 2 t = (blk m c t).v := after_2 m c t
theorem after_3 (c : Dev nD) (t : Fin cfg0.N) : (dats m 0 c).after 3 t = iblk m c 3 t := by dsimp only [dats]
theorem after_3' (c : Dev nD) (t : Fin cfg0.N) : (dats m 0 c).after 3 t = (blk m c t).o := after_3 m c t
theorem after_4 (c : Dev nD) (t : Fin cfg0.N) : (dats m 0 c).after 4 t = iblk m c 4 t := by dsimp only [dats]
theorem after_4' (c : Dev nD) (t : Fin cfg0.N) : (dats m 0 c).after 4 t = (blk m c t).d := after_4 m c t
theorem after_5 (c : Dev nD) (t : Fin cfg0.N) : (dats m 0 c).after 5 t = iblk m c 5 t := by dsimp only [dats]
theorem after_5' (c : Dev nD) (t : Fin cfg0.N) : (dats m 0 c).after 5 t = (blk m c t).lse := after_5 m c t
theorem after_6 (c : Dev nD) (t : Fin cfg0.N) : (dats m 0 c).after 6 t = iblk m c 6 t := by dsimp only [dats]
theorem after_6' (c : Dev nD) (t : Fin cfg0.N) : (dats m 0 c).after 6 t = (blk m c t).cq := after_6 m c t
theorem after_7 (c : Dev nD) (t : Fin cfg0.N) : (dats m 0 c).after 7 t = iblk m c 7 t := by dsimp only [dats]
theorem after_7' (c : Dev nD) (t : Fin cfg0.N) : (dats m 0 c).after 7 t = (blk m c t).ck := after_7 m c t
theorem after_8 (c : Dev nD) (t : Fin cfg0.N) : (dats m 0 c).after 8 t = (st m c (t.val + 1)).dq := by dsimp only [dats]
theorem after_9 (c : Dev nD) (t : Fin cfg0.N) : (dats m 0 c).after 9 t = (st m c (t.val + 1)).acck := by dsimp only [dats]
theorem after_10 (c : Dev nD) (t : Fin cfg0.N) : (dats m 0 c).after 10 t = (st m c (t.val + 1)).accv := by dsimp only [dats]
theorem after_11 (c : Dev nD) (t : Fin cfg0.N) : (dats m 0 c).after 11 t = (st m c (t.val + 1)).dck := by dsimp only [dats]
theorem after_12 (c : Dev nD) (t : Fin cfg0.N) : (dats m 0 c).after 12 t = (st m c (t.val + 1)).dcq := by dsimp only [dats]
theorem before_0 (c : Dev nD) (t : Fin cfg0.N) (d) : (dats m 0 c).before 0 t d = (blk m c t).q :=
  before0_0_of m (dats m 0 c) (dats_A m c 0) (after_0 m c) t d
theorem before_1 (c : Dev nD) (t : Fin cfg0.N) (d) : (dats m 0 c).before 1 t d = (blk m c t).k :=
  before0_1_of m (dats m 0 c) (dats_A m c 1) (after_1 m c) t d
theorem before_2 (c : Dev nD) (t : Fin cfg0.N) (d) : (dats m 0 c).before 2 t d = (blk m c t).v :=
  before0_2_of m (dats m 0 c) (dats_A m c 2) (after_2 m c) t d
theorem before_3 (c : Dev nD) (t : Fin cfg0.N) (d) : (dats m 0 c).before 3 t d = (blk m c t).o :=
  before0_3_of m (dats m 0 c) (dats_A m c 3) (after_3 m c) t d
theorem before_4 (c : Dev nD) (t : Fin cfg0.N) (d) : (dats m 0 c).before 4 t d = (blk m c t).d :=
  before0_4_of m (dats m 0 c) (dats_A m c 4) (after_4 m c) t d
theorem before_5 (c : Dev nD) (t : Fin cfg0.N) (d) : (dats m 0 c).before 5 t d = (blk m c t).lse :=
  before0_5_of m (dats m 0 c) (dats_A m c 5) (after_5 m c) t d
theorem before_6 (c : Dev nD) (t : Fin cfg0.N) (d) : (dats m 0 c).before 6 t d = (blk m c t).cq :=
  before0_6_of m (dats m 0 c) (dats_A m c 6) (after_6 m c) t d
theorem before_7 (c : Dev nD) (t : Fin cfg0.N) (d) : (dats m 0 c).before 7 t d = (blk m c t).ck :=
  before0_7_of m (dats m 0 c) (dats_A m c 7) (after_7 m c) t d

/-- An idle point leaves the sums alone. -/
theorem st_idle (c : Dev nD) (t : Fin cfg0.N) (h : t.val % 8 < t.val / 8) : st m c (t.val + 1) = st m c t.val := by
  rw [st_succ, stepAt, if_neg (by omega)]

/-- At a live point an output buffer is left at its running sum. -/
theorem leaves_live {c : Dev nD} (dat : Dat τ (Elt Ideal) Unit ℕ (UR sig nD τ) ℕ cfg0 c) (w : Fin cfg0.W) (t : Fin cfg0.N)
    (h : cfg0.idle w (cfg0.grid.coords t) = false ∨ (cfg0.win w).flush t = true) :
    (dat.leavesExact w t : sProp 𝕄) = owns c ((cfg0.win w).stage (cfg0.slots t w)) fullShare (dat.after w t) := by
  unfold Dat.leavesExact
  rcases h with h | h
  · rw [h]
  · cases cfg0.idle w (cfg0.grid.coords t)
    · rfl
    · rw [h]

theorem left_idle {c : Dev nD} (dat : Dat τ (Elt Ideal) Unit ℕ (UR sig nD τ) ℕ cfg0 c) (w : Fin cfg0.W) (t : Fin cfg0.N) (d)
    (h : cfg0.idle w (cfg0.grid.coords t) = true) : dat.left w t d = dat.before w t d := by
  unfold Dat.left; rw [h]

theorem left_live {c : Dev nD} (dat : Dat τ (Elt Ideal) Unit ℕ (UR sig nD τ) ℕ cfg0 c) (w : Fin cfg0.W) (t : Fin cfg0.N) (d)
    (h : cfg0.idle w (cfg0.grid.coords t) = false) : dat.left w t d = dat.kept w t d := by
  unfold Dat.left; rw [h]

/-- What a point but the first finds in output 8's buffer: the running sum. -/
theorem before_8 (c : Dev nD) : ∀ (n : ℕ) (h : n < cfg0.N) (hn : n ≠ 0) (d), (dats m 0 c).before 8 ⟨n, h⟩ d = (st m c n).dq
  | 0, _, hn, _ => absurd rfl hn
  | n + 1, h, _, d => by
    have hN : cfg0.N = 64 := by decide
    rw [Dat.before_of_pos _ 8 ⟨n + 1, h⟩ (Nat.succ_ne_zero n) ((cfg0.win 8).fetch_out rfl _) d, flush_8, if_neg (by simp; omega)]
    have hi := idle_8 ⟨n, by omega⟩
    by_cases hz : n % 8 < n / 8
    · rw [decide_eq_true hz] at hi
      refine (left_idle _ 8 ⟨n, by omega⟩ d hi).trans ?_
      rw [st_idle m c ⟨n, by omega⟩ hz]
      exact before_8 c n (by omega) (fun e => by subst e; omega) d
    · rw [decide_eq_false hz] at hi
      refine (left_live _ 8 ⟨n, by omega⟩ d hi).trans ?_
      exact after_8 m c ⟨n, by omega⟩

/-- What a point but the first finds in output 12's buffer: the running sum. -/
theorem before_12 (c : Dev nD) : ∀ (n : ℕ) (h : n < cfg0.N) (hn : n ≠ 0) (d), (dats m 0 c).before 12 ⟨n, h⟩ d = (st m c n).dcq
  | 0, _, hn, _ => absurd rfl hn
  | n + 1, h, _, d => by
    have hN : cfg0.N = 64 := by decide
    rw [Dat.before_of_pos _ 12 ⟨n + 1, h⟩ (Nat.succ_ne_zero n) ((cfg0.win 12).fetch_out rfl _) d, flush_12, if_neg (by simp; omega)]
    have hi := idle_12 ⟨n, by omega⟩
    by_cases hz : n % 8 < n / 8
    · rw [decide_eq_true hz] at hi
      refine (left_idle _ 12 ⟨n, by omega⟩ d hi).trans ?_
      rw [st_idle m c ⟨n, by omega⟩ hz]
      exact before_12 c n (by omega) (fun e => by subst e; omega) d
    · rw [decide_eq_false hz] at hi
      refine (left_live _ 12 ⟨n, by omega⟩ d hi).trans ?_
      exact after_12 m c ⟨n, by omega⟩

/-- What a point below the diagonal finds in the keys' decays' buffer: the running sum. -/
theorem before_11 (c : Dev nD) (t : Fin cfg0.N) (ht : t.val / 8 < t.val % 8) (d) : (dats m 0 c).before 11 t d = (st m c t.val).dck := by
  rw [Dat.before_of_pos _ 11 t (by omega) ((cfg0.win 11).fetch_out rfl _) d, flush_11, if_neg (by simp; omega)]
  have hi := idle_11 ⟨t.val - 1, by omega⟩
  rw [decide_eq_false (by show ¬ (t.val - 1) % 8 < (t.val - 1) / 8; omega)] at hi
  refine (left_live _ 11 ⟨t.val - 1, by omega⟩ d hi).trans ((after_11 m c ⟨t.val - 1, by omega⟩).trans ?_)
  show (st m c (t.val - 1 + 1)).dck = _
  rw [Nat.sub_add_cancel (by omega)]

/-- What the body is called with at point `t`, -/
def vPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d)))

/-- and what it returns. -/
def vPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t)
    ∗ owns c (st0_7 t) fullShare ((dats m 0 c).after 7 t)
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- Which point leaves what: the sums the body leaves are the next running sums, the copies those of the last of a key block. -/
theorem next_st (c : Dev nD) (t : Fin cfg0.N) (d8 d9 d10 d11 d12) (s0 s1 : Vec Ideal S512x256 .f32) (hs : t.val ≠ 0 → s0 = (st m c t.val).acck ∧ s1 = (st m c t.val).accv) :
    ∃ (n : St) (y9 y10 : Vec Ideal S512x256 .f32), (((k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1) ∧ n = (blk m c t).next true true (512 * (grid0.coords t 1).val) ⟨(dats m 0 c).before 8 t d8, (dats m 0 c).before 12 t d12, (dats m 0 c).before 11 t d11, s0, s1⟩ ∧ y9 = (dats m 0 c).before 9 t d9 ∧ y10 = (dats m 0 c).before 10 t d10)
    ∨ ((¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1) ∧ n = (blk m c t).next false false (512 * (grid0.coords t 1).val) ⟨(dats m 0 c).before 8 t d8, (dats m 0 c).before 12 t d12, (dats m 0 c).before 11 t d11, s0, s1⟩ ∧ y9 = (dats m 0 c).before 9 t d9 ∧ y10 = (dats m 0 c).before 10 t d10)
    ∨ ((¬ k0_cond1 (grid0.coords t) = 1#1 ∧ ¬ k0_cond2 (grid0.coords t) = 1#1 ∧ k0_cond3 (grid0.coords t) = 1#1 ∧ ¬ k0_cond4 (grid0.coords t) = 1#1 ∧ k0_cond5 (grid0.coords t) = 1#1) ∧ n = (blk m c t).next false false (512 * (grid0.coords t 1).val) ⟨(dats m 0 c).before 8 t d8, (dats m 0 c).before 12 t d12, (dats m 0 c).before 11 t d11, s0, s1⟩ ∧ y9 = n.acck ∧ y10 = n.accv)
    ∨ ((¬ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1) ∧ n = ⟨(dats m 0 c).before 8 t d8, (dats m 0 c).before 12 t d12, (dats m 0 c).before 11 t d11, s0, s1⟩ ∧ y9 = (dats m 0 c).before 9 t d9 ∧ y10 = (dats m 0 c).before 10 t d10)
    ∨ ((¬ k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1) ∧ n = (blk m c t).next false true (512 * (grid0.coords t 1).val) ⟨(dats m 0 c).before 8 t d8, (dats m 0 c).before 12 t d12, (dats m 0 c).before 11 t d11, s0, s1⟩ ∧ y9 = (dats m 0 c).before 9 t d9 ∧ y10 = (dats m 0 c).before 10 t d10)
    ∨ ((¬ k0_cond1 (grid0.coords t) = 1#1 ∧ k0_cond2 (grid0.coords t) = 1#1 ∧ ¬ k0_cond3 (grid0.coords t) = 1#1 ∧ k0_cond4 (grid0.coords t) = 1#1 ∧ k0_cond5 (grid0.coords t) = 1#1) ∧ n = (blk m c t).next false true (512 * (grid0.coords t 1).val) ⟨(dats m 0 c).before 8 t d8, (dats m 0 c).before 12 t d12, (dats m 0 c).before 11 t d11, s0, s1⟩ ∧ y9 = n.acck ∧ y10 = n.accv))
      ∧ (n.acck = (st m c (t.val + 1)).acck ∧ n.accv = (st m c (t.val + 1)).accv)
      ∧ (owns c (st0_8 t) fullShare n.dq ⊢ ((dats m 0 c).leavesExact 8 t : sProp 𝕄))
      ∧ (owns c (st0_9 t) fullShare y9 ⊢ ((dats m 0 c).leavesExact 9 t : sProp 𝕄))
      ∧ (owns c (st0_10 t) fullShare y10 ⊢ ((dats m 0 c).leavesExact 10 t : sProp 𝕄))
      ∧ (owns c (st0_11 t) fullShare n.dck ⊢ ((dats m 0 c).leavesExact 11 t : sProp 𝕄))
      ∧ (owns c (st0_12 t) fullShare n.dcq ⊢ ((dats m 0 c).leavesExact 12 t : sProp 𝕄)) := by
  have hN : t.val < 64 := t.isLt
  have i8 := idle_8 t; have i9 := idle_9 t; have i10 := idle_10 t; have i11 := idle_11 t; have i12 := idle_12 t
  have f8 := flush_8 t; have f9 := flush_9 t; have f10 := flush_10 t; have f11 := flush_11 t; have f12 := flush_12 t
  rcases kinds_at t with ⟨hc, ht⟩ | ⟨hc, ht⟩ | ⟨hc, ht⟩ | ⟨hc, ht⟩ | ⟨hc, ht⟩ | ⟨hc, ht⟩
  · refine ⟨(blk m c t).next true true (512 * (grid0.coords t 1).val) ⟨(dats m 0 c).before 8 t d8, (dats m 0 c).before 12 t d12, (dats m 0 c).before 11 t d11, s0, s1⟩, (dats m 0 c).before 9 t d9, (dats m 0 c).before 10 t d10, Or.inl ⟨hc, rfl, rfl, rfl⟩, ?_⟩
    have e := st_succ m c t
    rw [stepAt, if_pos (by omega), decide_eq_true ht, decide_eq_true (show t.val % 9 = 0 by omega), ← coord1] at e
    refine ⟨⟨?_, ?_⟩, ?_, ?_, ?_, ?_, ?_⟩
    · rw [e] <;> rfl
    · rw [e] <;> rfl
    · rw [leaves_live _ 8 t (Or.inl (i8.trans (decide_eq_false (by omega)))), after_8, e] <;> exact .rfl
    · rw [Dat.leavesExact_idle _ 9 t (i9.trans (decide_eq_true (by omega))) (f9.trans (decide_eq_false (by omega)))]; iintro H; iexists d9; iexact H
    · rw [Dat.leavesExact_idle _ 10 t (i10.trans (decide_eq_true (by omega))) (f10.trans (decide_eq_false (by omega)))]; iintro H; iexists d10; iexact H
    · rw [leaves_live _ 11 t (Or.inl (i11.trans (decide_eq_false (by omega)))), after_11, e] <;> exact .rfl
    · rw [leaves_live _ 12 t (Or.inl (i12.trans (decide_eq_false (by omega)))), after_12, e] <;> exact .rfl
  · refine ⟨(blk m c t).next false false (512 * (grid0.coords t 1).val) ⟨(dats m 0 c).before 8 t d8, (dats m 0 c).before 12 t d12, (dats m 0 c).before 11 t d11, s0, s1⟩, (dats m 0 c).before 9 t d9, (dats m 0 c).before 10 t d10, Or.inr (Or.inl ⟨hc, rfl, rfl, rfl⟩), ?_⟩
    have e := st_succ m c t
    rw [stepAt, if_pos (by omega), show decide (t.val = 0) = false from by simp; omega, show decide (t.val % 9 = 0) = false from by simp; omega, ← coord1] at e
    rw [before_8 m c t.val t.isLt (by omega), before_12 m c t.val t.isLt (by omega), before_11 m c t (by omega), (hs (by omega)).1, (hs (by omega)).2]
    refine ⟨⟨?_, ?_⟩, ?_, ?_, ?_, ?_, ?_⟩
    · rw [e] <;> rfl
    · rw [e] <;> rfl
    · rw [leaves_live _ 8 t (Or.inl (i8.trans (decide_eq_false (by omega)))), after_8, e] <;> exact .rfl
    · rw [Dat.leavesExact_idle _ 9 t (i9.trans (decide_eq_true (by omega))) (f9.trans (decide_eq_false (by omega)))]; iintro H; iexists d9; iexact H
    · rw [Dat.leavesExact_idle _ 10 t (i10.trans (decide_eq_true (by omega))) (f10.trans (decide_eq_false (by omega)))]; iintro H; iexists d10; iexact H
    · rw [leaves_live _ 11 t (Or.inl (i11.trans (decide_eq_false (by omega)))), after_11, e] <;> exact .rfl
    · rw [leaves_live _ 12 t (Or.inl (i12.trans (decide_eq_false (by omega)))), after_12, e] <;> exact .rfl
  · refine ⟨(blk m c t).next false false (512 * (grid0.coords t 1).val) ⟨(dats m 0 c).before 8 t d8, (dats m 0 c).before 12 t d12, (dats m 0 c).before 11 t d11, s0, s1⟩, _, _, Or.inr (Or.inr (Or.inl ⟨hc, rfl, rfl, rfl⟩)), ?_⟩
    have e := st_succ m c t
    rw [stepAt, if_pos (by omega), show decide (t.val = 0) = false from by simp; omega, show decide (t.val % 9 = 0) = false from by simp; omega, ← coord1] at e
    rw [before_8 m c t.val t.isLt (by omega), before_12 m c t.val t.isLt (by omega), before_11 m c t (by omega), (hs (by omega)).1, (hs (by omega)).2]
    refine ⟨⟨?_, ?_⟩, ?_, ?_, ?_, ?_, ?_⟩
    · rw [e] <;> rfl
    · rw [e] <;> rfl
    · rw [leaves_live _ 8 t (Or.inl (i8.trans (decide_eq_false (by omega)))), after_8, e] <;> exact .rfl
    · rw [leaves_live _ 9 t (Or.inl (i9.trans (decide_eq_false (by omega)))), after_9, e] <;> exact .rfl
    · rw [leaves_live _ 10 t (Or.inl (i10.trans (decide_eq_false (by omega)))), after_10, e] <;> exact .rfl
    · rw [leaves_live _ 11 t (Or.inl (i11.trans (decide_eq_false (by omega)))), after_11, e] <;> exact .rfl
    · rw [leaves_live _ 12 t (Or.inl (i12.trans (decide_eq_false (by omega)))), after_12, e] <;> exact .rfl
  · refine ⟨⟨(dats m 0 c).before 8 t d8, (dats m 0 c).before 12 t d12, (dats m 0 c).before 11 t d11, s0, s1⟩, (dats m 0 c).before 9 t d9, (dats m 0 c).before 10 t d10, Or.inr (Or.inr (Or.inr (Or.inl ⟨hc, rfl, rfl, rfl⟩))), ?_⟩
    have e := st_idle m c t ht
    rw [e]
    refine ⟨hs (by omega), ?_, ?_, ?_, ?_, ?_⟩
    · rw [Dat.leavesExact_idle _ 8 t (i8.trans (decide_eq_true (by omega))) (f8.trans (decide_eq_false (by omega)))]; iintro H; iexists d8; iexact H
    · rw [Dat.leavesExact_idle _ 9 t (i9.trans (decide_eq_true (by omega))) (f9.trans (decide_eq_false (by omega)))]; iintro H; iexists d9; iexact H
    · rw [Dat.leavesExact_idle _ 10 t (i10.trans (decide_eq_true (by omega))) (f10.trans (decide_eq_false (by omega)))]; iintro H; iexists d10; iexact H
    · rw [Dat.leavesExact_idle _ 11 t (i11.trans (decide_eq_true (by omega))) (f11.trans (decide_eq_false (by omega)))]; iintro H; iexists d11; iexact H
    · rw [Dat.leavesExact_idle _ 12 t (i12.trans (decide_eq_true (by omega))) (f12.trans (decide_eq_false (by omega)))]; iintro H; iexists d12; iexact H
  · refine ⟨(blk m c t).next false true (512 * (grid0.coords t 1).val) ⟨(dats m 0 c).before 8 t d8, (dats m 0 c).before 12 t d12, (dats m 0 c).before 11 t d11, s0, s1⟩, (dats m 0 c).before 9 t d9, (dats m 0 c).before 10 t d10, Or.inr (Or.inr (Or.inr (Or.inr (Or.inl ⟨hc, rfl, rfl, rfl⟩)))), ?_⟩
    have e := st_succ m c t
    rw [stepAt, if_pos (by omega), show decide (t.val = 0) = false from by simp; omega, show decide (t.val % 9 = 0) = true from by simp; omega, ← coord1] at e
    rw [before_8 m c t.val t.isLt (by omega), before_12 m c t.val t.isLt (by omega)]
    refine ⟨⟨?_, ?_⟩, ?_, ?_, ?_, ?_, ?_⟩
    · rw [e] <;> rfl
    · rw [e] <;> rfl
    · rw [leaves_live _ 8 t (Or.inl (i8.trans (decide_eq_false (by omega)))), after_8, e] <;> exact .rfl
    · rw [Dat.leavesExact_idle _ 9 t (i9.trans (decide_eq_true (by omega))) (f9.trans (decide_eq_false (by omega)))]; iintro H; iexists d9; iexact H
    · rw [Dat.leavesExact_idle _ 10 t (i10.trans (decide_eq_true (by omega))) (f10.trans (decide_eq_false (by omega)))]; iintro H; iexists d10; iexact H
    · rw [leaves_live _ 11 t (Or.inl (i11.trans (decide_eq_false (by omega)))), after_11, e] <;> exact .rfl
    · rw [leaves_live _ 12 t (Or.inl (i12.trans (decide_eq_false (by omega)))), after_12, e] <;> exact .rfl
  · refine ⟨(blk m c t).next false true (512 * (grid0.coords t 1).val) ⟨(dats m 0 c).before 8 t d8, (dats m 0 c).before 12 t d12, (dats m 0 c).before 11 t d11, s0, s1⟩, _, _, Or.inr (Or.inr (Or.inr (Or.inr (Or.inr (⟨hc, rfl, rfl, rfl⟩))))), ?_⟩
    have e := st_succ m c t
    rw [stepAt, if_pos (by omega), show decide (t.val = 0) = false from by simp; omega, show decide (t.val % 9 = 0) = true from by simp; omega, ← coord1] at e
    rw [before_8 m c t.val t.isLt (by omega), before_12 m c t.val t.isLt (by omega)]
    refine ⟨⟨?_, ?_⟩, ?_, ?_, ?_, ?_, ?_⟩
    · rw [e] <;> rfl
    · rw [e] <;> rfl
    · rw [leaves_live _ 8 t (Or.inl (i8.trans (decide_eq_false (by omega)))), after_8, e] <;> exact .rfl
    · rw [leaves_live _ 9 t (Or.inl (i9.trans (decide_eq_false (by omega)))), after_9, e] <;> exact .rfl
    · rw [leaves_live _ 10 t (Or.inl (i10.trans (decide_eq_false (by omega)))), after_10, e] <;> exact .rfl
    · rw [leaves_live _ 11 t (Or.inl (i11.trans (decide_eq_false (by omega)))), after_11, e] <;> exact .rfl
    · rw [leaves_live _ 12 t (Or.inl (i12.trans (decide_eq_false (by omega)))), after_12, e] <;> exact .rfl

set_option maxHeartbeats 1000000 in
theorem v_body (c : Dev nD) (t : Fin cfg0.N) :
    vPre m c t ⊢ wp Idealize.ShloMosaic.frame (wpE (defs₀ (F := Ideal)) Variants.none c none) Set.univ (bodyAt0 t) (fun _ => vPost m c t) := by
  unfold vPre vPost bodyAt0
  simp only [before_0, before_1, before_2, before_3, before_4, before_5, before_6, before_7]
  rw [show (dats m 0 c).owesAt () t.succ = (dats m 0 c).owesAt () t.castSucc from rfl,
    after_0', after_1', after_2', after_3', after_4', after_5', after_6', after_7']
  rw [dats_Φ, dats_Φ]
  iintro ⟨⟨⟨%s0, %s1, %hs, S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨n, y9, y10, hk, ⟨ha, hb⟩, h8, h9, h10, h11, h12⟩ := next_st m c t d8 d9 d10 d11 d12 s0 s1 hs
  iapply (step c (grid0.coords t) (grid0.coords t 1).isLt (blk m c t) ⟨(dats m 0 c).before 8 t d8, (dats m 0 c).before 12 t d12, (dats m 0 c).before 11 t d11, s0, s1⟩ n _ _ y9 y10 hk _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · rw [owns_whole]; iexact S0
  isplitl [S1]; · rw [owns_whole]; iexact S1
  iintro ⟨H0, H1, H2, H3, H4, H5, H6, H7, H8, H9, H10, H11, H12, S0, S1⟩
  isplitl [S0 S1 Hr]
  · isplitl [S0 S1]
    · iexists n.acck; iexists n.accv
      isplitr; · ipureintro; exact fun _ => ⟨ha, hb⟩
      isplitl [S0]
      · iapply (Entails.of_eq (owns_whole (c : Thread nD τ) cc0_scratch0 fullShare n.acck)); iexact S0
      · iapply (Entails.of_eq (owns_whole (c : Thread nD τ) cc0_scratch1 fullShare n.accv)); iexact S1
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply h8; iexact H8
  isplitl [H9]; · iapply h9; iexact H9
  isplitl [H10]; · iapply h10; iexact H10
  isplitl [H11]; · iapply h11; iexact H11
  iapply h12; iexact H12

theorem obligation (c : Dev nD) : BodyObligation (dats m 0 c) (defs₀ (F := Ideal)) Variants.none () Set.univ := fun t => by
  rw [bigSep_W0, bigSep_W0, row]
  exact triple_restated (v_body m c t) rfl .rfl fun _ => .rfl

theorem start (c : Dev nD) : Pipeline.ΦA spec0 c ⊢ ((dats m 0 c).Φ 0 : sProp 𝕄) := by
  unfold Pipeline.ΦA
  rw [scopedRest0_eq]
  rw [dats_Φ]
  iintro ⟨⟨⟨%s0, S0⟩, ⟨%s1, S1⟩⟩, Hr⟩
  isplitl [S0 S1]
  · iexists s0; iexists s1
    isplitr; · ipureintro; exact fun h => absurd rfl h
    isplitl [S0]; · iexact S0
    iexact S1
  · iexact Hr

theorem finish (c : Dev nD) : ((dats m 0 c).Φ (Fin.last cfg0.N) : sProp 𝕄) ⊢ Pipeline.ΦA spec0 c := by
  unfold Pipeline.ΦA
  rw [scopedRest0_eq]
  rw [dats_Φ]
  iintro ⟨⟨%s0, %s1, -, S0, S1⟩, Hr⟩
  isplitl [S0 S1]
  · isplitl [S0]
    · iexists s0; iexact S0
    · iexists s1; iexact S1
  · iexact Hr

set_option backward.isDefEq.respectTransparency.types false in
/-- The whole run: it ends, every array at what the pipeline's data say. -/
theorem value_run : θ_run defs (onTc (τ := τ) (main (F := Ideal))) (s₀ m ρ)
    (fun r => Pipeline.FramePost cfgs (dats m) (0 : Fin 1) (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := start m) (hout := finish m)

end Cert.KernelIdeal.Fox

end
-- ==== Proof.Sums.lean ====
/- The running sums in closed form: when every block's probabilities, score gradients and entries are real numbers read from whole
   arrays, each output ends at its sum over all 4096 rows. -/
module

public import proofs.«01_k».proof.Proof.ValueRun

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-- A finite sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_block (f : Fin 512 → EReal) (g : ℕ → ℝ) (b : ℕ) (h : ∀ a : Fin 512, f a = ((g (b + a.val) : ℝ) : EReal)) :
    (∑ a : Fin 512, f a) = ((∑ x ∈ Finset.range 512, g (b + x) : ℝ) : EReal) := by
  rw [Finset.sum_congr rfl fun a _ => h a, coe_sum, Fin.sum_univ_eq_sum_range (fun x => g (b + x))]

theorem eighth_eq : eighth = ((8⁻¹ : ℝ) : EReal) := by
  simp [eighth, Ideal.ofBits, Ideal.ieee, -EReal.coe_mul]; norm_num

/-- Shares gathered block after block from the diagonal block on make the sum over all rows so far, when the rows before the
    diagonal block have none. -/
theorem gather (f : ℕ → ℝ) (a : ℕ → EReal) (ki : ℕ) (hz : ∀ q, q < 512 * ki → f q = 0)
    (h0 : a (9 * ki + 1) = 0 + ((∑ x ∈ Finset.range 512, f (512 * ki + x) : ℝ) : EReal))
    (hs : ∀ j, ki + (j + 1) < 8 → a (9 * ki + (j + 1) + 1) = a (9 * ki + j + 1) + ((∑ x ∈ Finset.range 512, f (512 * (ki + (j + 1)) + x) : ℝ) : EReal)) :
    ∀ j, ki + j < 8 → a (9 * ki + j + 1) = ((∑ q ∈ Finset.range (512 * (ki + j + 1)), f q : ℝ) : EReal)
  | 0, _ => by
    rw [Nat.add_zero, h0, zero_add, show 512 * (ki + 0 + 1) = 512 * ki + 512 by ring, Finset.sum_range_add,
      Finset.sum_eq_zero (fun q hq => hz q (Finset.mem_range.mp hq)), zero_add]
  | j + 1, h => by
    rw [hs j h, gather f a ki hz h0 hs j (by omega), ← EReal.coe_add, show 512 * (ki + (j + 1) + 1) = 512 * (ki + (j + 1)) + 512 by ring,
      Finset.sum_range_add, show ki + j + 1 = ki + (j + 1) by ring]

variable (m : (ℓ : Loc nD τ sig) → Buf (Elt Ideal) ℓ)

/-- The blocks of every live grid point are windows of whole arrays of real numbers: probabilities `P` and score gradients `D` by
    head, key and query, keys `K`, queries `Q` and output gradients `Y` by row and lane; a key after its query has neither. -/
structure RealBlocks (c : Dev nD) (P D : Fin 4 → ℕ → ℕ → ℝ) (K Q Y : ℕ → Fin 256 → ℝ) : Prop where
  pr : ∀ t : Fin cfg0.N, t.val / 8 ≤ t.val % 8 → ∀ h a b, (blk m c t).pr (decide (t.val % 9 = 0)) h a b
    = ((P h (512 * (t.val / 8) + a.val) (512 * (t.val % 8) + b.val) : ℝ) : EReal)
  ds : ∀ t : Fin cfg0.N, t.val / 8 ≤ t.val % 8 → ∀ h a b, (blk m c t).ds (decide (t.val % 9 = 0)) h a b
    = ((D h (512 * (t.val / 8) + a.val) (512 * (t.val % 8) + b.val) : ℝ) : EReal)
  k : ∀ t : Fin cfg0.N, t.val / 8 ≤ t.val % 8 → ∀ a l, (blk m c t).k (ix2 a l) = ((K (512 * (t.val / 8) + a.val) l : ℝ) : EReal)
  q : ∀ t : Fin cfg0.N, t.val / 8 ≤ t.val % 8 → ∀ b l, (blk m c t).q (ix2 b l) = ((Q (512 * (t.val % 8) + b.val) l : ℝ) : EReal)
  d : ∀ t : Fin cfg0.N, t.val / 8 ≤ t.val % 8 → ∀ b l, (blk m c t).d (ix2 b l) = ((Y (512 * (t.val % 8) + b.val) l : ℝ) : EReal)
  zeroP : ∀ h k q, q < k → P h k q = 0
  zeroD : ∀ h k q, q < k → D h k q = 0

variable {m} {c : Dev nD} {P D : Fin 4 → ℕ → ℕ → ℝ} {K Q Y : ℕ → Fin 256 → ℝ} (R : RealBlocks m c P D K Q Y)

theorem N_eq : cfg0.N = 64 := by decide

/-- A live point's step. -/
theorem st_live (c : Dev nD) (n : ℕ) (hn : n < 64) (h : n / 8 ≤ n % 8) :
    st m c (n + 1) = (blk m c ⟨n, by rw [N_eq]; exact hn⟩).next (decide (n = 0)) (decide (n % 9 = 0)) (512 * (n % 8)) (st m c n) := by
  have e := st_succ m c ⟨n, by rw [N_eq]; exact hn⟩
  rw [stepAt, if_pos h] at e
  exact e

theorem first_dq (n : ℕ) : (bif decide (n = 0) then (fun _ => (0 : EReal)) else (st m c n).dq) = (st m c n).dq := by
  by_cases h : n = 0
  · subst h; rfl
  · simp [h]
theorem first_dcq (n : ℕ) : (bif decide (n = 0) then (fun _ => (0 : EReal)) else (st m c n).dcq) = (st m c n).dcq := by
  by_cases h : n = 0
  · subst h; rfl
  · simp [h]

include R

/-- The queries' gradient after `n` points: row `q` has the keys of the blocks met so far. -/
theorem dq_at (y : S4096x256.Idx) : ∀ n ≤ 64, (st m c n).dq y
    = ((∑ k ∈ Finset.range (512 * ((n + 7 - (y 0).val / 512) / 8)), D (headOf (y 1)) k (y 0).val * 8⁻¹ * K k (y 1) : ℝ) : EReal)
  | 0, _ => by
    have hy : (y 0).val < 4096 := (y 0).isLt
    rw [show (0 + 7 - (y 0).val / 512) / 8 = 0 by omega]
    simp [st]
  | n + 1, hn => by
    have hy : (y 0).val < 4096 := (y 0).isLt
    have ih := dq_at y n (by omega)
    by_cases hq : n % 8 = (y 0).val / 512
    · rw [show (n + 1 + 7 - (y 0).val / 512) / 8 = n / 8 + 1 by omega, show 512 * (n / 8 + 1) = 512 * (n / 8) + 512 by ring, Finset.sum_range_add]
      rw [show (n + 7 - (y 0).val / 512) / 8 = n / 8 by omega] at ih
      by_cases hl : n / 8 ≤ n % 8
      · rw [st_live c n (by omega) hl]
        show (blk m c ⟨n, _⟩).addDq _ _ (bif _ then _ else _) y = _
        rw [first_dq, Blk.addDq, dif_pos (by omega), ih, EReal.coe_add]
        congr 1
        refine sum_block _ (fun k => D (headOf (y 1)) k (y 0).val * 8⁻¹ * K k (y 1)) _ fun a => ?_
        have e := R.ds ⟨n, by rw [N_eq]; omega⟩ hl (headOf (y 1)) a ⟨(y 0).val - 512 * (n % 8), by omega⟩
        have e' := R.k ⟨n, by rw [N_eq]; omega⟩ hl a (y 1)
        dsimp only at e e'
        rw [e, e', eighth_eq, ← EReal.coe_mul, ← EReal.coe_mul, show 512 * (n % 8) + ((y 0).val - 512 * (n % 8)) = (y 0).val by omega]
      · have e := st_idle m c ⟨n, by rw [N_eq]; omega⟩ (by show n % 8 < n / 8; omega)
        dsimp only at e
        rw [e, ih, Finset.sum_eq_zero (s := Finset.range 512), add_zero]
        intro x _
        rw [R.zeroD _ _ _ (by omega)]; ring
    · rw [show (n + 1 + 7 - (y 0).val / 512) / 8 = (n + 7 - (y 0).val / 512) / 8 by omega, ← ih]
      by_cases hl : n / 8 ≤ n % 8
      · rw [st_live c n (by omega) hl]
        show (blk m c ⟨n, _⟩).addDq _ _ (bif _ then _ else _) y = _
        rw [first_dq, Blk.addDq, dif_neg (by omega)]
      · have e := st_idle m c ⟨n, by rw [N_eq]; omega⟩ (by show n % 8 < n / 8; omega)
        dsimp only at e
        rw [e]

theorem dcq_at (y : S8x4096.Idx) (h4 : (y 0).val < 4) : ∀ n ≤ 64, (st m c n).dcq y
    = ((∑ k ∈ Finset.range (512 * ((n + 7 - (y 1).val / 512) / 8)), D ⟨(y 0).val, h4⟩ k (y 1).val : ℝ) : EReal)
  | 0, _ => by
    have hy : (y 1).val < 4096 := (y 1).isLt
    rw [show (0 + 7 - (y 1).val / 512) / 8 = 0 by omega]
    simp [st]
  | n + 1, hn => by
    have hy : (y 1).val < 4096 := (y 1).isLt
    have ih := dcq_at y h4 n (by omega)
    by_cases hq : n % 8 = (y 1).val / 512
    · rw [show (n + 1 + 7 - (y 1).val / 512) / 8 = n / 8 + 1 by omega, show 512 * (n / 8 + 1) = 512 * (n / 8) + 512 by ring, Finset.sum_range_add]
      rw [show (n + 7 - (y 1).val / 512) / 8 = n / 8 by omega] at ih
      by_cases hl : n / 8 ≤ n % 8
      · rw [st_live c n (by omega) hl]
        show (blk m c ⟨n, _⟩).addDcq _ _ (bif _ then _ else _) y = _
        rw [first_dcq, Blk.addDcq, dif_pos (by omega), ih, EReal.coe_add]
        congr 1
        refine sum_block _ (fun k => D ⟨(y 0).val, h4⟩ k (y 1).val) _ fun a => ?_
        have e := R.ds ⟨n, by rw [N_eq]; omega⟩ hl ⟨(y 0).val, h4⟩ a ⟨(y 1).val - 512 * (n % 8), by omega⟩
        dsimp only at e
        rw [e, show 512 * (n % 8) + ((y 1).val - 512 * (n % 8)) = (y 1).val by omega]
      · have e := st_idle m c ⟨n, by rw [N_eq]; omega⟩ (by show n % 8 < n / 8; omega)
        dsimp only at e
        rw [e, ih, Finset.sum_eq_zero (s := Finset.range 512), add_zero]
        intro x _
        exact R.zeroD _ _ _ (by omega)
    · rw [show (n + 1 + 7 - (y 1).val / 512) / 8 = (n + 7 - (y 1).val / 512) / 8 by omega, ← ih]
      by_cases hl : n / 8 ≤ n % 8
      · rw [st_live c n (by omega) hl]
        show (blk m c ⟨n, _⟩).addDcq _ _ (bif _ then _ else _) y = _
        rw [first_dcq, Blk.addDcq, dif_neg (by omega)]
      · have e := st_idle m c ⟨n, by rw [N_eq]; omega⟩ (by show n % 8 < n / 8; omega)
        dsimp only at e
        rw [e]

omit R in
/-- The padding rows stay zero. -/
theorem dcq_pad (y : S8x4096.Idx) (h4 : ¬ (y 0).val < 4) : ∀ n ≤ 64, (st m c n).dcq y = 0
  | 0, _ => by simp [st]
  | n + 1, hn => by
    have ih := dcq_pad y h4 n (by omega)
    by_cases hl : n / 8 ≤ n % 8
    · rw [st_live c n (by omega) hl]
      show (blk m c ⟨n, _⟩).addDcq _ _ (bif _ then _ else _) y = _
      rw [first_dcq, Blk.addDcq, dif_neg (by omega), ih]
    · have e := st_idle m c ⟨n, by rw [N_eq]; omega⟩ (by show n % 8 < n / 8; omega)
      dsimp only at e
      rw [e, ih]

/-- The keys' gradient, gathered from the diagonal block on. -/
theorem acck_at (ki : ℕ) (y : S512x256.Idx) (j : ℕ) (h : ki + j < 8) : (st m c (9 * ki + j + 1)).acck y
    = ((∑ q ∈ Finset.range (512 * (ki + j + 1)), D (headOf (y 1)) (512 * ki + (y 0).val) q * 8⁻¹ * Q q (y 1) : ℝ) : EReal) := by
  have step : ∀ j, ∀ hj : ki + j < 8, ∀ old, (blk m c ⟨9 * ki + j, by rw [N_eq]; omega⟩).addDk (decide ((9 * ki + j) % 9 = 0)) old y
      = old y + ((∑ x ∈ Finset.range 512, D (headOf (y 1)) (512 * ki + (y 0).val) (512 * (ki + j) + x) * 8⁻¹ * Q (512 * (ki + j) + x) (y 1) : ℝ) : EReal) := by
    intro j hj old
    rw [Blk.addDk]
    congr 1
    refine sum_block _ (fun q => D (headOf (y 1)) (512 * ki + (y 0).val) q * 8⁻¹ * Q q (y 1)) _ fun b => ?_
    have e := R.ds ⟨9 * ki + j, by rw [N_eq]; omega⟩ (by show (9 * ki + j) / 8 ≤ (9 * ki + j) % 8; omega) (headOf (y 1)) (y 0) b
    have e' := R.q ⟨9 * ki + j, by rw [N_eq]; omega⟩ (by show (9 * ki + j) / 8 ≤ (9 * ki + j) % 8; omega) b (y 1)
    dsimp only at e e'
    rw [e, e', eighth_eq, ← EReal.coe_mul, ← EReal.coe_mul, show (9 * ki + j) / 8 = ki by omega, show (9 * ki + j) % 8 = ki + j by omega]
  refine gather (fun q => D (headOf (y 1)) (512 * ki + (y 0).val) q * 8⁻¹ * Q q (y 1)) (fun n => (st m c n).acck y) ki
    (fun q hq => by rw [R.zeroD _ _ _ (by omega)]; ring) ?_ ?_ j h
  · dsimp only
    rw [st_live c (9 * ki) (by omega) (by omega)]
    show (blk m c ⟨9 * ki, _⟩).addDk _ (bif _ then _ else _) y = _
    refine (step 0 (by omega) _).trans ?_
    rw [show decide (9 * ki % 9 = 0) = true by simp]
    rfl
  · intro j hj
    dsimp only
    rw [← Nat.add_assoc (9 * ki), st_live c (9 * ki + j + 1) (by omega) (by omega)]
    show (blk m c ⟨9 * ki + (j + 1), _⟩).addDk (decide ((9 * ki + (j + 1)) % 9 = 0)) (bif (decide ((9 * ki + j + 1) % 9 = 0)) then _ else _) y = _
    refine (step (j + 1) hj _).trans ?_
    rw [show decide ((9 * ki + j + 1) % 9 = 0) = false by simp; omega]
    rfl

/-- The values' gradient. -/
theorem accv_at (ki : ℕ) (y : S512x256.Idx) (j : ℕ) (h : ki + j < 8) : (st m c (9 * ki + j + 1)).accv y
    = ((∑ q ∈ Finset.range (512 * (ki + j + 1)), P (headOf (y 1)) (512 * ki + (y 0).val) q * Y q (y 1) : ℝ) : EReal) := by
  have step : ∀ j, ∀ hj : ki + j < 8, ∀ old, (blk m c ⟨9 * ki + j, by rw [N_eq]; omega⟩).addDv (decide ((9 * ki + j) % 9 = 0)) old y
      = old y + ((∑ x ∈ Finset.range 512, P (headOf (y 1)) (512 * ki + (y 0).val) (512 * (ki + j) + x) * Y (512 * (ki + j) + x) (y 1) : ℝ) : EReal) := by
    intro j hj old
    rw [Blk.addDv]
    congr 1
    refine sum_block _ (fun q => P (headOf (y 1)) (512 * ki + (y 0).val) q * Y q (y 1)) _ fun b => ?_
    have e := R.pr ⟨9 * ki + j, by rw [N_eq]; omega⟩ (by show (9 * ki + j) / 8 ≤ (9 * ki + j) % 8; omega) (headOf (y 1)) (y 0) b
    have e' := R.d ⟨9 * ki + j, by rw [N_eq]; omega⟩ (by show (9 * ki + j) / 8 ≤ (9 * ki + j) % 8; omega) b (y 1)
    dsimp only at e e'
    rw [e, e', ← EReal.coe_mul, show (9 * ki + j) / 8 = ki by omega, show (9 * ki + j) % 8 = ki + j by omega]
  refine gather (fun q => P (headOf (y 1)) (512 * ki + (y 0).val) q * Y q (y 1)) (fun n => (st m c n).accv y) ki
    (fun q hq => by rw [R.zeroP _ _ _ (by omega)]; ring) ?_ ?_ j h
  · dsimp only
    rw [st_live c (9 * ki) (by omega) (by omega)]
    show (blk m c ⟨9 * ki, _⟩).addDv _ (bif _ then _ else _) y = _
    refine (step 0 (by omega) _).trans ?_
    rw [show decide (9 * ki % 9 = 0) = true by simp]
    rfl
  · intro j hj
    dsimp only
    rw [← Nat.add_assoc (9 * ki), st_live c (9 * ki + j + 1) (by omega) (by omega)]
    show (blk m c ⟨9 * ki + (j + 1), _⟩).addDv (decide ((9 * ki + (j + 1)) % 9 = 0)) (bif (decide ((9 * ki + j + 1) % 9 = 0)) then _ else _) y = _
    refine (step (j + 1) hj _).trans ?_
    rw [show decide ((9 * ki + j + 1) % 9 = 0) = false by simp; omega]
    rfl

/-- The gradient of the keys' decays. -/
theorem dck_at (ki : ℕ) (y : S512x8.Idx) (h4 : (y 1).val < 4) (j : ℕ) (h : ki + j < 8) : (st m c (9 * ki + j + 1)).dck y
    = ((∑ q ∈ Finset.range (512 * (ki + j + 1)), -D ⟨(y 1).val, h4⟩ (512 * ki + (y 0).val) q : ℝ) : EReal) := by
  have step : ∀ j, ∀ hj : ki + j < 8, ∀ old, (blk m c ⟨9 * ki + j, by rw [N_eq]; omega⟩).addDck (decide ((9 * ki + j) % 9 = 0)) old y
      = old y + ((∑ x ∈ Finset.range 512, -D ⟨(y 1).val, h4⟩ (512 * ki + (y 0).val) (512 * (ki + j) + x) : ℝ) : EReal) := by
    intro j hj old
    rw [Blk.addDck, dif_pos h4, sub_eq_add_neg, Finset.sum_neg_distrib, EReal.coe_neg]
    congr 2
    refine sum_block _ (fun q => D ⟨(y 1).val, h4⟩ (512 * ki + (y 0).val) q) _ fun b => ?_
    have e := R.ds ⟨9 * ki + j, by rw [N_eq]; omega⟩ (by show (9 * ki + j) / 8 ≤ (9 * ki + j) % 8; omega) ⟨(y 1).val, h4⟩ (y 0) b
    dsimp only at e
    rw [e, show (9 * ki + j) / 8 = ki by omega, show (9 * ki + j) % 8 = ki + j by omega]
  refine gather (fun q => -D ⟨(y 1).val, h4⟩ (512 * ki + (y 0).val) q) (fun n => (st m c n).dck y) ki
    (fun q hq => by rw [R.zeroD _ _ _ (by omega)]; ring) ?_ ?_ j h
  · dsimp only
    rw [st_live c (9 * ki) (by omega) (by omega)]
    show (blk m c ⟨9 * ki, _⟩).addDck _ (bif _ then _ else _) y = _
    refine (step 0 (by omega) _).trans ?_
    rw [show decide (9 * ki % 9 = 0) = true by simp]
    rfl
  · intro j hj
    dsimp only
    rw [← Nat.add_assoc (9 * ki), st_live c (9 * ki + j + 1) (by omega) (by omega)]
    show (blk m c ⟨9 * ki + (j + 1), _⟩).addDck (decide ((9 * ki + (j + 1)) % 9 = 0)) (bif (decide ((9 * ki + j + 1) % 9 = 0)) then _ else _) y = _
    refine (step (j + 1) hj _).trans ?_
    rw [show decide ((9 * ki + j + 1) % 9 = 0) = false by simp; omega]
    rfl

omit R in
theorem dck_pad (ki : ℕ) (y : S512x8.Idx) (h4 : ¬ (y 1).val < 4) : ∀ j, ki + j < 8 → (st m c (9 * ki + j + 1)).dck y = 0
  | 0, h => by
    rw [Nat.add_zero, st_live c (9 * ki) (by omega) (by omega)]
    show (blk m c ⟨9 * ki, _⟩).addDck _ (bif _ then _ else _) y = _
    rw [Blk.addDck, dif_neg h4, show decide (9 * ki % 9 = 0) = true by simp]
    rfl
  | j + 1, h => by
    have ih := dck_pad ki y h4 j (by omega)
    rw [← Nat.add_assoc (9 * ki), st_live c (9 * ki + j + 1) (by omega) (by omega)]
    show (blk m c ⟨9 * ki + (j + 1), _⟩).addDck _ (bif (decide ((9 * ki + j + 1) % 9 = 0)) then _ else _) y = _
    rw [Blk.addDck, dif_neg h4, show decide ((9 * ki + j + 1) % 9 = 0) = false by simp; omega]
    exact ih

end Cert.KernelIdeal.Fox

end
-- ==== Proof.BlockReads.lean ====
/- The blocks a grid point reads, entry by entry, as entries of the arrays. -/
module

public import proofs.«01_k».proof.Proof.Sums
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem idx_0 : ∀ t : Fin cfg0.N, t.val / 8 ≤ t.val % 8 → win0_0.index t = ![t.val % 8, 16] := by decide +kernel
theorem idx_1 : ∀ t : Fin cfg0.N, win0_1.index t = ![t.val / 8, 17] := by decide +kernel
theorem idx_2 : ∀ t : Fin cfg0.N, win0_2.index t = ![t.val / 8, 18] := by decide +kernel
theorem idx_3 : ∀ t : Fin cfg0.N, t.val / 8 ≤ t.val % 8 → win0_3.index t = ![t.val % 8, 0] := by decide +kernel
theorem idx_4 : ∀ t : Fin cfg0.N, t.val / 8 ≤ t.val % 8 → win0_4.index t = ![t.val % 8, 0] := by decide +kernel
theorem idx_5 : ∀ t : Fin cfg0.N, t.val / 8 ≤ t.val % 8 → win0_5.index t = ![0, t.val % 8] := by decide +kernel
theorem idx_6 : ∀ t : Fin cfg0.N, t.val / 8 ≤ t.val % 8 → win0_6.index t = ![0, t.val % 8] := by decide +kernel
theorem idx_7 : ∀ t : Fin cfg0.N, win0_7.index t = ![t.val / 8, 0] := by decide +kernel
theorem idx_9 : ∀ t : Fin cfg0.N, win0_9.index t = ![t.val / 8, 0] := by decide +kernel

theorem t_lt (t : Fin cfg0.N) : t.val < 64 := lt_of_lt_of_eq t.isLt N_eq

def qrow (t : Fin cfg0.N) (b : Fin 512) : Fin 4096 := ⟨512 * (t.val % 8) + b.val, by omega⟩
def krow (t : Fin cfg0.N) (a : Fin 512) : Fin 4096 := ⟨512 * (t.val / 8) + a.val, by have := t_lt t; omega⟩

theorem x_0 (t : Fin cfg0.N) (ht : t.val / 8 ≤ t.val % 8) (b : Fin 512) (l : Fin 256) :
    X0_0 m c t (ix2 b l) = V m c main_arg0 (ix2 (qrow t b) ⟨4096 + l.val, by omega⟩) := by
  unfold X0_0 Pipeline.Window.fill
  rw [dif_pos (moved0_0 t _)]
  blk_simp [iblk]
  refine congrArg _ (funext fun x => Fin.ext ?_)
  match x with
  | ⟨0, _⟩ =>
    blk_simp [idx_0 t ht]
    show _ * 512 + b.val = 512 * _ + b.val
    omega
  | ⟨1, _⟩ =>
    blk_simp [idx_0 t ht]

theorem x_1 (t : Fin cfg0.N) (a : Fin 512) (l : Fin 256) :
    X0_1 m c t (ix2 a l) = V m c main_arg0 (ix2 (krow t a) ⟨4352 + l.val, by omega⟩) := by
  unfold X0_1 Pipeline.Window.fill
  rw [dif_pos (moved0_1 t _)]
  blk_simp [iblk]
  refine congrArg _ (funext fun x => Fin.ext ?_)
  match x with
  | ⟨0, _⟩ =>
    blk_simp [idx_1 t]
    show _ * 512 + a.val = 512 * _ + a.val
    omega
  | ⟨1, _⟩ =>
    blk_simp [idx_1 t]

theorem x_2 (t : Fin cfg0.N) (a : Fin 512) (l : Fin 256) :
    X0_2 m c t (ix2 a l) = V m c main_arg0 (ix2 (krow t a) ⟨4608 + l.val, by omega⟩) := by
  unfold X0_2 Pipeline.Window.fill
  rw [dif_pos (moved0_2 t _)]
  blk_simp [iblk]
  refine congrArg _ (funext fun x => Fin.ext ?_)
  match x with
  | ⟨0, _⟩ =>
    blk_simp [idx_2 t]
    show _ * 512 + a.val = 512 * _ + a.val
    omega
  | ⟨1, _⟩ =>
    blk_simp [idx_2 t]

theorem x_3 (t : Fin cfg0.N) (ht : t.val / 8 ≤ t.val % 8) (b : Fin 512) (l : Fin 256) :
    iblk m c 3 t (ix2 b l) = V m c main_v47 (ix2 (qrow t b) l) := by
  blk_simp [iblk]
  refine congrArg _ (funext fun x => Fin.ext ?_)
  match x with
  | ⟨0, _⟩ =>
    blk_simp [idx_3 t ht]
    show _ * 512 + b.val = 512 * _ + b.val
    omega
  | ⟨1, _⟩ =>
    blk_simp [idx_3 t ht]

theorem x_4 (t : Fin cfg0.N) (ht : t.val / 8 ≤ t.val % 8) (b : Fin 512) (l : Fin 256) :
    iblk m c 4 t (ix2 b l) = V m c main_arg2 (ix2 (qrow t b) l) := by
  blk_simp [iblk]
  refine congrArg _ (funext fun x => Fin.ext ?_)
  match x with
  | ⟨0, _⟩ =>
    blk_simp [idx_4 t ht]
    show _ * 512 + b.val = 512 * _ + b.val
    omega
  | ⟨1, _⟩ =>
    blk_simp [idx_4 t ht]

theorem x_5 (t : Fin cfg0.N) (ht : t.val / 8 ≤ t.val % 8) (r : Fin 8) (b : Fin 512) :
    iblk m c 5 t (ix2 r b) = V m c main_v84 (ix2 r (qrow t b)) := by
  blk_simp [iblk]
  refine congrArg _ (funext fun x => Fin.ext ?_)
  match x with
  | ⟨0, _⟩ =>
    blk_simp [idx_5 t ht]
  | ⟨1, _⟩ =>
    blk_simp [idx_5 t ht]
    show _ * 512 + b.val = 512 * _ + b.val
    omega

theorem x_6 (t : Fin cfg0.N) (ht : t.val / 8 ≤ t.val % 8) (r : Fin 8) (b : Fin 512) :
    iblk m c 6 t (ix2 r b) = V m c main_arg1 (ix2 r (qrow t b)) := by
  blk_simp [iblk]
  refine congrArg _ (funext fun x => Fin.ext ?_)
  match x with
  | ⟨0, _⟩ =>
    blk_simp [idx_6 t ht]
  | ⟨1, _⟩ =>
    blk_simp [idx_6 t ht]
    show _ * 512 + b.val = 512 * _ + b.val
    omega

theorem x_7 (t : Fin cfg0.N) (a : Fin 512) (r : Fin 8) :
    iblk m c 7 t (ix2 a r) = V m c main_v4 (ix2 (krow t a) r) := by
  blk_simp [iblk]
  refine congrArg _ (funext fun x => Fin.ext ?_)
  match x with
  | ⟨0, _⟩ =>
    blk_simp [idx_7 t]
    show _ * 512 + a.val = 512 * _ + a.val
    omega
  | ⟨1, _⟩ =>
    blk_simp [idx_7 t]

end Cert.KernelIdeal.Fox

end
-- ==== Proof.HostVals.lean ====
/- What the host has ready when the kernel is called: the forward output, the rows' log-sums and the transposed decay, as the
   reference's own stages of the arguments. -/
module

public import proofs.«01_k».proof.Proof.Gen.KernelIdeal.Frame
public import proofs.«01_k».proof.Proof.Gen.ReferenceIdeal.Read

@[expose] public section

noncomputable section

namespace Cert.KernelIdeal.Fox

open Cert.KernelIdeal Cert.KernelIdeal.Gen
open Idealize.ShloMosaic Idealize.ShloMosaic.TcCoe Idealize.ShloMosaic.Tactic Idealize.ShloMosaic.StableHlo
open Cert.ReferenceIdeal.Read (val_main_v32_0 val_main_v33 val_main_v63 val_main_v4)

variable {F : FTy → Type} [FloatOps F] [Named F]
variable (m : (ℓ : Loc nD τ sig) → Buf (Elt F) ℓ)

set_option maxRecDepth 8192 in
set_option maxHeartbeats 40000000 in
/-- The decay, keys first. -/
theorem V_ck (c : Dev nD) : V m c main_v4 = val_main_v4 (F := F) (m ((c : Thread nD τ).loc main_arg1)) := by
  unfold V
  simp only [hostOps0, hostOps0_1, hostOps0_2, hostOps0_3, hostOps0_4, hostOps0_5, List.flatten_cons, List.flatten_nil, List.append_nil, List.cons_append, List.nil_append,
    TRef.nullary, TRef.ternary, TRef.binary, TRef.unary, TRef.toBuf, TRef.ofBuf, cast_eq]
  after_results_simp <;> rfl

set_option maxRecDepth 8192 in
set_option maxHeartbeats 40000000 in
/-- The forward output. -/
theorem V_o (c : Dev nD) : V m c main_v47 = truncf .bf16 (val_main_v63 (F := F) (m ((c : Thread nD τ).loc main_arg0)) (m ((c : Thread nD τ).loc main_arg1))) bitsLt_bf16_f32 := by
  unfold V
  simp only [hostOps0, hostOps0_1, hostOps0_2, hostOps0_3, hostOps0_4, hostOps0_5, List.flatten_cons, List.flatten_nil, List.append_nil, List.cons_append, List.nil_append,
    TRef.nullary, TRef.ternary, TRef.binary, TRef.unary, TRef.toBuf, TRef.ofBuf, cast_eq]
  after_results_simp <;> rfl

/-- The rows' log-sums: the maximum of a row of logits and the logarithm of the sum of its exponentials. -/
def rowLog (x0 : (⟨S4096x5760, .bf16⟩ : BufTy).Contents (Elt F)) (x1 : (⟨S8x4096, .f32⟩ : BufTy).Contents (Elt F)) : (⟨S4x4096, .f32⟩ : BufTy).Contents (Elt F) :=
  addf (val_main_v33 (F := F) x0 x1)
    (Host.log (Host.reduceAdd (Host.exp (subf (val_main_v32_0 (F := F) x0 x1)
      (broadcastInDim S4x4096x4096 ![0, 1, 2] bcast_S4x4096x1_S4x4096x4096_0_1_2 (broadcastInDim S4x4096x1 ![0, 1] bcast_S4x4096_S4x4096x1_0_1 (val_main_v33 (F := F) x0 x1)))))
      (constant S_ .f32 0x00000000#32) reducesTo_S4x4096x4096_S4x4096_d2 h_S_))

set_option maxRecDepth 8192 in
set_option maxHeartbeats 40000000 in
/-- The rows' log-sums, four rows of zeros below. -/
theorem V_lse (c : Dev nD) : V m c main_v84 = pad S8x4096 ![0, 0] ![4, 0] ![0, 0] (rowLog (F := F) (m ((c : Thread nD τ).loc main_arg0)) (m ((c : Thread nD τ).loc main_arg1)))
    (sitofp .f32 (constantI S_ 32 0#32)) pads_S4x4096_S8x4096_040_000 h_S_ := by
  unfold V rowLog
  simp only [hostOps0, hostOps0_1, hostOps0_2, hostOps0_3, hostOps0_4, hostOps0_5, List.flatten_cons, List.flatten_nil, List.append_nil, List.cons_append, List.nil_append,
    TRef.nullary, TRef.ternary, TRef.binary, TRef.unary, TRef.toBuf, TRef.ofBuf, cast_eq]
  after_results_simp <;> rfl

end Cert.KernelIdeal.Fox

end
-- ==== Proof.Reals.lean ====
/- Real numbers among the extended reals: finite sums, a quotient, and the maximum of a row that has a real entry. -/
module

public import Idealize.ShloMosaic.PureOps.Ideal
public import Idealize.ShloMosaic.PureOps.Ideal.Laws
public import Idealize.ShloMosaic.Lib.ValueIdxCore
public import Mathlib.Data.Finset.Lattice.Fold
public import Mathlib.Data.Finset.Fold

@[expose] public section

noncomputable section

namespace Cert.Fox

open Idealize.ShloMosaic

/-- A finite sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_eq {n : ℕ} (f : Fin n → EReal) (g : Fin n → ℝ) (h : ∀ i, f i = (g i : EReal)) :
    (∑ i : Fin n, f i) = ((∑ i : Fin n, g i : ℝ) : EReal) := by
  rw [Finset.sum_congr rfl fun i _ => h i, coe_sum]

theorem zero_f32 : (FloatOps.ofBits (F := Ideal) .f32 0x00000000#32 : EReal) = 0 := Ideal.ofBits_zero_f32

theorem one_f32 : (FloatOps.ofBits (F := Ideal) .f32 0x3F800000#32 : EReal) = 1 := by
  show Ideal.ofBits .f32 _ = 1
  simp [Ideal.ofBits, Ideal.ieee, -EReal.coe_mul]; norm_num

theorem eighth_f32 : (FloatOps.ofBits (F := Ideal) .f32 0x3E000000#32 : EReal) = ((8⁻¹ : ℝ) : EReal) := by
  show Ideal.ofBits .f32 _ = _
  simp [Ideal.ofBits, Ideal.ieee, -EReal.coe_mul]; norm_num

theorem bot_f32 : (FloatOps.ofBits (F := Ideal) .f32 0xFF800000#32 : EReal) = ⊥ := by
  show Ideal.ofBits .f32 _ = _
  simp [Ideal.ofBits, Ideal.ieee]

theorem top_f32 : (FloatOps.ofBits (F := Ideal) .f32 0x7F800000#32 : EReal) = ⊤ := by
  show Ideal.ofBits .f32 _ = _
  simp [Ideal.ofBits, Ideal.ieee]

theorem div_real (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem fold_max_real {n : ℕ} (f : Fin n → EReal) (hf : ∀ i, f i < ⊤) (i : Fin n) (hi : ⊥ < f i) :
    ((EReal.toReal ((Finset.univ : Finset (Fin n)).fold max ⊥ f) : ℝ) : EReal) = (Finset.univ : Finset (Fin n)).fold max ⊥ f := by
  refine EReal.coe_toReal ?_ ?_
  · exact ne_of_lt ((Finset.fold_max_lt _).mpr ⟨bot_lt_top, fun x _ => hf x⟩)
  · exact ne_of_gt ((Finset.lt_fold_max _).mpr (Or.inr ⟨i, Finset.mem_univ _, hi⟩))

end Cert.Fox

end
-- ==== Proof.RefMath.lean ====
/- The reference's stages as real numbers, when every argument is one: the logits, the softmax over the keys up to the query, the
   output, and the gradient of the scores. -/
module

public import proofs.«01_k».proof.Proof.Gen.ReferenceIdeal.Read
public import proofs.«01_k».proof.Proof.BlockMath
public import proofs.«01_k».proof.Proof.Reals

@[expose] public section

noncomputable section

namespace Cert.Fox

open Cert.ReferenceIdeal Cert.ReferenceIdeal.Gen Cert.ReferenceIdeal.Read
open Idealize.ShloMosaic
open Cert.KernelIdeal.Fox (col headOf h8)

/-- The arguments: the packed projections, the decay, the output's gradient. -/
structure Args where
  z : Vec Ideal S4096x5760 .bf16
  c : Vec Ideal S8x4096 .f32
  y : Vec Ideal S4096x256 .bf16

namespace Args

/-- Queries, keys and values by row and lane, the decay by head and row, the output's gradient by row and lane. -/
def q (A : Args) (r : Fin 4096) (l : Fin 256) : ℝ := EReal.toReal (A.z (ix2 r ⟨4096 + l.val, by omega⟩))
def k (A : Args) (r : Fin 4096) (l : Fin 256) : ℝ := EReal.toReal (A.z (ix2 r ⟨4352 + l.val, by omega⟩))
def v (A : Args) (r : Fin 4096) (l : Fin 256) : ℝ := EReal.toReal (A.z (ix2 r ⟨4608 + l.val, by omega⟩))
def dec (A : Args) (h : Fin 4) (r : Fin 4096) : ℝ := EReal.toReal (A.c (ix2 (h8 h) r))
def dy (A : Args) (r : Fin 4096) (l : Fin 256) : ℝ := EReal.toReal (A.y (ix2 r l))

/-- The logit of query `i` at key `j`. -/
def logit (A : Args) (h : Fin 4) (i j : Fin 4096) : ℝ :=
  (∑ d : Fin 64, A.q i (col h d) * A.k j (col h d)) * 8⁻¹ + A.dec h i - A.dec h j

/-- The row's maximum. -/
def top (A : Args) (h : Fin 4) (i : Fin 4096) : ℝ := EReal.toReal (val_main_v33 (F := Ideal) A.z A.c (ix2 h i))

/-- The exponentials, zero at the keys after the query, and their sum. -/
def ex (A : Args) (h : Fin 4) (i j : Fin 4096) : ℝ := if j ≤ i then Real.exp (A.logit h i j - A.top h i) else 0
def tot (A : Args) (h : Fin 4) (i : Fin 4096) : ℝ := ∑ j : Fin 4096, A.ex h i j

/-- The softmax, the output, the gradient of the softmax, the gradient of the logits. -/
def p (A : Args) (h : Fin 4) (i j : Fin 4096) : ℝ := A.ex h i j / A.tot h i
def o (A : Args) (i : Fin 4096) (l : Fin 256) : ℝ := ∑ j : Fin 4096, A.p (headOf l) i j * A.v j l
def dp (A : Args) (h : Fin 4) (i j : Fin 4096) : ℝ := ∑ d : Fin 64, A.dy i (col h d) * A.v j (col h d)
def ds (A : Args) (h : Fin 4) (i j : Fin 4096) : ℝ := A.p h i j * (A.dp h i j - ∑ n : Fin 4096, A.p h i n * A.dp h i n)

/-- Every argument is a real number. -/
structure Real (A : Args) : Prop where
  z : ∀ i, A.z i = ((EReal.toReal (A.z i) : ℝ) : EReal)
  c : ∀ i, A.c i = ((EReal.toReal (A.c i) : ℝ) : EReal)
  y : ∀ i, A.y i = ((EReal.toReal (A.y i) : ℝ) : EReal)

theorem ex_upto (A : Args) (h : Fin 4) (i j : Fin 4096) (hij : j.val ≤ i.val) : A.ex h i j = Real.exp (A.logit h i j - A.top h i) := by
  exact if_pos hij

theorem ex_after (A : Args) (h : Fin 4) (i j : Fin 4096) (hij : ¬ j.val ≤ i.val) : A.ex h i j = 0 := by
  exact if_neg hij

theorem tot_pos (A : Args) (h : Fin 4) (i : Fin 4096) : 0 < A.tot h i := by
  refine Finset.sum_pos' (fun j _ => ?_) ⟨i, Finset.mem_univ _, ?_⟩
  · unfold ex; split
    · exact (Real.exp_pos _).le
    · exact le_refl _
  · unfold ex; rw [if_pos (le_refl _)]; exact Real.exp_pos _

theorem p_after (A : Args) (h : Fin 4) (i j : Fin 4096) (hij : i < j) : A.p h i j = 0 := by
  rw [p, ex, if_neg (not_le.mpr hij), zero_div]

theorem ds_after (A : Args) (h : Fin 4) (i j : Fin 4096) (hij : i < j) : A.ds h i j = 0 := by
  rw [ds, p_after A h i j hij, zero_mul]

variable {A : Args} (R : A.Real)

theorem at_ix {n0 n1 : ℕ} (x : (⟨2, ![n0, n1]⟩ : Shape).Idx → EReal) (hx : ∀ i, x i = ((EReal.toReal (x i) : ℝ) : EReal))
    (i : (⟨2, ![n0, n1]⟩ : Shape).Idx) (a : Fin n0) (b : Fin n1) (ha : (i 0).val = a.val) (hb : (i 1).val = b.val) :
    x i = ((EReal.toReal (x (ix2 a b)) : ℝ) : EReal) := by
  have e : i = ix2 a b := funext fun k => match k with
    | ⟨0, _⟩ => Fin.ext ha
    | ⟨1, _⟩ => Fin.ext hb
  rw [e]; exact hx _

include R

theorem v6_eq (i : S4x4096x64.Idx) : val_main_v6 (F := Ideal) A.z i = ((A.q (i 1) (col (i 0) (i 2)) : ℝ) : EReal) := by
  rw [val_main_v6_apply, val_main_v5_apply, val_main_v1_apply, val_main_v0_apply, Ideal.extf_def]
  have h0 : (i 0).val < 4 := (i 0).isLt
  have h1 : (i 1).val < 4096 := (i 1).isLt
  have h2 : (i 2).val < 64 := (i 2).isLt
  refine at_ix A.z R.z _ _ _ ?_ ?_
  · show (((i 1).val * 4 + (i 0).val) * 64 + (i 2).val) / 256 = (i 1).val; omega
  · show 4096 + ((((i 1).val * 4 + (i 0).val) * 64 + (i 2).val) % 256) = 4096 + (64 * (i 0).val + (i 2).val); omega

theorem v8_eq (i : S4x4096x64.Idx) : val_main_v8 (F := Ideal) A.z i = ((A.k (i 1) (col (i 0) (i 2)) : ℝ) : EReal) := by
  rw [val_main_v8_apply, val_main_v7_apply, val_main_v2_apply, val_main_v0_apply, Ideal.extf_def]
  have h0 : (i 0).val < 4 := (i 0).isLt
  have h1 : (i 1).val < 4096 := (i 1).isLt
  have h2 : (i 2).val < 64 := (i 2).isLt
  refine at_ix A.z R.z _ _ _ ?_ ?_
  · show (((i 1).val * 4 + (i 0).val) * 64 + (i 2).val) / 256 = (i 1).val; omega
  · show 4352 + ((((i 1).val * 4 + (i 0).val) * 64 + (i 2).val) % 256) = 4352 + (64 * (i 0).val + (i 2).val); omega

theorem v10_eq (i : S4x4096x64.Idx) : val_main_v10 (F := Ideal) A.z i = ((A.v (i 1) (col (i 0) (i 2)) : ℝ) : EReal) := by
  rw [val_main_v10_apply, val_main_v9_apply, val_main_v3_apply, val_main_v0_apply, Ideal.extf_def]
  have h0 : (i 0).val < 4 := (i 0).isLt
  have h1 : (i 1).val < 4096 := (i 1).isLt
  have h2 : (i 2).val < 64 := (i 2).isLt
  refine at_ix A.z R.z _ _ _ ?_ ?_
  · show (((i 1).val * 4 + (i 0).val) * 64 + (i 2).val) / 256 = (i 1).val; omega
  · show 4608 + ((((i 1).val * 4 + (i 0).val) * 64 + (i 2).val) % 256) = 4608 + (64 * (i 0).val + (i 2).val); omega

theorem v66_eq (i : S4x4096x64.Idx) : val_main_v66 (F := Ideal) A.y i = ((A.dy (i 1) (col (i 0) (i 2)) : ℝ) : EReal) := by
  rw [val_main_v66_apply, val_main_v65_apply, val_main_v64_apply, Ideal.extf_def]
  have h0 : (i 0).val < 4 := (i 0).isLt
  have h1 : (i 1).val < 4096 := (i 1).isLt
  have h2 : (i 2).val < 64 := (i 2).isLt
  refine at_ix A.y R.y _ _ _ ?_ ?_
  · show (((i 1).val * 4 + (i 0).val) * 64 + (i 2).val) / 256 = (i 1).val; omega
  · show (((i 1).val * 4 + (i 0).val) * 64 + (i 2).val) % 256 = 64 * (i 0).val + (i 2).val; omega

theorem v16_eq (i : S4x4096x4096.Idx) : val_main_v16 (F := Ideal) A.c i = ((A.dec (i 0) (i 1) : ℝ) : EReal) := by
  rw [val_main_v16_apply, val_main_v15_apply, val_main_v14_apply]
  refine at_ix A.c R.c _ _ _ ?_ ?_
  · rfl
  · rfl

theorem v21_eq (i : S4x4096x4096.Idx) : val_main_v21 (F := Ideal) A.c i = ((A.dec (i 0) (i 2) : ℝ) : EReal) := by
  rw [val_main_v21_apply, val_main_v20_apply, val_main_v19_apply, val_main_v18_apply, val_main_v4_apply]
  refine at_ix A.c R.c _ _ _ ?_ ?_
  · rfl
  · rfl

theorem v22_eq (i : S4x4096x4096.Idx) : val_main_v22 (F := Ideal) A.z A.c i = ((A.logit (i 0) (i 1) (i 2) : ℝ) : EReal) := by
  have e : val_main_v11 (F := Ideal) A.z i = ((∑ d : Fin 64, A.q (i 1) (col (i 0) d) * A.k (i 2) (col (i 0) d) : ℝ) : EReal) := by
    rw [val_main_v11_apply]
    refine sum_eq _ _ fun d => ?_
    rw [v6_eq R, v8_eq R, ← EReal.coe_mul]
    rfl
  rw [val_main_v22_apply, val_main_v17_apply, val_main_v13_apply, e, v16_eq R, v21_eq R, val_main_v12_apply, val_main_cst_apply, eighth_f32,
    Ideal.subf_def, Ideal.addf_def, Ideal.mulf_def, ← EReal.coe_mul, ← EReal.coe_add, ← EReal.coe_sub]
  rfl

omit R in
/-- The mask: the keys up to the query. -/
theorem v32_1_eq (i : S4x4096x4096.Idx) : val_main_v32_1 (F := Ideal) i = if (i 2).val ≤ (i 1).val then 1#1 else 0#1 := by
  rw [val_main_v32_1_apply, val_main_v31_apply, val_main_v30_apply, val_main_v28_apply, val_main_v24_apply, val_main_v23_apply,
    val_main_v29_apply, val_main_v27_apply, val_main_v25_apply, val_main_v23_apply, val_main_v26_apply, val_main_c_apply]
  have h1 : (i 1).val < 4096 := (i 1).isLt
  have h2 : (i 2).val < 4096 := (i 2).isLt
  show IntOp.cmpi .slt (BitVec.ofNat 32 (i 2).val) (IntOp.addi (BitVec.ofNat 32 (i 1).val) 1#32) = _
  have e1 : IntOp.addi (BitVec.ofNat 32 (i 1).val) 1#32 = BitVec.ofNat 32 ((i 1).val + 1) := by
    show BitVec.ofNat 32 (i 1).val + 1#32 = _
    rw [← BitVec.ofNat_add]
  have ha : (BitVec.ofNat 32 (i 2).val).toNat = (i 2).val := by
    rw [BitVec.toNat_ofNat]; exact Nat.mod_eq_of_lt (by omega)
  have hb : (BitVec.ofNat 32 ((i 1).val + 1)).toNat = (i 1).val + 1 := by
    rw [BitVec.toNat_ofNat]; exact Nat.mod_eq_of_lt (by omega)
  rw [e1, WordCmp.cmpi_slt_of_lt (by rw [ha]; omega) (by rw [hb]; omega), ha, hb]
  by_cases h : (i 2).val ≤ (i 1).val
  · rw [if_pos h, decide_eq_true (by omega)]; rfl
  · rw [if_neg h, decide_eq_false (by omega)]; rfl

theorem v32_eq (i : S4x4096x4096.Idx) : val_main_v32_0 (F := Ideal) A.z A.c i
    = if (i 2).val ≤ (i 1).val then ((A.logit (i 0) (i 1) (i 2) : ℝ) : EReal) else ⊥ := by
  rw [val_main_v32_0_apply, v32_1_eq, v22_eq R, val_main_call0_v2_apply, val_main_call0_v0_apply, val_main_cst_0_apply, bot_f32]
  by_cases h : (i 2).val ≤ (i 1).val
  · rw [if_pos h, if_pos h]; rfl
  · rw [if_neg h, if_neg h]; rfl

theorem v33_eq (i : S4x4096.Idx) : val_main_v33 (F := Ideal) A.z A.c i = ((A.top (i 0) (i 1) : ℝ) : EReal) := by
  have e : i = ix2 (i 0) (i 1) := funext fun k => match k with
    | ⟨0, _⟩ => rfl
    | ⟨1, _⟩ => rfl
  have hr : S4x4096x4096.Reduces [2] S4x4096 := by decide
  have hv : ∀ j : S4x4096.Idx, val_main_v33 (F := Ideal) A.z A.c j
      = (Finset.univ : Finset (Fin 4096)).fold max ⊥ (fun k => val_main_v32_0 (F := Ideal) A.z A.c (hr.lift j k)) := by
    intro j
    unfold val_main_v33
    have := Host.reduce_eq_fold_single (FloatOps.maximumf (F := Ideal) (φ := .f32)) (val_main_v32_0 (F := Ideal) A.z A.c) (val_main_cst_1 (F := Ideal))
      reducesTo_S4x4096x4096_S4x4096_d2 hr h_S_ j
    rw [val_main_cst_1_apply, bot_f32] at this
    exact this
  refine Eq.trans ?_ (congrArg (fun j => ((EReal.toReal (val_main_v33 (F := Ideal) A.z A.c j) : ℝ) : EReal)) e)
  dsimp only
  rw [hv]
  refine (fold_max_real _ (fun k => ?_) (i 1) ?_).symm
  · rw [v32_eq R]
    split
    · exact EReal.coe_lt_top _
    · exact bot_lt_top
  · have hb : ∀ j : S4x4096x4096.Idx, (j 2).val ≤ (j 1).val → ⊥ < val_main_v32_0 (F := Ideal) A.z A.c j := fun j hj => by
      rw [v32_eq R, if_pos hj]
      exact EReal.bot_lt_coe _
    exact hb _ (by show (i 1).val ≤ (i 1).val; exact le_refl _)

theorem v53_eq (i : S4x4096x4096.Idx) : val_main_v53 (F := Ideal) A.z A.c i = ((A.ex (i 0) (i 1) (i 2) : ℝ) : EReal) := by
  rw [val_main_v53_apply, val_main_v52_apply, v32_eq R, val_main_v51_apply, val_main_v50_apply, val_main_v40_apply, val_main_v39_apply,
    val_main_cst_3_apply, bot_f32, v33_eq R, Ideal.maximumf_def, Ideal.subf_def, Ideal.hostUnary_exp_def, max_eq_right bot_le]
  show Ideal.exp (_ - ((A.top (i 0) (i 1) : ℝ) : EReal)) = _
  by_cases h : (i 2).val ≤ (i 1).val
  · rw [if_pos h, ← EReal.coe_sub, Ideal.exp_coe]
    exact congrArg Real.toEReal (ex_upto A _ _ _ h).symm
  · rw [if_neg h, EReal.bot_sub, Ideal.exp_bot]
    exact congrArg Real.toEReal (ex_after A _ _ _ h).symm

theorem v54_eq (i : S4x4096.Idx) : val_main_v54 (F := Ideal) A.z A.c i = ((A.tot (i 0) (i 1) : ℝ) : EReal) := by
  rw [val_main_v54_apply, val_main_cst_9_apply, zero_f32, zero_add]
  exact sum_eq _ _ fun j => v53_eq R _

theorem v55_eq (i : S4x4096x1.Idx) : val_main_v55 (F := Ideal) A.z A.c i = ((A.tot (i 0) (i 1) : ℝ) : EReal) := by
  rw [val_main_v55_apply, v54_eq R]; rfl

theorem v57_eq (i : S4x4096x4096.Idx) : val_main_v57 (F := Ideal) A.z A.c i = ((A.p (i 0) (i 1) (i 2) : ℝ) : EReal) := by
  rw [val_main_v57_apply, val_main_v56_apply, v53_eq R, v55_eq R, Ideal.hostDivf_def]
  exact div_real _ _ (tot_pos A _ _).ne'

theorem v63_eq (i : S4096x256.Idx) : val_main_v63 (F := Ideal) A.z A.c i = ((A.o (i 0) (i 1) : ℝ) : EReal) := by
  have h0 : (i 0).val < 4096 := (i 0).isLt
  have h1 : (i 1).val < 256 := (i 1).isLt
  rw [val_main_v63_apply, val_main_v62_apply, val_main_v61_apply]
  refine sum_eq _ _ fun j => ?_
  rw [v57_eq R, v10_eq R, ← EReal.coe_mul]
  have key : ∀ (a : Fin 4) (b : Fin 4096) (d : Fin 64), a = headOf (i 1) → b = i 0 → (64 * ((i 1).val / 64) + d.val = (i 1).val) →
      ((A.p a b j * A.v j (col a d) : ℝ) : EReal) = ((A.p (headOf (i 1)) (i 0) j * A.v j (i 1) : ℝ) : EReal) := by
    intro a b d ha hb hd
    have hd' : col (headOf (i 1)) d = i 1 := Fin.ext hd
    rw [ha, hb, hd']
  refine key _ _ _ (Fin.ext ?_) (Fin.ext ?_) ?_
  · show ((i 0).val * 256 + (i 1).val) / 64 % 4 = (i 1).val / 64; omega
  · show ((i 0).val * 256 + (i 1).val) / 256 = (i 0).val; omega
  · show 64 * ((i 1).val / 64) + ((i 0).val * 256 + (i 1).val) % 64 = (i 1).val; omega

end Args

end Cert.Fox

end
-- ==== Proof.RefGrad.lean ====
/- The reference's five results as real numbers, when every argument is one. -/
module

public import proofs.«01_k».proof.Proof.RefMath
public import Idealize.ShloMosaic.Lib.KernelVsHost

@[expose] public section

noncomputable section

namespace Cert.Fox.Args

open Cert.ReferenceIdeal Cert.ReferenceIdeal.Gen Cert.ReferenceIdeal.Read
open Idealize.ShloMosaic
open Cert.KernelIdeal.Fox (col headOf h8)

/-- The gradients of the queries, the keys, the values, and of the decay as it is added at the query and taken away at the key. -/
def dq (A : Args) (i : Fin 4096) (l : Fin 256) : ℝ := ∑ j : Fin 4096, A.ds (headOf l) i j * 8⁻¹ * A.k j l
def dk (A : Args) (j : Fin 4096) (l : Fin 256) : ℝ := ∑ i : Fin 4096, A.ds (headOf l) i j * 8⁻¹ * A.q i l
def dv (A : Args) (j : Fin 4096) (l : Fin 256) : ℝ := ∑ i : Fin 4096, A.p (headOf l) i j * A.dy i l
def dcq (A : Args) (h : Fin 4) (i : Fin 4096) : ℝ := ∑ j : Fin 4096, A.ds h i j
def dck (A : Args) (h : Fin 4) (j : Fin 4096) : ℝ := ∑ i : Fin 4096, -A.ds h i j

variable {A : Args} (R : A.Real)
include R

theorem v69_eq (i : S4x4096x4096.Idx) : val_main_v69 (F := Ideal) A.z A.y i = ((A.dp (i 0) (i 1) (i 2) : ℝ) : EReal) := by
  rw [val_main_v69_apply]
  refine sum_eq _ _ fun d => ?_
  rw [v66_eq R, v10_eq R, ← EReal.coe_mul]
  rfl

theorem v70_eq (i : S4x4096x4096.Idx) : val_main_v70 (F := Ideal) A.z A.c i = ((1 / (A.tot (i 0) (i 1) * A.tot (i 0) (i 1)) : ℝ) : EReal) := by
  rw [val_main_v70_apply, val_main_v60_apply, val_main_v59_apply, val_main_cst_10_apply, one_f32, val_main_v58_apply, v55_eq R, Ideal.mulf_def,
    Ideal.hostDivf_def, ← EReal.coe_mul]
  exact div_real 1 _ (mul_pos (tot_pos A _ _) (tot_pos A _ _)).ne'

theorem v73_eq (i : S4x4096.Idx) : val_main_v73 (F := Ideal) A.z A.c A.y i
    = ((∑ j : Fin 4096, A.dp (i 0) (i 1) j * (1 / (A.tot (i 0) (i 1) * A.tot (i 0) (i 1))) * A.ex (i 0) (i 1) j : ℝ) : EReal) := by
  rw [val_main_v73_apply, val_main_cst_11_apply, zero_f32, zero_add]
  refine sum_eq _ _ fun j => ?_
  rw [val_main_v72_apply, val_main_v71_apply, v69_eq R, v70_eq R, v53_eq R, Ideal.mulf_def, Ideal.mulf_def, ← EReal.coe_mul, ← EReal.coe_mul]
  rfl

theorem v79_eq (i : S4x4096x4096.Idx) : val_main_v79 (F := Ideal) A.z A.c A.y i
    = ((-∑ j : Fin 4096, A.dp (i 0) (i 1) j * (1 / (A.tot (i 0) (i 1) * A.tot (i 0) (i 1))) * A.ex (i 0) (i 1) j : ℝ) : EReal) := by
  rw [val_main_v79_apply, val_main_v78_apply, val_main_cst_12_apply, zero_f32, zero_add, Fin.sum_univ_one, val_main_v75_apply, val_main_v74_apply,
    v73_eq R, Ideal.hostNegf_def, Ideal.negf_def, ← EReal.coe_neg]
  have h0 : (i 0).val < 4 := (i 0).isLt
  have h1 : (i 1).val < 4096 := (i 1).isLt
  have key : ∀ (a : Fin 4) (b : Fin 4096), a = i 0 → b = i 1 →
      ((-∑ j : Fin 4096, A.dp a b j * (1 / (A.tot a b * A.tot a b)) * A.ex a b j : ℝ) : EReal)
        = ((-∑ j : Fin 4096, A.dp (i 0) (i 1) j * (1 / (A.tot (i 0) (i 1) * A.tot (i 0) (i 1))) * A.ex (i 0) (i 1) j : ℝ) : EReal) := by
    intro a b ha hb
    rw [ha, hb]
  refine key _ _ (Fin.ext ?_) (Fin.ext ?_)
  · show (((i 0).val * 4096 + (i 1).val) * 1 + 0) / 4096 = (i 0).val; omega
  · show (((i 0).val * 4096 + (i 1).val) * 1 + 0) % 4096 = (i 1).val; omega

theorem v77_eq (i : S4x4096x4096.Idx) : val_main_v77 (F := Ideal) A.z A.c A.y i = ((A.dp (i 0) (i 1) (i 2) / A.tot (i 0) (i 1) : ℝ) : EReal) := by
  rw [val_main_v77_apply, v69_eq R, val_main_v76_apply, v55_eq R, Ideal.hostDivf_def]
  exact div_real _ _ (tot_pos A _ _).ne'

omit R in
theorem ds_ex (h : Fin 4) (i j : Fin 4096) :
    (A.dp h i j / A.tot h i + -∑ n : Fin 4096, A.dp h i n * (1 / (A.tot h i * A.tot h i)) * A.ex h i n) * A.ex h i j = A.ds h i j := by
  have hz : A.tot h i ≠ 0 := (tot_pos A h i).ne'
  have e : (∑ n : Fin 4096, A.dp h i n * (1 / (A.tot h i * A.tot h i)) * A.ex h i n) = (∑ n : Fin 4096, A.p h i n * A.dp h i n) / A.tot h i := by
    rw [Finset.sum_div]
    refine Finset.sum_congr rfl fun n _ => ?_
    unfold p
    field_simp
  rw [e]
  unfold ds p
  field_simp
  ring

theorem v82_eq (i : S4x4096x4096.Idx) : val_main_v82 (F := Ideal) A.z A.c A.y i = ((A.ds (i 0) (i 1) (i 2) : ℝ) : EReal) := by
  rw [val_main_v82_apply, v32_1_eq, val_main_v81_apply, val_main_v80_apply, v77_eq R, v79_eq R, v53_eq R, Ideal.mulf_def, Ideal.addf_def,
    ← EReal.coe_add, ← EReal.coe_mul, val_main_call1_v0_apply, val_main_call1_cst_apply, zero_f32]
  by_cases h : (i 2).val ≤ (i 1).val
  · rw [if_pos h]
    exact congrArg Real.toEReal (ds_ex _ _ _)
  · rw [if_neg h]
    exact congrArg Real.toEReal (ds_after A _ _ _ (by exact not_le.mp h)).symm

theorem v94_eq (i : S4x4096x4096.Idx) : val_main_v94 (F := Ideal) A.z A.c A.y i = ((A.ds (i 0) (i 1) (i 2) * 8⁻¹ : ℝ) : EReal) := by
  rw [val_main_v94_apply, v82_eq R, val_main_v93_apply, val_main_cst_19_apply, eighth_f32, Ideal.mulf_def, ← EReal.coe_mul]

theorem v102_eq (i : S4096x256.Idx) : val_main_v102 (F := Ideal) A.z A.c A.y i = ((A.dq (i 0) (i 1) : ℝ) : EReal) := by
  have h0 : (i 0).val < 4096 := (i 0).isLt
  have h1 : (i 1).val < 256 := (i 1).isLt
  rw [val_main_v102_apply, val_main_v101_apply, val_main_v96_apply]
  refine sum_eq _ _ fun j => ?_
  rw [v94_eq R, v8_eq R, ← EReal.coe_mul]
  have key : ∀ (a : Fin 4) (b : Fin 4096) (d : Fin 64), a = headOf (i 1) → b = i 0 → (64 * ((i 1).val / 64) + d.val = (i 1).val) →
      ((A.ds a b j * 8⁻¹ * A.k j (col a d) : ℝ) : EReal) = ((A.ds (headOf (i 1)) (i 0) j * 8⁻¹ * A.k j (i 1) : ℝ) : EReal) := by
    intro a b d ha hb hd
    have hd' : col (headOf (i 1)) d = i 1 := Fin.ext hd
    rw [ha, hb, hd']
  refine key _ _ _ (Fin.ext ?_) (Fin.ext ?_) ?_
  · show ((i 0).val * 256 + (i 1).val) / 64 % 4 = (i 1).val / 64; omega
  · show ((i 0).val * 256 + (i 1).val) / 256 = (i 0).val; omega
  · show 64 * ((i 1).val / 64) + ((i 0).val * 256 + (i 1).val) % 64 = (i 1).val; omega

theorem v100_eq (i : S4096x256.Idx) : val_main_v100 (F := Ideal) A.z A.c A.y i = ((A.dk (i 0) (i 1) : ℝ) : EReal) := by
  have h0 : (i 0).val < 4096 := (i 0).isLt
  have h1 : (i 1).val < 256 := (i 1).isLt
  rw [val_main_v100_apply, val_main_v99_apply, val_main_v95_apply]
  refine sum_eq _ _ fun j => ?_
  rw [v94_eq R, v6_eq R, ← EReal.coe_mul]
  have key : ∀ (a : Fin 4) (b : Fin 4096) (d : Fin 64), a = headOf (i 1) → b = i 0 → (64 * ((i 1).val / 64) + d.val = (i 1).val) →
      ((A.ds a j b * 8⁻¹ * A.q j (col a d) : ℝ) : EReal) = ((A.ds (headOf (i 1)) j (i 0) * 8⁻¹ * A.q j (i 1) : ℝ) : EReal) := by
    intro a b d ha hb hd
    have hd' : col (headOf (i 1)) d = i 1 := Fin.ext hd
    rw [ha, hb, hd']
  refine key _ _ _ (Fin.ext ?_) (Fin.ext ?_) ?_
  · show ((i 0).val * 256 + (i 1).val) / 64 % 4 = (i 1).val / 64; omega
  · show ((i 0).val * 256 + (i 1).val) / 256 = (i 0).val; omega
  · show 64 * ((i 1).val / 64) + ((i 0).val * 256 + (i 1).val) % 64 = (i 1).val; omega

theorem v98_eq (i : S4096x256.Idx) : val_main_v98 (F := Ideal) A.z A.c A.y i = ((A.dv (i 0) (i 1) : ℝ) : EReal) := by
  have h0 : (i 0).val < 4096 := (i 0).isLt
  have h1 : (i 1).val < 256 := (i 1).isLt
  rw [val_main_v98_apply, val_main_v97_apply, val_main_v68_apply, val_main_v67_apply]
  refine sum_eq _ _ fun j => ?_
  rw [v66_eq R, v57_eq R, ← EReal.coe_mul, mul_comm]
  have key : ∀ (a : Fin 4) (b : Fin 4096) (d : Fin 64), a = headOf (i 1) → b = i 0 → (64 * ((i 1).val / 64) + d.val = (i 1).val) →
      ((A.p a j b * A.dy j (col a d) : ℝ) : EReal) = ((A.p (headOf (i 1)) j (i 0) * A.dy j (i 1) : ℝ) : EReal) := by
    intro a b d ha hb hd
    have hd' : col (headOf (i 1)) d = i 1 := Fin.ext hd
    rw [ha, hb, hd']
  refine key _ _ _ (Fin.ext ?_) (Fin.ext ?_) ?_
  · show ((i 0).val * 256 + (i 1).val) / 64 % 4 = (i 1).val / 64; omega
  · show ((i 0).val * 256 + (i 1).val) / 256 = (i 0).val; omega
  · show 64 * ((i 1).val / 64) + ((i 0).val * 256 + (i 1).val) % 64 = (i 1).val; omega

theorem v91_eq (i : S4x4096.Idx) : val_main_v91 (F := Ideal) A.z A.c A.y i = ((A.dcq (i 0) (i 1) : ℝ) : EReal) := by
  have h0 : (i 0).val < 4 := (i 0).isLt
  have h1 : (i 1).val < 4096 := (i 1).isLt
  rw [val_main_v91_apply, val_main_cst_17_apply, zero_f32, zero_add, Fin.sum_univ_one, val_main_v90_apply, val_main_v89_apply,
    val_main_cst_16_apply, zero_f32, zero_add]
  refine sum_eq _ _ fun j => ?_
  rw [v82_eq R]
  have key : ∀ (a : Fin 4) (b : Fin 4096), a = i 0 → b = i 1 → ((A.ds a b j : ℝ) : EReal) = ((A.ds (i 0) (i 1) j : ℝ) : EReal) := by
    intro a b ha hb
    rw [ha, hb]
  refine key _ _ (Fin.ext ?_) (Fin.ext ?_)
  · show (((i 0).val * 4096 + (i 1).val) * 1 + 0) / 4096 = (i 0).val; omega
  · show (((i 0).val * 4096 + (i 1).val) * 1 + 0) % 4096 = (i 1).val; omega

theorem v87_eq (i : S4096x4.Idx) : val_main_v87 (F := Ideal) A.z A.c A.y i = ((A.dck (i 1) (i 0) : ℝ) : EReal) := by
  have h0 : (i 0).val < 4096 := (i 0).isLt
  have h1 : (i 1).val < 4 := (i 1).isLt
  rw [val_main_v87_apply, val_main_v86_apply, val_main_cst_14_apply, zero_f32, zero_add, Fin.sum_univ_one, val_main_v85_apply, val_main_v84_apply,
    val_main_cst_13_apply, zero_f32, zero_add]
  refine sum_eq _ _ fun j => ?_
  rw [val_main_v83_apply, v82_eq R, Ideal.hostNegf_def, Ideal.negf_def, ← EReal.coe_neg]
  have key : ∀ (a : Fin 4) (b : Fin 4096), a = i 1 → b = i 0 → ((-A.ds a j b : ℝ) : EReal) = ((-A.ds (i 1) j (i 0) : ℝ) : EReal) := by
    intro a b ha hb
    rw [ha, hb]
  refine key _ _ (Fin.ext ?_) (Fin.ext ?_)
  · show (((i 1).val * 1 + 0) * 4096 + (i 0).val) / 4096 = (i 1).val; omega
  · show (((i 1).val * 1 + 0) * 4096 + (i 0).val) % 4096 = (i 0).val; omega

theorem v92_eq (i : S8x4096.Idx) : val_main_v92 (F := Ideal) A.z A.c A.y i
    = if h : (i 0).val < 4 then ((A.dcq ⟨(i 0).val, h⟩ (i 1) : ℝ) : EReal) else 0 := by
  unfold val_main_v92
  by_cases h : (i 0).val < 4
  · rw [dif_pos h]
    refine (pad_apply_of_inside _ _ _ _ _ _ _ i (ix2 ⟨(i 0).val, h⟩ (i 1)) (fun a => match a with
      | ⟨0, _⟩ => by show (i 0).val = 0 + (i 0).val * (0 + 1); omega
      | ⟨1, _⟩ => by show (i 1).val = 0 + (i 1).val * (0 + 1); omega)).trans (v91_eq R _)
  · rw [dif_neg h]
    refine (pad_apply_of_not_inside _ _ _ _ _ _ _ i 0 fun hin => h ?_).trans ?_
    · have := hin.2.2
      have h2 : ((i 0).val - 0) / (0 + 1) < 4 := this
      omega
    · rw [val_main_cst_18_apply, zero_f32]

theorem v88_eq (i : S4096x8.Idx) : val_main_v88 (F := Ideal) A.z A.c A.y i
    = if h : (i 1).val < 4 then ((A.dck ⟨(i 1).val, h⟩ (i 0) : ℝ) : EReal) else 0 := by
  unfold val_main_v88
  by_cases h : (i 1).val < 4
  · rw [dif_pos h]
    refine (pad_apply_of_inside _ _ _ _ _ _ _ i (ix2 (i 0) ⟨(i 1).val, h⟩) (fun a => match a with
      | ⟨0, _⟩ => by show (i 0).val = 0 + (i 0).val * (0 + 1); omega
      | ⟨1, _⟩ => by show (i 1).val = 0 + (i 1).val * (0 + 1); omega)).trans (v87_eq R _)
  · rw [dif_neg h]
    refine (pad_apply_of_not_inside _ _ _ _ _ _ _ i 1 fun hin => h ?_).trans ?_
    · have := hin.2.2
      have h2 : ((i 1).val - 0) / (0 + 1) < 4 := this
      omega
    · rw [val_main_cst_15_apply, zero_f32]

theorem v92_in (i : S8x4096.Idx) (h : (i 0).val < 4) : val_main_v92 (F := Ideal) A.z A.c A.y i = ((A.dcq ⟨(i 0).val, h⟩ (i 1) : ℝ) : EReal) :=
  (v92_eq R i).trans (dif_pos h)
theorem v92_out (i : S8x4096.Idx) (h : ¬ (i 0).val < 4) : val_main_v92 (F := Ideal) A.z A.c A.y i = 0 := (v92_eq R i).trans (dif_neg h)
theorem v88_in (i : S4096x8.Idx) (h : (i 1).val < 4) : val_main_v88 (F := Ideal) A.z A.c A.y i = ((A.dck ⟨(i 1).val, h⟩ (i 0) : ℝ) : EReal) :=
  (v88_eq R i).trans (dif_pos h)
theorem v88_out (i : S4096x8.Idx) (h : ¬ (i 1).val < 4) : val_main_v88 (F := Ideal) A.z A.c A.y i = 0 := (v88_eq R i).trans (dif_neg h)

end Cert.Fox.Args

end
-- ==== Proof.BlockReal.lean ====
/- What a grid point reads and computes, as real numbers, when every argument is one: the softmax from the saved log-sums and the
   gradient of the logits are the reference's. -/
module

public import proofs.«01_k».proof.Proof.BlockReads
public import proofs.«01_k».proof.Proof.HostVals
public import proofs.«01_k».proof.Proof.RefGrad

@[expose] public section

set_option maxRecDepth 16384

noncomputable section

namespace Cert.Fox.Args

open Cert.ReferenceIdeal Cert.ReferenceIdeal.Gen Cert.ReferenceIdeal.Read
open Idealize.ShloMosaic
open Cert.KernelIdeal.Fox (col headOf h8 rowLog)

variable {A : Args}

theorem head_col (h : Fin 4) (d : Fin 64) : headOf (col h d) = h := Fin.ext (by show (64 * h.val + d.val) / 64 = h.val; omega)

/-- The log-sum of a row. -/
def lse (A : Args) (h : Fin 4) (i : Fin 4096) : ℝ := A.top h i + Real.log (A.tot h i)

theorem p_lse (h : Fin 4) (i j : Fin 4096) (hij : j.val ≤ i.val) : A.p h i j = Real.exp (A.logit h i j - A.lse h i) := by
  have ht := tot_pos A h i
  rw [p, ex_upto A h i j hij, lse, show A.logit h i j - (A.top h i + Real.log (A.tot h i)) = A.logit h i j - A.top h i - Real.log (A.tot h i) by ring,
    Real.exp_sub _ (Real.log _), Real.exp_log ht]

/-- The output against its gradient over a head's lanes is the softmax against its gradient over the keys. -/
theorem dot_o (h : Fin 4) (i : Fin 4096) :
    (∑ d : Fin 64, A.dy i (col h d) * A.o i (col h d)) = ∑ n : Fin 4096, A.p h i n * A.dp h i n := by
  have e : ∀ d : Fin 64, A.dy i (col h d) * A.o i (col h d) = ∑ n : Fin 4096, A.p h i n * (A.dy i (col h d) * A.v n (col h d)) := by
    intro d
    rw [o, head_col, Finset.mul_sum]
    refine Finset.sum_congr rfl fun n _ => ?_
    ring
  rw [Finset.sum_congr rfl fun d _ => e d, Finset.sum_comm]
  refine Finset.sum_congr rfl fun n _ => ?_
  rw [dp, Finset.mul_sum]

theorem v40_eq : val_main_v40 (F := Ideal) A.z A.c = val_main_v33 (F := Ideal) A.z A.c := funext fun i => by
  rw [val_main_v40_apply, val_main_v39_apply, val_main_cst_3_apply, bot_f32, Ideal.maximumf_def, max_eq_right bot_le]

theorem log_real (r : ℝ) (h : 0 < r) : Ideal.log (r : EReal) = ((Real.log r : ℝ) : EReal) := by
  rw [Ideal.log_coe, if_neg (not_le.mpr h)]

theorem lse_real (A : Args) (h : Fin 4) (j : Fin 4096) :
    ((A.top h j : ℝ) : EReal) + Ideal.log ((A.tot h j : ℝ) : EReal) = ((A.lse h j : ℝ) : EReal) := by
  rw [log_real _ (tot_pos A h j), ← EReal.coe_add, lse]

theorem add_log_apply (x y : FVec Ideal S4x4096 .f32) (i : S4x4096.Idx) :
    addf (F := Ideal) (s := S4x4096) (φ := .f32) x (Host.log (F := Ideal) (φ := .f32) y) i = x i + Ideal.log (y i) := rfl

theorem rowLog_eq (R : A.Real) (i : S4x4096.Idx) : rowLog (F := Ideal) A.z A.c i = ((A.lse (i 0) (i 1) : ℝ) : EReal) := by
  have e : rowLog (F := Ideal) A.z A.c
      = (addf (F := Ideal) (s := S4x4096) (φ := .f32) (val_main_v33 (F := Ideal) A.z A.c) (Host.log (F := Ideal) (φ := .f32) (val_main_v54 (F := Ideal) A.z A.c))) := by
    unfold rowLog val_main_v54 val_main_v53 val_main_v52 val_main_v51 val_main_v50
    rw [v40_eq]
    rfl
  rw [e, add_log_apply, v33_eq R, v54_eq R]
  exact lse_real A (i 0) (i 1)

end Cert.Fox.Args

namespace Cert.KernelIdeal.Fox

open Cert.KernelIdeal Cert.KernelIdeal.Gen
open Idealize.ShloMosaic Idealize.ShloMosaic.TcCoe Idealize.ShloMosaic.Tactic
open Cert.Fox (Args sum_eq)

theorem maskv_eq : maskv = ⊥ := IdealRules.named_const.ideal_named_scalar _ _ _ _ rfl
theorem log2e_eq : log2e = (((Real.log 2)⁻¹ : ℝ) : EReal) := IdealRules.named_const.ideal_named_scalar _ _ _ _ rfl
theorem scaleLog2e_eq : scaleLog2e = ((8⁻¹ * (Real.log 2)⁻¹ : ℝ) : EReal) := IdealRules.named_const.ideal_named_scalar _ _ _ _ rfl

variable (m : (ℓ : Loc nD τ sig) → Buf (Elt Ideal) ℓ) (c : Dev nD)

/-- The arguments a device holds. -/
def args : Args := ⟨m ((c : Thread nD τ).loc main_arg0), m ((c : Thread nD τ).loc main_arg1), m ((c : Thread nD τ).loc main_arg2)⟩

variable {m c} (R : (args m c).Real)
include R

theorem q_at (t : Fin cfg0.N) (ht : t.val / 8 ≤ t.val % 8) (b : Fin 512) (l : Fin 256) :
    (blk m c t).q (ix2 b l) = (((args m c).q (qrow t b) l : ℝ) : EReal) :=
  (x_0 m c t ht b l).trans ((congrFun (V_main_arg0 m c) _).trans (R.z _))

theorem k_at (t : Fin cfg0.N) (a : Fin 512) (l : Fin 256) :
    (blk m c t).k (ix2 a l) = (((args m c).k (krow t a) l : ℝ) : EReal) :=
  (x_1 m c t a l).trans ((congrFun (V_main_arg0 m c) _).trans (R.z _))

theorem v_at (t : Fin cfg0.N) (a : Fin 512) (l : Fin 256) :
    (blk m c t).v (ix2 a l) = (((args m c).v (krow t a) l : ℝ) : EReal) :=
  (x_2 m c t a l).trans ((congrFun (V_main_arg0 m c) _).trans (R.z _))

theorem o_at (t : Fin cfg0.N) (ht : t.val / 8 ≤ t.val % 8) (b : Fin 512) (l : Fin 256) :
    (blk m c t).o (ix2 b l) = (((args m c).o (qrow t b) l : ℝ) : EReal) :=
  (x_3 m c t ht b l).trans ((congrFun (V_o m c) _).trans (Args.v63_eq R _))

theorem d_at (t : Fin cfg0.N) (ht : t.val / 8 ≤ t.val % 8) (b : Fin 512) (l : Fin 256) :
    (blk m c t).d (ix2 b l) = (((args m c).dy (qrow t b) l : ℝ) : EReal) :=
  (x_4 m c t ht b l).trans ((congrFun (V_main_arg2 m c) _).trans (R.y _))

theorem cq_at (t : Fin cfg0.N) (ht : t.val / 8 ≤ t.val % 8) (h : Fin 4) (b : Fin 512) :
    (blk m c t).cq (ix2 (h8 h) b) = (((args m c).dec h (qrow t b) : ℝ) : EReal) :=
  (x_6 m c t ht (h8 h) b).trans ((congrFun (V_main_arg1 m c) _).trans (R.c _))

theorem ck_at (t : Fin cfg0.N) (a : Fin 512) (h : Fin 4) :
    (blk m c t).ck (ix2 a (h8 h)) = (((args m c).dec h (krow t a) : ℝ) : EReal) := by
  refine (x_7 m c t a (h8 h)).trans ((congrFun (V_ck m c) _).trans ?_)
  rw [Cert.ReferenceIdeal.Read.val_main_v4_apply]
  exact Args.at_ix (args m c).c R.c _ _ _ rfl rfl

theorem lse_at (t : Fin cfg0.N) (ht : t.val / 8 ≤ t.val % 8) (h : Fin 4) (b : Fin 512) :
    (blk m c t).lse (ix2 (h8 h) b) = (((args m c).lse h (qrow t b) : ℝ) : EReal) := by
  refine (x_5 m c t ht (h8 h) b).trans ((congrFun (V_lse m c) _).trans ?_)
  refine (pad_apply_of_inside _ _ _ _ _ _ _ (ix2 (h8 h) (qrow t b)) (ix2 h (qrow t b)) (fun a => match a with
      | ⟨0, _⟩ => by show h.val = 0 + h.val * (0 + 1); omega
      | ⟨1, _⟩ => by show (qrow t b).val = 0 + (qrow t b).val * (0 + 1); omega)).trans (Args.rowLog_eq R _)

theorem sc_at (t : Fin cfg0.N) (ht : t.val / 8 ≤ t.val % 8) (h : Fin 4) (a b : Fin 512) :
    (blk m c t).sc h a b = ((((args m c).logit h (qrow t b) (krow t a) - (args m c).dec h (qrow t b)) / Real.log 2 : ℝ) : EReal) := by
  unfold Blk.sc
  rw [sum_eq _ (fun d => (args m c).k (krow t a) (col h d) * (args m c).q (qrow t b) (col h d))
      (fun d => by rw [k_at R, q_at R t ht, ← EReal.coe_mul]), ck_at R, scaleLog2e_eq, log2e_eq, ← EReal.coe_mul, ← EReal.coe_mul, ← EReal.coe_sub]
  refine congrArg Real.toEReal ?_
  unfold Args.logit
  rw [Finset.sum_congr rfl fun d _ => mul_comm ((args m c).k (krow t a) (col h d)) ((args m c).q (qrow t b) (col h d))]
  ring

theorem pr_at (t : Fin cfg0.N) (ht : t.val / 8 ≤ t.val % 8) (h : Fin 4) (a b : Fin 512) :
    (blk m c t).pr (decide (t.val % 9 = 0)) h a b = (((args m c).p h (qrow t b) (krow t a) : ℝ) : EReal) := by
  have hlt := t_lt t
  unfold Blk.pr
  rw [sc_at R t ht, lse_at R t ht, cq_at R t ht, maskv_eq, log2e_eq, ← EReal.coe_sub, ← EReal.coe_mul]
  by_cases hm : decide (t.val % 9 = 0) = true ∧ b < a
  · rw [if_pos hm, EReal.bot_sub, Ideal.exp2_bot]
    have h9 : t.val % 9 = 0 := of_decide_eq_true hm.1
    have hab : b.val < a.val := hm.2
    refine (congrArg Real.toEReal (Args.p_after _ h _ _ ?_)).symm
    show 512 * (t.val % 8) + b.val < 512 * (t.val / 8) + a.val
    omega
  · rw [if_neg hm, ← EReal.coe_sub, Ideal.exp2_coe]
    refine congrArg Real.toEReal ?_
    have hle : (krow t a).val ≤ (qrow t b).val := by
      show 512 * (t.val / 8) + a.val ≤ 512 * (t.val % 8) + b.val
      by_cases h9 : t.val % 9 = 0
      · have : ¬ b.val < a.val := fun hab => hm ⟨decide_eq_true h9, hab⟩
        omega
      · omega
    rw [Args.p_lse h _ _ hle]
    have h2 : Real.log 2 ≠ 0 := (Real.log_pos (by norm_num)).ne'
    show (2 : ℝ) ^ (_ : ℝ) = _
    rw [Real.rpow_def_of_pos (by norm_num)]
    refine congrArg Real.exp ?_
    field_simp
    ring

theorem ds_at (t : Fin cfg0.N) (ht : t.val / 8 ≤ t.val % 8) (h : Fin 4) (a b : Fin 512) :
    (blk m c t).ds (decide (t.val % 9 = 0)) h a b = (((args m c).ds h (qrow t b) (krow t a) : ℝ) : EReal) := by
  unfold Blk.ds
  rw [pr_at R t ht, sum_eq _ (fun d => (args m c).v (krow t a) (col h d) * (args m c).dy (qrow t b) (col h d))
      (fun d => by rw [v_at R, d_at R t ht, ← EReal.coe_mul]),
    sum_eq _ (fun d => (args m c).dy (qrow t b) (col h d) * (args m c).o (qrow t b) (col h d))
      (fun d => by rw [d_at R t ht, o_at R t ht, ← EReal.coe_mul]), ← EReal.coe_sub, ← EReal.coe_mul]
  refine congrArg Real.toEReal ?_
  rw [Args.dot_o, Finset.sum_congr rfl fun d _ => mul_comm ((args m c).v (krow t a) (col h d)) ((args m c).dy (qrow t b) (col h d))]
  rfl

/-- A table of rows and of pairs of rows, zero past the last row. -/
def rows (f : Fin 4096 → Fin 256 → ℝ) (i : ℕ) (l : Fin 256) : ℝ := if h : i < 4096 then f ⟨i, h⟩ l else 0
def pairs (f : Fin 4 → Fin 4096 → Fin 4096 → ℝ) (h : Fin 4) (k q : ℕ) : ℝ := if hh : k < 4096 ∧ q < 4096 then f h ⟨q, hh.2⟩ ⟨k, hh.1⟩ else 0

omit R in
theorem rows_at (f : Fin 4096 → Fin 256 → ℝ) (i : Fin 4096) (l : Fin 256) : rows f i.val l = f i l := by rw [rows, dif_pos i.isLt]
omit R in
theorem pairs_at (f : Fin 4 → Fin 4096 → Fin 4096 → ℝ) (h : Fin 4) (k q : Fin 4096) : pairs f h k.val q.val = f h q k := by
  rw [pairs, dif_pos ⟨k.isLt, q.isLt⟩]

theorem realBlocks : RealBlocks m c (pairs (args m c).p) (pairs (args m c).ds) (rows (args m c).k) (rows (args m c).q) (rows (args m c).dy) where
  pr t ht h a b := (pr_at R t ht h a b).trans (congrArg Real.toEReal (pairs_at (args m c).p h (krow t a) (qrow t b)).symm)
  ds t ht h a b := (ds_at R t ht h a b).trans (congrArg Real.toEReal (pairs_at (args m c).ds h (krow t a) (qrow t b)).symm)
  k t ht a l := (k_at R t a l).trans (congrArg Real.toEReal (rows_at (args m c).k (krow t a) l).symm)
  q t ht b l := (q_at R t ht b l).trans (congrArg Real.toEReal (rows_at (args m c).q (qrow t b) l).symm)
  d t ht b l := (d_at R t ht b l).trans (congrArg Real.toEReal (rows_at (args m c).dy (qrow t b) l).symm)
  zeroP h k q hqk := by
    unfold pairs
    split
    · exact Args.p_after _ _ _ _ hqk
    · rfl
  zeroD h k q hqk := by
    unfold pairs
    split
    · exact Args.ds_after _ _ _ _ hqk
    · rfl

end Cert.KernelIdeal.Fox

end
-- ==== Proof.Arrays.lean ====
/- The kernel's five output arrays after the run: the reference's five results. -/
module

public import proofs.«01_k».proof.Proof.BlockReal

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Cert.Fox (Args sum_eq)
open Cert.ReferenceIdeal.Read (val_main_v102 val_main_v100 val_main_v98 val_main_v92 val_main_v88)

variable {m : (ℓ : Loc nD τ sig) → Buf (Elt Ideal) ℓ} {c : Dev nD} (R : (args m c).Real)

theorem idx_8 : ∀ t : Fin cfg0.N, win0_8.index t = ![0, 0] := by decide +kernel
theorem idx_10 : ∀ t : Fin cfg0.N, win0_10.index t = ![t.val / 8, 0] := by decide +kernel
theorem idx_11 : ∀ t : Fin cfg0.N, win0_11.index t = ![t.val / 8, 0] := by decide +kernel
theorem idx_12 : ∀ t : Fin cfg0.N, win0_12.index t = ![0, 0] := by decide +kernel

theorem emb_8 (t : Fin cfg0.N) (y : S4096x256.Idx) : (win0_8.blk t).view.emb y = y := funext fun x => Fin.ext (by
  match x with
  | ⟨0, _⟩ => blk_simp [idx_8 t]
  | ⟨1, _⟩ => blk_simp [idx_8 t])

theorem emb_12 (t : Fin cfg0.N) (y : S8x4096.Idx) : (win0_12.blk t).view.emb y = y := funext fun x => Fin.ext (by
  match x with
  | ⟨0, _⟩ => blk_simp [idx_12 t]
  | ⟨1, _⟩ => blk_simp [idx_12 t])

theorem emb_9 (t : Fin cfg0.N) (y : S512x256.Idx) : (win0_9.blk t).view.emb y = ix2 (krow t (y 0)) (y 1) := funext fun x => Fin.ext (by
  match x with
  | ⟨0, _⟩ => blk_simp [idx_9 t]; show _ * 512 + (y 0).val = 512 * _ + (y 0).val; omega
  | ⟨1, _⟩ => blk_simp [idx_9 t]; rfl)

theorem emb_10 (t : Fin cfg0.N) (y : S512x256.Idx) : (win0_10.blk t).view.emb y = ix2 (krow t (y 0)) (y 1) := funext fun x => Fin.ext (by
  match x with
  | ⟨0, _⟩ => blk_simp [idx_10 t]; show _ * 512 + (y 0).val = 512 * _ + (y 0).val; omega
  | ⟨1, _⟩ => blk_simp [idx_10 t]; rfl)

theorem emb_11 (t : Fin cfg0.N) (y : S512x8.Idx) : (win0_11.blk t).view.emb y = ix2 (krow t (y 0)) (y 1) := funext fun x => Fin.ext (by
  match x with
  | ⟨0, _⟩ => blk_simp [idx_11 t]; show _ * 512 + (y 0).val = 512 * _ + (y 0).val; omega
  | ⟨1, _⟩ => blk_simp [idx_11 t]; rfl)

/-- A sum over the first 4096 rows is the sum over the rows. -/
theorem sum_rows (f : ℕ → ℝ) (g : Fin 4096 → ℝ) (h : ∀ i : Fin 4096, f i.val = g i) : (∑ i ∈ Finset.range 4096, f i) = ∑ i : Fin 4096, g i := by
  rw [Finset.sum_range]
  exact Finset.sum_congr rfl fun i _ => h i

include R

/-- The queries' gradient. -/
theorem final_dq : (dats m 0 c).arrAt 8 cfg0.N = val_main_v102 (F := Ideal) (args m c).z (args m c).c (args m c).y := by
  refine (dats m 0 c).arrAt_eq_of_covers 8 _ (by decide +kernel) fun t hf y => ?_
  have h63 : t.val = 63 := of_decide_eq_true ((flush_8 t).symm.trans hf)
  have hy : (y 0).val < 4096 := (y 0).isLt
  blk_simp
  rw [after_8, h63]
  refine Eq.trans (dq_at (realBlocks R) y 64 (le_refl _)) (Eq.trans (congrArg Real.toEReal ?_)
    ((Args.v102_eq R y).symm.trans (congrArg (val_main_v102 (F := Ideal) (args m c).z (args m c).c (args m c).y) (emb_8 t y).symm)))
  rw [show 512 * ((64 + 7 - (y 0).val / 512) / 8) = 4096 by omega]
  exact sum_rows _ (fun j => (args m c).ds (headOf (y 1)) (y 0) j * 8⁻¹ * (args m c).k j (y 1))
    fun j => congrArg₂ (fun a b => a * 8⁻¹ * b) (pairs_at (args m c).ds (headOf (y 1)) j (y 0)) (rows_at (args m c).k j (y 1))

/-- The keys' gradient. -/
theorem final_dk : (dats m 0 c).arrAt 9 cfg0.N = val_main_v100 (F := Ideal) (args m c).z (args m c).c (args m c).y := by
  refine (dats m 0 c).arrAt_eq_of_covers 9 _ (by decide +kernel) fun t hf y => ?_
  have h7 : t.val % 8 = 7 := of_decide_eq_true ((flush_9 t).symm.trans hf)
  have hlt := t_lt t
  blk_simp
  rw [after_9, show t.val + 1 = 9 * (t.val / 8) + (7 - t.val / 8) + 1 by omega]
  refine Eq.trans (acck_at (realBlocks R) (t.val / 8) y (7 - t.val / 8) (by omega)) (Eq.trans (congrArg Real.toEReal ?_)
    ((Args.v100_eq R (ix2 (krow t (y 0)) (y 1))).symm.trans (congrArg (val_main_v100 (F := Ideal) (args m c).z (args m c).c (args m c).y) (emb_9 t y).symm)))
  rw [show 512 * (t.val / 8 + (7 - t.val / 8) + 1) = 4096 by omega]
  exact sum_rows _ (fun i => (args m c).ds (headOf (y 1)) i (krow t (y 0)) * 8⁻¹ * (args m c).q i (y 1))
    fun i => congrArg₂ (fun a b => a * 8⁻¹ * b) (pairs_at (args m c).ds (headOf (y 1)) (krow t (y 0)) i) (rows_at (args m c).q i (y 1))

/-- The values' gradient. -/
theorem final_dv : (dats m 0 c).arrAt 10 cfg0.N = val_main_v98 (F := Ideal) (args m c).z (args m c).c (args m c).y := by
  refine (dats m 0 c).arrAt_eq_of_covers 10 _ (by decide +kernel) fun t hf y => ?_
  have h7 : t.val % 8 = 7 := of_decide_eq_true ((flush_10 t).symm.trans hf)
  have hlt := t_lt t
  blk_simp
  rw [after_10, show t.val + 1 = 9 * (t.val / 8) + (7 - t.val / 8) + 1 by omega]
  refine Eq.trans (accv_at (realBlocks R) (t.val / 8) y (7 - t.val / 8) (by omega)) (Eq.trans (congrArg Real.toEReal ?_)
    ((Args.v98_eq R (ix2 (krow t (y 0)) (y 1))).symm.trans (congrArg (val_main_v98 (F := Ideal) (args m c).z (args m c).c (args m c).y) (emb_10 t y).symm)))
  rw [show 512 * (t.val / 8 + (7 - t.val / 8) + 1) = 4096 by omega]
  exact sum_rows _ (fun i => (args m c).p (headOf (y 1)) i (krow t (y 0)) * (args m c).dy i (y 1))
    fun i => congrArg₂ (fun a b => a * b) (pairs_at (args m c).p (headOf (y 1)) (krow t (y 0)) i) (rows_at (args m c).dy i (y 1))

/-- The decay's gradient where it is taken away at the keys; zero in the padding. -/
theorem final_dck : (dats m 0 c).arrAt 11 cfg0.N = val_main_v88 (F := Ideal) (args m c).z (args m c).c (args m c).y := by
  refine (dats m 0 c).arrAt_eq_of_covers 11 _ (by decide +kernel) fun t hf y => ?_
  have h7 : t.val % 8 = 7 := of_decide_eq_true ((flush_11 t).symm.trans hf)
  have hlt := t_lt t
  blk_simp
  rw [after_11, show t.val + 1 = 9 * (t.val / 8) + (7 - t.val / 8) + 1 by omega]
  refine Eq.trans ?_ (congrArg (val_main_v88 (F := Ideal) (args m c).z (args m c).c (args m c).y) (emb_11 t y).symm)
  by_cases h4 : (y 1).val < 4
  · refine Eq.trans (dck_at (realBlocks R) (t.val / 8) y h4 (7 - t.val / 8) (by omega)) (Eq.trans (congrArg Real.toEReal ?_) (Args.v88_in R (ix2 (krow t (y 0)) (y 1)) h4).symm)
    rw [show 512 * (t.val / 8 + (7 - t.val / 8) + 1) = 4096 by omega]
    exact sum_rows _ (fun i => -(args m c).ds ⟨(y 1).val, h4⟩ i (krow t (y 0)))
      fun i => congrArg (fun a => -a) (pairs_at (args m c).ds ⟨(y 1).val, h4⟩ (krow t (y 0)) i)
  · exact (dck_pad (t.val / 8) y h4 (7 - t.val / 8) (by omega)).trans (Args.v88_out R (ix2 (krow t (y 0)) (y 1)) h4).symm

/-- The decay's gradient where it is added at the queries; zero in the padding. -/
theorem final_dcq : (dats m 0 c).arrAt 12 cfg0.N = val_main_v92 (F := Ideal) (args m c).z (args m c).c (args m c).y := by
  refine (dats m 0 c).arrAt_eq_of_covers 12 _ (by decide +kernel) fun t hf y => ?_
  have h63 : t.val = 63 := of_decide_eq_true ((flush_12 t).symm.trans hf)
  have hy : (y 1).val < 4096 := (y 1).isLt
  blk_simp
  rw [after_12, h63]
  refine Eq.trans ?_ (congrArg (val_main_v92 (F := Ideal) (args m c).z (args m c).c (args m c).y) (emb_12 t y).symm)
  by_cases h4 : (y 0).val < 4
  · refine Eq.trans (dcq_at (realBlocks R) y h4 64 (le_refl _)) (Eq.trans (congrArg Real.toEReal ?_) (Args.v92_in R y h4).symm)
    rw [show 512 * ((64 + 7 - (y 1).val / 512) / 8) = 4096 by omega]
    exact sum_rows _ (fun j => (args m c).ds ⟨(y 0).val, h4⟩ (y 1) j)
      fun j => pairs_at (args m c).ds ⟨(y 0).val, h4⟩ j (y 1)
  · exact (dcq_pad y h4 64 (le_refl _)).trans (Args.v92_out R y h4).symm

end Cert.KernelIdeal.Fox

end
-- ==== Proof.Finite.lean ====
/- What the condition on the arguments says: no element of the three is an infinity, so each is a real number. -/
module

public import proofs.«01_k».proof.Defs
public import proofs.«01_k».proof.Proof.BlockReal
public import Idealize.ShloMosaic.Lib.ReduceAll

@[expose] public section

noncomputable section

namespace Cert.Fox

open Idealize.ShloMosaic Idealize.ShloMosaic.TcCoe

/-- The condition's own shapes fit together. -/
theorem finite_facts : Cert.Pre_finite.Facts where
  bitsLt_bf16_f32 := by decide
  bcast_S_S4096x5760 := by decide
  reducesTo_S4096x5760_S_d0_1 := by decide
  h_S_ := by decide
  bcast_S_S8x4096 := by decide
  reducesTo_S8x4096_S_d0_1 := by decide
  bcast_S_S4096x256 := by decide
  reducesTo_S4096x256_S_d0_1 := by decide

/-- An extended real of finite size is a real number. -/
theorem real_of_abs_lt (x : EReal) (h : max x (-x) < ⊤) : x = ((EReal.toReal x : ℝ) : EReal) := by
  refine (EReal.coe_toReal ?_ ?_).symm
  · rintro rfl; simp at h
  · rintro rfl; simp at h

theorem both_one : ∀ a b : BitVec 1, a &&& b = 1#1 → a = 1#1 ∧ b = 1#1 := by decide

theorem real_of_cmp (x : Ideal .f32) (h : FloatOps.cmpf (F := Ideal) .olt (FloatOps.hostAbsf x) (FloatOps.ofBits .f32 0x7F800000#32) = 1#1) :
    (x : EReal) = ((EReal.toReal x : ℝ) : EReal) := by
  rw [top_f32] at h
  exact real_of_abs_lt x ((Ideal.cmp_olt_eq_one _ _).1 h)

/-- Under the condition the three arguments are arrays of real numbers. -/
theorem real_of_finite (a0 : FVec Ideal Cert.Pre_finite.S4096x5760 .bf16) (a1 : FVec Ideal Cert.Pre_finite.S8x4096 .f32)
    (a2 : FVec Ideal Cert.Pre_finite.S4096x256 .bf16) (h : @Cert.Pre_finite.fn finite_facts Ideal _ a0 a1 a2 = fun _ => 1#1) :
    (⟨a0, a1, a2⟩ : Args).Real := by
  haveI : Subsingleton Cert.Pre_finite.S_.Idx := ⟨fun a b => funext fun i => i.elim0⟩
  have h0 := congrFun h (fun i => i.elim0)
  obtain ⟨h1, h2⟩ := both_one _ _ h0
  obtain ⟨h3, h4⟩ := both_one _ _ h1
  refine ⟨fun i => ?_, fun i => ?_, fun i => ?_⟩
  · exact real_of_cmp _ (Host.reduce_andi_all _ _ _ _ _ h3 i)
  · exact real_of_cmp _ (Host.reduce_andi_all _ _ _ _ _ h4 i)
  · exact real_of_cmp _ (Host.reduce_andi_all _ _ _ _ _ h2 i)

end Cert.Fox

end
-- ==== Proof.Value.lean ====
/- The kernel's five results are the reference's, from arguments of real numbers. -/
module

public import proofs.«01_k».proof.Proof.Arrays
public import proofs.«01_k».proof.Proof.ValueRun
public import proofs.«01_k».proof.Proof.Finite
public import proofs.«01_k».proof.Proof.Frames

@[expose] public section

noncomputable section

namespace Cert.KernelIdeal.Fox

open Cert.KernelIdeal Cert.KernelIdeal.Gen
open Idealize.ShloMosaic Idealize.ShloMosaic.TcCoe Idealize.SL.Sem
open Cert.Fox (Args)
open Cert.ReferenceIdeal.Read (val_main_v102 val_main_v100 val_main_v98 val_main_v92 val_main_v88)

variable {m : (ℓ : Loc nD τ sig) → Buf (Elt Ideal) ℓ} {r : PUnit × MemSt nD τ sig (Elt Ideal)}
  (h : Pipeline.FramePost cfgs (dats m) (0 : Fin 1) (V m) r) (c : Dev nD)

include h

theorem end_dq (R : (args m c).Real) : r.2.mem ((c.tc : Thread nD τ).loc main_v85_0) = val_main_v102 (F := Ideal) (args m c).z (args m c).c (args m c).y :=
  ((h c).1 8).trans (final_dq R)

theorem end_dk (R : (args m c).Real) : r.2.mem ((c.tc : Thread nD τ).loc main_v85_1) = val_main_v100 (F := Ideal) (args m c).z (args m c).c (args m c).y :=
  ((h c).1 9).trans (final_dk R)

theorem end_dv (R : (args m c).Real) : r.2.mem ((c.tc : Thread nD τ).loc main_v85_2) = val_main_v98 (F := Ideal) (args m c).z (args m c).c (args m c).y :=
  ((h c).1 10).trans (final_dv R)

theorem end_dcq (R : (args m c).Real) : r.2.mem ((c.tc : Thread nD τ).loc main_v85_4) = val_main_v92 (F := Ideal) (args m c).z (args m c).c (args m c).y :=
  ((h c).1 12).trans (final_dcq R)

theorem end_dck (R : (args m c).Real) : r.2.mem ((c.tc : Thread nD τ).loc main_v85_3) = val_main_v88 (F := Ideal) (args m c).z (args m c).c (args m c).y :=
  ((h c).1 11).trans (final_dck R)

theorem end_arg0 : r.2.mem ((c.tc : Thread nD τ).loc main_arg0) = m ((c.tc : Thread nD τ).loc main_arg0) :=
  ((h c).1 2).trans (((dats m 0 c).arrAt_in 2 rfl _).trans ((dats_A m c 2).trans (V_main_arg0 m c)))

theorem end_arg1 : r.2.mem ((c.tc : Thread nD τ).loc main_arg1) = m ((c.tc : Thread nD τ).loc main_arg1) :=
  ((h c).1 6).trans (((dats m 0 c).arrAt_in 6 rfl _).trans ((dats_A m c 6).trans (V_main_arg1 m c)))

theorem end_arg2 : r.2.mem ((c.tc : Thread nD τ).loc main_arg2) = m ((c.tc : Thread nD τ).loc main_arg2) :=
  ((h c).1 4).trans (((dats m 0 c).arrAt_in 4 rfl _).trans ((dats_A m c 4).trans (V_main_arg2 m c)))

end Cert.KernelIdeal.Fox

namespace Cert.Fox

open Idealize.ShloMosaic Idealize.ShloMosaic.TcCoe Idealize.SL.Sem
open Cert.KernelIdeal.Fox (args value_run end_dq end_dk end_dv end_dcq end_dck end_arg0 end_arg1 end_arg2)

/-- The kernel's results and its arguments after the run. -/
theorem kernel_values (m : (ℓ : Loc Cert.KernelIdeal.nD Cert.KernelIdeal.τ Cert.KernelIdeal.sig) → Buf (Elt Ideal) ℓ) (ρ : Dev Cert.KernelIdeal.nD → PrngReg)
    (R : ∀ c, (args m c).Real) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v85_0) = Cert.ReferenceIdeal.Read.val_main_v102 (F := Ideal) (args m c).z (args m c).c (args m c).y
      ∧ r.2.mem ((c.tc : Thread Cert.KernelIdeal.nD Cert.KernelIdeal.τ).loc Cert.KernelIdeal.main_v85_1) = Cert.ReferenceIdeal.Read.val_main_v100 (F := Ideal) (args m c).z (args m c).c (args m c).y
      ∧ r.2.mem ((c.tc : Thread Cert.KernelIdeal.nD Cert.KernelIdeal.τ).loc Cert.KernelIdeal.main_v85_2) = Cert.ReferenceIdeal.Read.val_main_v98 (F := Ideal) (args m c).z (args m c).c (args m c).y
      ∧ r.2.mem ((c.tc : Thread Cert.KernelIdeal.nD Cert.KernelIdeal.τ).loc Cert.KernelIdeal.main_v85_4) = Cert.ReferenceIdeal.Read.val_main_v92 (F := Ideal) (args m c).z (args m c).c (args m c).y
      ∧ r.2.mem ((c.tc : Thread Cert.KernelIdeal.nD Cert.KernelIdeal.τ).loc Cert.KernelIdeal.main_v85_3) = Cert.ReferenceIdeal.Read.val_main_v88 (F := Ideal) (args m c).z (args m c).c (args m c).y
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun _ h c =>
    ⟨end_dq h.1 c (R c), end_dk h.1 c (R c), end_dv h.1 c (R c), end_dcq h.1 c (R c), end_dck h.1 c (R c),
      end_arg0 h.1 c, end_arg1 h.1 c, end_arg2 h.1 c⟩) (value_run m ρ)

/-- On the extended reals, from equal arguments without infinities, the kernel and the reference end with equal results. -/
theorem algebraic : Cert.algebraic_KernelIdeal_ReferenceIdeal_pre_finite (hPre_finite := finite_facts) := by
  intro m ρ m' ρ' hpre hagree
  have R : ∀ c, (args m c).Real := fun c => real_of_finite _ _ _ (hpre c)
  refine ⟨_, _, _, _, _, kernel_values m ρ R, ?_⟩
  refine (θ_run _ _ _).mono (fun r h c => ?_) (Cert.ReferenceIdeal.Value.run (F := Ideal) m' ρ')
  obtain ⟨a0, a1, a2⟩ := hagree c
  obtain ⟨h0, h1, h2, h3, h4, h5⟩ := h c
  refine ⟨h0.trans ?_, h1.trans ?_, h2.trans ?_, h3.trans ?_, h4.trans ?_, h5⟩
  · rw [Cert.ReferenceIdeal.Read.val_main_v102_eq, a0, a1, a2]; rfl
  · rw [Cert.ReferenceIdeal.Read.val_main_v100_eq, a0, a1, a2]; rfl
  · rw [Cert.ReferenceIdeal.Read.val_main_v98_eq, a0, a1, a2]; rfl
  · rw [Cert.ReferenceIdeal.Read.val_main_v92_eq, a0, a1, a2]; rfl
  · rw [Cert.ReferenceIdeal.Read.val_main_v88_eq, a0, a1, a2]; rfl

/-- The frames under the condition are the frames. -/
theorem kernelIdeal_finite : Cert.quiescent_KernelIdeal_pre_finite (hPre_finite := finite_facts) := fun m ρ _ => Cert.KernelIdeal.Fox.frame (F := Ideal) m ρ
theorem referenceIdeal_finite : Cert.quiescent_ReferenceIdeal_pre_finite (hPre_finite := finite_facts) := fun m ρ _ => referenceIdeal m ρ trivial

end Cert.Fox

end
-- ==== Proof.MlpFrames.lean ====
/- The calls of the multilayer perceptron and of the input layer change none of their arguments: the kernels' own runs, at both
   formats, and the references' straight lines. The printed kernel and the one on the extended reals have the same text: the
   body that a label names is the same function. -/
module

public import proofs.«01_k».proof.Defs
public import proofs.«01_k».proof.Proof.Gen.Down
public import proofs.«01_k».proof.Proof.Gen.DownIdeal.Value
public import proofs.«01_k».proof.Proof.Gen.DownReferenceIdeal.Run
public import proofs.«01_k».proof.Proof.Gen.DownW
public import proofs.«01_k».proof.Proof.Gen.DownWIdeal.Value
public import proofs.«01_k».proof.Proof.Gen.DownWReferenceIdeal.Run
public import proofs.«01_k».proof.Proof.Gen.Up
public import proofs.«01_k».proof.Proof.Gen.UpIdeal.Value
public import proofs.«01_k».proof.Proof.Gen.UpReferenceIdeal.Run
public import proofs.«01_k».proof.Proof.Gen.UpW
public import proofs.«01_k».proof.Proof.Gen.UpWIdeal.Value
public import proofs.«01_k».proof.Proof.Gen.UpWReferenceIdeal.Run
public import proofs.«01_k».proof.Proof.Gen.In
public import proofs.«01_k».proof.Proof.Gen.InIdeal.Value
public import proofs.«01_k».proof.Proof.Gen.InReferenceIdeal.Run
public import proofs.«01_k».proof.Proof.Gen.InW
public import proofs.«01_k».proof.Proof.Gen.InWIdeal.Value
public import proofs.«01_k».proof.Proof.Gen.InWReferenceIdeal.Run

@[expose] public section

noncomputable section

namespace Cert.Mlp

open Idealize.ShloMosaic Idealize.SL.Sem

theorem down_defs : Cert.Down.defs (F := Bits) = Cert.DownIdeal.defs (F := Bits) :=
  congrArg (Pipeline.defs Cert.Down.pcfgs) (congrArg Defs.onTc (funext fun l => funext fun x => match l, x with | ⟨0, _⟩, (_, _) => rfl))
theorem down : Cert.quiescent_Down := fun m ρ _ => Eq.mpr (congrArg (fun d => θ_run d _ _ _) down_defs) (Cert.DownIdeal.Gen.frame (F := Bits) m ρ)
theorem downIdeal : Cert.quiescent_DownIdeal := fun m ρ _ => Cert.DownIdeal.Gen.frame (F := Ideal) m ρ
theorem downReferenceIdeal : Cert.quiescent_DownReferenceIdeal := fun m ρ _ =>
  (θ_run _ _ _).mono (fun r h => ⟨fun c => (h c).2, sem_eq_zero_of_no_sems (by decide) r.2⟩)
    (Cert.DownReferenceIdeal.Value.run (F := Ideal) m ρ)

theorem downW_defs : Cert.DownW.defs (F := Bits) = Cert.DownWIdeal.defs (F := Bits) :=
  congrArg (Pipeline.defs Cert.DownW.pcfgs) (congrArg Defs.onTc (funext fun l => funext fun x => match l, x with | ⟨0, _⟩, (_, _) => rfl))
theorem downW : Cert.quiescent_DownW := fun m ρ _ => Eq.mpr (congrArg (fun d => θ_run d _ _ _) downW_defs) (Cert.DownWIdeal.Gen.frame (F := Bits) m ρ)
theorem downWIdeal : Cert.quiescent_DownWIdeal := fun m ρ _ => Cert.DownWIdeal.Gen.frame (F := Ideal) m ρ
theorem downWReferenceIdeal : Cert.quiescent_DownWReferenceIdeal := fun m ρ _ =>
  (θ_run _ _ _).mono (fun r h => ⟨fun c => (h c).2, sem_eq_zero_of_no_sems (by decide) r.2⟩)
    (Cert.DownWReferenceIdeal.Value.run (F := Ideal) m ρ)

theorem up_defs : Cert.Up.defs (F := Bits) = Cert.UpIdeal.defs (F := Bits) :=
  congrArg (Pipeline.defs Cert.Up.pcfgs) (congrArg Defs.onTc (funext fun l => funext fun x => match l, x with | ⟨0, _⟩, (_, _) => rfl))
theorem up : Cert.quiescent_Up := fun m ρ _ => Eq.mpr (congrArg (fun d => θ_run d _ _ _) up_defs) (Cert.UpIdeal.Gen.frame (F := Bits) m ρ)
theorem upIdeal : Cert.quiescent_UpIdeal := fun m ρ _ => Cert.UpIdeal.Gen.frame (F := Ideal) m ρ
theorem upReferenceIdeal : Cert.quiescent_UpReferenceIdeal := fun m ρ _ =>
  (θ_run _ _ _).mono (fun r h => ⟨fun c => (h c).2.2.2, sem_eq_zero_of_no_sems (by decide) r.2⟩)
    (Cert.UpReferenceIdeal.Value.run (F := Ideal) m ρ)

theorem upW_defs : Cert.UpW.defs (F := Bits) = Cert.UpWIdeal.defs (F := Bits) :=
  congrArg (Pipeline.defs Cert.UpW.pcfgs) (congrArg Defs.onTc (funext fun l => funext fun x => match l, x with | ⟨0, _⟩, (_, _) => rfl))
theorem upW : Cert.quiescent_UpW := fun m ρ _ => Eq.mpr (congrArg (fun d => θ_run d _ _ _) upW_defs) (Cert.UpWIdeal.Gen.frame (F := Bits) m ρ)
theorem upWIdeal : Cert.quiescent_UpWIdeal := fun m ρ _ => Cert.UpWIdeal.Gen.frame (F := Ideal) m ρ
theorem upWReferenceIdeal : Cert.quiescent_UpWReferenceIdeal := fun m ρ _ =>
  (θ_run _ _ _).mono (fun r h => ⟨fun c => (h c).2, sem_eq_zero_of_no_sems (by decide) r.2⟩)
    (Cert.UpWReferenceIdeal.Value.run (F := Ideal) m ρ)

theorem inp_defs : Cert.In.defs (F := Bits) = Cert.InIdeal.defs (F := Bits) :=
  congrArg (Pipeline.defs Cert.In.pcfgs) (congrArg Defs.onTc (funext fun l => funext fun x => match l, x with | ⟨0, _⟩, (_, _) => rfl))
theorem inp : Cert.quiescent_In := fun m ρ _ => Eq.mpr (congrArg (fun d => θ_run d _ _ _) inp_defs) (Cert.InIdeal.Gen.frame (F := Bits) m ρ)
theorem inpIdeal : Cert.quiescent_InIdeal := fun m ρ _ => Cert.InIdeal.Gen.frame (F := Ideal) m ρ
theorem inpReferenceIdeal : Cert.quiescent_InReferenceIdeal := fun m ρ _ =>
  (θ_run _ _ _).mono (fun r h => ⟨fun c => (h c).2.2.2, sem_eq_zero_of_no_sems (by decide) r.2⟩)
    (Cert.InReferenceIdeal.Value.run (F := Ideal) m ρ)

theorem inpW_defs : Cert.InW.defs (F := Bits) = Cert.InWIdeal.defs (F := Bits) :=
  congrArg (Pipeline.defs Cert.InW.pcfgs) (congrArg Defs.onTc (funext fun l => funext fun x => match l, x with | ⟨0, _⟩, (_, _) => rfl))
theorem inpW : Cert.quiescent_InW := fun m ρ _ => Eq.mpr (congrArg (fun d => θ_run d _ _ _) inpW_defs) (Cert.InWIdeal.Gen.frame (F := Bits) m ρ)
theorem inpWIdeal : Cert.quiescent_InWIdeal := fun m ρ _ => Cert.InWIdeal.Gen.frame (F := Ideal) m ρ
theorem inpWReferenceIdeal : Cert.quiescent_InWReferenceIdeal := fun m ρ _ =>
  (θ_run _ _ _).mono (fun r h => ⟨fun c => (h c).2, sem_eq_zero_of_no_sems (by decide) r.2⟩)
    (Cert.InWReferenceIdeal.Value.run (F := Ideal) m ρ)

end Cert.Mlp

end
-- ==== Proof.Down.lean ====
/- The gradient of the second layer's input, on the extended reals: what the kernel leaves in its array is the reference's
   gradient of the squared rectifier and the product. -/
module

public import proofs.«01_k».proof.Proof.Gen.DownIdeal.Value
public import proofs.«01_k».proof.Proof.Gen.DownReferenceIdeal.Read
public import proofs.«01_k».proof.Defs
public import proofs.«01_k».proof.Proof.Gen.Down
public import Idealize.ShloMosaic.Lib.Pointwise
public import Idealize.ShloMosaic.Lib.Pipeline.ValueKit

@[expose] public section

set_option maxRecDepth 16384

noncomputable section

namespace Cert.DownIdeal.Mlp

open Cert.DownIdeal Cert.DownIdeal.Gen
open Idealize.ShloMosaic Idealize.ShloMosaic.TcCoe Idealize.ShloMosaic.Tactic Idealize.SL.Sem
open Cert.DownReferenceIdeal.Read

/-- One entry of the gradient, from the product `d` and the saved value `x`. -/
def through (d x : EReal) : EReal := d * (Ideal.ofBits .f32 0x40000000#32 * max x 0)

theorem pay (y w a : Vec Ideal S1024x1024 .bf16) (i j : Fin 1024) :
    (k0_pay1 y w a) (ix2 i j) = through (∑ k : Fin 1024, y (ix2 i k) * w (ix2 j k)) (a (ix2 i j)) := by
  pointwise [k0_pay1]
  simp [through]

/-- The gradient at row `i` and column `j`. -/
def grad (a : Vec Ideal S4096x4096 .bf16) (w y : Vec Ideal S4096x1024 .bf16) (i j : Fin 4096) : EReal :=
  through (∑ k : Fin 1024, y (ix2 i k) * w (ix2 j k)) (a (ix2 i j))

theorem ref (a : Vec Ideal S4096x4096 .bf16) (w y : Vec Ideal S4096x1024 .bf16) (i : S4096x4096.Idx) :
    val_main_v15 (F := Ideal) a w y i = grad a w y (i 0) (i 1) := by
  unfold grad
  rw [← eq_ix2 i]
  rw [val_main_v15_apply, val_main_v14_apply, val_main_v4_apply, val_main_v12_apply, val_main_v11_apply, val_main_v8_apply, val_main_v7_apply,
    val_main_cst_1_apply, val_main_v2_apply, val_main_v0_apply, val_main_call0_v0_apply, val_main_call0_cst_apply, val_main_v3_apply,
    val_main_cst_apply, val_main_v13_apply, val_main_cst_2_apply]
  simp only [val_main_v10_apply, val_main_v1_apply, Ideal.extf_def, Ideal.truncf_def, Ideal.mulf_def, Ideal.maximumf_def, Ideal.ofBits_def]
  have e1 : ∀ k, lidx_main_v11 i k = ix2 (i 0) k := fun k => funext fun a => by match a with | ⟨0, _⟩ => rfl | ⟨1, _⟩ => rfl
  have e2 : ∀ k, ridx_main_v11 i k = ix2 (i 1) k := fun k => funext fun a => by match a with | ⟨0, _⟩ => rfl | ⟨1, _⟩ => rfl
  simp only [e1, e2, Ideal.ofBits_zero_f32]
  have h : (FloatOps.cmpf (F := Ideal) (φ := .f32) .ogt (a i) (0 : EReal)) = if (0 : EReal) < a i then 1#1 else 0#1 := by
    show BitVec.ofBool (decide ((0 : EReal) < a i)) = _
    by_cases h0 : (0 : EReal) < a i <;> simp [h0]
  rw [h]
  by_cases h0 : (0 : EReal) < a i
  · rw [if_pos h0]; rfl
  · rw [if_neg h0]
    show (0 : EReal) = _
    rw [through, max_eq_right (not_lt.mp h0), mul_zero, mul_zero]

variable (m : (ℓ : Loc nD τ sig) → Buf (Elt Ideal) ℓ) (ρ : Dev nD → PrngReg) (c : Dev nD)

theorem idx_0 : ∀ t : Fin cfg0.N, win0_0.index t = ![t.val / 4, 0] := by decide +kernel
theorem idx_1 : ∀ t : Fin cfg0.N, win0_1.index t = ![t.val % 4, 0] := by decide +kernel
theorem idx_2 : ∀ t : Fin cfg0.N, win0_2.index t = ![t.val / 4, t.val % 4] := by decide +kernel
theorem idx_3 : ∀ t : Fin cfg0.N, win0_3.index t = ![t.val / 4, t.val % 4] := by decide +kernel

theorem t_lt (t : Fin cfg0.N) : t.val < 16 := lt_of_lt_of_eq t.isLt N_0

def row (t : Fin cfg0.N) (i : Fin 1024) : Fin 4096 := ⟨t.val / 4 * 1024 + i.val, by have := t_lt t; omega⟩
def colm (t : Fin cfg0.N) (j : Fin 1024) : Fin 4096 := ⟨t.val % 4 * 1024 + j.val, by omega⟩

theorem blk_0 (t : Fin cfg0.N) (i k : Fin 1024) : iblk m c 0 t (ix2 i k) = m ((c : Thread nD τ).loc main_arg2) (ix2 (row t i) k) := by
  blk_simp [iblk, V_main_arg2]
  exact congrArg _ (funext fun x => Fin.ext (by match x with | ⟨0, _⟩ => blk_simp [idx_0 t]; rfl | ⟨1, _⟩ => blk_simp [idx_0 t]))

theorem blk_1 (t : Fin cfg0.N) (i k : Fin 1024) : iblk m c 1 t (ix2 i k) = m ((c : Thread nD τ).loc main_arg1) (ix2 (colm t i) k) := by
  blk_simp [iblk, V_main_arg1]
  exact congrArg _ (funext fun x => Fin.ext (by match x with | ⟨0, _⟩ => blk_simp [idx_1 t]; rfl | ⟨1, _⟩ => blk_simp [idx_1 t]))

theorem blk_2 (t : Fin cfg0.N) (i j : Fin 1024) : iblk m c 2 t (ix2 i j) = m ((c : Thread nD τ).loc main_arg0) (ix2 (row t i) (colm t j)) := by
  blk_simp [iblk, V_main_arg0]
  exact congrArg _ (funext fun x => Fin.ext (by match x with | ⟨0, _⟩ => blk_simp [idx_2 t]; rfl | ⟨1, _⟩ => blk_simp [idx_2 t]; rfl))

theorem emb_3 (t : Fin cfg0.N) (y : S1024x1024.Idx) : (win0_3.blk t).view.emb y = ix2 (row t (y 0)) (colm t (y 1)) := funext fun x => Fin.ext (by
  match x with | ⟨0, _⟩ => blk_simp [idx_3 t]; rfl | ⟨1, _⟩ => blk_simp [idx_3 t]; rfl)

theorem pay_blk (t : Fin cfg0.N) (i j : Fin 1024) : k0_pay1 (iblk m c 0 t) (iblk m c 1 t) (iblk m c 2 t) (ix2 i j)
    = grad (m ((c : Thread nD τ).loc main_arg0)) (m ((c : Thread nD τ).loc main_arg1)) (m ((c : Thread nD τ).loc main_arg2)) (row t i) (colm t j) := by
  rw [pay, grad]
  simp only [blk_0, blk_1, blk_2]

theorem out (x0 x1 x2 : Vec Ideal S1024x1024 .bf16) : out0_3 x0 x1 x2 = k0_pay1 x0 x1 x2 := by
  frame_out

theorem final : (dats m 0 c).arrAt 3 cfg0.N = val_main_v15 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3, out, ref]
  refine Eq.trans (congrArg _ (eq_ix2 y)) ((pay_blk m c t (y 0) (y 1)).trans ?_)
  rw [emb_3 t y]
  rfl

/-- On the extended reals, from equal arguments, the kernel and the reference end with equal results. -/
theorem algebraic : Cert.algebraic_DownIdeal_DownReferenceIdeal := by
  intro m ρ m' ρ' _ hagree
  refine ⟨_, (θ_run defs _ _).mono (fun r h c => ⟨((h c).1).trans (final m c), (h c).2⟩) (Cert.DownIdeal.Value.run_blocks m ρ), ?_⟩
  refine (θ_run _ _ _).mono (fun r h c => ?_) (Cert.DownReferenceIdeal.Value.run (F := Ideal) m' ρ')
  obtain ⟨a0, a1, a2⟩ := hagree c
  refine ⟨(h c).1.trans ?_, (h c).2⟩
  rw [Cert.DownReferenceIdeal.Read.val_main_v15_eq, a0, a1, a2]

end Cert.DownIdeal.Mlp

end
-- ==== Proof.Planes.lean ====
/- A group of 128 columns of a matrix, narrowed and stored as a plane of its own. -/
module

public import Idealize.ShloMosaic.Lib.Pointwise
public import Idealize.ShloMosaic.Lib.Pipeline.ValueKit

@[expose] public section

noncomputable section

namespace Cert.Mlp

open Idealize.ShloMosaic

/-- Entry `i`, `x 2` of the plane cut at column `o` is the matrix's entry `i`, `o + x 2`. -/
theorem plane {R C : ℕ} (v : Vec Ideal ⟨2, ![R, C]⟩ .f32) (o : ℕ) (hs : (⟨2, ![R, C]⟩ : Shape).Slices ![0, o] ⟨2, ![R, 128]⟩)
    (h1 : FTy.bits .bf16 < FTy.bits .f32) (h2 : (⟨2, ![R, 128]⟩ : Shape).ShapeCasts ⟨3, ![1, R, 128]⟩)
    (x : (⟨3, ![1, R, 128]⟩ : Shape).Idx) (i : Fin R) (k : Fin C) (hi : i.val = (x 1).val) (hk : k.val = o + (x 2).val) :
    shapeCast ⟨3, ![1, R, 128]⟩ (truncf (F := Ideal) .bf16 (extractStridedSlice ⟨2, ![R, 128]⟩ ![0, o] v hs) h1) h2 x = v (ix2 i k) := by
  have h0 : (x 0).val < 1 := (x 0).isLt
  rw [shapeCast_apply _ h2 x (ix2 (x 1) (x 2)) (by
    rw [Shape.rowMajor_val_three, Shape.rowMajor_val_two]
    show (x 1).val * 128 + (x 2).val = ((x 0).val * R + (x 1).val) * 128 + (x 2).val
    rw [Nat.lt_one_iff.mp h0, Nat.zero_mul, Nat.zero_add])]
  refine extractStridedSlice_apply _ v hs _ (ix2 i k) fun a => ?_
  match a with
  | ⟨0, _⟩ => show i.val = 0 + (x 1).val; omega
  | ⟨1, _⟩ => exact hk

end Cert.Mlp

end
-- ==== Proof.DownW.lean ====
/- The gradient of the second layer's weights, on the extended reals: each entry the kernel leaves is one sum over all rows
   of the squared rectifier times the incoming gradient, which is the reference's product. -/
module

public import proofs.«01_k».proof.Proof.Gen.DownWIdeal.Value
public import proofs.«01_k».proof.Proof.Gen.DownWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.DownWIdeal.Mlp

open Cert.DownWIdeal Cert.DownWIdeal.Gen
open Idealize.ShloMosaic Idealize.ShloMosaic.TcCoe Idealize.ShloMosaic.Tactic Idealize.SL.Sem
open Cert.DownWReferenceIdeal.Read

theorem pay (x y : Vec Ideal S1024x1024 .bf16) (i j : Fin 1024) :
    (k0_pay1 x y) (ix2 i j) = ∑ k : Fin 1024, (max (x (ix2 k i)) 0 * max (x (ix2 k i)) 0) * y (ix2 k j) := by
  pointwise [k0_pay1]

/-- Row `k`'s part of the gradient at `i`, `j`. -/
def part (a : Vec Ideal S4096x4096 .bf16) (y : Vec Ideal S4096x1024 .bf16) (i : Fin 4096) (j : Fin 1024) (k : Fin 4096) : EReal :=
  (max (a (ix2 k i)) 0 * max (a (ix2 k i)) 0) * y (ix2 k j)

/-- The column of the whole gradient that entry `l` of shard `s` is. -/
def lane (s : Fin 8) (l : Fin 128) : Fin 1024 := ⟨s.val * 128 + l.val, by omega⟩

theorem ref (a : Vec Ideal S4096x4096 .bf16) (y : Vec Ideal S4096x1024 .bf16) (s : Fin 8) (i : Fin 4096) (l : Fin 128) :
    val_main_v10 (F := Ideal) a y (ix3 s i l) = ∑ k : Fin 4096, part a y i (lane s l) k := by
  pointwise [val_main_v10, val_main_v9, val_main_v8, val_main_v7, val_main_v6, val_main_v5, val_main_v3, val_main_v2, val_main_v1, val_main_call0_v0, val_main_call0_cst]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x4096 .bf16 := m ((c : Thread nD τ).loc main_arg0)
abbrev a1 : Vec Ideal S4096x1024 .bf16 := m ((c : Thread nD τ).loc main_arg1)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![0, t.val / 4, 0] := by decide +kernel

theorem t_lt (t : Fin cfg0.N) : t.val < 16 := lt_of_lt_of_eq t.isLt N_0

def row (t : Fin cfg0.N) (i : Fin 1024) : Fin 4096 := ⟨t.val % 4 * 1024 + i.val, by omega⟩
def colm (t : Fin cfg0.N) (j : Fin 1024) : Fin 4096 := ⟨t.val / 4 * 1024 + j.val, by have := t_lt t; omega⟩

theorem blk_0 (t : Fin cfg0.N) (k i : Fin 1024) : iblk m c 0 t (ix2 k i) = a0 m c (ix2 (row t k) (colm t i)) := by
  blk_simp [iblk, V_main_arg0]
  exact congrArg _ (funext fun x => Fin.ext (by match x with | ⟨0, _⟩ => blk_simp [idx_0 t]; rfl | ⟨1, _⟩ => blk_simp [idx_0 t]; rfl))

theorem blk_1 (t : Fin cfg0.N) (k j : Fin 1024) : iblk m c 1 t (ix2 k j) = a1 m c (ix2 (row t k) j) := by
  blk_simp [iblk, V_main_arg1]
  exact congrArg _ (funext fun x => Fin.ext (by match x with | ⟨0, _⟩ => blk_simp [idx_1 t]; rfl | ⟨1, _⟩ => blk_simp [idx_1 t]))

/-- What a point adds to entry `i`, `j`. -/
def term (t : Fin cfg0.N) (x : Fin 1024 × Fin 1024) : EReal :=
  ∑ k : Fin 1024, part (a0 m c) (a1 m c) (colm t x.1) x.2 (row t k)

theorem pay_blk (t : Fin cfg0.N) (i j : Fin 1024) : k0_pay1 (iblk m c 0 t) (iblk m c 1 t) (ix2 i j) = term m c t (i, j) := by
  rw [pay, term]
  simp only [blk_0, blk_1, part]

/-- The running sum after a point. -/
def acc (n : ℕ) (h : n < cfg0.N) (x : Fin 1024 × Fin 1024) : EReal := (outsAt0 m c n h).2 (ix2 x.1 x.2)

theorem acc_first (t : Fin cfg0.N) (h0 : t.val % 4 = 0) : acc m c t.val t.isLt = (0 : Fin 1024 × Fin 1024 → EReal) + term m c t := by
  funext x
  rw [acc, zero_add, ← pay_blk m c t x.1 x.2, outsAt0_A m c t h0 (by omega) (by omega)]
  frame_out
  rw [k0_pay2, shapeCast_self]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc]
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_flush (t : Fin cfg0.N) (ht : t.val % 4 = 3) (i j : Fin 1024) : (outsAt0 m c t.val t.isLt).2 (ix2 i j)
    = ∑ k : Fin 4096, part (a0 m c) (a1 m c) (colm t i) j k := by
  have h := Pipeline.eq_sum_fin_of_reset_step_apply_of_flush (acc m c) 4 (0 : Fin 1024 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, colm (⟨4 * (t.val / 4) + s.val, h⟩ : Fin cfg0.N) i = colm t i := fun h => Fin.ext (by
    show (4 * (t.val / 4) + s.val) / 4 * 1024 + i.val = t.val / 4 * 1024 + i.val; omega)
  have e2 : ∀ h, row (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

theorem out (t : Fin cfg0.N) (ht : t.val % 4 = 3) (s : Fin 8) (i : Fin 1024) (l : Fin 128) :
    (outsAt0 m c t.val t.isLt).1 (ix3 s i l) = (outsAt0 m c t.val t.isLt).2 (ix2 i (lane s l)) := by
  rw [outsAt0_C m c t (by omega) (by omega) ht]
  frame_out
  canon_tiles x h
  all_goals
    open_payloads
    refine Cert.Mlp.plane _ _ _ _ _ x i (lane s l) h1 ?_
    show s.val * 128 + l.val = _
    have e0 : s.val = _ := h0
    have e2 : l.val = _ := h2
    omega

theorem emb_2 (t : Fin cfg0.N) (s : Fin 8) (i : Fin 1024) (l : Fin 128) : (win0_2.blk t).view.emb (ix3 s i l) = ix3 s (colm t i) l := funext fun x => Fin.ext (by
  match x with | ⟨0, _⟩ => blk_simp [idx_2 t] | ⟨1, _⟩ => blk_simp [idx_2 t]; rfl | ⟨2, _⟩ => blk_simp [idx_2 t])

theorem flush_mod : ∀ t : Fin cfg0.N, (cfg0.win 2).flush t = true → t.val % 4 = 3 := by decide +kernel

/-- The reference's result on the launch's arguments. -/
abbrev G : Vec Ideal S8x4096x128 .bf16 := val_main_v10 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  rw [after0_2]
  have key : ∀ s i l, (outsAt0 m c t.val t.isLt).1 (ix3 s i l) = G m c ((win0_2.blk t).view.emb (ix3 s i l)) := fun s i l => by
    rw [out m c t ht, acc_flush m c t ht, emb_2, G, ref]
  rw [eq_ix3 y]
  exact key (y 0) (y 1) (y 2)

/-- On the extended reals, from equal arguments, the kernel and the reference end with equal results. -/
theorem algebraic : Cert.algebraic_DownWIdeal_DownWReferenceIdeal := by
  intro m ρ m' ρ' _ hagree
  refine ⟨_, (θ_run defs _ _).mono (fun r h c => ⟨((h c).1).trans (final m c), (h c).2⟩) (Cert.DownWIdeal.Value.run_blocks m ρ), ?_⟩
  refine (θ_run _ _ _).mono (fun r h c => ?_) (Cert.DownWReferenceIdeal.Value.run (F := Ideal) m' ρ')
  obtain ⟨a0, a1⟩ := hagree c
  refine ⟨(h c).1.trans ?_, (h c).2⟩
  rw [val_main_v10_eq, a0, a1]

end Cert.DownWIdeal.Mlp

end
-- ==== Proof.Norm.lean ====
/- The gradient through one row of the root-mean-square norm, on the extended reals. The two ways of writing it agree at
   infinities too: either the mean square is infinite and its inverse root 0, or the inverse root is a positive real number,
   and multiplication by one distributes over every sum. -/
module

public import proofs.«01_k».proof.Proof.Reals

@[expose] public section

noncomputable section

namespace Cert.Mlp

open Idealize.ShloMosaic

/-- The mean square of a row, and the norm's small constant. -/
def meansq (x : Fin 1024 → EReal) : EReal :=
  Ideal.div (∑ k : Fin 1024, x k * x k) (Ideal.ofBits .f32 0x44800000#32) + Ideal.ofBits .f32 0x358637BD#32

/-- The row's inverse root mean square. -/
def rstd (x : Fin 1024 → EReal) : EReal := Ideal.rsqrt (meansq x)

/-- The gradient of the row's input as the kernel writes it: `d` of the normalised row's product, `g` the gains, `s` of the
    stream. -/
def kerdx (d g x : Fin 1024 → EReal) (s : EReal) (j : Fin 1024) : EReal :=
  (d j * g j - (x j * rstd x) * Ideal.div (∑ k : Fin 1024, d k * g k * (x k * rstd x)) (Ideal.ofBits .f32 0x44800000#32)) * rstd x + s

/-- Half of the mean square's part of the gradient, over the row's element. -/
def half (d g x : Fin 1024 → EReal) : EReal :=
  Ideal.div ((∑ k : Fin 1024, x k * (d k * g k)) * (Ideal.ofBits .f32 0xBF000000#32 * Ideal.div (rstd x) (meansq x))) (Ideal.ofBits .f32 0x44800000#32)

/-- The gradient of the row's input as the chain rule writes it. -/
def refdx (d g x : Fin 1024 → EReal) (s : EReal) (j : Fin 1024) : EReal :=
  ((s + (d j * g j) * rstd x) + x j * half d g x) + half d g x * x j

theorem n_f32 : Ideal.ofBits .f32 0x44800000#32 = ((1024 : ℝ) : EReal) := by
  simp [Ideal.ofBits, Ideal.ieee, -EReal.coe_mul]; norm_num

theorem mhalf_f32 : Ideal.ofBits .f32 0xBF000000#32 = ((-2⁻¹ : ℝ) : EReal) := by
  simp [Ideal.ofBits, Ideal.ieee, -EReal.coe_mul]; norm_num

theorem eps_f32 : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem div_n (y : EReal) : Ideal.div y (Ideal.ofBits .f32 0x44800000#32) = y * ((1024⁻¹ : ℝ) : EReal) := by
  rw [n_f32, Ideal.div, if_neg (by norm_num), EReal.coe_inv]

theorem mul_self_nonneg' (y : EReal) : 0 ≤ y * y := by
  induction y with
  | bot => simp
  | top => simp
  | coe r => exact_mod_cast mul_self_nonneg r

/-- A positive real number times a sum. -/
theorem sum_mul_real {n : ℕ} (f : Fin n → EReal) (r : ℝ) (hr : 0 ≤ r) : (∑ k : Fin n, f k * (r : EReal)) = (∑ k : Fin n, f k) * (r : EReal) := by
  have h : ∀ s : Finset (Fin n), (∑ k ∈ s, f k * (r : EReal)) = (∑ k ∈ s, f k) * (r : EReal) := by
    classical
    intro s
    induction s using Finset.induction_on with
    | empty => simp
    | insert a s ha ih =>
      rw [Finset.sum_insert ha, Finset.sum_insert ha, ih, EReal.right_distrib_of_nonneg_of_ne_top (by exact_mod_cast hr) (EReal.coe_ne_top r)]
  exact h _

theorem meansq_cases (x : Fin 1024 → EReal) : meansq x = ⊤ ∨ ∃ v : ℝ, 0 < v ∧ meansq x = (v : EReal) := by
  obtain ⟨e, he, h⟩ := eps_f32
  have h0 : 0 ≤ ∑ k : Fin 1024, x k * x k := Finset.sum_nonneg fun k _ => mul_self_nonneg' (x k)
  rw [meansq, h, div_n]
  generalize (∑ k : Fin 1024, x k * x k) = y at h0
  induction y with
  | bot => simp at h0
  | top => exact Or.inl (by rw [EReal.top_mul_coe_of_pos (by norm_num), EReal.top_add_coe])
  | coe y => exact Or.inr ⟨y * 1024⁻¹ + e, by have : 0 ≤ y := by exact_mod_cast h0
                                              positivity, by norm_cast⟩

theorem dx_eq (d g x : Fin 1024 → EReal) (s : EReal) (j : Fin 1024) : kerdx d g x s j = refdx d g x s j := by
  rcases meansq_cases x with h | ⟨v, hv, h⟩
  · have hr : rstd x = 0 := by rw [rstd, h]; rfl
    have hh : half d g x = 0 := by rw [half, hr, h, div_n, Ideal.div, if_neg (by simp)]; simp
    rw [kerdx, refdx, hh, hr]
    simp
  · have hs : 0 < Real.sqrt v := Real.sqrt_pos.mpr hv
    obtain ⟨r, hr0, hr, hv2⟩ : ∃ r : ℝ, 0 < r ∧ rstd x = (r : EReal) ∧ v⁻¹ = r * r := by
      refine ⟨(Real.sqrt v)⁻¹, by positivity, ?_, ?_⟩
      · rw [rstd, h]
        show (if v < 0 then (⊥ : EReal) else if v = 0 then ⊤ else (((Real.sqrt v)⁻¹ : ℝ) : EReal)) = _
        rw [if_neg (not_lt.mpr hv.le), if_neg hv.ne']
      · rw [← mul_inv, Real.mul_self_sqrt hv.le]
    have hsum : (∑ k : Fin 1024, d k * g k * (x k * (r : EReal))) = (∑ k : Fin 1024, x k * (d k * g k)) * (r : EReal) := by
      rw [← sum_mul_real _ r hr0.le]
      exact Finset.sum_congr rfl fun k _ => by rw [← mul_assoc, mul_comm (d k * g k)]
    rw [kerdx, refdx, half, hr, h, hsum, Cert.Fox.div_real r v hv.ne', mhalf_f32, div_n, div_n, div_eq_mul_inv, hv2]
    generalize (∑ k : Fin 1024, x k * (d k * g k)) = T
    have hκ : (0 : ℝ) ≤ 2⁻¹ * (r * (r * r)) * 1024⁻¹ := by positivity
    have hk : x j * (r : EReal) * (T * (r : EReal) * ((1024⁻¹ : ℝ) : EReal)) * (r : EReal)
        = (x j * T) * (((2⁻¹ * (r * (r * r)) * 1024⁻¹ : ℝ) : EReal) + ((2⁻¹ * (r * (r * r)) * 1024⁻¹ : ℝ) : EReal)) := by
      rw [← EReal.coe_add, show 2⁻¹ * (r * (r * r)) * 1024⁻¹ + 2⁻¹ * (r * (r * r)) * 1024⁻¹ = r * r * 1024⁻¹ * r by ring]
      push_cast
      ac_rfl
    have hh : T * (((-2⁻¹ : ℝ) : EReal) * ((r * (r * r) : ℝ) : EReal)) * ((1024⁻¹ : ℝ) : EReal)
        = -T * ((2⁻¹ * (r * (r * r)) * 1024⁻¹ : ℝ) : EReal) := by
      rw [← EReal.coe_mul, mul_assoc, ← EReal.coe_mul, show -2⁻¹ * (r * (r * r)) * 1024⁻¹ = -(2⁻¹ * (r * (r * r)) * 1024⁻¹) by ring, EReal.coe_neg, mul_neg, neg_mul]
    rw [hh, sub_eq_add_neg, EReal.right_distrib_of_nonneg_of_ne_top (by exact_mod_cast hr0.le) (EReal.coe_ne_top r), neg_mul, hk, ← neg_mul,
      EReal.left_distrib_of_nonneg (by exact_mod_cast hκ) (by exact_mod_cast hκ)]
    generalize ((2⁻¹ * (r * (r * r)) * 1024⁻¹ : ℝ) : EReal) = κ
    rw [show x j * (-T * κ) = -(x j * T) * κ by rw [← mul_assoc, mul_neg], show -T * κ * x j = -(x j * T) * κ by rw [← mul_neg]; ac_rfl]
    ac_rfl

end Cert.Mlp

end
-- ==== Proof.Up.lean ====
/- The gradient through the first layer and its norm, on the extended reals: the kernel's running product over the hidden
   units is one sum, its gradient of each row is the reference's, and its gradient of the gains is one sum over all rows. -/
module

public import proofs.«01_k».proof.Proof.Gen.UpIdeal.Value
public import proofs.«01_k».proof.Proof.Gen.UpReferenceIdeal.Read
public import proofs.«01_k».proof.Defs
public import proofs.«01_k».proof.Proof.Norm
public import Idealize.ShloMosaic.Lib.Pointwise
public import Idealize.ShloMosaic.Lib.Pipeline.ValueKit

@[expose] public section

set_option maxRecDepth 16384

noncomputable section

namespace Cert.UpIdeal.Mlp

open Cert.UpIdeal Cert.UpIdeal.Gen
open Idealize.ShloMosaic Idealize.ShloMosaic.TcCoe Idealize.ShloMosaic.Tactic Idealize.SL.Sem
open Cert.UpReferenceIdeal.Read Cert.Mlp

theorem pay (x y : Vec Ideal S1024x1024 .bf16) (i j : Fin 1024) :
    (k0_pay1 x y) (ix2 i j) = ∑ k : Fin 1024, x (ix2 i k) * y (ix2 j k) := by
  pointwise [k0_pay1]

theorem pay_dx (d x : Vec Ideal S1024x1024 .f32) (g : Vec Ideal S1x1024 .f32) (s : Vec Ideal S1024x1024 .f32) (i j : Fin 1024) :
    (k0_pay7 d x g s) (ix2 i j) = kerdx (fun k => d (ix2 i k)) (fun k => g (ix2 0 k)) (fun k => x (ix2 i k)) (s (ix2 i j)) j := by
  pointwise [k0_pay7, k0_pay6, k0_pay5]
  rfl

theorem pay_dg (d x : Vec Ideal S1024x1024 .f32) (j : Fin 1024) :
    (k0_pay8 d x) (ix2 0 j) = ∑ i : Fin 1024, d (ix2 i j) * (x (ix2 i j) * rstd (fun k => x (ix2 i k))) := by
  pointwise [k0_pay8, k0_pay6, k0_pay5]
  rfl

/-! ### The reference, read at an index -/

section Reference

variable (z : Vec Ideal S4096x4096 .bf16) (w : Vec Ideal S1024x4096 .bf16) (x : Vec Ideal S4096x1024 .f32) (g : Vec Ideal S1x1024 .f32)
  (s : Vec Ideal S4096x1024 .f32) (i : Fin 4096) (j : Fin 1024)

/-- One hidden unit's part of an entry of the product. -/
def part (k : Fin 4096) : EReal := z (ix2 i k) * w (ix2 j k)

/-- The gradient of the normalised rows. -/
def prod : EReal := ∑ k : Fin 4096, part z w i j k

/-- The gradient of the stream. -/
def gradx : EReal := kerdx (fun k => prod z w i k) (fun k => g (ix2 0 k)) (fun k => x (ix2 i k)) (s (ix2 i j)) j

/-- A row's part of the gradient of the gains. -/
def partg : EReal := prod z w i j * (x (ix2 i j) * rstd (fun k => x (ix2 i k)))

theorem ref_rstd : val_main_v8 (F := Ideal) x (ix2 i 0) = rstd (fun k => x (ix2 i k)) := by
  pointwise [val_main_v8, val_main_v7, val_main_v6, val_main_v5, val_main_v4, val_main_v3, val_main_v2, val_main_v1, val_main_cst, val_main_cst_0,
    val_main_cst_1]
  rfl

theorem ref_dx : val_main_v38 (F := Ideal) z w x g s (ix2 i j) = gradx z w x g s i j := by
  rw [gradx, dx_eq]
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v18, val_main_v11, val_main_v10,
    val_main_v9, val_main_v8, val_main_v7, val_main_v6, val_main_v5, val_main_v4, val_main_v3, val_main_v2, val_main_v1, val_main_cst, val_main_cst_0,
    val_main_cst_1, val_main_cst_2, val_main_cst_4, val_main_cst_5, val_main_cst_6]
  simp only [Fin.sum_const, one_smul]
  rfl

theorem ref_dg : val_main_v21 (F := Ideal) z w x (ix2 0 j) = ∑ i : Fin 4096, partg z w x i j := by
  pointwise [val_main_v21, val_main_v20, val_main_v19, val_main_v18, val_main_v13, val_main_v12, val_main_cst_3]
  refine Finset.sum_congr rfl fun i _ => ?_
  rw [ref_rstd]
  exact mul_comm _ _

end Reference

/-! ### The kernel's blocks -/

variable (m : (ℓ : Loc nD τ sig) → Buf (Elt Ideal) ℓ) (c : Dev nD)

abbrev a0 : Vec Ideal S4096x4096 .bf16 := m ((c : Thread nD τ).loc main_arg0)
abbrev a1 : Vec Ideal S1024x4096 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)
abbrev a4 : Vec Ideal S4096x1024 .f32 := m ((c : Thread nD τ).loc main_arg4)

theorem idx_0 : ∀ t : Fin cfg0.N, win0_0.index t = ![t.val / 4, t.val % 4] := by decide +kernel
theorem idx_1 : ∀ t : Fin cfg0.N, win0_1.index t = ![0, t.val % 4] := by decide +kernel
theorem idx_2 : ∀ t : Fin cfg0.N, win0_2.index t = ![t.val / 4, 0] := by decide +kernel
theorem idx_3 : ∀ t : Fin cfg0.N, win0_3.index t = ![0, 0] := by decide +kernel
theorem idx_4 : ∀ t : Fin cfg0.N, win0_4.index t = ![t.val / 4, 0] := by decide +kernel
theorem idx_5 : ∀ t : Fin cfg0.N, win0_5.index t = ![t.val / 4, 0] := by decide +kernel
theorem idx_6 : ∀ t : Fin cfg0.N, win0_6.index t = ![t.val / 4, 0] := by decide +kernel
theorem idx_7 : ∀ t : Fin cfg0.N, win0_7.index t = ![0, 0] := by decide +kernel

theorem t_lt (t : Fin cfg0.N) : t.val < 16 := lt_of_lt_of_eq t.isLt N_0

def row (t : Fin cfg0.N) (i : Fin 1024) : Fin 4096 := ⟨t.val / 4 * 1024 + i.val, by have := t_lt t; omega⟩
def lane (t : Fin cfg0.N) (k : Fin 1024) : Fin 4096 := ⟨t.val % 4 * 1024 + k.val, by omega⟩

theorem blk_0 (t : Fin cfg0.N) (i k : Fin 1024) : iblk m c 0 t (ix2 i k) = a0 m c (ix2 (row t i) (lane t k)) := by
  blk_simp [iblk, V_main_arg0]
  exact congrArg _ (funext fun x => Fin.ext (by match x with | ⟨0, _⟩ => blk_simp [idx_0 t]; rfl | ⟨1, _⟩ => blk_simp [idx_0 t]; rfl))

theorem blk_1 (t : Fin cfg0.N) (j k : Fin 1024) : iblk m c 1 t (ix2 j k) = a1 m c (ix2 j (lane t k)) := by
  blk_simp [iblk, V_main_arg1]
  exact congrArg _ (funext fun x => Fin.ext (by match x with | ⟨0, _⟩ => blk_simp [idx_1 t] | ⟨1, _⟩ => blk_simp [idx_1 t]; rfl))

theorem blk_2 (t : Fin cfg0.N) (i j : Fin 1024) : iblk m c 2 t (ix2 i j) = a2 m c (ix2 (row t i) j) := by
  blk_simp [iblk, V_main_arg2]
  exact congrArg _ (funext fun x => Fin.ext (by match x with | ⟨0, _⟩ => blk_simp [idx_2 t]; rfl | ⟨1, _⟩ => blk_simp [idx_2 t]))

theorem blk_3 (t : Fin cfg0.N) (j : Fin 1024) : iblk m c 3 t (ix2 0 j) = a3 m c (ix2 0 j) := by
  blk_simp [iblk, V_main_arg3]
  exact congrArg _ (funext fun x => Fin.ext (by match x with | ⟨0, _⟩ => blk_simp [idx_3 t] | ⟨1, _⟩ => blk_simp [idx_3 t]))

theorem blk_4 (t : Fin cfg0.N) (i j : Fin 1024) : iblk m c 4 t (ix2 i j) = a4 m c (ix2 (row t i) j) := by
  blk_simp [iblk, V_main_arg4]
  exact congrArg _ (funext fun x => Fin.ext (by match x with | ⟨0, _⟩ => blk_simp [idx_4 t]; rfl | ⟨1, _⟩ => blk_simp [idx_4 t]))

/-! ### The running product -/

/-- What a point adds to entry `i`, `j` of the product. -/
def term (t : Fin cfg0.N) (x : Fin 1024 × Fin 1024) : EReal :=
  ∑ k : Fin 1024, part (a0 m c) (a1 m c) (row t x.1) x.2 (lane t k)

theorem pay_blk (t : Fin cfg0.N) (i j : Fin 1024) : k0_pay1 (iblk m c 0 t) (iblk m c 1 t) (ix2 i j) = term m c t (i, j) := by
  rw [pay, term]
  simp only [blk_0, blk_1]
  rfl

/-- The running product after a point. -/
def acc (n : ℕ) (h : n < cfg0.N) (x : Fin 1024 × Fin 1024) : EReal := (outsAt0 m c n h).2.2.2 (ix2 x.1 x.2)

theorem acc_first (t : Fin cfg0.N) (h0 : t.val % 4 = 0) : acc m c t.val t.isLt = (0 : Fin 1024 × Fin 1024 → EReal) + term m c t := by
  funext x
  rw [acc, zero_add, ← pay_blk m c t x.1 x.2, outsAt0_A m c t h0 (by omega) (by omega)]
  frame_out
  rw [k0_pay2, shapeCast_self]

/-- A later point's running product, in every case. -/
theorem scr_next (t : Fin cfg0.N) (h0 : ¬t.val % 4 = 0) : (outsAt0 m c t.val t.isLt).2.2.2 = k0_pay3 (iblk m c 0 t) (iblk m c 1 t)
    (outsAt0 m c (t.val - 1) (Nat.lt_of_le_of_lt (Nat.sub_le _ _) t.isLt)).2.2.2 := by
  by_cases h2 : t.val % 4 = 3
  · by_cases h3 : t.val < 4
    · rw [outsAt0_C m c t h0 (by omega) h2 h3 (by omega)]
      frame_out
      rw [(Memref.isWhole_whole _).read_unread]
    · rw [outsAt0_D m c t h0 (by omega) h2 h3 (by omega)]
      frame_out
      rw [(Memref.isWhole_whole _).read_unread]
  · rw [outsAt0_B m c t h0 (by omega) h2]
    frame_out
    rw [(Memref.isWhole_whole _).read_unread]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc, scr_next m c t h0, k0_pay3, shapeCast_self]
  rfl

theorem acc_flush (t : Fin cfg0.N) (ht : t.val % 4 = 3) (i j : Fin 1024) : (outsAt0 m c t.val t.isLt).2.2.2 (ix2 i j)
    = prod (a0 m c) (a1 m c) (row t i) j := by
  have h := Pipeline.eq_sum_fin_of_reset_step_apply_of_flush (acc m c) 4 (0 : Fin 1024 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, row (⟨4 * (t.val / 4) + s.val, h⟩ : Fin cfg0.N) i = row t i := fun h => Fin.ext (by
    show (4 * (t.val / 4) + s.val) / 4 * 1024 + i.val = t.val / 4 * 1024 + i.val; omega)
  have e2 : ∀ h, lane (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

/-! ### The gradient of the stream -/

theorem out_dx (t : Fin cfg0.N) (h2 : t.val % 4 = 3) : (outsAt0 m c t.val t.isLt).1
    = k0_pay7 (outsAt0 m c t.val t.isLt).2.2.2 (iblk m c 2 t) (iblk m c 3 t) (iblk m c 4 t) := by
  rw [scr_next m c t (by omega)]
  by_cases h3 : t.val < 4
  · rw [outsAt0_C m c t (by omega) (by omega) h2 h3 (by omega)]
    frame_out
    rw [(Memref.isWhole_whole _).read_unread]
  · rw [outsAt0_D m c t (by omega) (by omega) h2 h3 (by omega)]
    frame_out
    rw [(Memref.isWhole_whole _).read_unread]

theorem out_dxb (t : Fin cfg0.N) (h2 : t.val % 4 = 3) : (outsAt0 m c t.val t.isLt).2.1
    = k0_pay9 (outsAt0 m c t.val t.isLt).2.2.2 (iblk m c 2 t) (iblk m c 3 t) (iblk m c 4 t) := by
  rw [scr_next m c t (by omega)]
  by_cases h3 : t.val < 4
  · rw [outsAt0_C m c t (by omega) (by omega) h2 h3 (by omega)]
    frame_out
    rw [(Memref.isWhole_whole _).read_unread]
  · rw [outsAt0_D m c t (by omega) (by omega) h2 h3 (by omega)]
    frame_out
    rw [(Memref.isWhole_whole _).read_unread]

theorem dx_blk (t : Fin cfg0.N) (h2 : t.val % 4 = 3) (i j : Fin 1024) :
    k0_pay7 (outsAt0 m c t.val t.isLt).2.2.2 (iblk m c 2 t) (iblk m c 3 t) (iblk m c 4 t) (ix2 i j)
      = gradx (a0 m c) (a1 m c) (a2 m c) (a3 m c) (a4 m c) (row t i) j := by
  rw [pay_dx, gradx]
  simp only [acc_flush m c t h2, blk_2, blk_3, blk_4]

theorem emb_5 (t : Fin cfg0.N) (i j : Fin 1024) : (win0_5.blk t).view.emb (ix2 i j) = ix2 (row t i) j := funext fun x => Fin.ext (by
  match x with | ⟨0, _⟩ => blk_simp [idx_5 t]; rfl | ⟨1, _⟩ => blk_simp [idx_5 t])

theorem emb_6 (t : Fin cfg0.N) (i j : Fin 1024) : (win0_6.blk t).view.emb (ix2 i j) = ix2 (row t i) j := funext fun x => Fin.ext (by
  match x with | ⟨0, _⟩ => blk_simp [idx_6 t]; rfl | ⟨1, _⟩ => blk_simp [idx_6 t])

theorem flush_5 : ∀ t : Fin cfg0.N, (cfg0.win 5).flush t = true → t.val % 4 = 3 := by decide +kernel
theorem flush_6 : ∀ t : Fin cfg0.N, (cfg0.win 6).flush t = true → t.val % 4 = 3 := by decide +kernel

/-! The results of the reference on the arguments. -/

abbrev Gdx : Vec Ideal S4096x1024 .f32 := val_main_v38 (F := Ideal) (a0 m c) (a1 m c) (a2 m c) (a3 m c) (a4 m c)

theorem final_dx : (dats m 0 c).arrAt 5 cfg0.N = Gdx m c := by
  refine (dats m 0 c).arrAt_eq_of_covers 5 _ (by decide +kernel) fun t hf y => ?_
  have ht := flush_5 t hf
  blk_simp
  rw [after0_5]
  have key : ∀ i j, (outsAt0 m c t.val t.isLt).1 (ix2 i j) = Gdx m c ((win0_5.blk t).view.emb (ix2 i j)) := fun i j => by
    rw [out_dx m c t ht, dx_blk m c t ht, emb_5, Gdx, ref_dx]
  rw [eq_ix2 y]
  exact key (y 0) (y 1)

abbrev Gdxb : Vec Ideal S4096x1024 .bf16 := val_main_v39 (F := Ideal) (a0 m c) (a1 m c) (a2 m c) (a3 m c) (a4 m c)

theorem final_dxb : (dats m 0 c).arrAt 6 cfg0.N = Gdxb m c := by
  refine (dats m 0 c).arrAt_eq_of_covers 6 _ (by decide +kernel) fun t hf y => ?_
  have ht := flush_6 t hf
  blk_simp
  rw [after0_6]
  have key : ∀ i j, (outsAt0 m c t.val t.isLt).2.1 (ix2 i j) = Gdxb m c ((win0_6.blk t).view.emb (ix2 i j)) := fun i j => by
    rw [out_dxb m c t ht, emb_6, Gdxb, val_main_v39_apply, ref_dx, ← dx_blk m c t ht, k0_pay9]
    rfl
  rw [eq_ix2 y]
  exact key (y 0) (y 1)

/-! ### The gradient of the gains -/

/-- A block of rows' part of the gradient of the gains. -/
def dgblk (j : Fin 1024) (b : ℕ) : EReal := ∑ i : Fin 1024, if h : b * 1024 + i.val < 4096 then
  partg (a0 m c) (a1 m c) (a2 m c) ⟨b * 1024 + i.val, h⟩ j else 0

theorem dg_blk (t : Fin cfg0.N) (h2 : t.val % 4 = 3) (j : Fin 1024) :
    k0_pay8 (outsAt0 m c t.val t.isLt).2.2.2 (iblk m c 2 t) (ix2 0 j) = dgblk m c j (t.val / 4) := by
  rw [pay_dg, dgblk]
  refine Finset.sum_congr rfl fun i _ => ?_
  have hN := t_lt t
  rw [dif_pos (by omega)]
  simp only [acc_flush m c t h2, blk_2, partg]
  rfl

theorem dg_at (j : Fin 1024) : ∀ n : ℕ, ∀ hn : n < cfg0.N, 3 ≤ n →
    (outsAt0 m c n hn).2.2.1 (ix2 0 j) = ∑ b ∈ Finset.range ((n + 1) / 4), dgblk m c j b := by
  intro n
  induction n with
  | zero => intro _ h; omega
  | succ n ih =>
    intro hn h
    by_cases h2 : (n + 1) % 4 = 3
    · have hd := dg_blk m c ⟨n + 1, hn⟩ h2 j
      rw [scr_next m c ⟨n + 1, hn⟩ (show ¬(n + 1) % 4 = 0 by omega)] at hd
      by_cases h3 : n + 1 < 4
      · rw [outsAt0_C m c ⟨n + 1, hn⟩ (show ¬(n + 1) % 4 = 0 by omega) (show 1 ≤ (n + 1) % 4 by omega) h2 h3 (show ¬4 ≤ n + 1 by omega)]
        frame_out
        rw [(Memref.isWhole_whole _).read_unread, show (n + 1 + 1) / 4 = 1 by omega, Finset.sum_range_one]
        exact hd.trans (congrArg _ (show (n + 1) / 4 = 0 by omega))
      · rw [outsAt0_D m c ⟨n + 1, hn⟩ (show ¬(n + 1) % 4 = 0 by omega) (show 1 ≤ (n + 1) % 4 by omega) h2 h3 (show 4 ≤ n + 1 by omega)]
        frame_out
        rw [(Memref.isWhole_whole _).read_unread, show (n + 1 + 1) / 4 = (n + 1) / 4 + 1 by omega, Finset.sum_range_succ, k0_pay4, shapeCast_self]
        exact congrArg₂ (· + ·) (ih (by omega) (by omega)) hd
    · rw [show (n + 1 + 1) / 4 = (n + 1) / 4 by omega, ← ih (by omega) (by omega)]
      by_cases h0 : (n + 1) % 4 = 0
      · rw [outsAt0_A m c ⟨n + 1, hn⟩ h0 (show ¬1 ≤ (n + 1) % 4 by omega) h2]
        rfl
      · rw [outsAt0_B m c ⟨n + 1, hn⟩ h0 (show 1 ≤ (n + 1) % 4 by omega) h2]
        rfl

theorem emb_7 (t : Fin cfg0.N) (j : Fin 1024) : (win0_7.blk t).view.emb (ix2 0 j) = ix2 0 j := funext fun x => Fin.ext (by
  match x with | ⟨0, _⟩ => blk_simp [idx_7 t] | ⟨1, _⟩ => blk_simp [idx_7 t])

theorem flush_7 : ∀ t : Fin cfg0.N, (cfg0.win 7).flush t = true → t.val = 15 := by decide +kernel

abbrev Gdg : Vec Ideal S1x1024 .f32 := val_main_v21 (F := Ideal) (a0 m c) (a1 m c) (a2 m c)

theorem final_dg : (dats m 0 c).arrAt 7 cfg0.N = Gdg m c := by
  refine (dats m 0 c).arrAt_eq_of_covers 7 _ (by decide +kernel) fun t hf y => ?_
  have ht := flush_7 t hf
  blk_simp
  rw [after0_7]
  have key : ∀ j, (outsAt0 m c t.val t.isLt).2.2.1 (ix2 0 j) = Gdg m c ((win0_7.blk t).view.emb (ix2 0 j)) := fun j => by
    rw [emb_7, Gdg, ref_dg, dg_at m c j t.val t.isLt (by omega), show (t.val + 1) / 4 = 4 by omega, Finset.sum_range]
    exact Fin.sum_mul_add_congr fun s k hl => dif_pos hl
  have hy : y = ix2 0 (y 1) := (eq_ix2 y).trans (congrArg (fun a => ix2 a (y 1)) (Subsingleton.elim (α := Fin 1) _ _))
  rw [hy]
  exact key (y 1)

/-- On the extended reals, from equal arguments, the kernel and the reference end with equal results. -/
theorem algebraic : Cert.algebraic_UpIdeal_UpReferenceIdeal := by
  intro m ρ m' ρ' _ hagree
  refine ⟨_, _, _, (θ_run defs _ _).mono (fun r h c => ⟨((h c).1).trans (final_dx m c), ((h c).2.1).trans (final_dxb m c), ((h c).2.2.1).trans (final_dg m c), (h c).2.2.2⟩) (Cert.UpIdeal.Value.run_blocks m ρ), ?_⟩
  refine (θ_run _ _ _).mono (fun r h c => ?_) (Cert.UpReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [val_main_v38_eq, a0, a1, a2, a3, a4]
  · rw [val_main_v39_eq, a0, a1, a2, a3, a4]
  · rw [val_main_v21_eq, a0, a1, a2]

end Cert.UpIdeal.Mlp

end
-- ==== Proof.UpW.lean ====
/- The gradient of the first layer's weights, on the extended reals: each entry the kernel leaves is one sum over all rows
   of the layer's input times the incoming gradient, which is the reference's product. -/
module

public import proofs.«01_k».proof.Proof.Gen.UpWIdeal.Value
public import proofs.«01_k».proof.Proof.Gen.UpWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.UpWIdeal.Mlp

open Cert.UpWIdeal Cert.UpWIdeal.Gen
open Idealize.ShloMosaic Idealize.ShloMosaic.TcCoe Idealize.ShloMosaic.Tactic Idealize.SL.Sem
open Cert.UpWReferenceIdeal.Read

theorem pay (x : Vec Ideal S1024x1024 .bf16) (y : Vec Ideal S1024x1024 .bf16) (i : Fin 1024) (j : Fin 1024) :
    (k0_pay1 x y) (ix2 i j) = ∑ k : Fin 1024, x (ix2 k i) * y (ix2 k j) := by
  pointwise [k0_pay1]

/-- Row `k`'s part of the gradient at `i`, `j`. -/
def part (h : Vec Ideal S4096x1024 .bf16) (z : Vec Ideal S4096x4096 .bf16) (i : Fin 1024) (j : Fin 4096) (k : Fin 4096) : EReal :=
  h (ix2 k i) * z (ix2 k j)

/-- The column of the whole gradient that entry `l` of shard `s` is. -/
def lane (s : Fin 32) (l : Fin 128) : Fin 4096 := ⟨s.val * 128 + l.val, by omega⟩

theorem ref (h : Vec Ideal S4096x1024 .bf16) (z : Vec Ideal S4096x4096 .bf16) (s : Fin 32) (i : Fin 1024) (l : Fin 128) :
    val_main_v8 (F := Ideal) h z (ix3 s i l) = ∑ k : Fin 4096, part h z i (lane s l) k := by
  pointwise [val_main_v8, val_main_v7, val_main_v6, val_main_v5, val_main_v4, val_main_v3, val_main_v1]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S4096x4096 .bf16 := m ((c : Thread nD τ).loc main_arg1)

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![t.val / 4, 0, 0] := by decide +kernel

theorem t_lt (t : Fin cfg0.N) : t.val < 16 := lt_of_lt_of_eq t.isLt N_0

def row (t : Fin cfg0.N) (i : Fin 1024) : Fin 4096 := ⟨t.val % 4 * 1024 + i.val, by omega⟩
def colm (t : Fin cfg0.N) (j : Fin 1024) : Fin 4096 := ⟨t.val / 4 * 1024 + j.val, by have := t_lt t; omega⟩

/-- Plane `s` of a point's block, among all planes. -/
def shard (t : Fin cfg0.N) (s : Fin 8) : Fin 32 := ⟨t.val / 4 * 8 + s.val, by have := t_lt t; omega⟩

/-- The column of a point's block that entry `l` of its plane `s` is. -/
def llane (s : Fin 8) (l : Fin 128) : Fin 1024 := ⟨s.val * 128 + l.val, by omega⟩

theorem lane_shard (t : Fin cfg0.N) (s : Fin 8) (l : Fin 128) : lane (shard t s) l = colm t (llane s l) := Fin.ext (by
  show (t.val / 4 * 8 + s.val) * 128 + l.val = t.val / 4 * 1024 + (s.val * 128 + l.val)
  omega)

theorem blk_0 (t : Fin cfg0.N) (k i : Fin 1024) : iblk m c 0 t (ix2 k i) = a0 m c (ix2 (row t k) i) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k : Fin 1024) (j : Fin 1024) : iblk m c 1 t (ix2 k j) = a1 m c (ix2 (row t k) (colm t j)) := by
  blk_simp [iblk, V_main_arg1]
  exact congrArg _ (funext fun x => Fin.ext (by match x with | ⟨0, _⟩ => blk_simp [idx_1 t]; rfl | ⟨1, _⟩ => blk_simp [idx_1 t]; rfl))

/-- What a point adds to entry `i`, `j`. -/
def term (t : Fin cfg0.N) (x : Fin 1024 × Fin 1024) : EReal :=
  ∑ k : Fin 1024, part (a0 m c) (a1 m c) x.1 (colm t x.2) (row t k)

theorem pay_blk (t : Fin cfg0.N) (i : Fin 1024) (j : Fin 1024) : k0_pay1 (iblk m c 0 t) (iblk m c 1 t) (ix2 i j) = term m c t (i, j) := by
  rw [pay, term]
  simp only [blk_0, blk_1, part]

/-- The running sum after a point. -/
def acc (n : ℕ) (h : n < cfg0.N) (x : Fin 1024 × Fin 1024) : EReal := (outsAt0 m c n h).2 (ix2 x.1 x.2)

theorem acc_first (t : Fin cfg0.N) (h0 : t.val % 4 = 0) : acc m c t.val t.isLt = (0 : Fin 1024 × Fin 1024 → EReal) + term m c t := by
  funext x
  rw [acc, zero_add, ← pay_blk m c t x.1 x.2, outsAt0_A m c t h0 (by omega) (by omega)]
  frame_out
  rw [k0_pay2, shapeCast_self]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc]
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_flush (t : Fin cfg0.N) (ht : t.val % 4 = 3) (i : Fin 1024) (j : Fin 1024) : (outsAt0 m c t.val t.isLt).2 (ix2 i j)
    = ∑ k : Fin 4096, part (a0 m c) (a1 m c) i (colm t j) k := by
  have h := Pipeline.eq_sum_fin_of_reset_step_apply_of_flush (acc m c) 4 (0 : Fin 1024 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, colm (⟨4 * (t.val / 4) + s.val, h⟩ : Fin cfg0.N) j = colm t j := fun h => Fin.ext (by
    show (4 * (t.val / 4) + s.val) / 4 * 1024 + j.val = t.val / 4 * 1024 + j.val; omega)
  have e2 : ∀ h, row (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

theorem out (t : Fin cfg0.N) (ht : t.val % 4 = 3) (s : Fin 8) (i : Fin 1024) (l : Fin 128) :
    (outsAt0 m c t.val t.isLt).1 (ix3 s i l) = (outsAt0 m c t.val t.isLt).2 (ix2 i (llane s l)) := by
  rw [outsAt0_C m c t (by omega) (by omega) ht]
  frame_out
  canon_tiles x h
  all_goals
    open_payloads
    refine Cert.Mlp.plane _ _ _ _ _ x i (llane s l) h1 ?_
    show s.val * 128 + l.val = _
    have e0 : s.val = _ := h0
    have e2 : l.val = _ := h2
    omega

theorem emb_2 (t : Fin cfg0.N) (s : Fin 8) (i : Fin 1024) (l : Fin 128) : (win0_2.blk t).view.emb (ix3 s i l) = ix3 (shard t s) i l := funext fun x => Fin.ext (by
  match x with | ⟨0, _⟩ => blk_simp [idx_2 t]; rfl | ⟨1, _⟩ => blk_simp [idx_2 t] | ⟨2, _⟩ => blk_simp [idx_2 t])

theorem flush_mod : ∀ t : Fin cfg0.N, (cfg0.win 2).flush t = true → t.val % 4 = 3 := by decide +kernel

/-- The reference's result on the launch's arguments. -/
abbrev G : Vec Ideal S32x1024x128 .bf16 := val_main_v8 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  rw [after0_2]
  have key : ∀ s i l, (outsAt0 m c t.val t.isLt).1 (ix3 s i l) = G m c ((win0_2.blk t).view.emb (ix3 s i l)) := fun s i l => by
    rw [out m c t ht, acc_flush m c t ht, emb_2, G, ref, lane_shard]
  rw [eq_ix3 y]
  exact key (y 0) (y 1) (y 2)

/-- On the extended reals, from equal arguments, the kernel and the reference end with equal results. -/
theorem algebraic : Cert.algebraic_UpWIdeal_UpWReferenceIdeal := by
  intro m ρ m' ρ' _ hagree
  refine ⟨_, (θ_run defs _ _).mono (fun r h c => ⟨((h c).1).trans (final m c), (h c).2⟩) (Cert.UpWIdeal.Value.run_blocks m ρ), ?_⟩
  refine (θ_run _ _ _).mono (fun r h c => ?_) (Cert.UpWReferenceIdeal.Value.run (F := Ideal) m' ρ')
  obtain ⟨a0, a1⟩ := hagree c
  refine ⟨(h c).1.trans ?_, (h c).2⟩
  rw [val_main_v8_eq, a0, a1]

end Cert.UpWIdeal.Mlp

end
-- ==== Proof.In.lean ====
/- The gradient through the block's input matrices and their norm, on the extended reals: the kernel's running product over the input
   matrices' columns is one sum, its gradient of each row is the reference's, and its gradient of the gains is one sum over all rows. -/
module

public import proofs.«01_k».proof.Proof.Gen.InIdeal.Value
public import proofs.«01_k».proof.Proof.Gen.InReferenceIdeal.Read
public import proofs.«01_k».proof.Defs
public import proofs.«01_k».proof.Proof.Norm
public import Idealize.ShloMosaic.Lib.Pointwise
public import Idealize.ShloMosaic.Lib.Pipeline.ValueKit

@[expose] public section

set_option maxRecDepth 16384

noncomputable section

namespace Cert.InIdeal.Mlp

open Cert.InIdeal Cert.InIdeal.Gen
open Idealize.ShloMosaic Idealize.ShloMosaic.TcCoe Idealize.ShloMosaic.Tactic Idealize.SL.Sem
open Cert.InReferenceIdeal.Read Cert.Mlp

theorem pay (x : Vec Ideal S512x3072 .bf16) (y : Vec Ideal S1024x3072 .bf16) (i : Fin 512) (j : Fin 1024) :
    (k0_pay1 x y) (ix2 i j) = ∑ k : Fin 3072, x (ix2 i k) * y (ix2 j k) := by
  pointwise [k0_pay1]

theorem pay_dx (d x : Vec Ideal S512x1024 .f32) (g : Vec Ideal S1x1024 .f32) (s : Vec Ideal S512x1024 .f32) (i : Fin 512) (j : Fin 1024) :
    (k0_pay7 d x g s) (ix2 i j) = kerdx (fun k => d (ix2 i k)) (fun k => g (ix2 0 k)) (fun k => x (ix2 i k)) (s (ix2 i j)) j := by
  pointwise [k0_pay7, k0_pay6, k0_pay5]
  rfl

theorem pay_dg (d x : Vec Ideal S512x1024 .f32) (j : Fin 1024) :
    (k0_pay8 d x) (ix2 0 j) = ∑ i : Fin 512, d (ix2 i j) * (x (ix2 i j) * rstd (fun k => x (ix2 i k))) := by
  pointwise [k0_pay8, k0_pay6, k0_pay5]
  rfl

/-! ### The reference, read at an index -/

section Reference

variable (z : Vec Ideal S4096x6144 .bf16) (w : Vec Ideal S1024x6144 .bf16) (x : Vec Ideal S4096x1024 .f32) (g : Vec Ideal S1x1024 .f32)
  (s : Vec Ideal S4096x1024 .f32) (i : Fin 4096) (j : Fin 1024)

/-- One column's part of an entry of the product. -/
def part (k : Fin 6144) : EReal := z (ix2 i k) * w (ix2 j k)

/-- The gradient of the normalised rows. -/
def prod : EReal := ∑ k : Fin 6144, part z w i j k

/-- The gradient of the stream. -/
def gradx : EReal := kerdx (fun k => prod z w i k) (fun k => g (ix2 0 k)) (fun k => x (ix2 i k)) (s (ix2 i j)) j

/-- A row's part of the gradient of the gains. -/
def partg : EReal := prod z w i j * (x (ix2 i j) * rstd (fun k => x (ix2 i k)))

theorem ref_rstd : val_main_v8 (F := Ideal) x (ix2 i 0) = rstd (fun k => x (ix2 i k)) := by
  pointwise [val_main_v8, val_main_v7, val_main_v6, val_main_v5, val_main_v4, val_main_v3, val_main_v2, val_main_v1, val_main_cst, val_main_cst_0,
    val_main_cst_1]
  rfl

theorem ref_dx : val_main_v38 (F := Ideal) z w x g s (ix2 i j) = gradx z w x g s i j := by
  rw [gradx, dx_eq]
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v18, val_main_v11, val_main_v10,
    val_main_v9, val_main_v8, val_main_v7, val_main_v6, val_main_v5, val_main_v4, val_main_v3, val_main_v2, val_main_v1, val_main_cst, val_main_cst_0,
    val_main_cst_1, val_main_cst_2, val_main_cst_4, val_main_cst_5, val_main_cst_6]
  simp only [Fin.sum_const, one_smul]
  rfl

theorem ref_dg : val_main_v21 (F := Ideal) z w x (ix2 0 j) = ∑ i : Fin 4096, partg z w x i j := by
  pointwise [val_main_v21, val_main_v20, val_main_v19, val_main_v18, val_main_v13, val_main_v12, val_main_cst_3]
  refine Finset.sum_congr rfl fun i _ => ?_
  rw [ref_rstd]
  exact mul_comm _ _

end Reference

/-! ### The kernel's blocks -/

variable (m : (ℓ : Loc nD τ sig) → Buf (Elt Ideal) ℓ) (c : Dev nD)

abbrev a0 : Vec Ideal S4096x6144 .bf16 := m ((c : Thread nD τ).loc main_arg0)
abbrev a1 : Vec Ideal S1024x6144 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)
abbrev a4 : Vec Ideal S4096x1024 .f32 := m ((c : Thread nD τ).loc main_arg4)

theorem idx_0 : ∀ t : Fin cfg0.N, win0_0.index t = ![t.val / 2, t.val % 2] := by decide +kernel
theorem idx_1 : ∀ t : Fin cfg0.N, win0_1.index t = ![0, t.val % 2] := by decide +kernel
theorem idx_2 : ∀ t : Fin cfg0.N, win0_2.index t = ![t.val / 2, 0] := by decide +kernel
theorem idx_3 : ∀ t : Fin cfg0.N, win0_3.index t = ![0, 0] := by decide +kernel
theorem idx_4 : ∀ t : Fin cfg0.N, win0_4.index t = ![t.val / 2, 0] := by decide +kernel
theorem idx_5 : ∀ t : Fin cfg0.N, win0_5.index t = ![t.val / 2, 0] := by decide +kernel
theorem idx_6 : ∀ t : Fin cfg0.N, win0_6.index t = ![t.val / 2, 0] := by decide +kernel
theorem idx_7 : ∀ t : Fin cfg0.N, win0_7.index t = ![0, 0] := by decide +kernel

theorem t_lt (t : Fin cfg0.N) : t.val < 16 := lt_of_lt_of_eq t.isLt N_0

def row (t : Fin cfg0.N) (i : Fin 512) : Fin 4096 := ⟨t.val / 2 * 512 + i.val, by have := t_lt t; omega⟩
def lane (t : Fin cfg0.N) (k : Fin 3072) : Fin 6144 := ⟨t.val % 2 * 3072 + k.val, by omega⟩

theorem blk_0 (t : Fin cfg0.N) (i : Fin 512) (k : Fin 3072) : iblk m c 0 t (ix2 i k) = a0 m c (ix2 (row t i) (lane t k)) := by
  blk_simp [iblk, V_main_arg0]
  exact congrArg _ (funext fun x => Fin.ext (by match x with | ⟨0, _⟩ => blk_simp [idx_0 t]; rfl | ⟨1, _⟩ => blk_simp [idx_0 t]; rfl))

theorem blk_1 (t : Fin cfg0.N) (j : Fin 1024) (k : Fin 3072) : iblk m c 1 t (ix2 j k) = a1 m c (ix2 j (lane t k)) := by
  blk_simp [iblk, V_main_arg1]
  exact congrArg _ (funext fun x => Fin.ext (by match x with | ⟨0, _⟩ => blk_simp [idx_1 t] | ⟨1, _⟩ => blk_simp [idx_1 t]; rfl))

theorem blk_2 (t : Fin cfg0.N) (i : Fin 512) (j : Fin 1024) : iblk m c 2 t (ix2 i j) = a2 m c (ix2 (row t i) j) := by
  blk_simp [iblk, V_main_arg2]
  exact congrArg _ (funext fun x => Fin.ext (by match x with | ⟨0, _⟩ => blk_simp [idx_2 t]; rfl | ⟨1, _⟩ => blk_simp [idx_2 t]))

theorem blk_3 (t : Fin cfg0.N) (j : Fin 1024) : iblk m c 3 t (ix2 0 j) = a3 m c (ix2 0 j) := by
  blk_simp [iblk, V_main_arg3]
  exact congrArg _ (funext fun x => Fin.ext (by match x with | ⟨0, _⟩ => blk_simp [idx_3 t] | ⟨1, _⟩ => blk_simp [idx_3 t]))

theorem blk_4 (t : Fin cfg0.N) (i : Fin 512) (j : Fin 1024) : iblk m c 4 t (ix2 i j) = a4 m c (ix2 (row t i) j) := by
  blk_simp [iblk, V_main_arg4]
  exact congrArg _ (funext fun x => Fin.ext (by match x with | ⟨0, _⟩ => blk_simp [idx_4 t]; rfl | ⟨1, _⟩ => blk_simp [idx_4 t]))

/-! ### The running product -/

/-- What a point adds to entry `i`, `j` of the product. -/
def term (t : Fin cfg0.N) (x : Fin 512 × Fin 1024) : EReal :=
  ∑ k : Fin 3072, part (a0 m c) (a1 m c) (row t x.1) x.2 (lane t k)

theorem pay_blk (t : Fin cfg0.N) (i : Fin 512) (j : Fin 1024) : k0_pay1 (iblk m c 0 t) (iblk m c 1 t) (ix2 i j) = term m c t (i, j) := by
  rw [pay, term]
  simp only [blk_0, blk_1]
  rfl

/-- The running product after a point. -/
def acc (n : ℕ) (h : n < cfg0.N) (x : Fin 512 × Fin 1024) : EReal := (outsAt0 m c n h).2.2.2 (ix2 x.1 x.2)

theorem acc_first (t : Fin cfg0.N) (h0 : t.val % 2 = 0) : acc m c t.val t.isLt = (0 : Fin 512 × Fin 1024 → EReal) + term m c t := by
  funext x
  rw [acc, zero_add, ← pay_blk m c t x.1 x.2, outsAt0_A m c t h0 (by omega) (by omega)]
  frame_out
  rw [k0_pay2, shapeCast_self]

/-- A later point's running product, in every case. -/
theorem scr_next (t : Fin cfg0.N) (h0 : ¬t.val % 2 = 0) : (outsAt0 m c t.val t.isLt).2.2.2 = k0_pay3 (iblk m c 0 t) (iblk m c 1 t)
    (outsAt0 m c (t.val - 1) (Nat.lt_of_le_of_lt (Nat.sub_le _ _) t.isLt)).2.2.2 := by
  by_cases h3 : t.val < 2
  · rw [outsAt0_B m c t h0 (by omega) (by omega) h3 (by omega)]
    frame_out
    rw [(Memref.isWhole_whole _).read_unread]
  · rw [outsAt0_C m c t h0 (by omega) (by omega) h3 (by omega)]
    frame_out
    rw [(Memref.isWhole_whole _).read_unread]

theorem acc_next (t : Fin cfg0.N) (h0 : ¬t.val % 2 = 0) :
    acc m c t.val t.isLt = acc m c (t.val - 1) (Nat.lt_of_le_of_lt (Nat.sub_le _ _) t.isLt) + term m c t := by
  funext x
  rw [Pi.add_apply, ← pay_blk m c t x.1 x.2, acc, acc, scr_next m c t h0, k0_pay3, shapeCast_self]
  rfl

theorem acc_flush (t : Fin cfg0.N) (ht : t.val % 2 = 1) (i : Fin 512) (j : Fin 1024) : (outsAt0 m c t.val t.isLt).2.2.2 (ix2 i j)
    = prod (a0 m c) (a1 m c) (row t i) j := by
  have h := Pipeline.eq_sum_fin_of_reset_step_apply_of_flush (acc m c) 2 (0 : Fin 512 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, row (⟨2 * (t.val / 2) + s.val, h⟩ : Fin cfg0.N) i = row t i := fun h => Fin.ext (by
    show (2 * (t.val / 2) + s.val) / 2 * 512 + i.val = t.val / 2 * 512 + i.val; omega)
  have e2 : ∀ h, lane (⟨2 * (t.val / 2) + s.val, h⟩ : Fin cfg0.N) k = ⟨s.val * 3072 + k.val, hl⟩ := fun h => Fin.ext (by
    show (2 * (t.val / 2) + s.val) % 2 * 3072 + k.val = s.val * 3072 + k.val; omega)
  dsimp only
  rw [e1, e2]

/-! ### The gradient of the stream -/

theorem out_dx (t : Fin cfg0.N) (h2 : t.val % 2 = 1) : (outsAt0 m c t.val t.isLt).1
    = k0_pay7 (outsAt0 m c t.val t.isLt).2.2.2 (iblk m c 2 t) (iblk m c 3 t) (iblk m c 4 t) := by
  rw [scr_next m c t (by omega)]
  by_cases h3 : t.val < 2
  · rw [outsAt0_B m c t (by omega) h2 h2 h3 (by omega)]
    frame_out
    rw [(Memref.isWhole_whole _).read_unread]
  · rw [outsAt0_C m c t (by omega) h2 h2 h3 (by omega)]
    frame_out
    rw [(Memref.isWhole_whole _).read_unread]

theorem out_dxb (t : Fin cfg0.N) (h2 : t.val % 2 = 1) : (outsAt0 m c t.val t.isLt).2.1
    = k0_pay9 (outsAt0 m c t.val t.isLt).2.2.2 (iblk m c 2 t) (iblk m c 3 t) (iblk m c 4 t) := by
  rw [scr_next m c t (by omega)]
  by_cases h3 : t.val < 2
  · rw [outsAt0_B m c t (by omega) h2 h2 h3 (by omega)]
    frame_out
    rw [(Memref.isWhole_whole _).read_unread]
  · rw [outsAt0_C m c t (by omega) h2 h2 h3 (by omega)]
    frame_out
    rw [(Memref.isWhole_whole _).read_unread]

theorem dx_blk (t : Fin cfg0.N) (h2 : t.val % 2 = 1) (i : Fin 512) (j : Fin 1024) :
    k0_pay7 (outsAt0 m c t.val t.isLt).2.2.2 (iblk m c 2 t) (iblk m c 3 t) (iblk m c 4 t) (ix2 i j)
      = gradx (a0 m c) (a1 m c) (a2 m c) (a3 m c) (a4 m c) (row t i) j := by
  rw [pay_dx, gradx]
  simp only [acc_flush m c t h2, blk_2, blk_3, blk_4]

theorem emb_5 (t : Fin cfg0.N) (i : Fin 512) (j : Fin 1024) : (win0_5.blk t).view.emb (ix2 i j) = ix2 (row t i) j := funext fun x => Fin.ext (by
  match x with | ⟨0, _⟩ => blk_simp [idx_5 t]; rfl | ⟨1, _⟩ => blk_simp [idx_5 t])

theorem emb_6 (t : Fin cfg0.N) (i : Fin 512) (j : Fin 1024) : (win0_6.blk t).view.emb (ix2 i j) = ix2 (row t i) j := funext fun x => Fin.ext (by
  match x with | ⟨0, _⟩ => blk_simp [idx_6 t]; rfl | ⟨1, _⟩ => blk_simp [idx_6 t])

theorem flush_5 : ∀ t : Fin cfg0.N, (cfg0.win 5).flush t = true → t.val % 2 = 1 := by decide +kernel
theorem flush_6 : ∀ t : Fin cfg0.N, (cfg0.win 6).flush t = true → t.val % 2 = 1 := by decide +kernel

/-! The results of the reference on the arguments. -/

abbrev Gdx : Vec Ideal S4096x1024 .f32 := val_main_v38 (F := Ideal) (a0 m c) (a1 m c) (a2 m c) (a3 m c) (a4 m c)

theorem final_dx : (dats m 0 c).arrAt 5 cfg0.N = Gdx m c := by
  refine (dats m 0 c).arrAt_eq_of_covers 5 _ (by decide +kernel) fun t hf y => ?_
  have ht := flush_5 t hf
  blk_simp
  rw [after0_5]
  have key : ∀ i j, (outsAt0 m c t.val t.isLt).1 (ix2 i j) = Gdx m c ((win0_5.blk t).view.emb (ix2 i j)) := fun i j => by
    rw [out_dx m c t ht, dx_blk m c t ht, emb_5, Gdx, ref_dx]
  rw [eq_ix2 y]
  exact key (y 0) (y 1)

abbrev Gdxb : Vec Ideal S4096x1024 .bf16 := val_main_v39 (F := Ideal) (a0 m c) (a1 m c) (a2 m c) (a3 m c) (a4 m c)

theorem final_dxb : (dats m 0 c).arrAt 6 cfg0.N = Gdxb m c := by
  refine (dats m 0 c).arrAt_eq_of_covers 6 _ (by decide +kernel) fun t hf y => ?_
  have ht := flush_6 t hf
  blk_simp
  rw [after0_6]
  have key : ∀ i j, (outsAt0 m c t.val t.isLt).2.1 (ix2 i j) = Gdxb m c ((win0_6.blk t).view.emb (ix2 i j)) := fun i j => by
    rw [out_dxb m c t ht, emb_6, Gdxb, val_main_v39_apply, ref_dx, ← dx_blk m c t ht, k0_pay9]
    rfl
  rw [eq_ix2 y]
  exact key (y 0) (y 1)

/-! ### The gradient of the gains -/

/-- A block of rows' part of the gradient of the gains. -/
def dgblk (j : Fin 1024) (b : ℕ) : EReal := ∑ i : Fin 512, if h : b * 512 + i.val < 4096 then
  partg (a0 m c) (a1 m c) (a2 m c) ⟨b * 512 + i.val, h⟩ j else 0

theorem dg_blk (t : Fin cfg0.N) (h2 : t.val % 2 = 1) (j : Fin 1024) :
    k0_pay8 (outsAt0 m c t.val t.isLt).2.2.2 (iblk m c 2 t) (ix2 0 j) = dgblk m c j (t.val / 2) := by
  rw [pay_dg, dgblk]
  refine Finset.sum_congr rfl fun i _ => ?_
  have hN := t_lt t
  rw [dif_pos (by omega)]
  simp only [acc_flush m c t h2, blk_2, partg]
  rfl

theorem dg_at (j : Fin 1024) : ∀ n : ℕ, ∀ hn : n < cfg0.N, 1 ≤ n →
    (outsAt0 m c n hn).2.2.1 (ix2 0 j) = ∑ b ∈ Finset.range ((n + 1) / 2), dgblk m c j b := by
  intro n
  induction n with
  | zero => intro _ h; omega
  | succ n ih =>
    intro hn h
    by_cases h2 : (n + 1) % 2 = 1
    · have hd := dg_blk m c ⟨n + 1, hn⟩ h2 j
      rw [scr_next m c ⟨n + 1, hn⟩ (show ¬(n + 1) % 2 = 0 by omega)] at hd
      by_cases h3 : n + 1 < 2
      · rw [outsAt0_B m c ⟨n + 1, hn⟩ (show ¬(n + 1) % 2 = 0 by omega) h2 h2 h3 (show ¬2 ≤ n + 1 by omega)]
        frame_out
        rw [(Memref.isWhole_whole _).read_unread, show (n + 1 + 1) / 2 = 1 by omega, Finset.sum_range_one]
        exact hd.trans (congrArg _ (show (n + 1) / 2 = 0 by omega))
      · rw [outsAt0_C m c ⟨n + 1, hn⟩ (show ¬(n + 1) % 2 = 0 by omega) h2 h2 h3 (show 2 ≤ n + 1 by omega)]
        frame_out
        rw [(Memref.isWhole_whole _).read_unread, show (n + 1 + 1) / 2 = (n + 1) / 2 + 1 by omega, Finset.sum_range_succ, k0_pay4, shapeCast_self]
        exact congrArg₂ (· + ·) (ih (by omega) (by omega)) hd
    · rw [show (n + 1 + 1) / 2 = (n + 1) / 2 by omega, ← ih (by omega) (by omega),
        outsAt0_A m c ⟨n + 1, hn⟩ (show (n + 1) % 2 = 0 by omega) h2 h2]
      rfl

theorem emb_7 (t : Fin cfg0.N) (j : Fin 1024) : (win0_7.blk t).view.emb (ix2 0 j) = ix2 0 j := funext fun x => Fin.ext (by
  match x with | ⟨0, _⟩ => blk_simp [idx_7 t] | ⟨1, _⟩ => blk_simp [idx_7 t])

theorem flush_7 : ∀ t : Fin cfg0.N, (cfg0.win 7).flush t = true → t.val = 15 := by decide +kernel

abbrev Gdg : Vec Ideal S1x1024 .f32 := val_main_v21 (F := Ideal) (a0 m c) (a1 m c) (a2 m c)

theorem final_dg : (dats m 0 c).arrAt 7 cfg0.N = Gdg m c := by
  refine (dats m 0 c).arrAt_eq_of_covers 7 _ (by decide +kernel) fun t hf y => ?_
  have ht := flush_7 t hf
  blk_simp
  rw [after0_7]
  have key : ∀ j, (outsAt0 m c t.val t.isLt).2.2.1 (ix2 0 j) = Gdg m c ((win0_7.blk t).view.emb (ix2 0 j)) := fun j => by
    rw [emb_7, Gdg, ref_dg, dg_at m c j t.val t.isLt (by omega), show (t.val + 1) / 2 = 8 by omega, Finset.sum_range]
    exact Fin.sum_mul_add_congr fun s k hl => dif_pos hl
  have hy : y = ix2 0 (y 1) := (eq_ix2 y).trans (congrArg (fun a => ix2 a (y 1)) (Subsingleton.elim (α := Fin 1) _ _))
  rw [hy]
  exact key (y 1)

/-- On the extended reals, from equal arguments, the kernel and the reference end with equal results. -/
theorem algebraic : Cert.algebraic_InIdeal_InReferenceIdeal := by
  intro m ρ m' ρ' _ hagree
  refine ⟨_, _, _, (θ_run defs _ _).mono (fun r h c => ⟨((h c).1).trans (final_dx m c), ((h c).2.1).trans (final_dxb m c), ((h c).2.2.1).trans (final_dg m c), (h c).2.2.2⟩) (Cert.InIdeal.Value.run_blocks m ρ), ?_⟩
  refine (θ_run _ _ _).mono (fun r h c => ?_) (Cert.InReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [val_main_v38_eq, a0, a1, a2, a3, a4]
  · rw [val_main_v39_eq, a0, a1, a2, a3, a4]
  · rw [val_main_v21_eq, a0, a1, a2]

end Cert.InIdeal.Mlp

end
-- ==== Proof.InW.lean ====
/- The gradient of the input projection's weights, on the extended reals: each entry the kernel leaves is one sum over all
   rows of the projection's input times the incoming gradient, which is the reference's product. -/
module

public import proofs.«01_k».proof.Proof.Gen.InWIdeal.Value
public import proofs.«01_k».proof.Proof.Gen.InWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.InWIdeal.Mlp

open Cert.InWIdeal Cert.InWIdeal.Gen
open Idealize.ShloMosaic Idealize.ShloMosaic.TcCoe Idealize.ShloMosaic.Tactic Idealize.SL.Sem
open Cert.InWReferenceIdeal.Read

theorem pay (x : Vec Ideal S1024x1024 .bf16) (y : Vec Ideal S1024x2048 .bf16) (i : Fin 1024) (j : Fin 2048) :
    (k0_pay1 x y) (ix2 i j) = ∑ k : Fin 1024, x (ix2 k i) * y (ix2 k j) := by
  pointwise [k0_pay1]

/-- Row `k`'s part of the gradient at `i`, `j`. -/
def part (h : Vec Ideal S4096x1024 .bf16) (z : Vec Ideal S4096x6144 .bf16) (i : Fin 1024) (j : Fin 6144) (k : Fin 4096) : EReal :=
  h (ix2 k i) * z (ix2 k j)

/-- The column of the whole gradient that entry `l` of shard `s` is. -/
def lane (s : Fin 48) (l : Fin 128) : Fin 6144 := ⟨s.val * 128 + l.val, by omega⟩

theorem ref (h : Vec Ideal S4096x1024 .bf16) (z : Vec Ideal S4096x6144 .bf16) (s : Fin 48) (i : Fin 1024) (l : Fin 128) :
    val_main_v8 (F := Ideal) h z (ix3 s i l) = ∑ k : Fin 4096, part h z i (lane s l) k := by
  pointwise [val_main_v8, val_main_v7, val_main_v6, val_main_v5, val_main_v4, val_main_v3, val_main_v1]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S4096x6144 .bf16 := m ((c : Thread nD τ).loc main_arg1)

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![t.val / 4, 0, 0] := by decide +kernel

theorem t_lt (t : Fin cfg0.N) : t.val < 12 := lt_of_lt_of_eq t.isLt N_0

def row (t : Fin cfg0.N) (i : Fin 1024) : Fin 4096 := ⟨t.val % 4 * 1024 + i.val, by omega⟩
def colm (t : Fin cfg0.N) (j : Fin 2048) : Fin 6144 := ⟨t.val / 4 * 2048 + j.val, by have := t_lt t; omega⟩

/-- Plane `s` of a point's block, among all planes. -/
def shard (t : Fin cfg0.N) (s : Fin 16) : Fin 48 := ⟨t.val / 4 * 16 + s.val, by have := t_lt t; omega⟩

/-- The column of a point's block that entry `l` of its plane `s` is. -/
def llane (s : Fin 16) (l : Fin 128) : Fin 2048 := ⟨s.val * 128 + l.val, by omega⟩

theorem lane_shard (t : Fin cfg0.N) (s : Fin 16) (l : Fin 128) : lane (shard t s) l = colm t (llane s l) := Fin.ext (by
  show (t.val / 4 * 16 + s.val) * 128 + l.val = t.val / 4 * 2048 + (s.val * 128 + l.val)
  omega)

theorem blk_0 (t : Fin cfg0.N) (k i : Fin 1024) : iblk m c 0 t (ix2 k i) = a0 m c (ix2 (row t k) i) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k : Fin 1024) (j : Fin 2048) : iblk m c 1 t (ix2 k j) = a1 m c (ix2 (row t k) (colm t j)) := by
  blk_simp [iblk, V_main_arg1]
  exact congrArg _ (funext fun x => Fin.ext (by match x with | ⟨0, _⟩ => blk_simp [idx_1 t]; rfl | ⟨1, _⟩ => blk_simp [idx_1 t]; rfl))

/-- What a point adds to entry `i`, `j`. -/
def term (t : Fin cfg0.N) (x : Fin 1024 × Fin 2048) : EReal :=
  ∑ k : Fin 1024, part (a0 m c) (a1 m c) x.1 (colm t x.2) (row t k)

theorem pay_blk (t : Fin cfg0.N) (i : Fin 1024) (j : Fin 2048) : k0_pay1 (iblk m c 0 t) (iblk m c 1 t) (ix2 i j) = term m c t (i, j) := by
  rw [pay, term]
  simp only [blk_0, blk_1, part]

/-- The running sum after a point. -/
def acc (n : ℕ) (h : n < cfg0.N) (x : Fin 1024 × Fin 2048) : EReal := (outsAt0 m c n h).2 (ix2 x.1 x.2)

theorem acc_first (t : Fin cfg0.N) (h0 : t.val % 4 = 0) : acc m c t.val t.isLt = (0 : Fin 1024 × Fin 2048 → EReal) + term m c t := by
  funext x
  rw [acc, zero_add, ← pay_blk m c t x.1 x.2, outsAt0_A m c t h0 (by omega) (by omega)]
  frame_out
  rw [k0_pay2, shapeCast_self]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc]
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_flush (t : Fin cfg0.N) (ht : t.val % 4 = 3) (i : Fin 1024) (j : Fin 2048) : (outsAt0 m c t.val t.isLt).2 (ix2 i j)
    = ∑ k : Fin 4096, part (a0 m c) (a1 m c) i (colm t j) k := by
  have h := Pipeline.eq_sum_fin_of_reset_step_apply_of_flush (acc m c) 4 (0 : Fin 1024 × Fin 2048 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, colm (⟨4 * (t.val / 4) + s.val, h⟩ : Fin cfg0.N) j = colm t j := fun h => Fin.ext (by
    show (4 * (t.val / 4) + s.val) / 4 * 2048 + j.val = t.val / 4 * 2048 + j.val; omega)
  have e2 : ∀ h, row (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

theorem out (t : Fin cfg0.N) (ht : t.val % 4 = 3) (s : Fin 16) (i : Fin 1024) (l : Fin 128) :
    (outsAt0 m c t.val t.isLt).1 (ix3 s i l) = (outsAt0 m c t.val t.isLt).2 (ix2 i (llane s l)) := by
  rw [outsAt0_C m c t (by omega) (by omega) ht]
  frame_out
  canon_tiles x h
  all_goals
    open_payloads
    refine Cert.Mlp.plane _ _ _ _ _ x i (llane s l) h1 ?_
    show s.val * 128 + l.val = _
    have e0 : s.val = _ := h0
    have e2 : l.val = _ := h2
    omega

theorem emb_2 (t : Fin cfg0.N) (s : Fin 16) (i : Fin 1024) (l : Fin 128) : (win0_2.blk t).view.emb (ix3 s i l) = ix3 (shard t s) i l := funext fun x => Fin.ext (by
  match x with | ⟨0, _⟩ => blk_simp [idx_2 t]; rfl | ⟨1, _⟩ => blk_simp [idx_2 t] | ⟨2, _⟩ => blk_simp [idx_2 t])

theorem flush_mod : ∀ t : Fin cfg0.N, (cfg0.win 2).flush t = true → t.val % 4 = 3 := by decide +kernel

/-- The reference's result on the launch's arguments. -/
abbrev G : Vec Ideal S48x1024x128 .bf16 := val_main_v8 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  rw [after0_2]
  have key : ∀ s i l, (outsAt0 m c t.val t.isLt).1 (ix3 s i l) = G m c ((win0_2.blk t).view.emb (ix3 s i l)) := fun s i l => by
    rw [out m c t ht, acc_flush m c t ht, emb_2, G, ref, lane_shard]
  rw [eq_ix3 y]
  exact key (y 0) (y 1) (y 2)

/-- On the extended reals, from equal arguments, the kernel and the reference end with equal results. -/
theorem algebraic : Cert.algebraic_InWIdeal_InWReferenceIdeal := by
  intro m ρ m' ρ' _ hagree
  refine ⟨_, (θ_run defs _ _).mono (fun r h c => ⟨((h c).1).trans (final m c), (h c).2⟩) (Cert.InWIdeal.Value.run_blocks m ρ), ?_⟩
  refine (θ_run _ _ _).mono (fun r h c => ?_) (Cert.InWReferenceIdeal.Value.run (F := Ideal) m' ρ')
  obtain ⟨a0, a1⟩ := hagree c
  refine ⟨(h c).1.trans ?_, (h c).2⟩
  rw [val_main_v8_eq, a0, a1]

end Cert.InWIdeal.Mlp

end
-- ==== Proof.LinearFrames.lean ====
/- The output projection's gradients and the forward products change none of their arguments, as MlpFrames.lean shows it for the
   other products. -/
module

public import proofs.«01_k».proof.Defs
public import proofs.«01_k».proof.Proof.Gen.Out
public import proofs.«01_k».proof.Proof.Gen.OutIdeal.Value
public import proofs.«01_k».proof.Proof.Gen.OutReferenceIdeal.Run
public import proofs.«01_k».proof.Proof.Gen.OutW
public import proofs.«01_k».proof.Proof.Gen.OutWIdeal.Value
public import proofs.«01_k».proof.Proof.Gen.OutWReferenceIdeal.Run
public import proofs.«01_k».proof.Proof.Gen.UpFwd
public import proofs.«01_k».proof.Proof.Gen.UpFwdIdeal.Value
public import proofs.«01_k».proof.Proof.Gen.UpFwdReferenceIdeal.Run
public import proofs.«01_k».proof.Proof.Gen.DownFwd
public import proofs.«01_k».proof.Proof.Gen.DownFwdIdeal.Value
public import proofs.«01_k».proof.Proof.Gen.DownFwdReferenceIdeal.Run
public import proofs.«01_k».proof.Proof.Gen.InFwd
public import proofs.«01_k».proof.Proof.Gen.InFwdIdeal.Value
public import proofs.«01_k».proof.Proof.Gen.InFwdReferenceIdeal.Run

@[expose] public section

noncomputable section

namespace Cert.Mlp

open Idealize.ShloMosaic Idealize.SL.Sem

theorem defs_out : Cert.Out.defs (F := Bits) = Cert.OutIdeal.defs (F := Bits) :=
  congrArg (Pipeline.defs Cert.Out.pcfgs) (congrArg Defs.onTc (funext fun l => funext fun x => match l, x with | ⟨0, _⟩, (_, _) => rfl))
theorem defs_outW : Cert.OutW.defs (F := Bits) = Cert.OutWIdeal.defs (F := Bits) :=
  congrArg (Pipeline.defs Cert.OutW.pcfgs) (congrArg Defs.onTc (funext fun l => funext fun x => match l, x with | ⟨0, _⟩, (_, _) => rfl))
theorem defs_upFwd : Cert.UpFwd.defs (F := Bits) = Cert.UpFwdIdeal.defs (F := Bits) :=
  congrArg (Pipeline.defs Cert.UpFwd.pcfgs) (congrArg Defs.onTc (funext fun l => funext fun x => match l, x with | ⟨0, _⟩, (_, _) => rfl))
theorem defs_downFwd : Cert.DownFwd.defs (F := Bits) = Cert.DownFwdIdeal.defs (F := Bits) :=
  congrArg (Pipeline.defs Cert.DownFwd.pcfgs) (congrArg Defs.onTc (funext fun l => funext fun x => match l, x with | ⟨0, _⟩, (_, _) => rfl))
theorem defs_inFwd : Cert.InFwd.defs (F := Bits) = Cert.InFwdIdeal.defs (F := Bits) :=
  congrArg (Pipeline.defs Cert.InFwd.pcfgs) (congrArg Defs.onTc (funext fun l => funext fun x => match l, x with | ⟨0, _⟩, (_, _) => rfl))

theorem out : Cert.quiescent_Out := fun m ρ _ => Eq.mpr (congrArg (fun d => θ_run d _ _ _) defs_out) (Cert.OutIdeal.Gen.frame (F := Bits) m ρ)
theorem outW : Cert.quiescent_OutW := fun m ρ _ => Eq.mpr (congrArg (fun d => θ_run d _ _ _) defs_outW) (Cert.OutWIdeal.Gen.frame (F := Bits) m ρ)
theorem upFwd : Cert.quiescent_UpFwd := fun m ρ _ => Eq.mpr (congrArg (fun d => θ_run d _ _ _) defs_upFwd) (Cert.UpFwdIdeal.Gen.frame (F := Bits) m ρ)
theorem downFwd : Cert.quiescent_DownFwd := fun m ρ _ => Eq.mpr (congrArg (fun d => θ_run d _ _ _) defs_downFwd) (Cert.DownFwdIdeal.Gen.frame (F := Bits) m ρ)
theorem inFwd : Cert.quiescent_InFwd := fun m ρ _ => Eq.mpr (congrArg (fun d => θ_run d _ _ _) defs_inFwd) (Cert.InFwdIdeal.Gen.frame (F := Bits) m ρ)

theorem outIdeal : Cert.quiescent_OutIdeal := fun m ρ _ => Cert.OutIdeal.Gen.frame (F := Ideal) m ρ
theorem outWIdeal : Cert.quiescent_OutWIdeal := fun m ρ _ => Cert.OutWIdeal.Gen.frame (F := Ideal) m ρ
theorem upFwdIdeal : Cert.quiescent_UpFwdIdeal := fun m ρ _ => Cert.UpFwdIdeal.Gen.frame (F := Ideal) m ρ
theorem downFwdIdeal : Cert.quiescent_DownFwdIdeal := fun m ρ _ => Cert.DownFwdIdeal.Gen.frame (F := Ideal) m ρ
theorem inFwdIdeal : Cert.quiescent_InFwdIdeal := fun m ρ _ => Cert.InFwdIdeal.Gen.frame (F := Ideal) m ρ

theorem outReferenceIdeal : Cert.quiescent_OutReferenceIdeal := fun m ρ _ =>
  (θ_run _ _ _).mono (fun r h => ⟨fun c => (h c).2, sem_eq_zero_of_no_sems (by decide) r.2⟩) (Cert.OutReferenceIdeal.Value.run (F := Ideal) m ρ)
theorem outWReferenceIdeal : Cert.quiescent_OutWReferenceIdeal := fun m ρ _ =>
  (θ_run _ _ _).mono (fun r h => ⟨fun c => (h c).2, sem_eq_zero_of_no_sems (by decide) r.2⟩) (Cert.OutWReferenceIdeal.Value.run (F := Ideal) m ρ)
theorem upFwdReferenceIdeal : Cert.quiescent_UpFwdReferenceIdeal := fun m ρ _ =>
  (θ_run _ _ _).mono (fun r h => ⟨fun c => (h c).2, sem_eq_zero_of_no_sems (by decide) r.2⟩) (Cert.UpFwdReferenceIdeal.Value.run (F := Ideal) m ρ)
theorem downFwdReferenceIdeal : Cert.quiescent_DownFwdReferenceIdeal := fun m ρ _ =>
  (θ_run _ _ _).mono (fun r h => ⟨fun c => (h c).2, sem_eq_zero_of_no_sems (by decide) r.2⟩) (Cert.DownFwdReferenceIdeal.Value.run (F := Ideal) m ρ)
theorem inFwdReferenceIdeal : Cert.quiescent_InFwdReferenceIdeal := fun m ρ _ =>
  (θ_run _ _ _).mono (fun r h => ⟨fun c => (h c).2, sem_eq_zero_of_no_sems (by decide) r.2⟩) (Cert.InFwdReferenceIdeal.Value.run (F := Ideal) m ρ)

end Cert.Mlp

end
-- ==== Proof.Out.lean ====
/- The gradient of the output projection's input, on the extended reals: the kernel's blocks of the product with the transposed
   matrix are the reference's. -/
module

public import proofs.«01_k».proof.Proof.Gen.OutIdeal.Value
public import proofs.«01_k».proof.Proof.Gen.OutReferenceIdeal.Read
public import proofs.«01_k».proof.Defs
public import Idealize.ShloMosaic.Lib.Pointwise
public import Idealize.ShloMosaic.Lib.Pipeline.ValueKit

@[expose] public section

set_option maxRecDepth 16384

noncomputable section

namespace Cert.OutIdeal.Mlp

open Cert.OutIdeal Cert.OutIdeal.Gen
open Idealize.ShloMosaic Idealize.ShloMosaic.TcCoe Idealize.ShloMosaic.Tactic Idealize.SL.Sem
open Cert.OutReferenceIdeal.Read

theorem pay (x w : Vec Ideal S1024x1024 .bf16) (i j : Fin 1024) :
    (k0_pay1 x w) (ix2 i j) = ∑ k : Fin 1024, x (ix2 i k) * w (ix2 j k) := by
  pointwise [k0_pay1]

theorem ref (x : Vec Ideal S4096x1024 .bf16) (w : Vec Ideal S1024x1024 .bf16) (i : Fin 4096) (j : Fin 1024) :
    val_main_v4 (F := Ideal) x w (ix2 i j) = ∑ k : Fin 1024, x (ix2 i k) * w (ix2 j k) := by
  pointwise [val_main_v4, val_main_v3, val_main_v2, val_main_v1, val_main_v0]

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S1024x1024 .bf16 := m ((c : Thread nD τ).loc main_arg1)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

theorem t_lt (t : Fin cfg0.N) : t.val < 4 := lt_of_lt_of_eq t.isLt N_0

def row (t : Fin cfg0.N) (i : Fin 1024) : Fin 4096 := ⟨t.val * 1024 + i.val, by have := t_lt t; omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (i k : Fin 1024) : iblk m c 1 t (ix2 i k) = a1 m c (ix2 i k) := by
  blk_simp [iblk, V_main_arg1]
  exact congrArg _ (funext fun x => Fin.ext (by match x with | ⟨0, _⟩ => blk_simp [idx_1 t] | ⟨1, _⟩ => blk_simp [idx_1 t]))

theorem emb_2 (t : Fin cfg0.N) (i j : Fin 1024) : (win0_2.blk t).view.emb (ix2 i j) = ix2 (row t i) j := funext fun x => Fin.ext (by
  match x with | ⟨0, _⟩ => blk_simp [idx_2 t]; rfl | ⟨1, _⟩ => blk_simp [idx_2 t])

theorem out (x w : Vec Ideal S1024x1024 .bf16) : out0_2 x w = k0_pay1 x w := by
  frame_out

/-- The reference's result on the launch's arguments. -/
abbrev G : Vec Ideal S4096x1024 .f32 := val_main_v4 (F := Ideal) (a0 m c) (a1 m c)

theorem final : (dats m 0 c).arrAt 2 cfg0.N = G m c := by
  refine (dats m 0 c).arrAt_eq_of_covers 2 _ (by decide +kernel) fun t hf y => ?_
  blk_simp
  rw [after0_2, out]
  have key : ∀ i j, k0_pay1 (iblk m c 0 t) (iblk m c 1 t) (ix2 i j) = G m c ((win0_2.blk t).view.emb (ix2 i j)) := fun i j => by
    rw [pay, emb_2, G, ref]
    simp only [blk_0, blk_1]
  rw [eq_ix2 y]
  exact key (y 0) (y 1)

/-- On the extended reals, from equal arguments, the kernel and the reference end with equal results. -/
theorem algebraic : Cert.algebraic_OutIdeal_OutReferenceIdeal := by
  intro m ρ m' ρ' _ hagree
  refine ⟨_, (θ_run defs _ _).mono (fun r h c => ⟨((h c).1).trans (final m c), (h c).2⟩) (Cert.OutIdeal.Value.run_blocks m ρ), ?_⟩
  refine (θ_run _ _ _).mono (fun r h c => ?_) (Cert.OutReferenceIdeal.Value.run (F := Ideal) m' ρ')
  obtain ⟨a0, a1⟩ := hagree c
  refine ⟨(h c).1.trans ?_, (h c).2⟩
  rw [val_main_v4_eq, a0, a1]

end Cert.OutIdeal.Mlp

end
-- ==== Proof.OutW.lean ====
/- The gradient of the output projection's matrix, on the extended reals: each entry the kernel leaves is one sum over all rows
   of the merged branches times the incoming gradient, which is the reference's product. -/
module

public import proofs.«01_k».proof.Proof.Gen.OutWIdeal.Value
public import proofs.«01_k».proof.Proof.Gen.OutWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.OutWIdeal.Mlp

open Cert.OutWIdeal Cert.OutWIdeal.Gen
open Idealize.ShloMosaic Idealize.ShloMosaic.TcCoe Idealize.ShloMosaic.Tactic Idealize.SL.Sem
open Cert.OutWReferenceIdeal.Read

theorem pay (x : Vec Ideal S1024x1024 .bf16) (y : Vec Ideal S1024x1024 .bf16) (i : Fin 1024) (j : Fin 1024) :
    (k0_pay1 x y) (ix2 i j) = ∑ k : Fin 1024, x (ix2 k i) * y (ix2 k j) := by
  pointwise [k0_pay1]

/-- Row `k`'s part of the gradient at `i`, `j`. -/
def part (h : Vec Ideal S4096x1024 .bf16) (z : Vec Ideal S4096x1024 .bf16) (i : Fin 1024) (j : Fin 1024) (k : Fin 4096) : EReal :=
  h (ix2 k i) * z (ix2 k j)

/-- The column of the whole gradient that entry `l` of shard `s` is. -/
def lane (s : Fin 8) (l : Fin 128) : Fin 1024 := ⟨s.val * 128 + l.val, by omega⟩

theorem ref (h : Vec Ideal S4096x1024 .bf16) (z : Vec Ideal S4096x1024 .bf16) (s : Fin 8) (i : Fin 1024) (l : Fin 128) :
    val_main_v8 (F := Ideal) h z (ix3 s i l) = ∑ k : Fin 4096, part h z i (lane s l) k := by
  pointwise [val_main_v8, val_main_v7, val_main_v6, val_main_v5, val_main_v4, val_main_v3, val_main_v1]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S4096x1024 .bf16 := m ((c : Thread nD τ).loc main_arg1)

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![t.val / 4, 0, 0] := by decide +kernel

theorem t_lt (t : Fin cfg0.N) : t.val < 4 := lt_of_lt_of_eq t.isLt N_0

def row (t : Fin cfg0.N) (i : Fin 1024) : Fin 4096 := ⟨t.val % 4 * 1024 + i.val, by omega⟩
def colm (t : Fin cfg0.N) (j : Fin 1024) : Fin 1024 := ⟨t.val / 4 * 1024 + j.val, by have := t_lt t; omega⟩

/-- Plane `s` of a point's block, among all planes. -/
def shard (t : Fin cfg0.N) (s : Fin 8) : Fin 8 := ⟨t.val / 4 * 8 + s.val, by have := t_lt t; omega⟩

/-- The column of a point's block that entry `l` of its plane `s` is. -/
def llane (s : Fin 8) (l : Fin 128) : Fin 1024 := ⟨s.val * 128 + l.val, by omega⟩

theorem lane_shard (t : Fin cfg0.N) (s : Fin 8) (l : Fin 128) : lane (shard t s) l = colm t (llane s l) := Fin.ext (by
  show (t.val / 4 * 8 + s.val) * 128 + l.val = t.val / 4 * 1024 + (s.val * 128 + l.val)
  omega)

theorem blk_0 (t : Fin cfg0.N) (k i : Fin 1024) : iblk m c 0 t (ix2 k i) = a0 m c (ix2 (row t k) i) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k : Fin 1024) (j : Fin 1024) : iblk m c 1 t (ix2 k j) = a1 m c (ix2 (row t k) (colm t j)) := by
  blk_simp [iblk, V_main_arg1]
  exact congrArg _ (funext fun x => Fin.ext (by match x with | ⟨0, _⟩ => blk_simp [idx_1 t]; rfl | ⟨1, _⟩ => blk_simp [idx_1 t]; rfl))

/-- What a point adds to entry `i`, `j`. -/
def term (t : Fin cfg0.N) (x : Fin 1024 × Fin 1024) : EReal :=
  ∑ k : Fin 1024, part (a0 m c) (a1 m c) x.1 (colm t x.2) (row t k)

theorem pay_blk (t : Fin cfg0.N) (i : Fin 1024) (j : Fin 1024) : k0_pay1 (iblk m c 0 t) (iblk m c 1 t) (ix2 i j) = term m c t (i, j) := by
  rw [pay, term]
  simp only [blk_0, blk_1, part]

/-- The running sum after a point. -/
def acc (n : ℕ) (h : n < cfg0.N) (x : Fin 1024 × Fin 1024) : EReal := (outsAt0 m c n h).2 (ix2 x.1 x.2)

theorem acc_first (t : Fin cfg0.N) (h0 : t.val % 4 = 0) : acc m c t.val t.isLt = (0 : Fin 1024 × Fin 1024 → EReal) + term m c t := by
  have := t_lt t
  funext x
  rw [acc, zero_add, ← pay_blk m c t x.1 x.2, outsAt0_A m c t h0 (by omega) (by omega)]
  frame_out
  rw [k0_pay2, shapeCast_self]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc]
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_flush (t : Fin cfg0.N) (ht : t.val % 4 = 3) (i : Fin 1024) (j : Fin 1024) : (outsAt0 m c t.val t.isLt).2 (ix2 i j)
    = ∑ k : Fin 4096, part (a0 m c) (a1 m c) i (colm t j) k := by
  have h := Pipeline.eq_sum_fin_of_reset_step_apply_of_flush (acc m c) 4 (0 : Fin 1024 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, colm (⟨4 * (t.val / 4) + s.val, h⟩ : Fin cfg0.N) j = colm t j := fun h => Fin.ext (by
    show (4 * (t.val / 4) + s.val) / 4 * 1024 + j.val = t.val / 4 * 1024 + j.val; omega)
  have e2 : ∀ h, row (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

theorem out (t : Fin cfg0.N) (ht : t.val % 4 = 3) (s : Fin 8) (i : Fin 1024) (l : Fin 128) :
    (outsAt0 m c t.val t.isLt).1 (ix3 s i l) = (outsAt0 m c t.val t.isLt).2 (ix2 i (llane s l)) := by
  rw [outsAt0_C m c t (by omega) (by omega) ht]
  frame_out
  canon_tiles x h
  all_goals
    open_payloads
    refine Cert.Mlp.plane _ _ _ _ _ x i (llane s l) h1 ?_
    show s.val * 128 + l.val = _
    have e0 : s.val = _ := h0
    have e2 : l.val = _ := h2
    omega

theorem emb_2 (t : Fin cfg0.N) (s : Fin 8) (i : Fin 1024) (l : Fin 128) : (win0_2.blk t).view.emb (ix3 s i l) = ix3 (shard t s) i l := funext fun x => Fin.ext (by
  match x with | ⟨0, _⟩ => blk_simp [idx_2 t]; rfl | ⟨1, _⟩ => blk_simp [idx_2 t] | ⟨2, _⟩ => blk_simp [idx_2 t])

theorem flush_mod : ∀ t : Fin cfg0.N, (cfg0.win 2).flush t = true → t.val % 4 = 3 := by decide +kernel

/-- The reference's result on the launch's arguments. -/
abbrev G : Vec Ideal S8x1024x128 .bf16 := val_main_v8 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  rw [after0_2]
  have key : ∀ s i l, (outsAt0 m c t.val t.isLt).1 (ix3 s i l) = G m c ((win0_2.blk t).view.emb (ix3 s i l)) := fun s i l => by
    rw [out m c t ht, acc_flush m c t ht, emb_2, G, ref, lane_shard]
  rw [eq_ix3 y]
  exact key (y 0) (y 1) (y 2)

/-- On the extended reals, from equal arguments, the kernel and the reference end with equal results. -/
theorem algebraic : Cert.algebraic_OutWIdeal_OutWReferenceIdeal := by
  intro m ρ m' ρ' _ hagree
  refine ⟨_, (θ_run defs _ _).mono (fun r h c => ⟨((h c).1).trans (final m c), (h c).2⟩) (Cert.OutWIdeal.Value.run_blocks m ρ), ?_⟩
  refine (θ_run _ _ _).mono (fun r h c => ?_) (Cert.OutWReferenceIdeal.Value.run (F := Ideal) m' ρ')
  obtain ⟨a0, a1⟩ := hagree c
  refine ⟨(h c).1.trans ?_, (h c).2⟩
  rw [val_main_v8_eq, a0, a1]

end Cert.OutWIdeal.Mlp

end
-- ==== Proof.UpFwd.lean ====
/- The MLP's first layer, on the extended reals: the kernel's blocks of the product are the reference's. -/
module

public import proofs.«01_k».proof.Proof.Gen.UpFwdIdeal.Value
public import proofs.«01_k».proof.Proof.Gen.UpFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.UpFwdIdeal.Mlp

open Cert.UpFwdIdeal Cert.UpFwdIdeal.Gen
open Idealize.ShloMosaic Idealize.ShloMosaic.TcCoe Idealize.ShloMosaic.Tactic Idealize.SL.Sem
open Cert.UpFwdReferenceIdeal.Read

theorem pay (x w : Vec Ideal S1024x1024 .bf16) (i j : Fin 1024) :
    (k0_pay1 x w) (ix2 i j) = ∑ k : Fin 1024, x (ix2 i k) * w (ix2 k j) := by
  pointwise [k0_pay1]

theorem ref (x : Vec Ideal S4096x1024 .bf16) (w : Vec Ideal S1024x4096 .bf16) (i j : Fin 4096) :
    val_main_v3 (F := Ideal) x w (ix2 i j) = ∑ k : Fin 1024, x (ix2 i k) * w (ix2 k j) := by
  pointwise [val_main_v3, val_main_v2, val_main_v1, val_main_v0]

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S1024x4096 .bf16 := m ((c : Thread nD τ).loc main_arg1)

theorem idx_0 : ∀ t : Fin cfg0.N, win0_0.index t = ![t.val / 4, 0] := by decide +kernel
theorem idx_1 : ∀ t : Fin cfg0.N, win0_1.index t = ![0, t.val % 4] := by decide +kernel
theorem idx_2 : ∀ t : Fin cfg0.N, win0_2.index t = ![t.val / 4, t.val % 4] := by decide +kernel

theorem t_lt (t : Fin cfg0.N) : t.val < 16 := lt_of_lt_of_eq t.isLt N_0

def row (t : Fin cfg0.N) (i : Fin 1024) : Fin 4096 := ⟨t.val / 4 * 1024 + i.val, by have := t_lt t; omega⟩
def colm (t : Fin cfg0.N) (j : Fin 1024) : Fin 4096 := ⟨t.val % 4 * 1024 + j.val, by omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k j : Fin 1024) : iblk m c 1 t (ix2 k j) = a1 m c (ix2 k (colm t j)) := by
  blk_simp [iblk, V_main_arg1]
  exact congrArg _ (funext fun x => Fin.ext (by match x with | ⟨0, _⟩ => blk_simp [idx_1 t] | ⟨1, _⟩ => blk_simp [idx_1 t]; rfl))

theorem emb_2 (t : Fin cfg0.N) (i j : Fin 1024) : (win0_2.blk t).view.emb (ix2 i j) = ix2 (row t i) (colm t j) := funext fun x => Fin.ext (by
  match x with | ⟨0, _⟩ => blk_simp [idx_2 t]; rfl | ⟨1, _⟩ => blk_simp [idx_2 t]; rfl)

theorem out (x w : Vec Ideal S1024x1024 .bf16) : out0_2 x w = k0_pay1 x w := by
  frame_out

/-- The reference's result on the launch's arguments. -/
abbrev G : Vec Ideal S4096x4096 .bf16 := val_main_v3 (F := Ideal) (a0 m c) (a1 m c)

theorem final : (dats m 0 c).arrAt 2 cfg0.N = G m c := by
  refine (dats m 0 c).arrAt_eq_of_covers 2 _ (by decide +kernel) fun t hf y => ?_
  blk_simp
  rw [after0_2, out]
  have key : ∀ i j, k0_pay1 (iblk m c 0 t) (iblk m c 1 t) (ix2 i j) = G m c ((win0_2.blk t).view.emb (ix2 i j)) := fun i j => by
    rw [pay, emb_2, G, ref]
    simp only [blk_0, blk_1]
  rw [eq_ix2 y]
  exact key (y 0) (y 1)

/-- On the extended reals, from equal arguments, the kernel and the reference end with equal results. -/
theorem algebraic : Cert.algebraic_UpFwdIdeal_UpFwdReferenceIdeal := by
  intro m ρ m' ρ' _ hagree
  refine ⟨_, (θ_run defs _ _).mono (fun r h c => ⟨((h c).1).trans (final m c), (h c).2⟩) (Cert.UpFwdIdeal.Value.run_blocks m ρ), ?_⟩
  refine (θ_run _ _ _).mono (fun r h c => ?_) (Cert.UpFwdReferenceIdeal.Value.run (F := Ideal) m' ρ')
  obtain ⟨a0, a1⟩ := hagree c
  refine ⟨(h c).1.trans ?_, (h c).2⟩
  rw [val_main_v3_eq, a0, a1]

end Cert.UpFwdIdeal.Mlp

end
-- ==== Proof.DownFwd.lean ====
/- The MLP's second layer, on the extended reals: the kernel's running product of the squared rectifier with the matrix, added
   to the stream, is the reference's. -/
module

public import proofs.«01_k».proof.Proof.Gen.DownFwdIdeal.Value
public import proofs.«01_k».proof.Proof.Gen.DownFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.DownFwdIdeal.Mlp

open Cert.DownFwdIdeal Cert.DownFwdIdeal.Gen
open Idealize.ShloMosaic Idealize.ShloMosaic.TcCoe Idealize.ShloMosaic.Tactic Idealize.SL.Sem
open Cert.DownFwdReferenceIdeal.Read

theorem pay (x w : Vec Ideal S1024x1024 .bf16) (i j : Fin 1024) :
    (k0_pay1 x w) (ix2 i j) = ∑ k : Fin 1024, max (x (ix2 i k)) 0 * max (x (ix2 i k)) 0 * w (ix2 k j) := by
  pointwise [k0_pay1]

theorem pay_res (s x : Vec Ideal S1024x1024 .f32) (i j : Fin 1024) : (k0_pay4 s x) (ix2 i j) = s (ix2 i j) + x (ix2 i j) := by
  pointwise [k0_pay4]

/-- One hidden unit's part of an entry of the result. -/
def part (a : Vec Ideal S4096x4096 .bf16) (w : Vec Ideal S4096x1024 .bf16) (i : Fin 4096) (j : Fin 1024) (k : Fin 4096) : EReal :=
  max (a (ix2 i k)) 0 * max (a (ix2 i k)) 0 * w (ix2 k j)

theorem ref (a : Vec Ideal S4096x4096 .bf16) (w : Vec Ideal S4096x1024 .bf16) (x : Vec Ideal S4096x1024 .f32) (i : Fin 4096) (j : Fin 1024) :
    val_main_v5 (F := Ideal) a w x (ix2 i j) = (∑ k : Fin 4096, part a w i j k) + x (ix2 i j) := by
  pointwise [val_main_v5, val_main_v4, val_main_v3, val_main_v2, val_main_v1, val_main_v0, val_main_call0_v0, val_main_call0_cst]
  exact add_comm _ _

variable (m : (ℓ : Loc nD τ sig) → Buf (Elt Ideal) ℓ) (ρ : Dev nD → PrngReg) (c : Dev nD)

/- The launch's arguments. -/
abbrev a0 : Vec Ideal S4096x4096 .bf16 := m ((c : Thread nD τ).loc main_arg0)
abbrev a1 : Vec Ideal S4096x1024 .bf16 := m ((c : Thread nD τ).loc main_arg1)
abbrev a2 : Vec Ideal S4096x1024 .f32 := m ((c : Thread nD τ).loc main_arg2)

theorem idx_0 : ∀ t : Fin cfg0.N, win0_0.index t = ![t.val / 4, t.val % 4] := by decide +kernel
theorem idx_1 : ∀ t : Fin cfg0.N, win0_1.index t = ![t.val % 4, 0] := by decide +kernel
theorem idx_2 : ∀ t : Fin cfg0.N, win0_2.index t = ![t.val / 4, 0] := by decide +kernel
theorem idx_3 : ∀ t : Fin cfg0.N, win0_3.index t = ![t.val / 4, 0] := by decide +kernel

theorem t_lt (t : Fin cfg0.N) : t.val < 16 := lt_of_lt_of_eq t.isLt N_0

def row (t : Fin cfg0.N) (i : Fin 1024) : Fin 4096 := ⟨t.val / 4 * 1024 + i.val, by have := t_lt t; omega⟩
def lane (t : Fin cfg0.N) (k : Fin 1024) : Fin 4096 := ⟨t.val % 4 * 1024 + k.val, by omega⟩

theorem blk_0 (t : Fin cfg0.N) (i k : Fin 1024) : iblk m c 0 t (ix2 i k) = a0 m c (ix2 (row t i) (lane t k)) := by
  blk_simp [iblk, V_main_arg0]
  exact congrArg _ (funext fun x => Fin.ext (by match x with | ⟨0, _⟩ => blk_simp [idx_0 t]; rfl | ⟨1, _⟩ => blk_simp [idx_0 t]; rfl))

theorem blk_1 (t : Fin cfg0.N) (k j : Fin 1024) : iblk m c 1 t (ix2 k j) = a1 m c (ix2 (lane t k) j) := by
  blk_simp [iblk, V_main_arg1]
  exact congrArg _ (funext fun x => Fin.ext (by match x with | ⟨0, _⟩ => blk_simp [idx_1 t]; rfl | ⟨1, _⟩ => blk_simp [idx_1 t]))

theorem blk_2 (t : Fin cfg0.N) (i j : Fin 1024) : iblk m c 2 t (ix2 i j) = a2 m c (ix2 (row t i) j) := by
  blk_simp [iblk, V_main_arg2]
  exact congrArg _ (funext fun x => Fin.ext (by match x with | ⟨0, _⟩ => blk_simp [idx_2 t]; rfl | ⟨1, _⟩ => blk_simp [idx_2 t]))

/-- What a point adds to entry `i`, `j` of the product. -/
def term (t : Fin cfg0.N) (x : Fin 1024 × Fin 1024) : EReal := ∑ k : Fin 1024, part (a0 m c) (a1 m c) (row t x.1) x.2 (lane t k)

theorem pay_blk (t : Fin cfg0.N) (i j : Fin 1024) : k0_pay1 (iblk m c 0 t) (iblk m c 1 t) (ix2 i j) = term m c t (i, j) := by
  rw [pay, term]
  simp only [blk_0, blk_1, part]

/-- The running product after a point. -/
def acc (n : ℕ) (h : n < cfg0.N) (x : Fin 1024 × Fin 1024) : EReal := (outsAt0 m c n h).2 (ix2 x.1 x.2)

theorem acc_first (t : Fin cfg0.N) (h0 : t.val % 4 = 0) : acc m c t.val t.isLt = (0 : Fin 1024 × Fin 1024 → EReal) + term m c t := by
  funext x
  rw [acc, zero_add, ← pay_blk m c t x.1 x.2, outsAt0_A m c t h0 (by omega) (by omega)]
  frame_out
  rw [k0_pay2, shapeCast_self]

/-- A later point's running product, in every case. -/
theorem scr_next (t : Fin cfg0.N) (h0 : ¬t.val % 4 = 0) : (outsAt0 m c t.val t.isLt).2 = k0_pay3 (iblk m c 0 t) (iblk m c 1 t)
    (outsAt0 m c (t.val - 1) (Nat.lt_of_le_of_lt (Nat.sub_le _ _) t.isLt)).2 := by
  by_cases h2 : t.val % 4 = 3
  · rw [outsAt0_C m c t h0 (by omega) h2]
    frame_out
    rw [(Memref.isWhole_whole _).read_unread]
  · rw [outsAt0_B m c t h0 (by omega) h2]
    frame_out
    rw [(Memref.isWhole_whole _).read_unread]

theorem acc_next (t : Fin cfg0.N) (h0 : ¬t.val % 4 = 0) :
    acc m c t.val t.isLt = acc m c (t.val - 1) (Nat.lt_of_le_of_lt (Nat.sub_le _ _) t.isLt) + term m c t := by
  funext x
  rw [Pi.add_apply, ← pay_blk m c t x.1 x.2, acc, acc, scr_next m c t h0, k0_pay3, shapeCast_self]
  rfl

theorem acc_flush (t : Fin cfg0.N) (ht : t.val % 4 = 3) (i j : Fin 1024) : (outsAt0 m c t.val t.isLt).2 (ix2 i j)
    = ∑ k : Fin 4096, part (a0 m c) (a1 m c) (row t i) j k := by
  have h := Pipeline.eq_sum_fin_of_reset_step_apply_of_flush (acc m c) 4 (0 : Fin 1024 × Fin 1024 → EReal) (term m c)
    (fun n h0 => congrFun (acc_first m c n h0)) (fun n h0 => congrFun (acc_next m c n h0)) t (by omega) (i, j)
  refine h.trans ?_
  rw [Pi.zero_apply, zero_add]
  refine Fin.sum_mul_add_congr fun s k hl => ?_
  have hs := s.isLt
  have hN := t_lt t
  have e1 : ∀ h, row (⟨4 * (t.val / 4) + s.val, h⟩ : Fin cfg0.N) i = row t i := fun h => Fin.ext (by
    show (4 * (t.val / 4) + s.val) / 4 * 1024 + i.val = t.val / 4 * 1024 + i.val; omega)
  have e2 : ∀ h, lane (⟨4 * (t.val / 4) + s.val, h⟩ : Fin cfg0.N) k = ⟨s.val * 1024 + k.val, hl⟩ := fun h => Fin.ext (by
    show (4 * (t.val / 4) + s.val) % 4 * 1024 + k.val = s.val * 1024 + k.val; omega)
  dsimp only
  rw [e1, e2]

theorem out (t : Fin cfg0.N) (ht : t.val % 4 = 3) : (outsAt0 m c t.val t.isLt).1 = k0_pay4 (outsAt0 m c t.val t.isLt).2 (iblk m c 2 t) := by
  rw [scr_next m c t (by omega), outsAt0_C m c t (by omega) (by omega) ht]
  frame_out
  rw [(Memref.isWhole_whole _).read_unread]

theorem emb_3 (t : Fin cfg0.N) (i j : Fin 1024) : (win0_3.blk t).view.emb (ix2 i j) = ix2 (row t i) j := funext fun x => Fin.ext (by
  match x with | ⟨0, _⟩ => blk_simp [idx_3 t]; rfl | ⟨1, _⟩ => blk_simp [idx_3 t])

theorem flush_mod : ∀ t : Fin cfg0.N, (cfg0.win 3).flush t = true → t.val % 4 = 3 := by decide +kernel

/-- The reference's result on the launch's arguments. -/
abbrev G : Vec Ideal S4096x1024 .f32 := val_main_v5 (F := Ideal) (a0 m c) (a1 m c) (a2 m c)

theorem final : (dats m 0 c).arrAt 3 cfg0.N = G m c := by
  refine (dats m 0 c).arrAt_eq_of_covers 3 _ (by decide +kernel) fun t hf y => ?_
  have ht := flush_mod t hf
  blk_simp
  rw [after0_3]
  have key : ∀ i j, (outsAt0 m c t.val t.isLt).1 (ix2 i j) = G m c ((win0_3.blk t).view.emb (ix2 i j)) := fun i j => by
    rw [out m c t ht, pay_res, acc_flush m c t ht, emb_3, G, ref, blk_2]
  rw [eq_ix2 y]
  exact key (y 0) (y 1)

/-- On the extended reals, from equal arguments, the kernel and the reference end with equal results. -/
theorem algebraic : Cert.algebraic_DownFwdIdeal_DownFwdReferenceIdeal := by
  intro m ρ m' ρ' _ hagree
  refine ⟨_, (θ_run defs _ _).mono (fun r h c => ⟨((h c).1).trans (final m c), (h c).2⟩) (Cert.DownFwdIdeal.Value.run_blocks m ρ), ?_⟩
  refine (θ_run _ _ _).mono (fun r h c => ?_) (Cert.DownFwdReferenceIdeal.Value.run (F := Ideal) m' ρ')
  obtain ⟨a0, a1, a2⟩ := hagree c
  refine ⟨(h c).1.trans ?_, (h c).2⟩
  rw [val_main_v5_eq, a0, a1, a2]

end Cert.DownFwdIdeal.Mlp

end
-- ==== Proof.InFwd.lean ====
/- The mixer's input product, on the extended reals: the kernel's blocks of 1920 columns are the reference's. -/
module

public import proofs.«01_k».proof.Proof.Gen.InFwdIdeal.Value
public import proofs.«01_k».proof.Proof.Gen.InFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.InFwdIdeal.Mlp

open Cert.InFwdIdeal Cert.InFwdIdeal.Gen
open Idealize.ShloMosaic Idealize.ShloMosaic.TcCoe Idealize.ShloMosaic.Tactic Idealize.SL.Sem
open Cert.InFwdReferenceIdeal.Read

theorem pay (x : Vec Ideal S1024x1024 .bf16) (w : Vec Ideal S1024x1920 .bf16) (i : Fin 1024) (j : Fin 1920) :
    (k0_pay1 x w) (ix2 i j) = ∑ k : Fin 1024, x (ix2 i k) * w (ix2 k j) := by
  pointwise [k0_pay1]

/-- A column of the result, among those of the padded matrix. -/
def wide (j : Fin 5760) : Fin 6144 := ⟨j.val, by omega⟩

theorem ref (x : Vec Ideal S4096x1024 .bf16) (w : Vec Ideal S1024x6144 .bf16) (i : Fin 4096) (j : Fin 5760) :
    val_main_v4 (F := Ideal) x w (ix2 i j) = ∑ k : Fin 1024, x (ix2 i k) * w (ix2 k (wide j)) := by
  pointwise [val_main_v4, val_main_v3, val_main_v2, val_main_v1, val_main_v0]
  rfl

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S1024x6144 .bf16 := m ((c : Thread nD τ).loc main_arg1)

theorem idx_0 : ∀ t : Fin cfg0.N, win0_0.index t = ![t.val / 3, 0] := by decide +kernel
theorem idx_1 : ∀ t : Fin cfg0.N, win0_1.index t = ![0, t.val % 3] := by decide +kernel
theorem idx_2 : ∀ t : Fin cfg0.N, win0_2.index t = ![t.val / 3, t.val % 3] := by decide +kernel

theorem t_lt (t : Fin cfg0.N) : t.val < 12 := lt_of_lt_of_eq t.isLt N_0

def row (t : Fin cfg0.N) (i : Fin 1024) : Fin 4096 := ⟨t.val / 3 * 1024 + i.val, by have := t_lt t; omega⟩
def colm (t : Fin cfg0.N) (j : Fin 1920) : Fin 5760 := ⟨t.val % 3 * 1920 + j.val, by omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k : Fin 1024) (j : Fin 1920) : X0_1 m c t (ix2 k j) = a1 m c (ix2 k (wide (colm t j))) := by
  unfold X0_1 Pipeline.Window.fill
  rw [dif_pos (moved0_1 t _)]
  blk_simp [iblk, V_main_arg1]
  exact congrArg _ (funext fun x => Fin.ext (by match x with | ⟨0, _⟩ => blk_simp [idx_1 t] | ⟨1, _⟩ => blk_simp [idx_1 t]; rfl))

theorem emb_2 (t : Fin cfg0.N) (i : Fin 1024) (j : Fin 1920) : (win0_2.blk t).view.emb (ix2 i j) = ix2 (row t i) (colm t j) := funext fun x => Fin.ext (by
  match x with | ⟨0, _⟩ => blk_simp [idx_2 t]; rfl | ⟨1, _⟩ => blk_simp [idx_2 t]; rfl)

theorem out (t : Fin cfg0.N) : outsAt0 m c t = k0_pay1 (iblk m c 0 t) (X0_1 m c t) := by
  unfold outsAt0
  frame_out

/-- The reference's result on the launch's arguments. -/
abbrev G : Vec Ideal S4096x5760 .bf16 := val_main_v4 (F := Ideal) (a0 m c) (a1 m c)

theorem final : (dats m 0 c).arrAt 2 cfg0.N = G m c := by
  refine (dats m 0 c).arrAt_eq_of_covers 2 _ (by decide +kernel) fun t hf y => ?_
  blk_simp
  rw [after0_2, out]
  have key : ∀ i j, k0_pay1 (iblk m c 0 t) (X0_1 m c t) (ix2 i j) = G m c ((win0_2.blk t).view.emb (ix2 i j)) := fun i j => by
    rw [pay, emb_2, G, ref]
    simp only [blk_0, blk_1]
  rw [eq_ix2 y]
  exact key (y 0) (y 1)

/-- On the extended reals, from equal arguments, the kernel and the reference end with equal results. -/
theorem algebraic : Cert.algebraic_InFwdIdeal_InFwdReferenceIdeal := by
  intro m ρ m' ρ' _ hagree
  refine ⟨_, (θ_run defs _ _).mono (fun r h c => ⟨((h c).1).trans (final m c), (h c).2⟩) (Cert.InFwdIdeal.Value.run_blocks m ρ), ?_⟩
  refine (θ_run _ _ _).mono (fun r h c => ?_) (Cert.InFwdReferenceIdeal.Value.run (F := Ideal) m' ρ')
  obtain ⟨a0, a1⟩ := hagree c
  refine ⟨(h c).1.trans ?_, (h c).2⟩
  rw [val_main_v4_eq, a0, a1]

end Cert.InFwdIdeal.Mlp

end
-- ==== Proof.CallFrames.lean ====
/- The output projection's forward product, the cross-attention's products and the merge gates change none of their arguments,
   as MlpFrames.lean shows it for the other products. -/
module

public import proofs.«01_k».proof.Defs
public import proofs.«01_k».proof.Proof.Gen.OutFwd
public import proofs.«01_k».proof.Proof.Gen.OutFwdIdeal.Value
public import proofs.«01_k».proof.Proof.Gen.OutFwdReferenceIdeal.Run
public import proofs.«01_k».proof.Proof.Gen.XoFwd
public import proofs.«01_k».proof.Proof.Gen.XoFwdIdeal.Value
public import proofs.«01_k».proof.Proof.Gen.XoFwdReferenceIdeal.Run
public import proofs.«01_k».proof.Proof.Gen.XqFwd
public import proofs.«01_k».proof.Proof.Gen.XqFwdIdeal.Value
public import proofs.«01_k».proof.Proof.Gen.XqFwdReferenceIdeal.Run
public import proofs.«01_k».proof.Proof.Gen.SmallFwd
public import proofs.«01_k».proof.Proof.Gen.SmallFwdIdeal.Value
public import proofs.«01_k».proof.Proof.Gen.SmallFwdReferenceIdeal.Run
public import proofs.«01_k».proof.Proof.Gen.Xo
public import proofs.«01_k».proof.Proof.Gen.XoIdeal.Value
public import proofs.«01_k».proof.Proof.Gen.XoReferenceIdeal.Run
public import proofs.«01_k».proof.Proof.Gen.MergeFwd
public import proofs.«01_k».proof.Proof.Gen.MergeFwdIdeal.Value
public import proofs.«01_k».proof.Proof.Gen.MergeFwdReferenceIdeal.Run
public import proofs.«01_k».proof.Proof.Gen.Merge
public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Gen.XqW
public import proofs.«01_k».proof.Proof.Gen.XqWIdeal.Value
public import proofs.«01_k».proof.Proof.Gen.XqWReferenceIdeal.Run
public import proofs.«01_k».proof.Proof.Gen.XqWReferenceIdeal.Read
public import proofs.«01_k».proof.Proof.Gen.Xq
public import proofs.«01_k».proof.Proof.Gen.XqIdeal.Value
public import proofs.«01_k».proof.Proof.Gen.XqReferenceIdeal.Run
public import proofs.«01_k».proof.Proof.Gen.XqReferenceIdeal.Read
public import proofs.«01_k».proof.Proof.Gen.XoW
public import proofs.«01_k».proof.Proof.Gen.XoWIdeal.Value
public import proofs.«01_k».proof.Proof.Gen.XoWReferenceIdeal.Run
public import proofs.«01_k».proof.Proof.Gen.XoWReferenceIdeal.Read

@[expose] public section

noncomputable section

namespace Cert.Mlp

open Idealize.ShloMosaic Idealize.SL.Sem

/-! ### The body that the one label names. -/

theorem defs_outFwd : Cert.OutFwd.defs (F := Bits) = Cert.OutFwdIdeal.defs (F := Bits) :=
  congrArg (Pipeline.defs Cert.OutFwd.pcfgs) (congrArg Defs.onTc (funext fun l => funext fun x => match l, x with | ⟨0, _⟩, (_, _) => rfl))
theorem defs_xoFwd : Cert.XoFwd.defs (F := Bits) = Cert.XoFwdIdeal.defs (F := Bits) :=
  congrArg (Pipeline.defs Cert.XoFwd.pcfgs) (congrArg Defs.onTc (funext fun l => funext fun x => match l, x with | ⟨0, _⟩, (_, _) => rfl))
theorem defs_xqFwd : Cert.XqFwd.defs (F := Bits) = Cert.XqFwdIdeal.defs (F := Bits) :=
  congrArg (Pipeline.defs Cert.XqFwd.pcfgs) (congrArg Defs.onTc (funext fun l => funext fun x => match l, x with | ⟨0, _⟩, (_, _) => rfl))
theorem defs_smallFwd : Cert.SmallFwd.defs (F := Bits) = Cert.SmallFwdIdeal.defs (F := Bits) :=
  congrArg (Pipeline.defs Cert.SmallFwd.pcfgs) (congrArg Defs.onTc (funext fun l => funext fun x => match l, x with | ⟨0, _⟩, (_, _) => rfl))
theorem defs_xo : Cert.Xo.defs (F := Bits) = Cert.XoIdeal.defs (F := Bits) :=
  congrArg (Pipeline.defs Cert.Xo.pcfgs) (congrArg Defs.onTc (funext fun l => funext fun x => match l, x with | ⟨0, _⟩, (_, _) => rfl))
theorem defs_xoW : Cert.XoW.defs (F := Bits) = Cert.XoWIdeal.defs (F := Bits) :=
  congrArg (Pipeline.defs Cert.XoW.pcfgs) (congrArg Defs.onTc (funext fun l => funext fun x => match l, x with | ⟨0, _⟩, (_, _) => rfl))
theorem defs_xqW : Cert.XqW.defs (F := Bits) = Cert.XqWIdeal.defs (F := Bits) :=
  congrArg (Pipeline.defs Cert.XqW.pcfgs) (congrArg Defs.onTc (funext fun l => funext fun x => match l, x with | ⟨0, _⟩, (_, _) => rfl))
theorem defs_mergeFwd : Cert.MergeFwd.defs (F := Bits) = Cert.MergeFwdIdeal.defs (F := Bits) :=
  congrArg (Pipeline.defs Cert.MergeFwd.pcfgs) (congrArg Defs.onTc (funext fun l => funext fun x => match l, x with | ⟨0, _⟩, (_, _) => rfl))
set_option maxHeartbeats 8000000 in
theorem defs_merge : Cert.Merge.defs (F := Bits) = Cert.MergeIdeal.defs (F := Bits) :=
  congrArg (Pipeline.defs Cert.Merge.pcfgs) (congrArg Defs.onTc (funext fun l => funext fun x => match l, x with | ⟨0, _⟩, (_, _) => rfl))

/-! ### On the machine's floats. -/

theorem outFwd : Cert.quiescent_OutFwd := fun m ρ _ => Eq.mpr (congrArg (fun d => θ_run d _ _ _) defs_outFwd) (Cert.OutFwdIdeal.Gen.frame (F := Bits) m ρ)
theorem xoFwd : Cert.quiescent_XoFwd := fun m ρ _ => Eq.mpr (congrArg (fun d => θ_run d _ _ _) defs_xoFwd) (Cert.XoFwdIdeal.Gen.frame (F := Bits) m ρ)
theorem xqFwd : Cert.quiescent_XqFwd := fun m ρ _ => Eq.mpr (congrArg (fun d => θ_run d _ _ _) defs_xqFwd) (Cert.XqFwdIdeal.Gen.frame (F := Bits) m ρ)
theorem smallFwd : Cert.quiescent_SmallFwd := fun m ρ _ => Eq.mpr (congrArg (fun d => θ_run d _ _ _) defs_smallFwd) (Cert.SmallFwdIdeal.Gen.frame (F := Bits) m ρ)
theorem xo : Cert.quiescent_Xo := fun m ρ _ => Eq.mpr (congrArg (fun d => θ_run d _ _ _) defs_xo) (Cert.XoIdeal.Gen.frame (F := Bits) m ρ)
theorem xoW : Cert.quiescent_XoW := fun m ρ _ => Eq.mpr (congrArg (fun d => θ_run d _ _ _) defs_xoW) (Cert.XoWIdeal.Gen.frame (F := Bits) m ρ)
theorem defs_xq : Cert.Xq.defs (F := Bits) = Cert.XqIdeal.defs (F := Bits) :=
  congrArg (Pipeline.defs Cert.Xq.pcfgs) (congrArg Defs.onTc (funext fun l => funext fun x => match l, x with | ⟨0, _⟩, (_, _) => rfl))
theorem xq : Cert.quiescent_Xq := fun m ρ _ => Eq.mpr (congrArg (fun d => θ_run d _ _ _) defs_xq) (Cert.XqIdeal.Gen.frame (F := Bits) m ρ)
theorem xqIdeal : Cert.quiescent_XqIdeal := fun m ρ _ => Cert.XqIdeal.Gen.frame (F := Ideal) m ρ
theorem xqReferenceIdeal : Cert.quiescent_XqReferenceIdeal := fun m ρ _ =>
  (θ_run _ _ _).mono (fun r h => ⟨fun c => (h c).2.2.2, sem_eq_zero_of_no_sems (by decide) r.2⟩) (Cert.XqReferenceIdeal.Value.run (F := Ideal) m ρ)
theorem xqW : Cert.quiescent_XqW := fun m ρ _ => Eq.mpr (congrArg (fun d => θ_run d _ _ _) defs_xqW) (Cert.XqWIdeal.Gen.frame (F := Bits) m ρ)
theorem mergeFwd : Cert.quiescent_MergeFwd := fun m ρ _ => Eq.mpr (congrArg (fun d => θ_run d _ _ _) defs_mergeFwd) (Cert.MergeFwdIdeal.Gen.frame (F := Bits) m ρ)
theorem merge : Cert.quiescent_Merge := fun m ρ _ => Eq.mpr (congrArg (fun d => θ_run d _ _ _) defs_merge) (Cert.MergeIdeal.Gen.frame (F := Bits) m ρ)

/-! ### On the extended reals. -/

theorem outFwdIdeal : Cert.quiescent_OutFwdIdeal := fun m ρ _ => Cert.OutFwdIdeal.Gen.frame (F := Ideal) m ρ
theorem xoFwdIdeal : Cert.quiescent_XoFwdIdeal := fun m ρ _ => Cert.XoFwdIdeal.Gen.frame (F := Ideal) m ρ
theorem xqFwdIdeal : Cert.quiescent_XqFwdIdeal := fun m ρ _ => Cert.XqFwdIdeal.Gen.frame (F := Ideal) m ρ
theorem smallFwdIdeal : Cert.quiescent_SmallFwdIdeal := fun m ρ _ => Cert.SmallFwdIdeal.Gen.frame (F := Ideal) m ρ
theorem xoIdeal : Cert.quiescent_XoIdeal := fun m ρ _ => Cert.XoIdeal.Gen.frame (F := Ideal) m ρ
theorem xoWIdeal : Cert.quiescent_XoWIdeal := fun m ρ _ => Cert.XoWIdeal.Gen.frame (F := Ideal) m ρ
theorem xqWIdeal : Cert.quiescent_XqWIdeal := fun m ρ _ => Cert.XqWIdeal.Gen.frame (F := Ideal) m ρ
theorem mergeFwdIdeal : Cert.quiescent_MergeFwdIdeal := fun m ρ _ => Cert.MergeFwdIdeal.Gen.frame (F := Ideal) m ρ
theorem mergeIdeal : Cert.quiescent_MergeIdeal := fun m ρ _ => Cert.MergeIdeal.Gen.frame (F := Ideal) m ρ

/-! ### The references. -/

theorem outFwdReferenceIdeal : Cert.quiescent_OutFwdReferenceIdeal := fun m ρ _ =>
  (θ_run _ _ _).mono (fun r h => ⟨fun c => (h c).2, sem_eq_zero_of_no_sems (by decide) r.2⟩) (Cert.OutFwdReferenceIdeal.Value.run (F := Ideal) m ρ)
theorem xoFwdReferenceIdeal : Cert.quiescent_XoFwdReferenceIdeal := fun m ρ _ =>
  (θ_run _ _ _).mono (fun r h => ⟨fun c => (h c).2, sem_eq_zero_of_no_sems (by decide) r.2⟩) (Cert.XoFwdReferenceIdeal.Value.run (F := Ideal) m ρ)
theorem xqFwdReferenceIdeal : Cert.quiescent_XqFwdReferenceIdeal := fun m ρ _ =>
  (θ_run _ _ _).mono (fun r h => ⟨fun c => (h c).2, sem_eq_zero_of_no_sems (by decide) r.2⟩) (Cert.XqFwdReferenceIdeal.Value.run (F := Ideal) m ρ)
theorem smallFwdReferenceIdeal : Cert.quiescent_SmallFwdReferenceIdeal := fun m ρ _ =>
  (θ_run _ _ _).mono (fun r h => ⟨fun c => (h c).2, sem_eq_zero_of_no_sems (by decide) r.2⟩) (Cert.SmallFwdReferenceIdeal.Value.run (F := Ideal) m ρ)
theorem xoReferenceIdeal : Cert.quiescent_XoReferenceIdeal := fun m ρ _ =>
  (θ_run _ _ _).mono (fun r h => ⟨fun c => (h c).2, sem_eq_zero_of_no_sems (by decide) r.2⟩) (Cert.XoReferenceIdeal.Value.run (F := Ideal) m ρ)
theorem xoWReferenceIdeal : Cert.quiescent_XoWReferenceIdeal := fun m ρ _ =>
  (θ_run _ _ _).mono (fun r h => ⟨fun c => (h c).2, sem_eq_zero_of_no_sems (by decide) r.2⟩) (Cert.XoWReferenceIdeal.Value.run (F := Ideal) m ρ)
theorem xqWReferenceIdeal : Cert.quiescent_XqWReferenceIdeal := fun m ρ _ =>
  (θ_run _ _ _).mono (fun r h => ⟨fun c => (h c).2, sem_eq_zero_of_no_sems (by decide) r.2⟩) (Cert.XqWReferenceIdeal.Value.run (F := Ideal) m ρ)
theorem mergeFwdReferenceIdeal : Cert.quiescent_MergeFwdReferenceIdeal := fun m ρ _ =>
  (θ_run _ _ _).mono (fun r h => ⟨fun c => (h c).2, sem_eq_zero_of_no_sems (by decide) r.2⟩) (Cert.MergeFwdReferenceIdeal.Value.run (F := Ideal) m ρ)
theorem mergeReferenceIdeal : Cert.quiescent_MergeReferenceIdeal := fun m ρ _ =>
  (θ_run _ _ _).mono (fun r h => ⟨fun c => (h c).2.2.2.2.2.2.2.2.2.2, sem_eq_zero_of_no_sems (by decide) r.2⟩) (Cert.MergeReferenceIdeal.Value.run (F := Ideal) m ρ)

end Cert.Mlp

end
-- ==== Proof.OutFwd.lean ====
/- The output projection, on the extended reals: the kernel's blocks of rows of the product, added to the residual, are the
   reference's. -/
module

public import proofs.«01_k».proof.Proof.Gen.OutFwdIdeal.Value
public import proofs.«01_k».proof.Proof.Gen.OutFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.OutFwdIdeal.Mlp

open Cert.OutFwdIdeal Cert.OutFwdIdeal.Gen
open Idealize.ShloMosaic Idealize.ShloMosaic.TcCoe Idealize.ShloMosaic.Tactic Idealize.SL.Sem
open Cert.OutFwdReferenceIdeal.Read

theorem pay (x w : Vec Ideal S1024x1024 .bf16) (r : Vec Ideal S1024x1024 .f32) (i j : Fin 1024) :
    (k0_pay1 x w r) (ix2 i j) = (∑ k : Fin 1024, x (ix2 i k) * w (ix2 k j)) + r (ix2 i j) := by
  pointwise [k0_pay1]

theorem ref (x : Vec Ideal S4096x1024 .bf16) (w : Vec Ideal S1024x1024 .bf16) (r : Vec Ideal S4096x1024 .f32) (i : Fin 4096) (j : Fin 1024) :
    val_main_v3 (F := Ideal) x w r (ix2 i j) = r (ix2 i j) + ∑ k : Fin 1024, x (ix2 i k) * w (ix2 k j) := by
  rw [val_main_v3_apply, val_main_v2_apply]
  have e1 : ∀ k, lidx_main_v2 (ix2 i j) k = ix2 i k := fun k => funext fun a => by match a with | ⟨0, _⟩ => rfl | ⟨1, _⟩ => rfl
  have e2 : ∀ k, ridx_main_v2 (ix2 i j) k = ix2 k j := fun k => funext fun a => by match a with | ⟨0, _⟩ => rfl | ⟨1, _⟩ => rfl
  simp only [e1, e2]
  rfl

variable (m : (ℓ : Loc nD τ sig) → Buf (Elt Ideal) ℓ) (ρ : Dev nD → PrngReg) (c : Dev nD)

abbrev a0 : Vec Ideal S4096x1024 .bf16 := m ((c : Thread nD τ).loc main_arg0)
abbrev a1 : Vec Ideal S1024x1024 .bf16 := m ((c : Thread nD τ).loc main_arg1)
abbrev a2 : Vec Ideal S4096x1024 .f32 := m ((c : Thread nD τ).loc main_arg2)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel

def row (t : Fin cfg0.N) (i : Fin 1024) : Fin 4096 := ⟨t.val * 1024 + i.val, by have : t.val < 4 := lt_of_lt_of_eq t.isLt N_0; omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k j : Fin 1024) : iblk m c 1 t (ix2 k j) = a1 m c (ix2 k j) := by
  blk_simp [iblk, V_main_arg1]
  exact congrArg _ (funext fun x => Fin.ext (by match x with | ⟨0, _⟩ => blk_simp [idx_1 t] | ⟨1, _⟩ => blk_simp [idx_1 t]))

theorem blk_2 (t : Fin cfg0.N) (i j : Fin 1024) : iblk m c 2 t (ix2 i j) = a2 m c (ix2 (row t i) j) := by
  blk_simp [iblk, V_main_arg2]
  exact congrArg _ (funext fun x => Fin.ext (by match x with | ⟨0, _⟩ => blk_simp [idx_2 t]; rfl | ⟨1, _⟩ => blk_simp [idx_2 t]))

theorem emb_3 (t : Fin cfg0.N) (i j : Fin 1024) : (win0_3.blk t).view.emb (ix2 i j) = ix2 (row t i) j := funext fun x => Fin.ext (by
  match x with | ⟨0, _⟩ => blk_simp [idx_3 t]; rfl | ⟨1, _⟩ => blk_simp [idx_3 t])

theorem final : (dats m 0 c).arrAt 3 cfg0.N = val_main_v3 (F := Ideal) (a0 m c) (a1 m c) (a2 m c) := by
  refine (dats m 0 c).arrAt_eq_of_covers 3 _ (by decide +kernel) fun t hf y => ?_
  blk_simp
  have out : out0_3 (iblk m c 0 t) (iblk m c 1 t) (iblk m c 2 t) = k0_pay1 (iblk m c 0 t) (iblk m c 1 t) (iblk m c 2 t) := by frame_out
  have key : ∀ i j, k0_pay1 (iblk m c 0 t) (iblk m c 1 t) (iblk m c 2 t) (ix2 i j)
      = val_main_v3 (F := Ideal) (a0 m c) (a1 m c) (a2 m c) ((win0_3.blk t).view.emb (ix2 i j)) := fun i j => by
    rw [pay, emb_3, ref, add_comm]
    simp only [blk_0, blk_1, blk_2]
  rw [after0_3, out, eq_ix2 y]
  exact key (y 0) (y 1)

/-- On the extended reals, from equal arguments, the kernel and the reference end with equal results. -/
theorem algebraic : Cert.algebraic_OutFwdIdeal_OutFwdReferenceIdeal := by
  intro m ρ m' ρ' _ hagree
  refine ⟨_, (θ_run defs _ _).mono (fun r h c => ⟨((h c).1).trans (final m c), (h c).2⟩) (Cert.OutFwdIdeal.Value.run_blocks m ρ), ?_⟩
  refine (θ_run _ _ _).mono (fun r h c => ?_) (Cert.OutFwdReferenceIdeal.Value.run (F := Ideal) m' ρ')
  obtain ⟨h0, h1, h2⟩ := hagree c
  refine ⟨(h c).1.trans ?_, (h c).2⟩
  rw [Cert.OutFwdReferenceIdeal.Read.val_main_v3_eq, h0, h1, h2]

end Cert.OutFwdIdeal.Mlp

end
-- ==== Proof.XoFwd.lean ====
/- The retrieval's output product, on the extended reals: the kernel's blocks of rows, added to the residual, are the reference's. -/
module

public import proofs.«01_k».proof.Proof.Gen.XoFwdIdeal.Value
public import proofs.«01_k».proof.Proof.Gen.XoFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.XoFwdIdeal.Mlp

open Cert.XoFwdIdeal Cert.XoFwdIdeal.Gen
open Idealize.ShloMosaic Idealize.ShloMosaic.TcCoe Idealize.ShloMosaic.Tactic Idealize.SL.Sem
open Cert.XoFwdReferenceIdeal.Read

theorem pay (x : Vec Ideal S1024x512 .bf16) (w : Vec Ideal S512x1024 .bf16) (r : Vec Ideal S1024x1024 .f32) (i j : Fin 1024) :
    (k0_pay1 x w r) (ix2 i j) = (∑ k : Fin 512, x (ix2 i k) * w (ix2 k j)) + r (ix2 i j) := by
  pointwise [k0_pay1]

theorem ref (x : Vec Ideal S4096x512 .bf16) (w : Vec Ideal S512x1024 .bf16) (r : Vec Ideal S4096x1024 .f32) (i : Fin 4096) (j : Fin 1024) :
    val_main_v3 (F := Ideal) x w r (ix2 i j) = r (ix2 i j) + ∑ k : Fin 512, x (ix2 i k) * w (ix2 k j) := by
  rw [val_main_v3_apply, val_main_v2_apply]
  have e1 : ∀ k, lidx_main_v2 (ix2 i j) k = ix2 i k := fun k => funext fun a => by match a with | ⟨0, _⟩ => rfl | ⟨1, _⟩ => rfl
  have e2 : ∀ k, ridx_main_v2 (ix2 i j) k = ix2 k j := fun k => funext fun a => by match a with | ⟨0, _⟩ => rfl | ⟨1, _⟩ => rfl
  simp only [e1, e2]
  rfl

variable (m : (ℓ : Loc nD τ sig) → Buf (Elt Ideal) ℓ) (ρ : Dev nD → PrngReg) (c : Dev nD)

abbrev a0 : Vec Ideal S4096x512 .bf16 := m ((c : Thread nD τ).loc main_arg0)
abbrev a1 : Vec Ideal S512x1024 .bf16 := m ((c : Thread nD τ).loc main_arg1)
abbrev a2 : Vec Ideal S4096x1024 .f32 := m ((c : Thread nD τ).loc main_arg2)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel

def row (t : Fin cfg0.N) (i : Fin 1024) : Fin 4096 := ⟨t.val * 1024 + i.val, by have : t.val < 4 := lt_of_lt_of_eq t.isLt N_0; omega⟩

theorem blk_0 (t : Fin cfg0.N) (i : Fin 1024) (k : Fin 512) : iblk m c 0 t (ix2 i k) = a0 m c (ix2 (row t i) k) := by
  blk_simp [iblk, V_main_arg0]
  exact congrArg _ (funext fun x => Fin.ext (by match x with | ⟨0, _⟩ => (blk_simp [idx_0 t]; rfl) | ⟨1, _⟩ => blk_simp [idx_0 t]))

theorem blk_1 (t : Fin cfg0.N) : iblk m c 1 t = a1 m c := by
  funext i
  blk_simp [iblk, V_main_arg1]
  exact congrArg _ (funext fun x => Fin.ext (by match x with | ⟨0, _⟩ => blk_simp [idx_1 t] | ⟨1, _⟩ => blk_simp [idx_1 t]))

theorem blk_2 (t : Fin cfg0.N) (i j : Fin 1024) : iblk m c 2 t (ix2 i j) = a2 m c (ix2 (row t i) j) := by
  blk_simp [iblk, V_main_arg2]
  exact congrArg _ (funext fun x => Fin.ext (by match x with | ⟨0, _⟩ => (blk_simp [idx_2 t]; rfl) | ⟨1, _⟩ => blk_simp [idx_2 t]))

theorem final : (dats m 0 c).arrAt 3 cfg0.N = val_main_v3 (F := Ideal) (a0 m c) (a1 m c) (a2 m c) := by
  refine (dats m 0 c).arrAt_eq_of_covers 3 _ (by decide +kernel) fun t hf y => ?_
  blk_simp
  have out : out0_3 (iblk m c 0 t) (iblk m c 1 t) (iblk m c 2 t) = k0_pay1 (iblk m c 0 t) (iblk m c 1 t) (iblk m c 2 t) := by frame_out
  have emb : ∀ i j, (win0_3.blk t).view.emb (ix2 i j) = ix2 (row t i) j := fun i j => funext fun x => Fin.ext (by
    match x with | ⟨0, _⟩ => (blk_simp [idx_3 t]; rfl) | ⟨1, _⟩ => blk_simp [idx_3 t])
  have key : ∀ i j, k0_pay1 (iblk m c 0 t) (iblk m c 1 t) (iblk m c 2 t) (ix2 i j)
      = val_main_v3 (F := Ideal) (a0 m c) (a1 m c) (a2 m c) ((win0_3.blk t).view.emb (ix2 i j)) := fun i j => by
    rw [pay, emb, ref, add_comm, blk_1]
    simp only [blk_0, blk_2]
  rw [after0_3, out, eq_ix2 y]
  exact key (y 0) (y 1)

/-- On the extended reals, from equal arguments, the kernel and the reference end with equal results. -/
theorem algebraic : Cert.algebraic_XoFwdIdeal_XoFwdReferenceIdeal := by
  intro m ρ m' ρ' _ hagree
  refine ⟨_, (θ_run defs _ _).mono (fun r h c => ⟨((h c).1).trans (final m c), (h c).2⟩) (Cert.XoFwdIdeal.Value.run_blocks m ρ), ?_⟩
  refine (θ_run _ _ _).mono (fun r h c => ?_) (Cert.XoFwdReferenceIdeal.Value.run (F := Ideal) m' ρ')
  obtain ⟨h0, h1, h2⟩ := hagree c
  refine ⟨(h c).1.trans ?_, (h c).2⟩
  rw [Cert.XoFwdReferenceIdeal.Read.val_main_v3_eq, h0, h1, h2]

end Cert.XoFwdIdeal.Mlp

end
-- ==== Proof.XqFwd.lean ====
/- The retrieval's query product, on the extended reals: the kernel's blocks of rows are the reference's. -/
module

public import proofs.«01_k».proof.Proof.Gen.XqFwdIdeal.Value
public import proofs.«01_k».proof.Proof.Gen.XqFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.XqFwdIdeal.Mlp

open Cert.XqFwdIdeal Cert.XqFwdIdeal.Gen
open Idealize.ShloMosaic Idealize.ShloMosaic.TcCoe Idealize.ShloMosaic.Tactic Idealize.SL.Sem
open Cert.XqFwdReferenceIdeal.Read

theorem pay (x : Vec Ideal S1024x1024 .bf16) (w : Vec Ideal S1024x512 .bf16) (i : Fin 1024) (j : Fin 512) :
    (k0_pay1 x w) (ix2 i j) = ∑ k : Fin 1024, x (ix2 i k) * w (ix2 k j) := by
  pointwise [k0_pay1]

theorem ref (x : Vec Ideal S4096x1024 .bf16) (w : Vec Ideal S1024x512 .bf16) (i : Fin 4096) (j : Fin 512) :
    val_main_v3 (F := Ideal) x w (ix2 i j) = ∑ k : Fin 1024, x (ix2 i k) * w (ix2 k j) := by
  rw [val_main_v3_apply, val_main_v2_apply]
  have e1 : ∀ k, lidx_main_v2 (ix2 i j) k = ix2 i k := fun k => funext fun a => by match a with | ⟨0, _⟩ => rfl | ⟨1, _⟩ => rfl
  have e2 : ∀ k, ridx_main_v2 (ix2 i j) k = ix2 k j := fun k => funext fun a => by match a with | ⟨0, _⟩ => rfl | ⟨1, _⟩ => rfl
  simp only [e1, e2]
  rfl

variable (m : (ℓ : Loc nD τ sig) → Buf (Elt Ideal) ℓ) (ρ : Dev nD → PrngReg) (c : Dev nD)

abbrev a0 : Vec Ideal S4096x1024 .bf16 := m ((c : Thread nD τ).loc main_arg0)
abbrev a1 : Vec Ideal S1024x512 .bf16 := m ((c : Thread nD τ).loc main_arg1)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

def row (t : Fin cfg0.N) (i : Fin 1024) : Fin 4096 := ⟨t.val * 1024 + i.val, by have : t.val < 4 := lt_of_lt_of_eq t.isLt N_0; omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => (blk_simp [idx_0 t]; rfl) | ⟨1, _⟩ => blk_simp [idx_0 t]))

theorem blk_1 (t : Fin cfg0.N) : iblk m c 1 t = a1 m c := by
  funext i
  blk_simp [iblk, V_main_arg1]
  exact congrArg _ (funext fun x => Fin.ext (by match x with | ⟨0, _⟩ => blk_simp [idx_1 t] | ⟨1, _⟩ => blk_simp [idx_1 t]))

theorem final : (dats m 0 c).arrAt 2 cfg0.N = val_main_v3 (F := Ideal) (a0 m c) (a1 m c) := by
  refine (dats m 0 c).arrAt_eq_of_covers 2 _ (by decide +kernel) fun t hf y => ?_
  blk_simp
  have out : out0_2 (iblk m c 0 t) (iblk m c 1 t) = k0_pay1 (iblk m c 0 t) (iblk m c 1 t) := by frame_out
  have emb : ∀ i j, (win0_2.blk t).view.emb (ix2 i j) = ix2 (row t i) j := fun i j => funext fun x => Fin.ext (by
    match x with | ⟨0, _⟩ => (blk_simp [idx_2 t]; rfl) | ⟨1, _⟩ => blk_simp [idx_2 t])
  have key : ∀ i j, k0_pay1 (iblk m c 0 t) (iblk m c 1 t) (ix2 i j) = val_main_v3 (F := Ideal) (a0 m c) (a1 m c) ((win0_2.blk t).view.emb (ix2 i j)) := fun i j => by
    rw [pay, emb, ref, blk_1]
    simp only [blk_0]
  rw [after0_2, out, eq_ix2 y]
  exact key (y 0) (y 1)

/-- On the extended reals, from equal arguments, the kernel and the reference end with equal results. -/
theorem algebraic : Cert.algebraic_XqFwdIdeal_XqFwdReferenceIdeal := by
  intro m ρ m' ρ' _ hagree
  refine ⟨_, (θ_run defs _ _).mono (fun r h c => ⟨((h c).1).trans (final m c), (h c).2⟩) (Cert.XqFwdIdeal.Value.run_blocks m ρ), ?_⟩
  refine (θ_run _ _ _).mono (fun r h c => ?_) (Cert.XqFwdReferenceIdeal.Value.run (F := Ideal) m' ρ')
  obtain ⟨h0, h1⟩ := hagree c
  refine ⟨(h c).1.trans ?_, (h c).2⟩
  rw [Cert.XqFwdReferenceIdeal.Read.val_main_v3_eq, h0, h1]

end Cert.XqFwdIdeal.Mlp

end
-- ==== Proof.SmallFwd.lean ====
/- The mixer's narrow product, over the last columns of the padded matrix, on the extended reals: the kernel's blocks of rows are the
   reference's. -/
module

public import proofs.«01_k».proof.Proof.Gen.SmallFwdIdeal.Value
public import proofs.«01_k».proof.Proof.Gen.SmallFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.SmallFwdIdeal.Mlp

open Cert.SmallFwdIdeal Cert.SmallFwdIdeal.Gen
open Idealize.ShloMosaic Idealize.ShloMosaic.TcCoe Idealize.ShloMosaic.Tactic Idealize.SL.Sem
open Cert.SmallFwdReferenceIdeal.Read

theorem pay (x : Vec Ideal S1024x1024 .bf16) (w : Vec Ideal S1024x384 .bf16) (i : Fin 1024) (j : Fin 384) :
    (k0_pay1 x w) (ix2 i j) = ∑ k : Fin 1024, x (ix2 i k) * w (ix2 k j) := by
  pointwise [k0_pay1]

/-- A column of the result, among those of the padded matrix. -/
def last (j : Fin 384) : Fin 6144 := ⟨5760 + j.val, by omega⟩

theorem ref (x : Vec Ideal S4096x1024 .bf16) (w : Vec Ideal S1024x6144 .bf16) (i : Fin 4096) (j : Fin 384) :
    val_main_v3 (F := Ideal) x w (ix2 i j) = ∑ k : Fin 1024, x (ix2 i k) * w (ix2 k (last j)) := by
  rw [val_main_v3_apply]
  have e1 : ∀ k, lidx_main_v3 (ix2 i j) k = ix2 i k := fun k => funext fun a => by match a with | ⟨0, _⟩ => rfl | ⟨1, _⟩ => rfl
  have e2 : ∀ k, ridx_main_v3 (ix2 i j) k = ix2 k j := fun k => funext fun a => by match a with | ⟨0, _⟩ => rfl | ⟨1, _⟩ => rfl
  have e3 : ∀ k, idx_main_v1 (ix2 k j) = ix2 k (last j) := fun k => funext fun a => by match a with | ⟨0, _⟩ => rfl | ⟨1, _⟩ => rfl
  simp only [e1, e2, val_main_v2_apply, val_main_v1_apply, e3]
  rfl

variable (m : (ℓ : Loc nD τ sig) → Buf (Elt Ideal) ℓ) (ρ : Dev nD → PrngReg) (c : Dev nD)

abbrev a0 : Vec Ideal S4096x1024 .bf16 := m ((c : Thread nD τ).loc main_arg0)
abbrev a1 : Vec Ideal S1024x6144 .bf16 := m ((c : Thread nD τ).loc main_arg1)

theorem idx_0 : ∀ t : Fin cfg0.N, win0_0.index t = ![t.val, 0] := by decide +kernel
theorem idx_1 : ∀ t : Fin cfg0.N, win0_1.index t = ![0, 15] := by decide +kernel
theorem idx_2 : ∀ t : Fin cfg0.N, win0_2.index t = ![t.val, 0] := by decide +kernel

def row (t : Fin cfg0.N) (i : Fin 1024) : Fin 4096 := ⟨t.val * 1024 + i.val, by have : t.val < 4 := lt_of_lt_of_eq t.isLt N_0; omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => (blk_simp [idx_0 t]; rfl) | ⟨1, _⟩ => blk_simp [idx_0 t]))

theorem blk_1 (t : Fin cfg0.N) (k : Fin 1024) (j : Fin 384) : iblk m c 1 t (ix2 k j) = a1 m c (ix2 k (last j)) := by
  blk_simp [iblk, V_main_arg1]
  exact congrArg _ (funext fun x => Fin.ext (by match x with | ⟨0, _⟩ => blk_simp [idx_1 t] | ⟨1, _⟩ => (blk_simp [idx_1 t]; rfl)))

theorem final : (dats m 0 c).arrAt 2 cfg0.N = val_main_v3 (F := Ideal) (a0 m c) (a1 m c) := by
  refine (dats m 0 c).arrAt_eq_of_covers 2 _ (by decide +kernel) fun t hf y => ?_
  blk_simp
  have out : out0_2 (iblk m c 0 t) (iblk m c 1 t) = k0_pay1 (iblk m c 0 t) (iblk m c 1 t) := by frame_out
  have emb : ∀ i j, (win0_2.blk t).view.emb (ix2 i j) = ix2 (row t i) j := fun i j => funext fun x => Fin.ext (by
    match x with | ⟨0, _⟩ => (blk_simp [idx_2 t]; rfl) | ⟨1, _⟩ => blk_simp [idx_2 t])
  have key : ∀ i j, k0_pay1 (iblk m c 0 t) (iblk m c 1 t) (ix2 i j) = val_main_v3 (F := Ideal) (a0 m c) (a1 m c) ((win0_2.blk t).view.emb (ix2 i j)) := fun i j => by
    rw [pay, emb, ref]
    simp only [blk_0, blk_1]
  rw [after0_2, out, eq_ix2 y]
  exact key (y 0) (y 1)

/-- On the extended reals, from equal arguments, the kernel and the reference end with equal results. -/
theorem algebraic : Cert.algebraic_SmallFwdIdeal_SmallFwdReferenceIdeal := by
  intro m ρ m' ρ' _ hagree
  refine ⟨_, (θ_run defs _ _).mono (fun r h c => ⟨((h c).1).trans (final m c), (h c).2⟩) (Cert.SmallFwdIdeal.Value.run_blocks m ρ), ?_⟩
  refine (θ_run _ _ _).mono (fun r h c => ?_) (Cert.SmallFwdReferenceIdeal.Value.run (F := Ideal) m' ρ')
  obtain ⟨h0, h1⟩ := hagree c
  refine ⟨(h c).1.trans ?_, (h c).2⟩
  rw [Cert.SmallFwdReferenceIdeal.Read.val_main_v3_eq, h0, h1]

end Cert.SmallFwdIdeal.Mlp

end
-- ==== Proof.Xo.lean ====
/- The gradient of the retrieval's output product by its rows, on the extended reals: the kernel's blocks of rows of the product with
   the transposed matrix are the reference's. -/
module

public import proofs.«01_k».proof.Proof.Gen.XoIdeal.Value
public import proofs.«01_k».proof.Proof.Gen.XoReferenceIdeal.Read
public import proofs.«01_k».proof.Defs
public import Idealize.ShloMosaic.Lib.Pointwise
public import Idealize.ShloMosaic.Lib.Pipeline.ValueKit

@[expose] public section

set_option maxRecDepth 16384

noncomputable section

namespace Cert.XoIdeal.Mlp

open Cert.XoIdeal Cert.XoIdeal.Gen
open Idealize.ShloMosaic Idealize.ShloMosaic.TcCoe Idealize.ShloMosaic.Tactic Idealize.SL.Sem
open Cert.XoReferenceIdeal.Read

theorem pay (x : Vec Ideal S1024x1024 .bf16) (w : Vec Ideal S512x1024 .bf16) (i : Fin 1024) (j : Fin 512) :
    (k0_pay1 x w) (ix2 i j) = ∑ k : Fin 1024, x (ix2 i k) * w (ix2 j k) := by
  pointwise [k0_pay1]

theorem ref (x : Vec Ideal S4096x1024 .bf16) (w : Vec Ideal S512x1024 .bf16) (i : Fin 4096) (j : Fin 512) :
    val_main_v5 (F := Ideal) x w (ix2 i j) = ∑ k : Fin 1024, x (ix2 i k) * w (ix2 j k) := by
  rw [val_main_v5_apply, val_main_v4_apply]
  have e1 : ∀ k, lidx_main_v4 (ix2 i j) k = ix2 i k := fun k => funext fun a => by match a with | ⟨0, _⟩ => rfl | ⟨1, _⟩ => rfl
  have e2 : ∀ k, ridx_main_v4 (ix2 i j) k = ix2 j k := fun k => funext fun a => by match a with | ⟨0, _⟩ => rfl | ⟨1, _⟩ => rfl
  simp only [e1, e2]
  rfl

variable (m : (ℓ : Loc nD τ sig) → Buf (Elt Ideal) ℓ) (ρ : Dev nD → PrngReg) (c : Dev nD)

abbrev a0 : Vec Ideal S4096x1024 .bf16 := m ((c : Thread nD τ).loc main_arg0)
abbrev a1 : Vec Ideal S512x1024 .bf16 := m ((c : Thread nD τ).loc main_arg1)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

def row (t : Fin cfg0.N) (i : Fin 1024) : Fin 4096 := ⟨t.val * 1024 + i.val, by have : t.val < 4 := lt_of_lt_of_eq t.isLt N_0; omega⟩

theorem blk_0 (t : Fin cfg0.N) (i k : Fin 1024) : iblk m c 0 t (ix2 i k) = a0 m c (ix2 (row t i) k) := by
  blk_simp [iblk, V_main_arg0]
  exact congrArg _ (funext fun x => Fin.ext (by match x with | ⟨0, _⟩ => (blk_simp [idx_0 t]; rfl) | ⟨1, _⟩ => blk_simp [idx_0 t]))

theorem blk_1 (t : Fin cfg0.N) : iblk m c 1 t = a1 m c := by
  funext i
  blk_simp [iblk, V_main_arg1]
  exact congrArg _ (funext fun x => Fin.ext (by match x with | ⟨0, _⟩ => blk_simp [idx_1 t] | ⟨1, _⟩ => blk_simp [idx_1 t]))

theorem final : (dats m 0 c).arrAt 2 cfg0.N = val_main_v5 (F := Ideal) (a0 m c) (a1 m c) := by
  refine (dats m 0 c).arrAt_eq_of_covers 2 _ (by decide +kernel) fun t hf y => ?_
  blk_simp
  have out : out0_2 (iblk m c 0 t) (iblk m c 1 t) = k0_pay1 (iblk m c 0 t) (iblk m c 1 t) := by frame_out
  have emb : ∀ i j, (win0_2.blk t).view.emb (ix2 i j) = ix2 (row t i) j := fun i j => funext fun x => Fin.ext (by
    match x with | ⟨0, _⟩ => (blk_simp [idx_2 t]; rfl) | ⟨1, _⟩ => blk_simp [idx_2 t])
  have key : ∀ i j, k0_pay1 (iblk m c 0 t) (iblk m c 1 t) (ix2 i j) = val_main_v5 (F := Ideal) (a0 m c) (a1 m c) ((win0_2.blk t).view.emb (ix2 i j)) := fun i j => by
    rw [pay, emb, ref, blk_1]
    simp only [blk_0]
  rw [after0_2, out, eq_ix2 y]
  exact key (y 0) (y 1)

/-- On the extended reals, from equal arguments, the kernel and the reference end with equal results. -/
theorem algebraic : Cert.algebraic_XoIdeal_XoReferenceIdeal := by
  intro m ρ m' ρ' _ hagree
  refine ⟨_, (θ_run defs _ _).mono (fun r h c => ⟨((h c).1).trans (final m c), (h c).2⟩) (Cert.XoIdeal.Value.run_blocks m ρ), ?_⟩
  refine (θ_run _ _ _).mono (fun r h c => ?_) (Cert.XoReferenceIdeal.Value.run (F := Ideal) m' ρ')
  obtain ⟨h0, h1⟩ := hagree c
  refine ⟨(h c).1.trans ?_, (h c).2⟩
  rw [Cert.XoReferenceIdeal.Read.val_main_v5_eq, h0, h1]

end Cert.XoIdeal.Mlp

end
-- ==== Proof.MergeFwd.lean ====
/- The three branches merged, each through its matrix and its gate, on the extended reals: the kernel's blocks of rows are the
   reference's. -/
module

public import proofs.«01_k».proof.Proof.Gen.MergeFwdIdeal.Value
public import proofs.«01_k».proof.Proof.Gen.MergeFwdReferenceIdeal.Read
public import proofs.«01_k».proof.Defs
public import Idealize.ShloMosaic.Lib.Pointwise
public import Idealize.ShloMosaic.Lib.Pipeline.ValueKit

@[expose] public section

set_option maxRecDepth 16384

noncomputable section

namespace Cert.MergeFwdIdeal.Mlp

open Cert.MergeFwdIdeal Cert.MergeFwdIdeal.Gen
open Idealize.ShloMosaic Idealize.ShloMosaic.TcCoe Idealize.ShloMosaic.Tactic Idealize.SL.Sem
open Cert.MergeFwdReferenceIdeal.Read

/-- The gate. -/
def gate (x : EReal) : EReal := Ideal.div 1 (1 + Ideal.exp (-x))

theorem pay (z0 z1 z2 : Vec Ideal S512x1024 .bf16) (xf : Vec Ideal S512x256 .bf16) (xg : Vec Ideal S512x512 .bf16) (xm : Vec Ideal S512x256 .bf16)
    (b0 b1 b2 : Vec Ideal S1x1024 .f32) (wf : Vec Ideal S256x1024 .bf16) (wg : Vec Ideal S512x1024 .bf16) (wm : Vec Ideal S256x1024 .bf16) (i : Fin 512) (j : Fin 1024) :
    k0_pay1 (k0_pay2 z1) (k0_pay3 z2) (k0_pay4 xg) (k0_pay5 xm) b1 b2 (k0_pay6 wg) (k0_pay7 wm) (k0_pay8 z0 b0) (k0_pay9 xf) (k0_pay10 wf) (ix2 i j)
      = gate (z0 (ix2 i j) + b0 (ix2 0 j)) * (∑ k : Fin 256, xf (ix2 i k) * wf (ix2 k j)) + gate (z1 (ix2 i j) + b1 (ix2 0 j)) * (∑ k : Fin 512, xg (ix2 i k) * wg (ix2 k j))
        + gate (z2 (ix2 i j) + b2 (ix2 0 j)) * (∑ k : Fin 256, xm (ix2 i k) * wm (ix2 k j)) := by
  pointwise [k0_pay1, k0_pay2, k0_pay3, k0_pay4, k0_pay5, k0_pay6, k0_pay7, k0_pay8, k0_pay9, k0_pay10]
  simp only [gate, zero_sub]

theorem ref (z : Vec Ideal S4096x5760 .bf16) (xf : Vec Ideal S4096x256 .bf16) (xg : Vec Ideal S4096x512 .bf16) (xm : Vec Ideal S4096x256 .bf16)
    (b0 b1 b2 : Vec Ideal S1x1024 .f32) (wf : Vec Ideal S256x1024 .bf16) (wg : Vec Ideal S512x1024 .bf16) (wm : Vec Ideal S256x1024 .bf16) (i : Fin 4096) (j : Fin 1024) :
    val_main_v42 (F := Ideal) z xf xg xm b0 b1 b2 wf wg wm (ix2 i j)
      = gate (z (ix2 i ⟨j.val, by omega⟩) + b0 (ix2 0 j)) * (∑ k : Fin 256, xf (ix2 i k) * wf (ix2 k j))
        + gate (z (ix2 i ⟨1024 + j.val, by omega⟩) + b1 (ix2 0 j)) * (∑ k : Fin 512, xg (ix2 i k) * wg (ix2 k j))
        + gate (z (ix2 i ⟨2048 + j.val, by omega⟩) + b2 (ix2 0 j)) * (∑ k : Fin 256, xm (ix2 i k) * wm (ix2 k j)) := by
  pointwise [val_main_v42, val_main_v41, val_main_v30, val_main_v40, val_main_v29, val_main_v19, val_main_v18, val_main_v28, val_main_v39, val_main_v17, val_main_v16,
    val_main_v15, val_main_v14, val_main_v13, val_main_v12, val_main_v11, val_main_v10, val_main_v7, val_main_v27, val_main_v26, val_main_v25, val_main_v24, val_main_v23,
    val_main_v22, val_main_v21, val_main_v20, val_main_v8, val_main_v38, val_main_v37, val_main_v36, val_main_v35, val_main_v34, val_main_v33, val_main_v32, val_main_v31,
    val_main_v9, val_main_v0, val_main_v1, val_main_v2, val_main_v3, val_main_v4, val_main_v5, val_main_v6, val_main_cst, val_main_cst_0, val_main_cst_1, val_main_cst_2,
    val_main_cst_3, val_main_cst_4]
  rfl

variable (m : (ℓ : Loc nD τ sig) → Buf (Elt Ideal) ℓ) (ρ : Dev nD → PrngReg) (c : Dev nD)

theorem idx_0 : ∀ t : Fin cfg0.N, win0_0.index t = ![t.val, 0] := by decide +kernel
theorem idx_1 : ∀ t : Fin cfg0.N, win0_1.index t = ![t.val, 1] := by decide +kernel
theorem idx_2 : ∀ t : Fin cfg0.N, win0_2.index t = ![t.val, 2] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![t.val, 0] := by decide +kernel

def row (t : Fin cfg0.N) (i : Fin 512) : Fin 4096 := ⟨t.val * 512 + i.val, by have : t.val < 8 := lt_of_lt_of_eq t.isLt N_0; omega⟩

theorem blk_0 (t : Fin cfg0.N) (i : Fin 512) (j : Fin 1024) : X0_0 m c t (ix2 i j) = m ((c : Thread nD τ).loc main_arg0) (ix2 (row t i) ⟨j.val, by omega⟩) := by
  unfold X0_0 Pipeline.Window.fill
  rw [dif_pos (moved0_0 t _)]
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (i : Fin 512) (j : Fin 1024) : X0_1 m c t (ix2 i j) = m ((c : Thread nD τ).loc main_arg0) (ix2 (row t i) ⟨1024 + j.val, by omega⟩) := by
  unfold X0_1 Pipeline.Window.fill
  rw [dif_pos (moved0_1 t _)]
  blk_simp [iblk, V_main_arg0]
  exact congrArg _ (funext fun x => Fin.ext (by match x with | ⟨0, _⟩ => blk_simp [idx_1 t]; rfl | ⟨1, _⟩ => blk_simp [idx_1 t]))

theorem blk_2 (t : Fin cfg0.N) (i : Fin 512) (j : Fin 1024) : X0_2 m c t (ix2 i j) = m ((c : Thread nD τ).loc main_arg0) (ix2 (row t i) ⟨2048 + j.val, by omega⟩) := by
  unfold X0_2 Pipeline.Window.fill
  rw [dif_pos (moved0_2 t _)]
  blk_simp [iblk, V_main_arg0]
  exact congrArg _ (funext fun x => Fin.ext (by match x with | ⟨0, _⟩ => blk_simp [idx_2 t]; rfl | ⟨1, _⟩ => blk_simp [idx_2 t]))

theorem blk_3 (t : Fin cfg0.N) (i : Fin 512) (k : Fin 256) : iblk m c 3 t (ix2 i k) = m ((c : Thread nD τ).loc main_arg1) (ix2 (row t i) k) := by
  blk_simp [iblk, V_main_arg1]
  exact congrArg _ (funext fun x => Fin.ext (by match x with | ⟨0, _⟩ => blk_simp [idx_3 t]; rfl | ⟨1, _⟩ => blk_simp [idx_3 t]))

theorem blk_4 (t : Fin cfg0.N) (i : Fin 512) (k : Fin 512) : iblk m c 4 t (ix2 i k) = m ((c : Thread nD τ).loc main_arg2) (ix2 (row t i) k) := by
  blk_simp [iblk, V_main_arg2]
  exact congrArg _ (funext fun x => Fin.ext (by match x with | ⟨0, _⟩ => blk_simp [idx_4 t]; rfl | ⟨1, _⟩ => blk_simp [idx_4 t]))

theorem blk_5 (t : Fin cfg0.N) (i : Fin 512) (k : Fin 256) : iblk m c 5 t (ix2 i k) = m ((c : Thread nD τ).loc main_arg3) (ix2 (row t i) k) := by
  blk_simp [iblk, V_main_arg3]
  exact congrArg _ (funext fun x => Fin.ext (by match x with | ⟨0, _⟩ => blk_simp [idx_5 t]; rfl | ⟨1, _⟩ => blk_simp [idx_5 t]))

/-- A window that covers its array holds the array. -/
theorem blk_6 (t : Fin cfg0.N) : (iblk m c 6 t : Vec Ideal S1x1024 .f32) = m ((c : Thread nD τ).loc main_arg4) := by
  funext i
  blk_simp [iblk, V_main_arg4]
  exact congrArg _ (funext fun x => Fin.ext (by match x with | ⟨0, _⟩ => blk_simp [idx_6 t] | ⟨1, _⟩ => blk_simp [idx_6 t]))

theorem blk_7 (t : Fin cfg0.N) : (iblk m c 7 t : Vec Ideal S1x1024 .f32) = m ((c : Thread nD τ).loc main_arg5) := by
  funext i
  blk_simp [iblk, V_main_arg5]
  exact congrArg _ (funext fun x => Fin.ext (by match x with | ⟨0, _⟩ => blk_simp [idx_7 t] | ⟨1, _⟩ => blk_simp [idx_7 t]))

theorem blk_8 (t : Fin cfg0.N) : (iblk m c 8 t : Vec Ideal S1x1024 .f32) = m ((c : Thread nD τ).loc main_arg6) := by
  funext i
  blk_simp [iblk, V_main_arg6]
  exact congrArg _ (funext fun x => Fin.ext (by match x with | ⟨0, _⟩ => blk_simp [idx_8 t] | ⟨1, _⟩ => blk_simp [idx_8 t]))

theorem blk_9 (t : Fin cfg0.N) : (iblk m c 9 t : Vec Ideal S256x1024 .bf16) = m ((c : Thread nD τ).loc main_arg7) := by
  funext i
  blk_simp [iblk, V_main_arg7]
  exact congrArg _ (funext fun x => Fin.ext (by match x with | ⟨0, _⟩ => blk_simp [idx_9 t] | ⟨1, _⟩ => blk_simp [idx_9 t]))

theorem blk_10 (t : Fin cfg0.N) : (iblk m c 10 t : Vec Ideal S512x1024 .bf16) = m ((c : Thread nD τ).loc main_arg8) := by
  funext i
  blk_simp [iblk, V_main_arg8]
  exact congrArg _ (funext fun x => Fin.ext (by match x with | ⟨0, _⟩ => blk_simp [idx_10 t] | ⟨1, _⟩ => blk_simp [idx_10 t]))

theorem blk_11 (t : Fin cfg0.N) : (iblk m c 11 t : Vec Ideal S256x1024 .bf16) = m ((c : Thread nD τ).loc main_arg9) := by
  funext i
  blk_simp [iblk, V_main_arg9]
  exact congrArg _ (funext fun x => Fin.ext (by match x with | ⟨0, _⟩ => blk_simp [idx_11 t] | ⟨1, _⟩ => blk_simp [idx_11 t]))

theorem emb_12 (t : Fin cfg0.N) (i : Fin 512) (j : Fin 1024) : (win0_12.blk t).view.emb (ix2 i j) = ix2 (row t i) j := funext fun x => Fin.ext (by
  match x with | ⟨0, _⟩ => blk_simp [idx_12 t]; rfl | ⟨1, _⟩ => blk_simp [idx_12 t])

theorem out (t : Fin cfg0.N) : outsAt0 m c t = k0_pay1 (k0_pay2 (X0_1 m c t)) (k0_pay3 (X0_2 m c t)) (k0_pay4 (iblk m c 4 t)) (k0_pay5 (iblk m c 5 t)) (iblk m c 7 t) (iblk m c 8 t)
    (k0_pay6 (iblk m c 10 t)) (k0_pay7 (iblk m c 11 t)) (k0_pay8 (X0_0 m c t) (iblk m c 6 t)) (k0_pay9 (iblk m c 3 t)) (k0_pay10 (iblk m c 9 t)) := by
  unfold outsAt0
  frame_out

/-- The reference's result on the launch's arguments. -/
abbrev G : Vec Ideal S4096x1024 .bf16 := val_main_v42 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

theorem final : (dats m 0 c).arrAt 12 cfg0.N = G m c := by
  refine (dats m 0 c).arrAt_eq_of_covers 12 _ (by decide +kernel) fun t hf y => ?_
  blk_simp
  have key : ∀ i j, outsAt0 m c t (ix2 i j) = G m c ((win0_12.blk t).view.emb (ix2 i j)) := fun i j => by
    rw [out, pay, emb_12, G, ref]
    simp only [blk_0, blk_1, blk_2, blk_3, blk_4, blk_5]
    rw [blk_6, blk_7, blk_8, blk_9, blk_10, blk_11]
  rw [after0_12, eq_ix2 y]
  exact key (y 0) (y 1)

/-- On the extended reals, from equal arguments, the kernel and the reference end with equal results. -/
theorem algebraic : Cert.algebraic_MergeFwdIdeal_MergeFwdReferenceIdeal := by
  intro m ρ m' ρ' _ hagree
  refine ⟨_, (θ_run defs _ _).mono (fun r h c => ⟨((h c).1).trans (final m c), (h c).2⟩) (Cert.MergeFwdIdeal.Value.run_blocks m ρ), ?_⟩
  refine (θ_run _ _ _).mono (fun r h c => ?_) (Cert.MergeFwdReferenceIdeal.Value.run (F := Ideal) m' ρ')
  obtain ⟨h0, h1, h2, h3, h4, h5, h6, h7, h8, h9⟩ := hagree c
  refine ⟨(h c).1.trans ?_, (h c).2⟩
  rw [Cert.MergeFwdReferenceIdeal.Read.val_main_v42_eq, h0, h1, h2, h3, h4, h5, h6, h7, h8, h9]

end Cert.MergeFwdIdeal.Mlp

end
-- ==== Proof.Merge.lean ====
/- The merge of the three branches, backward, on the extended reals: the kernel's ten results are the reference's. -/
module

public import proofs.«01_k».proof.Proof.Gen.MergeIdeal.Frame
public import proofs.«01_k».proof.Proof.Gen.MergeReferenceIdeal.Read
public import proofs.«01_k».proof.Defs
public import Idealize.ShloMosaic.Lib.Pointwise
public import Idealize.ShloMosaic.Lib.Pipeline.ValueKit

@[expose] public section

set_option maxRecDepth 16384

noncomputable section

namespace Cert.MergeIdeal.Mlp

open Cert.MergeIdeal Cert.MergeIdeal.Gen
open Idealize.ShloMosaic Idealize.ShloMosaic.TcCoe Idealize.ShloMosaic.Tactic Idealize.SL.Sem
open Cert.MergeReferenceIdeal.Read

/-- The gate. -/
def gate (x : EReal) : EReal := Ideal.div 1 (1 + Ideal.exp (-x))

/-- A branch's part of the gate's gradient: what reaches the gate, times the gate's slope. -/
def part (x q : EReal) : EReal := q * (gate x * (1 - gate x))

theorem slope (x q : EReal) : 0 - (0 - q * Ideal.div 1 ((1 + Ideal.exp (0 - x)) * (1 + Ideal.exp (0 - x)))) * Ideal.exp (0 - x) = part x q := by
  unfold part gate
  rw [zero_sub, zero_sub, zero_sub, EReal.neg_mul, neg_neg, mul_assoc]
  congr 1
  induction x with
  | bot =>
    have h : (1 : EReal) + ⊤ = ⊤ := EReal.add_top_of_ne_bot (EReal.coe_ne_bot 1)
    simp [Ideal.div, h]
  | top =>
    have h : (0 : EReal) = 1 - 1 := by rw [← EReal.coe_one, ← EReal.coe_sub, sub_self, EReal.coe_zero]
    simp [Ideal.div, h.symm]
  | coe r =>
    have hp := Real.exp_pos (-r)
    have h1 : (1 + Real.exp (-r)) ≠ 0 := by positivity
    have h2 : (1 + Real.exp (-r)) * (1 + Real.exp (-r)) ≠ 0 := mul_ne_zero h1 h1
    rw [← EReal.coe_neg, Ideal.exp_coe, ← EReal.coe_one, ← EReal.coe_add, ← EReal.coe_mul, Ideal.div_coe h1, Ideal.div_coe h2]
    simp only [← EReal.coe_mul, ← EReal.coe_sub]
    congr 1
    field_simp
    ring

section Payloads

variable (z : Vec Ideal S512x1024 .bf16) (b : Vec Ideal S1x1024 .f32) (x : Vec Ideal S512x256 .bf16) (w : Vec Ideal S256x1024 .bf16) (x' : Vec Ideal S512x512 .bf16)
  (w' : Vec Ideal S512x1024 .bf16) (dy : Vec Ideal S512x1024 .f32)

theorem pay_z0 (i : Fin 512) (j : Fin 1024) : k0_pay45 (k0_pay13 z b) (k0_pay17 (k0_pay14 z b)) (k0_pay18 (k0_pay7 x) (k0_pay10 w)) (k0_pay27 dy) (ix2 i j)
    = part (z (ix2 i j) + b (ix2 0 j)) (dy (ix2 i j) * ∑ k : Fin 256, x (ix2 i k) * w (ix2 k j)) := by
  pointwise [k0_pay45, k0_pay13, k0_pay17, k0_pay14, k0_pay18, k0_pay7, k0_pay10, k0_pay27]
  exact slope _ _

theorem pay_z1 (i : Fin 512) (j : Fin 1024) : k0_pay40 (k0_pay19 (k0_pay5 z) b) (k0_pay22 (k0_pay5 z) b) (k0_pay23 (k0_pay8 x') (k0_pay11 w')) (k0_pay27 dy) (ix2 i j)
    = part (z (ix2 i j) + b (ix2 0 j)) (dy (ix2 i j) * ∑ k : Fin 512, x' (ix2 i k) * w' (ix2 k j)) := by
  pointwise [k0_pay40, k0_pay19, k0_pay5, k0_pay22, k0_pay23, k0_pay20, k0_pay21, k0_pay8, k0_pay11, k0_pay27]
  exact slope _ _

theorem pay_z2 (i : Fin 512) (j : Fin 1024) : k0_pay35 (k0_pay24 (k0_pay6 z) b) (k0_pay26 (k0_pay6 z) b) (k0_pay30 (k0_pay9 x) (k0_pay12 w) dy) (ix2 i j)
    = part (z (ix2 i j) + b (ix2 0 j)) (dy (ix2 i j) * ∑ k : Fin 256, x (ix2 i k) * w (ix2 k j)) := by
  pointwise [k0_pay35, k0_pay24, k0_pay6, k0_pay26, k0_pay25, k0_pay30, k0_pay28, k0_pay9, k0_pay12]
  exact slope _ _

theorem pay_x0 (i : Fin 512) (k : Fin 256) : k0_pay50 (k0_pay43 (k0_pay10 w) (k0_pay16 (k0_pay14 z b) k0_pay15) (k0_pay27 dy)) (ix2 i k)
    = ∑ j : Fin 1024, gate (z (ix2 i j) + b (ix2 0 j)) * dy (ix2 i j) * w (ix2 k j) := by
  pointwise [k0_pay50, k0_pay43, k0_pay42, k0_pay10, k0_pay16, k0_pay14, k0_pay13, k0_pay15, k0_pay27]
  simp only [gate, zero_sub]

theorem pay_x1 (i : Fin 512) (k : Fin 512) : k0_pay51 (k0_pay38 (k0_pay11 w') (k0_pay21 (k0_pay5 z) b) (k0_pay27 dy)) (ix2 i k)
    = ∑ j : Fin 1024, gate (z (ix2 i j) + b (ix2 0 j)) * dy (ix2 i j) * w' (ix2 k j) := by
  pointwise [k0_pay51, k0_pay38, k0_pay37, k0_pay11, k0_pay21, k0_pay20, k0_pay19, k0_pay5, k0_pay27]
  simp only [gate, zero_sub]

theorem pay_x2 (i : Fin 512) (k : Fin 256) : k0_pay52 (k0_pay31 (k0_pay6 z) b (k0_pay12 w) dy) (ix2 i k)
    = ∑ j : Fin 1024, gate (z (ix2 i j) + b (ix2 0 j)) * dy (ix2 i j) * w (ix2 k j) := by
  pointwise [k0_pay52, k0_pay31, k0_pay29, k0_pay28, k0_pay25, k0_pay24, k0_pay6, k0_pay12]
  simp only [gate, zero_sub]

theorem pay_b0 (j : Fin 1024) : k0_pay46 (k0_pay45 (k0_pay13 z b) (k0_pay17 (k0_pay14 z b)) (k0_pay18 (k0_pay7 x) (k0_pay10 w)) (k0_pay27 dy)) (ix2 0 j)
    = ∑ i : Fin 512, part (z (ix2 i j) + b (ix2 0 j)) (dy (ix2 i j) * ∑ k : Fin 256, x (ix2 i k) * w (ix2 k j)) := by
  pointwise [k0_pay46, k0_pay45, k0_pay13, k0_pay17, k0_pay14, k0_pay18, k0_pay7, k0_pay10, k0_pay27]
  simp only [slope]

theorem pay_b1 (j : Fin 1024) : k0_pay41 (k0_pay19 (k0_pay5 z) b) (k0_pay22 (k0_pay5 z) b) (k0_pay23 (k0_pay8 x') (k0_pay11 w')) (k0_pay27 dy) (ix2 0 j)
    = ∑ i : Fin 512, part (z (ix2 i j) + b (ix2 0 j)) (dy (ix2 i j) * ∑ k : Fin 512, x' (ix2 i k) * w' (ix2 k j)) := by
  pointwise [k0_pay41, k0_pay40, k0_pay19, k0_pay5, k0_pay22, k0_pay23, k0_pay20, k0_pay21, k0_pay8, k0_pay11, k0_pay27]
  simp only [slope]

theorem pay_b2 (j : Fin 1024) : k0_pay36 (k0_pay24 (k0_pay6 z) b) (k0_pay26 (k0_pay6 z) b) (k0_pay30 (k0_pay9 x) (k0_pay12 w) dy) (ix2 0 j)
    = ∑ i : Fin 512, part (z (ix2 i j) + b (ix2 0 j)) (dy (ix2 i j) * ∑ k : Fin 256, x (ix2 i k) * w (ix2 k j)) := by
  pointwise [k0_pay36, k0_pay35, k0_pay24, k0_pay6, k0_pay26, k0_pay25, k0_pay30, k0_pay28, k0_pay9, k0_pay12]
  simp only [slope]

theorem pay_w0 (k : Fin 256) (j : Fin 1024) : k0_pay44 (k0_pay7 x) (k0_pay16 (k0_pay14 z b) k0_pay15) (k0_pay27 dy) (ix2 k j)
    = ∑ i : Fin 512, gate (z (ix2 i j) + b (ix2 0 j)) * dy (ix2 i j) * x (ix2 i k) := by
  pointwise [k0_pay44, k0_pay42, k0_pay7, k0_pay16, k0_pay14, k0_pay13, k0_pay15, k0_pay27]
  simp only [gate, zero_sub, mul_comm (x _)]

theorem pay_w1 (k : Fin 512) (j : Fin 1024) : k0_pay39 (k0_pay8 x') (k0_pay21 (k0_pay5 z) b) (k0_pay27 dy) (ix2 k j)
    = ∑ i : Fin 512, gate (z (ix2 i j) + b (ix2 0 j)) * dy (ix2 i j) * x' (ix2 i k) := by
  pointwise [k0_pay39, k0_pay37, k0_pay8, k0_pay21, k0_pay20, k0_pay19, k0_pay5, k0_pay27]
  simp only [gate, zero_sub, mul_comm (x' _)]

theorem pay_w2 (k : Fin 256) (j : Fin 1024) : k0_pay34 (k0_pay32 (k0_pay9 x)) (k0_pay33 (k0_pay6 z) b dy) (constant S256x1024 FTy.f32 0#32) (ix2 k j)
    = ∑ i : Fin 512, gate (z (ix2 i j) + b (ix2 0 j)) * dy (ix2 i j) * x (ix2 i k) := by
  pointwise [k0_pay34, k0_pay32, k0_pay9, k0_pay33, k0_pay29, k0_pay28, k0_pay25, k0_pay24, k0_pay6]
  simp only [gate, zero_sub, mul_comm (x _)]

end Payloads

section Reference

variable (z : Vec Ideal S4096x5760 .bf16) (x1 : Vec Ideal S4096x256 .bf16) (x2 : Vec Ideal S4096x512 .bf16) (x3 : Vec Ideal S4096x256 .bf16) (b0 b1 b2 : Vec Ideal S1x1024 .f32)
  (w0 : Vec Ideal S256x1024 .bf16) (w1 : Vec Ideal S512x1024 .bf16) (w2 : Vec Ideal S256x1024 .bf16) (dy : Vec Ideal S4096x1024 .f32)

theorem ref_s0 (i : Fin 4096) (j : Fin 1024) : val_main_v17 (F := Ideal) z b0 (ix2 i j) = gate (z (ix2 i ⟨j.val, by omega⟩) + b0 (ix2 0 j)) := by
  pointwise [val_main_v17, val_main_v16, val_main_v15, val_main_v14, val_main_v13, val_main_v12, val_main_v11, val_main_v10, val_main_v7, val_main_v6, val_main_cst_0, val_main_cst]
  rfl

theorem ref_s1 (i : Fin 4096) (j : Fin 1024) : val_main_v30 (F := Ideal) z b1 (ix2 i j) = gate (z (ix2 i ⟨1024 + j.val, by omega⟩) + b1 (ix2 0 j)) := by
  pointwise [val_main_v30, val_main_v29, val_main_v28, val_main_v27, val_main_v26, val_main_v25, val_main_v24, val_main_v23, val_main_v8, val_main_v6, val_main_cst_2, val_main_cst_3]
  rfl

theorem ref_s2 (i : Fin 4096) (j : Fin 1024) : val_main_v44 (F := Ideal) z b2 (ix2 i j) = gate (z (ix2 i ⟨2048 + j.val, by omega⟩) + b2 (ix2 0 j)) := by
  pointwise [val_main_v44, val_main_v43, val_main_v42, val_main_v41, val_main_v40, val_main_v39, val_main_v38, val_main_v37, val_main_v9, val_main_v6, val_main_cst_5, val_main_cst_6]
  rfl

theorem ref_z0 (i : Fin 4096) (j : Fin 1024) : val_main_v74 (F := Ideal) z x1 b0 w0 dy (ix2 i j)
    = part (z (ix2 i ⟨j.val, by omega⟩) + b0 (ix2 0 j)) (dy (ix2 i j) * ∑ k : Fin 256, x1 (ix2 i k) * w0 (ix2 k j)) := by
  pointwise [val_main_v74, val_main_v70, val_main_v51, val_main_v21, val_main_v20, val_main_v19, val_main_v18, val_main_cst_1, val_main_v0, val_main_v3]
  simp only [ref_s0, part]

theorem ref_z1 (i : Fin 4096) (j : Fin 1024) : val_main_v66 (F := Ideal) z x2 b1 w1 dy (ix2 i j)
    = part (z (ix2 i ⟨1024 + j.val, by omega⟩) + b1 (ix2 0 j)) (dy (ix2 i j) * ∑ k : Fin 512, x2 (ix2 i k) * w1 (ix2 k j)) := by
  pointwise [val_main_v66, val_main_v62, val_main_v51, val_main_v34, val_main_v33, val_main_v32, val_main_v31, val_main_cst_4, val_main_v1, val_main_v4]
  simp only [ref_s1, part]

theorem ref_z2 (i : Fin 4096) (j : Fin 1024) : val_main_v58 (F := Ideal) z x3 b2 w2 dy (ix2 i j)
    = part (z (ix2 i ⟨2048 + j.val, by omega⟩) + b2 (ix2 0 j)) (dy (ix2 i j) * ∑ k : Fin 256, x3 (ix2 i k) * w2 (ix2 k j)) := by
  pointwise [val_main_v58, val_main_v54, val_main_v52, val_main_v48, val_main_v47, val_main_v46, val_main_v45, val_main_cst_7, val_main_v2, val_main_v5]
  simp only [ref_s2, part]

theorem ref_x0 (i : Fin 4096) (k : Fin 256) : val_main_v79 (F := Ideal) z b0 w0 dy (ix2 i k)
    = ∑ j : Fin 1024, gate (z (ix2 i ⟨j.val, by omega⟩) + b0 (ix2 0 j)) * dy (ix2 i j) * w0 (ix2 k j) := by
  pointwise [val_main_v79, val_main_v73, val_main_v69, val_main_v51, val_main_v3]
  simp only [ref_s0]

theorem ref_x1 (i : Fin 4096) (k : Fin 512) : val_main_v80 (F := Ideal) z b1 w1 dy (ix2 i k)
    = ∑ j : Fin 1024, gate (z (ix2 i ⟨1024 + j.val, by omega⟩) + b1 (ix2 0 j)) * dy (ix2 i j) * w1 (ix2 k j) := by
  pointwise [val_main_v80, val_main_v65, val_main_v61, val_main_v51, val_main_v4]
  simp only [ref_s1]

theorem ref_x2 (i : Fin 4096) (k : Fin 256) : val_main_v81 (F := Ideal) z b2 w2 dy (ix2 i k)
    = ∑ j : Fin 1024, gate (z (ix2 i ⟨2048 + j.val, by omega⟩) + b2 (ix2 0 j)) * dy (ix2 i j) * w2 (ix2 k j) := by
  pointwise [val_main_v81, val_main_v57, val_main_v53, val_main_v52, val_main_v5]
  simp only [ref_s2]

theorem ref_b0 (j : Fin 1024) : val_main_v76 (F := Ideal) z x1 b0 w0 dy (ix2 0 j) = ∑ i : Fin 4096, val_main_v74 (F := Ideal) z x1 b0 w0 dy (ix2 i j) := by
  pointwise [val_main_v76, val_main_v75, val_main_cst_10]

theorem ref_b1 (j : Fin 1024) : val_main_v68 (F := Ideal) z x2 b1 w1 dy (ix2 0 j) = ∑ i : Fin 4096, val_main_v66 (F := Ideal) z x2 b1 w1 dy (ix2 i j) := by
  pointwise [val_main_v68, val_main_v67, val_main_cst_9]

theorem ref_b2 (j : Fin 1024) : val_main_v60 (F := Ideal) z x3 b2 w2 dy (ix2 0 j) = ∑ i : Fin 4096, val_main_v58 (F := Ideal) z x3 b2 w2 dy (ix2 i j) := by
  pointwise [val_main_v60, val_main_v59, val_main_cst_8]

theorem ref_w0 (k : Fin 256) (j : Fin 1024) : val_main_v72 (F := Ideal) z x1 b0 dy (ix2 k j)
    = ∑ i : Fin 4096, gate (z (ix2 i ⟨j.val, by omega⟩) + b0 (ix2 0 j)) * dy (ix2 i j) * x1 (ix2 i k) := by
  pointwise [val_main_v72, val_main_v71, val_main_v69, val_main_v51, val_main_v0]
  simp only [ref_s0]

theorem ref_w1 (k : Fin 512) (j : Fin 1024) : val_main_v64 (F := Ideal) z x2 b1 dy (ix2 k j)
    = ∑ i : Fin 4096, gate (z (ix2 i ⟨1024 + j.val, by omega⟩) + b1 (ix2 0 j)) * dy (ix2 i j) * x2 (ix2 i k) := by
  pointwise [val_main_v64, val_main_v63, val_main_v61, val_main_v51, val_main_v1]
  simp only [ref_s1]

theorem ref_w2 (k : Fin 256) (j : Fin 1024) : val_main_v56 (F := Ideal) z x3 b2 dy (ix2 k j)
    = ∑ i : Fin 4096, gate (z (ix2 i ⟨2048 + j.val, by omega⟩) + b2 (ix2 0 j)) * dy (ix2 i j) * x3 (ix2 i k) := by
  pointwise [val_main_v56, val_main_v55, val_main_v53, val_main_v52, val_main_v2]
  simp only [ref_s2]

end Reference

variable (m : (ℓ : Loc nD τ sig) → Buf (Elt Ideal) ℓ) (ρ : Dev nD → PrngReg) (c : Dev nD)

/- The launch's arguments. -/
abbrev a0 : Vec Ideal S4096x5760 .bf16 := m ((c : Thread nD τ).loc main_arg0)
abbrev a1 : Vec Ideal S4096x256 .bf16 := m ((c : Thread nD τ).loc main_arg1)
abbrev a2 : Vec Ideal S4096x512 .bf16 := m ((c : Thread nD τ).loc main_arg2)
abbrev a3 : Vec Ideal S4096x256 .bf16 := m ((c : Thread nD τ).loc main_arg3)
abbrev a4 : Vec Ideal S1x1024 .f32 := m ((c : Thread nD τ).loc main_arg4)
abbrev a5 : Vec Ideal S1x1024 .f32 := m ((c : Thread nD τ).loc main_arg5)
abbrev a6 : Vec Ideal S1x1024 .f32 := m ((c : Thread nD τ).loc main_arg6)
abbrev a7 : Vec Ideal S256x1024 .bf16 := m ((c : Thread nD τ).loc main_arg7)
abbrev a8 : Vec Ideal S512x1024 .bf16 := m ((c : Thread nD τ).loc main_arg8)
abbrev a9 : Vec Ideal S256x1024 .bf16 := m ((c : Thread nD τ).loc main_arg9)
abbrev a10 : Vec Ideal S4096x1024 .f32 := m ((c : Thread nD τ).loc main_arg10)

theorem idx_0 : ∀ t : Fin cfg0.N, win0_0.index t = ![t.val, 0] := by decide +kernel
theorem idx_1 : ∀ t : Fin cfg0.N, win0_1.index t = ![t.val, 1] := by decide +kernel
theorem idx_2 : ∀ t : Fin cfg0.N, win0_2.index t = ![t.val, 2] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![t.val, 0] := by decide +kernel
theorem idx_13 : ∀ t : Fin cfg0.N, win0_13.index t = ![t.val, 0] := by decide +kernel
theorem idx_14 : ∀ t : Fin cfg0.N, win0_14.index t = ![t.val, 0] := by decide +kernel
theorem idx_15 : ∀ t : Fin cfg0.N, win0_15.index t = ![t.val, 0] := by decide +kernel
theorem idx_16 : ∀ t : Fin cfg0.N, win0_16.index t = ![t.val, 0] := by decide +kernel
theorem idx_17 : ∀ t : Fin cfg0.N, win0_17.index t = ![0, 0] := by decide +kernel
theorem idx_18 : ∀ t : Fin cfg0.N, win0_18.index t = ![0, 0] := by decide +kernel
theorem idx_19 : ∀ t : Fin cfg0.N, win0_19.index t = ![0, 0] := by decide +kernel
theorem idx_20 : ∀ t : Fin cfg0.N, win0_20.index t = ![0, 0] := by decide +kernel
theorem idx_21 : ∀ t : Fin cfg0.N, win0_21.index t = ![0, 0] := by decide +kernel
theorem idx_22 : ∀ t : Fin cfg0.N, win0_22.index t = ![0, 0] := by decide +kernel

theorem t_lt (t : Fin cfg0.N) : t.val < 8 := lt_of_lt_of_eq t.isLt N_0

def row (t : Fin cfg0.N) (i : Fin 512) : Fin 4096 := ⟨t.val * 512 + i.val, by have := t_lt t; omega⟩

theorem blk_0 (t : Fin cfg0.N) (i : Fin 512) (j : Fin 1024) : X0_0 m c t (ix2 i j) = a0 m c (ix2 (row t i) ⟨j.val, by omega⟩) := by
  unfold X0_0 Pipeline.Window.fill
  rw [dif_pos (moved0_0 t _)]
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (i : Fin 512) (j : Fin 1024) : X0_1 m c t (ix2 i j) = a0 m c (ix2 (row t i) ⟨1024 + j.val, by omega⟩) := by
  unfold X0_1 Pipeline.Window.fill
  rw [dif_pos (moved0_1 t _)]
  blk_simp [iblk, V_main_arg0]
  exact congrArg _ (funext fun x => Fin.ext (by match x with | ⟨0, _⟩ => blk_simp [idx_1 t]; rfl | ⟨1, _⟩ => blk_simp [idx_1 t]))

theorem blk_2 (t : Fin cfg0.N) (i : Fin 512) (j : Fin 1024) : X0_2 m c t (ix2 i j) = a0 m c (ix2 (row t i) ⟨2048 + j.val, by omega⟩) := by
  unfold X0_2 Pipeline.Window.fill
  rw [dif_pos (moved0_2 t _)]
  blk_simp [iblk, V_main_arg0]
  exact congrArg _ (funext fun x => Fin.ext (by match x with | ⟨0, _⟩ => blk_simp [idx_2 t]; rfl | ⟨1, _⟩ => blk_simp [idx_2 t]))

theorem blk_3 (t : Fin cfg0.N) (i : Fin 512) (k : Fin 256) : iblk m c 3 t (ix2 i k) = a1 m c (ix2 (row t i) k) := by
  blk_simp [iblk, V_main_arg1]
  exact congrArg _ (funext fun x => Fin.ext (by match x with | ⟨0, _⟩ => blk_simp [idx_3 t]; rfl | ⟨1, _⟩ => blk_simp [idx_3 t]))

theorem blk_4 (t : Fin cfg0.N) (i : Fin 512) (k : Fin 512) : iblk m c 4 t (ix2 i k) = a2 m c (ix2 (row t i) k) := by
  blk_simp [iblk, V_main_arg2]
  exact congrArg _ (funext fun x => Fin.ext (by match x with | ⟨0, _⟩ => blk_simp [idx_4 t]; rfl | ⟨1, _⟩ => blk_simp [idx_4 t]))

theorem blk_5 (t : Fin cfg0.N) (i : Fin 512) (k : Fin 256) : iblk m c 5 t (ix2 i k) = a3 m c (ix2 (row t i) k) := by
  blk_simp [iblk, V_main_arg3]
  exact congrArg _ (funext fun x => Fin.ext (by match x with | ⟨0, _⟩ => blk_simp [idx_5 t]; rfl | ⟨1, _⟩ => blk_simp [idx_5 t]))

theorem blk_6 (t : Fin cfg0.N) : (iblk m c 6 t : Vec Ideal S1x1024 .f32) = a4 m c := by
  funext i
  blk_simp [iblk, V_main_arg4]
  exact congrArg _ (funext fun x => Fin.ext (by match x with | ⟨0, _⟩ => blk_simp [idx_6 t] | ⟨1, _⟩ => blk_simp [idx_6 t]))

theorem blk_7 (t : Fin cfg0.N) : (iblk m c 7 t : Vec Ideal S1x1024 .f32) = a5 m c := by
  funext i
  blk_simp [iblk, V_main_arg5]
  exact congrArg _ (funext fun x => Fin.ext (by match x with | ⟨0, _⟩ => blk_simp [idx_7 t] | ⟨1, _⟩ => blk_simp [idx_7 t]))

theorem blk_8 (t : Fin cfg0.N) : (iblk m c 8 t : Vec Ideal S1x1024 .f32) = a6 m c := by
  funext i
  blk_simp [iblk, V_main_arg6]
  exact congrArg _ (funext fun x => Fin.ext (by match x with | ⟨0, _⟩ => blk_simp [idx_8 t] | ⟨1, _⟩ => blk_simp [idx_8 t]))

theorem blk_9 (t : Fin cfg0.N) : (iblk m c 9 t : Vec Ideal S256x1024 .bf16) = a7 m c := by
  funext i
  blk_simp [iblk, V_main_arg7]
  exact congrArg _ (funext fun x => Fin.ext (by match x with | ⟨0, _⟩ => blk_simp [idx_9 t] | ⟨1, _⟩ => blk_simp [idx_9 t]))

theorem blk_10 (t : Fin cfg0.N) : (iblk m c 10 t : Vec Ideal S512x1024 .bf16) = a8 m c := by
  funext i
  blk_simp [iblk, V_main_arg8]
  exact congrArg _ (funext fun x => Fin.ext (by match x with | ⟨0, _⟩ => blk_simp [idx_10 t] | ⟨1, _⟩ => blk_simp [idx_10 t]))

theorem blk_11 (t : Fin cfg0.N) : (iblk m c 11 t : Vec Ideal S256x1024 .bf16) = a9 m c := by
  funext i
  blk_simp [iblk, V_main_arg9]
  exact congrArg _ (funext fun x => Fin.ext (by match x with | ⟨0, _⟩ => blk_simp [idx_11 t] | ⟨1, _⟩ => blk_simp [idx_11 t]))

theorem blk_12 (t : Fin cfg0.N) (i : Fin 512) (j : Fin 1024) : iblk m c 12 t (ix2 i j) = a10 m c (ix2 (row t i) j) := by
  blk_simp [iblk, V_main_arg10]
  exact congrArg _ (funext fun x => Fin.ext (by match x with | ⟨0, _⟩ => blk_simp [idx_12 t]; rfl | ⟨1, _⟩ => blk_simp [idx_12 t]))

/- What a point computes: the parts of the gates' gradient, the branches' gradients, and what it adds to the sums over the rows. -/
def z0 (t : Fin cfg0.N) : Vec Ideal S512x1024 .f32 := k0_pay45 (k0_pay13 (X0_0 m c t) (iblk m c 6 t)) (k0_pay17 (k0_pay14 (X0_0 m c t) (iblk m c 6 t)))
  (k0_pay18 (k0_pay7 (iblk m c 3 t)) (k0_pay10 (iblk m c 9 t))) (k0_pay27 (iblk m c 12 t))
def z1 (t : Fin cfg0.N) : Vec Ideal S512x1024 .f32 := k0_pay40 (k0_pay19 (k0_pay5 (X0_1 m c t)) (iblk m c 7 t)) (k0_pay22 (k0_pay5 (X0_1 m c t)) (iblk m c 7 t))
  (k0_pay23 (k0_pay8 (iblk m c 4 t)) (k0_pay11 (iblk m c 10 t))) (k0_pay27 (iblk m c 12 t))
def z2 (t : Fin cfg0.N) : Vec Ideal S512x1024 .f32 := k0_pay35 (k0_pay24 (k0_pay6 (X0_2 m c t)) (iblk m c 8 t)) (k0_pay26 (k0_pay6 (X0_2 m c t)) (iblk m c 8 t))
  (k0_pay30 (k0_pay9 (iblk m c 5 t)) (k0_pay12 (iblk m c 11 t)) (iblk m c 12 t))
def x0 (t : Fin cfg0.N) : Vec Ideal S512x256 .bf16 := k0_pay50 (k0_pay43 (k0_pay10 (iblk m c 9 t)) (k0_pay16 (k0_pay14 (X0_0 m c t) (iblk m c 6 t)) k0_pay15) (k0_pay27 (iblk m c 12 t)))
def x1 (t : Fin cfg0.N) : Vec Ideal S512x512 .bf16 := k0_pay51 (k0_pay38 (k0_pay11 (iblk m c 10 t)) (k0_pay21 (k0_pay5 (X0_1 m c t)) (iblk m c 7 t)) (k0_pay27 (iblk m c 12 t)))
def x2 (t : Fin cfg0.N) : Vec Ideal S512x256 .bf16 := k0_pay52 (k0_pay31 (k0_pay6 (X0_2 m c t)) (iblk m c 8 t) (k0_pay12 (iblk m c 11 t)) (iblk m c 12 t))
def b1 (t : Fin cfg0.N) : Vec Ideal S1x1024 .f32 := k0_pay41 (k0_pay19 (k0_pay5 (X0_1 m c t)) (iblk m c 7 t)) (k0_pay22 (k0_pay5 (X0_1 m c t)) (iblk m c 7 t))
  (k0_pay23 (k0_pay8 (iblk m c 4 t)) (k0_pay11 (iblk m c 10 t))) (k0_pay27 (iblk m c 12 t))
def b2 (t : Fin cfg0.N) : Vec Ideal S1x1024 .f32 := k0_pay36 (k0_pay24 (k0_pay6 (X0_2 m c t)) (iblk m c 8 t)) (k0_pay26 (k0_pay6 (X0_2 m c t)) (iblk m c 8 t))
  (k0_pay30 (k0_pay9 (iblk m c 5 t)) (k0_pay12 (iblk m c 11 t)) (iblk m c 12 t))
def w0 (t : Fin cfg0.N) : Vec Ideal S256x1024 .f32 := k0_pay44 (k0_pay7 (iblk m c 3 t)) (k0_pay16 (k0_pay14 (X0_0 m c t) (iblk m c 6 t)) k0_pay15) (k0_pay27 (iblk m c 12 t))
def w1 (t : Fin cfg0.N) : Vec Ideal S512x1024 .f32 := k0_pay39 (k0_pay8 (iblk m c 4 t)) (k0_pay21 (k0_pay5 (X0_1 m c t)) (iblk m c 7 t)) (k0_pay27 (iblk m c 12 t))
def w2 (t : Fin cfg0.N) : Vec Ideal S256x1024 .f32 := k0_pay34 (k0_pay32 (k0_pay9 (iblk m c 5 t))) (k0_pay33 (k0_pay6 (X0_2 m c t)) (iblk m c 8 t) (iblk m c 12 t)) (constant S256x1024 FTy.f32 0#32)
/-- The three parts, side by side. -/
def cat (u0 u1 u2 : Vec Ideal S512x1024 .f32) : Vec Ideal S512x3072 .bf16 :=
  View.canon (Val := Elt Ideal) [⟨Rect.unit (s := S512x3072) ![0, 2048] ![512, 1024] inb_S512x3072_S512x1024_0_2048, k0_pay49 (F := Ideal) u2⟩,
    ⟨Rect.unit (s := S512x3072) ![0, 1024] ![512, 1024] inb_S512x3072_S512x1024_0_1024, k0_pay48 (F := Ideal) u1⟩,
    ⟨Rect.unit (s := S512x3072) ![0, 0] ![512, 1024] inb_S512x3072_S512x1024_0_0, k0_pay47 (F := Ideal) u0⟩]
def zs (t : Fin cfg0.N) : Vec Ideal S512x3072 .bf16 := cat (z0 m c t) (z1 m c t) (z2 m c t)

theorem cat_apply (u0 u1 u2 : Vec Ideal S512x1024 .f32) (i : Fin 512) (j : Fin 3072) : cat u0 u1 u2 (ix2 i j)
    = if h : j.val < 1024 then u0 (ix2 i ⟨j.val, h⟩) else if h' : j.val - 1024 < 1024 then u1 (ix2 i ⟨j.val - 1024, h'⟩) else u2 (ix2 i ⟨j.val - 1024 - 1024, by omega⟩) := by
  unfold cat
  canon_tiles x h
  · have e0 : i.val = _ := h0
    have e1 : j.val = _ := h1
    rw [dif_neg (by omega), dif_neg (by omega)]
    open_payloads
    exact congrArg u2 (funext fun a => Fin.ext (by match a with | ⟨0, _⟩ => exact h0.symm | ⟨1, _⟩ => (show (x 1).val = j.val - 1024 - 1024; omega)))
  · have e0 : i.val = _ := h0
    have e1 : j.val = _ := h1
    rw [dif_neg (by omega), dif_pos (by omega)]
    open_payloads
    exact congrArg u1 (funext fun a => Fin.ext (by match a with | ⟨0, _⟩ => exact h0.symm | ⟨1, _⟩ => (show (x 1).val = j.val - 1024; omega)))
  · have e0 : i.val = _ := h0
    have e1 : j.val = _ := h1
    rw [dif_pos (by omega)]
    open_payloads
    exact congrArg u0 (funext fun a => Fin.ext (by match a with | ⟨0, _⟩ => exact h0.symm | ⟨1, _⟩ => (show (x 1).val = j.val; omega)))

theorem first (t : Fin cfg0.N) (h : t.val % 8 = 0) : outsAt0 m c t.val t.isLt
    = (zs m c t, x0 m c t, x1 m c t, x2 m c t, k0_pay46 (F := Ideal) (z0 m c t), b1 m c t, b2 m c t, w0 m c t, w1 m c t, w2 m c t) := by
  have hN := t_lt t
  rw [outsAt0_A m c t h (by omega) h (by omega) h (by omega) h (by omega) h (by omega) h (by omega)]
  unfold zs cat z0 z1 z2 x0 x1 x2 b1 b2 w0 w1 w2
  frame_out

theorem next (t : Fin cfg0.N) (h : ¬t.val % 8 = 0) : ∀ p, p = outsAt0 m c (t.val - 1) (Nat.lt_of_le_of_lt (Nat.sub_le _ _) t.isLt) → outsAt0 m c t.val t.isLt
    = (zs m c t, x0 m c t, x1 m c t, x2 m c t, k0_pay53 (F := Ideal) (z0 m c t) p.2.2.2.2.1, k0_pay54 (F := Ideal) (b1 m c t) p.2.2.2.2.2.1, k0_pay1 (F := Ideal) (b2 m c t) p.2.2.2.2.2.2.1,
      k0_pay2 (F := Ideal) (w0 m c t) p.2.2.2.2.2.2.2.1, k0_pay3 (F := Ideal) (w1 m c t) p.2.2.2.2.2.2.2.2.1, k0_pay4 (F := Ideal) (w2 m c t) p.2.2.2.2.2.2.2.2.2) := by
  intro p hp
  rw [hp, outsAt0_B m c t h (by omega) h (by omega) h (by omega) h (by omega) h (by omega) h (by omega)]
  unfold zs cat z0 z1 z2 x0 x1 x2 b1 b2 w0 w1 w2
  frame_out

/- The reference's results on the launch's arguments. -/
abbrev Z0 : Vec Ideal S4096x1024 .f32 := val_main_v74 (F := Ideal) (a0 m c) (a1 m c) (a4 m c) (a7 m c) (a10 m c)
abbrev Z1 : Vec Ideal S4096x1024 .f32 := val_main_v66 (F := Ideal) (a0 m c) (a2 m c) (a5 m c) (a8 m c) (a10 m c)
abbrev Z2 : Vec Ideal S4096x1024 .f32 := val_main_v58 (F := Ideal) (a0 m c) (a3 m c) (a6 m c) (a9 m c) (a10 m c)
abbrev Z : Vec Ideal S4096x3072 .bf16 := val_main_v78 (F := Ideal) (a0 m c) (a1 m c) (a2 m c) (a3 m c) (a4 m c) (a5 m c) (a6 m c) (a7 m c) (a8 m c) (a9 m c) (a10 m c)
abbrev X0 : Vec Ideal S4096x256 .bf16 := val_main_v79 (F := Ideal) (a0 m c) (a4 m c) (a7 m c) (a10 m c)
abbrev X1 : Vec Ideal S4096x512 .bf16 := val_main_v80 (F := Ideal) (a0 m c) (a5 m c) (a8 m c) (a10 m c)
abbrev X2 : Vec Ideal S4096x256 .bf16 := val_main_v81 (F := Ideal) (a0 m c) (a6 m c) (a9 m c) (a10 m c)
abbrev B0 : Vec Ideal S1x1024 .f32 := val_main_v76 (F := Ideal) (a0 m c) (a1 m c) (a4 m c) (a7 m c) (a10 m c)
abbrev B1 : Vec Ideal S1x1024 .f32 := val_main_v68 (F := Ideal) (a0 m c) (a2 m c) (a5 m c) (a8 m c) (a10 m c)
abbrev B2 : Vec Ideal S1x1024 .f32 := val_main_v60 (F := Ideal) (a0 m c) (a3 m c) (a6 m c) (a9 m c) (a10 m c)
abbrev W0 : Vec Ideal S256x1024 .f32 := val_main_v72 (F := Ideal) (a0 m c) (a1 m c) (a4 m c) (a10 m c)
abbrev W1 : Vec Ideal S512x1024 .f32 := val_main_v64 (F := Ideal) (a0 m c) (a2 m c) (a5 m c) (a10 m c)
abbrev W2 : Vec Ideal S256x1024 .f32 := val_main_v56 (F := Ideal) (a0 m c) (a3 m c) (a6 m c) (a10 m c)

theorem z0_eq (t : Fin cfg0.N) (i : Fin 512) (j : Fin 1024) : z0 m c t (ix2 i j) = Z0 m c (ix2 (row t i) j) := by
  rw [z0, pay_z0, Z0, ref_z0]
  simp only [blk_0, blk_3, blk_12]
  rw [blk_6, blk_9]

theorem z1_eq (t : Fin cfg0.N) (i : Fin 512) (j : Fin 1024) : z1 m c t (ix2 i j) = Z1 m c (ix2 (row t i) j) := by
  rw [z1, pay_z1, Z1, ref_z1]
  simp only [blk_1, blk_4, blk_12]
  rw [blk_7, blk_10]

theorem z2_eq (t : Fin cfg0.N) (i : Fin 512) (j : Fin 1024) : z2 m c t (ix2 i j) = Z2 m c (ix2 (row t i) j) := by
  rw [z2, pay_z2, Z2, ref_z2]
  simp only [blk_2, blk_5, blk_12]
  rw [blk_8, blk_11]

theorem x0_eq (t : Fin cfg0.N) (i : Fin 512) (k : Fin 256) : x0 m c t (ix2 i k) = X0 m c (ix2 (row t i) k) := by
  rw [x0, pay_x0, X0, ref_x0]
  simp only [blk_0, blk_12]
  rw [blk_6, blk_9]

theorem x1_eq (t : Fin cfg0.N) (i : Fin 512) (k : Fin 512) : x1 m c t (ix2 i k) = X1 m c (ix2 (row t i) k) := by
  rw [x1, pay_x1, X1, ref_x1]
  simp only [blk_1, blk_12]
  rw [blk_7, blk_10]

theorem x2_eq (t : Fin cfg0.N) (i : Fin 512) (k : Fin 256) : x2 m c t (ix2 i k) = X2 m c (ix2 (row t i) k) := by
  rw [x2, pay_x2, X2, ref_x2]
  simp only [blk_2, blk_12]
  rw [blk_8, blk_11]

/-- What a point adds to the sums over the rows. -/
theorem b0_eq (t : Fin cfg0.N) (j : Fin 1024) : k0_pay46 (F := Ideal) (z0 m c t) (ix2 0 j) = ∑ i : Fin 512, Z0 m c (ix2 (row t i) j) := by
  rw [z0, pay_b0]
  exact Finset.sum_congr rfl fun i _ => by rw [← z0_eq, z0, pay_z0]

theorem b1_eq (t : Fin cfg0.N) (j : Fin 1024) : b1 m c t (ix2 0 j) = ∑ i : Fin 512, Z1 m c (ix2 (row t i) j) := by
  rw [b1, pay_b1]
  exact Finset.sum_congr rfl fun i _ => by rw [← z1_eq, z1, pay_z1]

theorem b2_eq (t : Fin cfg0.N) (j : Fin 1024) : b2 m c t (ix2 0 j) = ∑ i : Fin 512, Z2 m c (ix2 (row t i) j) := by
  rw [b2, pay_b2]
  exact Finset.sum_congr rfl fun i _ => by rw [← z2_eq, z2, pay_z2]

theorem w0_eq (t : Fin cfg0.N) (k : Fin 256) (j : Fin 1024) : w0 m c t (ix2 k j)
    = ∑ i : Fin 512, gate (a0 m c (ix2 (row t i) ⟨j.val, by omega⟩) + a4 m c (ix2 0 j)) * a10 m c (ix2 (row t i) j) * a1 m c (ix2 (row t i) k) := by
  rw [w0, pay_w0]
  simp only [blk_0, blk_3, blk_12]
  rw [blk_6]

theorem w1_eq (t : Fin cfg0.N) (k : Fin 512) (j : Fin 1024) : w1 m c t (ix2 k j)
    = ∑ i : Fin 512, gate (a0 m c (ix2 (row t i) ⟨1024 + j.val, by omega⟩) + a5 m c (ix2 0 j)) * a10 m c (ix2 (row t i) j) * a2 m c (ix2 (row t i) k) := by
  rw [w1, pay_w1]
  simp only [blk_1, blk_4, blk_12]
  rw [blk_7]

theorem w2_eq (t : Fin cfg0.N) (k : Fin 256) (j : Fin 1024) : w2 m c t (ix2 k j)
    = ∑ i : Fin 512, gate (a0 m c (ix2 (row t i) ⟨2048 + j.val, by omega⟩) + a6 m c (ix2 0 j)) * a10 m c (ix2 (row t i) j) * a3 m c (ix2 (row t i) k) := by
  rw [w2, pay_w2]
  simp only [blk_2, blk_5, blk_12]
  rw [blk_8]

/-- A sum over the rows, one block of rows per point. -/
theorem total (f : (n : ℕ) → n < cfg0.N → EReal) (F : Fin 4096 → EReal) (h0 : ∀ t : Fin cfg0.N, t.val % 8 = 0 → f t.val t.isLt = ∑ k : Fin 512, F (row t k))
    (hs : ∀ t : Fin cfg0.N, ¬t.val % 8 = 0 → f t.val t.isLt = f (t.val - 1) (Nat.lt_of_le_of_lt (Nat.sub_le _ _) t.isLt) + ∑ k : Fin 512, F (row t k))
    (t : Fin cfg0.N) (ht : t.val % 8 = 7) : f t.val t.isLt = ∑ k : Fin 4096, F k := by
  have h := Pipeline.eq_sum_fin_of_reset_step_apply_of_flush (fun n hn (_ : Unit) => f n hn) 8 (0 : Unit → EReal) (fun t _ => ∑ k : Fin 512, F (row t k))
    (fun n h _ => by rw [Pi.zero_apply, zero_add]; exact h0 n h) (fun n h _ => hs n h) t (by omega) ()
  refine h.trans ?_
  rw [Pi.zero_apply, zero_add]
  refine Fin.sum_mul_add_congr fun s k hl => congrArg F (Fin.ext ?_)
  have hN := t_lt t
  show (8 * (t.val / 8) + s.val) * 512 + k.val = s.val * 512 + k.val
  omega

/-- What a later point does to a sum over the rows. -/
theorem add_b0 (v : Vec Ideal S512x1024 .f32) (p : Vec Ideal S1x1024 .f32) (j : Fin 1024) : k0_pay53 (F := Ideal) v p (ix2 0 j) = p (ix2 0 j) + k0_pay46 (F := Ideal) v (ix2 0 j) := by
  pointwise [k0_pay53, k0_pay46]

theorem sum_b0 (t : Fin cfg0.N) (ht : t.val % 8 = 7) (j : Fin 1024) : (outsAt0 m c t.val t.isLt).2.2.2.2.1 (ix2 0 j) = B0 m c (ix2 0 j) := by
  rw [B0, ref_b0]
  refine total (fun n h => (outsAt0 m c n h).2.2.2.2.1 (ix2 0 j)) _ (fun t h => ?_) (fun t h => ?_) t ht
  · rw [first m c t h]; exact b0_eq m c t j
  · rw [next m c t h _ rfl, ← b0_eq]; exact add_b0 _ _ j

theorem sum_b1 (t : Fin cfg0.N) (ht : t.val % 8 = 7) (j : Fin 1024) : (outsAt0 m c t.val t.isLt).2.2.2.2.2.1 (ix2 0 j) = B1 m c (ix2 0 j) := by
  rw [B1, ref_b1]
  refine total (fun n h => (outsAt0 m c n h).2.2.2.2.2.1 (ix2 0 j)) _ (fun t h => ?_) (fun t h => ?_) t ht
  · rw [first m c t h]; exact b1_eq m c t j
  · rw [next m c t h _ rfl, ← b1_eq]; pointwise [k0_pay54]

theorem sum_b2 (t : Fin cfg0.N) (ht : t.val % 8 = 7) (j : Fin 1024) : (outsAt0 m c t.val t.isLt).2.2.2.2.2.2.1 (ix2 0 j) = B2 m c (ix2 0 j) := by
  rw [B2, ref_b2]
  refine total (fun n h => (outsAt0 m c n h).2.2.2.2.2.2.1 (ix2 0 j)) _ (fun t h => ?_) (fun t h => ?_) t ht
  · rw [first m c t h]; exact b2_eq m c t j
  · rw [next m c t h _ rfl, ← b2_eq]; pointwise [k0_pay1]

theorem sum_w0 (t : Fin cfg0.N) (ht : t.val % 8 = 7) (k : Fin 256) (j : Fin 1024) : (outsAt0 m c t.val t.isLt).2.2.2.2.2.2.2.1 (ix2 k j) = W0 m c (ix2 k j) := by
  rw [W0, ref_w0]
  refine total (fun n h => (outsAt0 m c n h).2.2.2.2.2.2.2.1 (ix2 k j)) _ (fun t h => ?_) (fun t h => ?_) t ht
  · rw [first m c t h]; exact w0_eq m c t k j
  · rw [next m c t h _ rfl, ← w0_eq]; pointwise [k0_pay2]

theorem sum_w1 (t : Fin cfg0.N) (ht : t.val % 8 = 7) (k : Fin 512) (j : Fin 1024) : (outsAt0 m c t.val t.isLt).2.2.2.2.2.2.2.2.1 (ix2 k j) = W1 m c (ix2 k j) := by
  rw [W1, ref_w1]
  refine total (fun n h => (outsAt0 m c n h).2.2.2.2.2.2.2.2.1 (ix2 k j)) _ (fun t h => ?_) (fun t h => ?_) t ht
  · rw [first m c t h]; exact w1_eq m c t k j
  · rw [next m c t h _ rfl, ← w1_eq]; pointwise [k0_pay3]

theorem sum_w2 (t : Fin cfg0.N) (ht : t.val % 8 = 7) (k : Fin 256) (j : Fin 1024) : (outsAt0 m c t.val t.isLt).2.2.2.2.2.2.2.2.2 (ix2 k j) = W2 m c (ix2 k j) := by
  rw [W2, ref_w2]
  refine total (fun n h => (outsAt0 m c n h).2.2.2.2.2.2.2.2.2 (ix2 k j)) _ (fun t h => ?_) (fun t h => ?_) t ht
  · rw [first m c t h]; exact w2_eq m c t k j
  · rw [next m c t h _ rfl, ← w2_eq]; pointwise [k0_pay4]

/-- The gates' gradient of a point's rows. -/
theorem zs_eq (t : Fin cfg0.N) (i : Fin 512) (j : Fin 3072) : zs m c t (ix2 i j) = Z m c (ix2 (row t i) j) := by
  rw [zs, cat_apply]
  unfold Z
  pointwise [val_main_v78, val_main_v77]
  simp only [z0_eq, z1_eq, z2_eq]

theorem emb_13 (t : Fin cfg0.N) (i : Fin 512) (j : Fin 3072) : (win0_13.blk t).view.emb (ix2 i j) = ix2 (row t i) ⟨j.val, by omega⟩ := funext fun x => Fin.ext (by
  match x with | ⟨0, _⟩ => blk_simp [idx_13 t]; rfl | ⟨1, _⟩ => blk_simp [idx_13 t])

theorem emb_14 (t : Fin cfg0.N) (i : Fin 512) (k : Fin 256) : (win0_14.blk t).view.emb (ix2 i k) = ix2 (row t i) k := funext fun x => Fin.ext (by
  match x with | ⟨0, _⟩ => blk_simp [idx_14 t]; rfl | ⟨1, _⟩ => blk_simp [idx_14 t])

theorem emb_15 (t : Fin cfg0.N) (i k : Fin 512) : (win0_15.blk t).view.emb (ix2 i k) = ix2 (row t i) k := funext fun x => Fin.ext (by
  match x with | ⟨0, _⟩ => blk_simp [idx_15 t]; rfl | ⟨1, _⟩ => blk_simp [idx_15 t])

theorem emb_16 (t : Fin cfg0.N) (i : Fin 512) (k : Fin 256) : (win0_16.blk t).view.emb (ix2 i k) = ix2 (row t i) k := funext fun x => Fin.ext (by
  match x with | ⟨0, _⟩ => blk_simp [idx_16 t]; rfl | ⟨1, _⟩ => blk_simp [idx_16 t])

theorem emb_17 (t : Fin cfg0.N) (i : Fin 1) (j : Fin 1024) : (win0_17.blk t).view.emb (ix2 i j) = ix2 0 j := funext fun x => Fin.ext (by
  match x with | ⟨0, _⟩ => blk_simp [idx_17 t]; rfl | ⟨1, _⟩ => blk_simp [idx_17 t])

theorem emb_18 (t : Fin cfg0.N) (i : Fin 1) (j : Fin 1024) : (win0_18.blk t).view.emb (ix2 i j) = ix2 0 j := funext fun x => Fin.ext (by
  match x with | ⟨0, _⟩ => blk_simp [idx_18 t]; rfl | ⟨1, _⟩ => blk_simp [idx_18 t])

theorem emb_19 (t : Fin cfg0.N) (i : Fin 1) (j : Fin 1024) : (win0_19.blk t).view.emb (ix2 i j) = ix2 0 j := funext fun x => Fin.ext (by
  match x with | ⟨0, _⟩ => blk_simp [idx_19 t]; rfl | ⟨1, _⟩ => blk_simp [idx_19 t])

theorem emb_20 (t : Fin cfg0.N) (k : Fin 256) (j : Fin 1024) : (win0_20.blk t).view.emb (ix2 k j) = ix2 k j := funext fun x => Fin.ext (by
  match x with | ⟨0, _⟩ => blk_simp [idx_20 t] | ⟨1, _⟩ => blk_simp [idx_20 t])

theorem emb_21 (t : Fin cfg0.N) (k : Fin 512) (j : Fin 1024) : (win0_21.blk t).view.emb (ix2 k j) = ix2 k j := funext fun x => Fin.ext (by
  match x with | ⟨0, _⟩ => blk_simp [idx_21 t] | ⟨1, _⟩ => blk_simp [idx_21 t])

theorem emb_22 (t : Fin cfg0.N) (k : Fin 256) (j : Fin 1024) : (win0_22.blk t).view.emb (ix2 k j) = ix2 k j := funext fun x => Fin.ext (by
  match x with | ⟨0, _⟩ => blk_simp [idx_22 t] | ⟨1, _⟩ => blk_simp [idx_22 t])

/-- A point's first four results, whether it starts the sums or not. -/
theorem rows (t : Fin cfg0.N) : (outsAt0 m c t.val t.isLt).1 = zs m c t ∧ (outsAt0 m c t.val t.isLt).2.1 = x0 m c t ∧ (outsAt0 m c t.val t.isLt).2.2.1 = x1 m c t
    ∧ (outsAt0 m c t.val t.isLt).2.2.2.1 = x2 m c t := by
  by_cases h : t.val % 8 = 0
  · simp only [first m c t h, and_self]
  · simp only [next m c t h _ rfl, and_self]

theorem final_14 : (dats m 0 c).arrAt 14 cfg0.N = X0 m c := by
  refine (dats m 0 c).arrAt_eq_of_covers 14 _ (by decide +kernel) fun t hf y => ?_
  blk_simp
  have key : ∀ i k, x0 m c t (ix2 i k) = X0 m c ((win0_14.blk t).view.emb (ix2 i k)) := fun i k => by rw [emb_14]; exact x0_eq m c t i k
  rw [after0_14, (rows m c t).2.1, eq_ix2 y]
  exact key (y 0) (y 1)

theorem final_15 : (dats m 0 c).arrAt 15 cfg0.N = X1 m c := by
  refine (dats m 0 c).arrAt_eq_of_covers 15 _ (by decide +kernel) fun t hf y => ?_
  blk_simp
  have key : ∀ i k, x1 m c t (ix2 i k) = X1 m c ((win0_15.blk t).view.emb (ix2 i k)) := fun i k => by rw [emb_15]; exact x1_eq m c t i k
  rw [after0_15, (rows m c t).2.2.1, eq_ix2 y]
  exact key (y 0) (y 1)

theorem final_16 : (dats m 0 c).arrAt 16 cfg0.N = X2 m c := by
  refine (dats m 0 c).arrAt_eq_of_covers 16 _ (by decide +kernel) fun t hf y => ?_
  blk_simp
  have key : ∀ i k, x2 m c t (ix2 i k) = X2 m c ((win0_16.blk t).view.emb (ix2 i k)) := fun i k => by rw [emb_16]; exact x2_eq m c t i k
  rw [after0_16, (rows m c t).2.2.2, eq_ix2 y]
  exact key (y 0) (y 1)

theorem final_17 : (dats m 0 c).arrAt 17 cfg0.N = B0 m c := by
  refine (dats m 0 c).arrAt_eq_of_covers 17 _ (by decide +kernel) fun t hf y => ?_
  have ht := (flush0_17 t).mp hf
  blk_simp
  have key : ∀ (i : Fin 1) j, (outsAt0 m c t.val t.isLt).2.2.2.2.1 (ix2 i j) = B0 m c ((win0_17.blk t).view.emb (ix2 i j)) := fun i j => by
    rw [emb_17, Subsingleton.elim i 0]; exact sum_b0 m c t ht j
  rw [after0_17, eq_ix2 y]
  exact key (y 0) (y 1)

theorem final_18 : (dats m 0 c).arrAt 18 cfg0.N = B1 m c := by
  refine (dats m 0 c).arrAt_eq_of_covers 18 _ (by decide +kernel) fun t hf y => ?_
  have ht := (flush0_18 t).mp hf
  blk_simp
  have key : ∀ (i : Fin 1) j, (outsAt0 m c t.val t.isLt).2.2.2.2.2.1 (ix2 i j) = B1 m c ((win0_18.blk t).view.emb (ix2 i j)) := fun i j => by
    rw [emb_18, Subsingleton.elim i 0]; exact sum_b1 m c t ht j
  rw [after0_18, eq_ix2 y]
  exact key (y 0) (y 1)

theorem final_19 : (dats m 0 c).arrAt 19 cfg0.N = B2 m c := by
  refine (dats m 0 c).arrAt_eq_of_covers 19 _ (by decide +kernel) fun t hf y => ?_
  have ht := (flush0_19 t).mp hf
  blk_simp
  have key : ∀ (i : Fin 1) j, (outsAt0 m c t.val t.isLt).2.2.2.2.2.2.1 (ix2 i j) = B2 m c ((win0_19.blk t).view.emb (ix2 i j)) := fun i j => by
    rw [emb_19, Subsingleton.elim i 0]; exact sum_b2 m c t ht j
  rw [after0_19, eq_ix2 y]
  exact key (y 0) (y 1)

theorem final_20 : (dats m 0 c).arrAt 20 cfg0.N = W0 m c := by
  refine (dats m 0 c).arrAt_eq_of_covers 20 _ (by decide +kernel) fun t hf y => ?_
  have ht := (flush0_20 t).mp hf
  blk_simp
  have key : ∀ k j, (outsAt0 m c t.val t.isLt).2.2.2.2.2.2.2.1 (ix2 k j) = W0 m c ((win0_20.blk t).view.emb (ix2 k j)) := fun k j => by rw [emb_20]; exact sum_w0 m c t ht k j
  rw [after0_20, eq_ix2 y]
  exact key (y 0) (y 1)

theorem final_21 : (dats m 0 c).arrAt 21 cfg0.N = W1 m c := by
  refine (dats m 0 c).arrAt_eq_of_covers 21 _ (by decide +kernel) fun t hf y => ?_
  have ht := (flush0_21 t).mp hf
  blk_simp
  have key : ∀ k j, (outsAt0 m c t.val t.isLt).2.2.2.2.2.2.2.2.1 (ix2 k j) = W1 m c ((win0_21.blk t).view.emb (ix2 k j)) := fun k j => by rw [emb_21]; exact sum_w1 m c t ht k j
  rw [after0_21, eq_ix2 y]
  exact key (y 0) (y 1)

theorem final_22 : (dats m 0 c).arrAt 22 cfg0.N = W2 m c := by
  refine (dats m 0 c).arrAt_eq_of_covers 22 _ (by decide +kernel) fun t hf y => ?_
  have ht := (flush0_22 t).mp hf
  blk_simp
  have key : ∀ k j, (outsAt0 m c t.val t.isLt).2.2.2.2.2.2.2.2.2 (ix2 k j) = W2 m c ((win0_22.blk t).view.emb (ix2 k j)) := fun k j => by rw [emb_22]; exact sum_w2 m c t ht k j
  rw [after0_22, eq_ix2 y]
  exact key (y 0) (y 1)

/-- The array of the gates' gradient, with zeros where the call writes nothing. -/
def wide : Vec Ideal S4096x6144 .bf16 := fun x => if h : (x 1).val < 3072 then Z m c (ix2 (x 0) ⟨(x 1).val, h⟩) else (0 : EReal)

theorem wide_apply (i : Fin 4096) (j : Fin 3072) : wide m c (ix2 i ⟨j.val, by omega⟩) = Z m c (ix2 i j) := dif_pos j.isLt

theorem final_13 (i : Fin 4096) (j : Fin 3072) : (dats m 0 c).arrAt 13 cfg0.N (ix2 i ⟨j.val, by omega⟩ : S4096x6144.Idx) = Z m c (ix2 i j) := by
  refine ((dats m 0 c).arrAt_apply_of_coversWhere 13 (wide m c)
    (P := fun x : S4096x6144.Idx => (x 1).val < 3072) (fun β => β (1 : Fin 2) = 0) (by decide +kernel) (fun t hf y => ?_) (fun j => ?_) _).trans ?_
  · blk_simp
    have key : ∀ i j, zs m c t (ix2 i j) = wide m c ((win0_13.blk t).view.emb (ix2 i j)) := fun i j => by rw [emb_13, zs_eq, wide_apply]
    rw [after0_13, (rows m c t).1, eq_ix2 y]
    exact key (y 0) (y 1)
  · blk_simp [Pipeline.Window.cell_apply]
    omega
  · exact (if_pos j.isLt).trans (wide_apply m c i j)

/-- What the slice after the call leaves. -/
theorem final (r : PUnit × MemSt nD τ sig (Elt Ideal)) (h : Pipeline.FramePost cfgs (dats m) 0 (Pipeline.afterTail₀ cfgs (dats m) 0 (V0 m) [hostOps1]) r) :
    r.2.mem ((c : Thread nD τ).loc main_v1) = Z m c := by
  refine ((h c).2 main_v1 (by decide)).trans ?_
  unfold Pipeline.afterTail₀
  rw [List.flatten_cons, List.flatten_nil, List.append_nil]
  after_results
  have e : Pipeline.withArrays (cfgs 0).spec c (V0 m c) (fun w => (dats m 0 c).arrAt w (cfgs 0).N) (Proc.tc.devRef main_v0_0) = (dats m 0 c).arrAt 13 cfg0.N :=
    (dats m 0 c).withArrays_arrAt sharedIn0 (V0 m c) (fun _ => rfl) 13
  rw [e]
  funext y
  rw [eq_ix2 y]
  refine Eq.trans ?_ (final_13 m c (y 0) (y 1))
  generalize (dats m 0 c).arrAt 13 cfg0.N = A
  pointwise []

set_option maxHeartbeats 4000000 in
/-- On the extended reals, from equal arguments, the kernel and the reference end with equal results. -/
theorem algebraic : Cert.algebraic_MergeIdeal_MergeReferenceIdeal := by
  intro m ρ m' ρ' _ hagree
  refine ⟨_, _, _, _, _, _, _, _, _, _, (θ_run defs _ _).mono (fun r h c => ⟨final m c r h.2, ((h.2 c).1 14).trans (final_14 m c), ((h.2 c).1 15).trans (final_15 m c),
    ((h.2 c).1 16).trans (final_16 m c), ((h.2 c).1 17).trans (final_17 m c), ((h.2 c).1 18).trans (final_18 m c), ((h.2 c).1 19).trans (final_19 m c),
    ((h.2 c).1 20).trans (final_20 m c), ((h.2 c).1 21).trans (final_21 m c), ((h.2 c).1 22).trans (final_22 m c), h.1 c⟩) (θ_run_and (unchanged m ρ) (run_main m ρ)), ?_⟩
  refine (θ_run _ _ _).mono (fun r h c => ?_) (Cert.MergeReferenceIdeal.Value.run (F := Ideal) m' ρ')
  obtain ⟨h0, h1, h2, h3, h4, h5, h6, h7, h8, h9, h10⟩ := hagree c
  obtain ⟨e0, e1, e2, e3, e4, e5, e6, e7, e8, e9, e⟩ := h c
  refine ⟨e0.trans ?_, e1.trans ?_, e2.trans ?_, e3.trans ?_, e4.trans ?_, e5.trans ?_, e6.trans ?_, e7.trans ?_, e8.trans ?_, e9.trans ?_, e⟩
  · rw [val_main_v78_eq, h0, h1, h2, h3, h4, h5, h6, h7, h8, h9, h10]
  · refine (val_main_v79_eq _ _ _ _).trans ?_
    rw [h0, h4, h7, h10]
  · refine (val_main_v80_eq _ _ _ _).trans ?_
    rw [h0, h5, h8, h10]
  · refine (val_main_v81_eq _ _ _ _).trans ?_
    rw [h0, h6, h9, h10]
  · refine (val_main_v76_eq _ _ _ _ _).trans ?_
    rw [h0, h1, h4, h7, h10]
  · refine (val_main_v68_eq _ _ _ _ _).trans ?_
    rw [h0, h2, h5, h8, h10]
  · refine (val_main_v60_eq _ _ _ _ _).trans ?_
    rw [h0, h3, h6, h9, h10]
  · refine (val_main_v72_eq _ _ _ _).trans ?_
    rw [h0, h1, h4, h10]
  · refine (val_main_v64_eq _ _ _ _).trans ?_
    rw [h0, h2, h5, h10]
  · refine (val_main_v56_eq _ _ _ _).trans ?_
    rw [h0, h3, h6, h10]

end Cert.MergeIdeal.Mlp

end
-- ==== Proof.XoW.lean ====
/- The gradient of the cross-attention's output matrix, on the extended reals: each entry the kernel leaves is one sum over all rows
   of the matrix's input times the incoming gradient, which is the reference's product. -/
module

public import proofs.«01_k».proof.Proof.Gen.XoWIdeal.Value
public import proofs.«01_k».proof.Proof.Gen.XoWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.XoWIdeal.Mlp

open Cert.XoWIdeal Cert.XoWIdeal.Gen
open Idealize.ShloMosaic Idealize.ShloMosaic.TcCoe Idealize.ShloMosaic.Tactic Idealize.SL.Sem
open Cert.XoWReferenceIdeal.Read

/-- The column of the gradient that entry `l` of shard `s` is. -/
def lane (s : Fin 8) (l : Fin 128) : Fin 1024 := ⟨s.val * 128 + l.val, by omega⟩

theorem ref (h : Vec Ideal S4096x512 .bf16) (z : Vec Ideal S4096x1024 .bf16) (s : Fin 8) (i : Fin 512) (l : Fin 128) :
    val_main_v8 (F := Ideal) h z (ix3 s i l) = ∑ k : Fin 4096, h (ix2 k i) * z (ix2 k (lane s l)) := by
  pointwise [val_main_v8, val_main_v7, val_main_v6, val_main_v5, val_main_v4, val_main_v3, val_main_v1]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x512 .bf16 := m ((c : Thread nD τ).loc main_arg0)
abbrev a1 : Vec Ideal S4096x1024 .bf16 := m ((c : Thread nD τ).loc main_arg1)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![0, 0, 0] := by decide +kernel

theorem t_lt (t : Fin cfg0.N) : t.val < 4 := lt_of_lt_of_eq t.isLt N_0

def row (t : Fin cfg0.N) (k : Fin 1024) : Fin 4096 := ⟨t.val * 1024 + k.val, by have := t_lt t; omega⟩

theorem blk_0 (t : Fin cfg0.N) (k : Fin 1024) (i : Fin 512) : iblk m c 0 t (ix2 k i) = a0 m c (ix2 (row t k) i) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k j : Fin 1024) : iblk m c 1 t (ix2 k j) = a1 m c (ix2 (row t k) j) := by
  blk_simp [iblk, V_main_arg1]
  exact congrArg _ (funext fun x => Fin.ext (by match x with | ⟨0, _⟩ => blk_simp [idx_1 t]; rfl | ⟨1, _⟩ => blk_simp [idx_1 t]))

/-- What a point adds to entry `i`, `j`. -/
theorem pay (t : Fin cfg0.N) (i : Fin 512) (j : Fin 1024) : k0_pay1 (iblk m c 0 t) (iblk m c 1 t) (ix2 i j)
    = ∑ k : Fin 1024, a0 m c (ix2 (row t k) i) * a1 m c (ix2 (row t k) j) := by
  have h : ∀ (x : Vec Ideal S1024x512 .bf16) (y : Vec Ideal S1024x1024 .bf16), k0_pay1 x y (ix2 i j) = ∑ k : Fin 1024, x (ix2 k i) * y (ix2 k j) := fun x y => by
    pointwise [k0_pay1]
  rw [h]
  simp only [blk_0, blk_1]

theorem acc_first (t : Fin cfg0.N) (h0 : t.val % 4 = 0) : (outsAt0 m c t.val t.isLt).2 = k0_pay1 (iblk m c 0 t) (iblk m c 1 t) := by
  have hN := t_lt t
  rw [outsAt0_A m c t h0 (by omega) (by omega)]
  frame_out
  rw [k0_pay2, shapeCast_self]

theorem acc_next (t : Fin cfg0.N) (h0 : ¬t.val % 4 = 0) (i : Fin 512) (j : Fin 1024) : (outsAt0 m c t.val t.isLt).2 (ix2 i j)
    = (outsAt0 m c (t.val - 1) (Nat.lt_of_le_of_lt (Nat.sub_le _ _) t.isLt)).2 (ix2 i j) + k0_pay1 (iblk m c 0 t) (iblk m c 1 t) (ix2 i j) := by
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_last (t : Fin cfg0.N) (ht : t.val % 4 = 3) (i : Fin 512) (j : Fin 1024) : (outsAt0 m c t.val t.isLt).2 (ix2 i j)
    = ∑ k : Fin 4096, a0 m c (ix2 k i) * a1 m c (ix2 k j) := by
  have h := Pipeline.eq_sum_fin_of_reset_step_apply_of_flush (fun n h (_ : Unit) => (outsAt0 m c n h).2 (ix2 i j)) 4 (0 : Unit → EReal)
    (fun t _ => ∑ k : Fin 1024, a0 m c (ix2 (row t k) i) * a1 m c (ix2 (row t k) j))
    (fun t h _ => by rw [Pi.zero_apply, zero_add, ← pay]; exact congrFun (acc_first m c t h) _) (fun t h _ => by rw [← pay]; exact acc_next m c t h i j) t (by omega) ()
  refine h.trans ?_
  rw [Pi.zero_apply, zero_add]
  refine Fin.sum_mul_add_congr fun s k hl => ?_
  have hN := t_lt t
  have e : ∀ h, row (⟨4 * (t.val / 4) + s.val, h⟩ : Fin cfg0.N) k = ⟨s.val * 1024 + k.val, hl⟩ := fun h => Fin.ext (by
    show (4 * (t.val / 4) + s.val) * 1024 + k.val = s.val * 1024 + k.val; omega)
  rw [e]

theorem out (t : Fin cfg0.N) (ht : t.val % 4 = 3) (s : Fin 8) (i : Fin 512) (l : Fin 128) :
    (outsAt0 m c t.val t.isLt).1 (ix3 s i l) = (outsAt0 m c t.val t.isLt).2 (ix2 i (lane s l)) := by
  rw [outsAt0_C m c t (by omega) (by omega) ht]
  frame_out
  canon_tiles x h
  all_goals
    open_payloads
    refine Cert.Mlp.plane _ _ _ _ _ x i (lane s l) h1 ?_
    show s.val * 128 + l.val = _
    have e0 : s.val = _ := h0
    have e2 : l.val = _ := h2
    omega

theorem emb_2 (t : Fin cfg0.N) (s : Fin 8) (i : Fin 512) (l : Fin 128) : (win0_2.blk t).view.emb (ix3 s i l) = ix3 s i l := funext fun x => Fin.ext (by
  match x with | ⟨0, _⟩ => blk_simp [idx_2 t] | ⟨1, _⟩ => blk_simp [idx_2 t] | ⟨2, _⟩ => blk_simp [idx_2 t])

theorem flush_mod : ∀ t : Fin cfg0.N, (cfg0.win 2).flush t = true → t.val % 4 = 3 := by decide +kernel

/-- The reference's result on the launch's arguments. -/
abbrev G : Vec Ideal S8x512x128 .bf16 := val_main_v8 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  have key : ∀ s i l, (outsAt0 m c t.val t.isLt).1 (ix3 s i l) = G m c ((win0_2.blk t).view.emb (ix3 s i l)) := fun s i l => by
    rw [out m c t ht, acc_last m c t ht, emb_2, G, ref]
  rw [after0_2, eq_ix3 y]
  exact key (y 0) (y 1) (y 2)

/-- On the extended reals, from equal arguments, the kernel and the reference end with equal results. -/
theorem algebraic : Cert.algebraic_XoWIdeal_XoWReferenceIdeal := by
  intro m ρ m' ρ' _ hagree
  refine ⟨_, (θ_run defs _ _).mono (fun r h c => ⟨((h c).1).trans (final m c), (h c).2⟩) (Cert.XoWIdeal.Value.run_blocks m ρ), ?_⟩
  refine (θ_run _ _ _).mono (fun r h c => ?_) (Cert.XoWReferenceIdeal.Value.run (F := Ideal) m' ρ')
  obtain ⟨h0, h1⟩ := hagree c
  refine ⟨(h c).1.trans ?_, (h c).2⟩
  rw [val_main_v8_eq, h0, h1]

end Cert.XoWIdeal.Mlp

end
-- ==== Proof.XqW.lean ====
/- The gradient of the cross-attention's query matrix, on the extended reals: each entry the kernel leaves is one sum over all rows
   of the matrix's input times the incoming gradient, which is the reference's product. -/
module

public import proofs.«01_k».proof.Proof.Gen.XqWIdeal.Value
public import proofs.«01_k».proof.Proof.Gen.XqWReferenceIdeal.Read
public import proofs.«01_k».proof.Defs
public import proofs.«01_k».proof.Proof.Planes
public import Idealize.ShloMosaic.Lib.Pointwise
public import Idealize.ShloMosaic.Lib.Pipeline.ValueKit

@[expose] public section

set_option maxRecDepth 16384

noncomputable section

namespace Cert.XqWIdeal.Mlp

open Cert.XqWIdeal Cert.XqWIdeal.Gen
open Idealize.ShloMosaic Idealize.ShloMosaic.TcCoe Idealize.ShloMosaic.Tactic Idealize.SL.Sem
open Cert.XqWReferenceIdeal.Read

/-- The column of the gradient that entry `l` of shard `s` is. -/
def lane (s : Fin 4) (l : Fin 128) : Fin 512 := ⟨s.val * 128 + l.val, by omega⟩

theorem ref (h : Vec Ideal S4096x1024 .bf16) (z : Vec Ideal S4096x512 .bf16) (s : Fin 4) (i : Fin 1024) (l : Fin 128) :
    val_main_v8 (F := Ideal) h z (ix3 s i l) = ∑ k : Fin 4096, h (ix2 k i) * z (ix2 k (lane s l)) := by
  pointwise [val_main_v8, val_main_v7, val_main_v6, val_main_v5, val_main_v4, val_main_v3, val_main_v1]
  exact Finset.sum_congr rfl fun k _ => mul_comm _ _

variable (m : (ℓ : Loc nD τ sig) → Buf (Elt Ideal) ℓ) (ρ : Dev nD → PrngReg) (c : Dev nD)

/- The launch's arguments. -/
abbrev a0 : Vec Ideal S4096x1024 .bf16 := m ((c : Thread nD τ).loc main_arg0)
abbrev a1 : Vec Ideal S4096x512 .bf16 := m ((c : Thread nD τ).loc main_arg1)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![0, 0, 0] := by decide +kernel

theorem t_lt (t : Fin cfg0.N) : t.val < 4 := lt_of_lt_of_eq t.isLt N_0

def row (t : Fin cfg0.N) (k : Fin 1024) : Fin 4096 := ⟨t.val * 1024 + k.val, by have := t_lt t; omega⟩

theorem blk_0 (t : Fin cfg0.N) (k i : Fin 1024) : iblk m c 0 t (ix2 k i) = a0 m c (ix2 (row t k) i) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (k : Fin 1024) (j : Fin 512) : iblk m c 1 t (ix2 k j) = a1 m c (ix2 (row t k) j) := by
  blk_simp [iblk, V_main_arg1]
  exact congrArg _ (funext fun x => Fin.ext (by match x with | ⟨0, _⟩ => blk_simp [idx_1 t]; rfl | ⟨1, _⟩ => blk_simp [idx_1 t]))

/-- What a point adds to entry `i`, `j`. -/
theorem pay (t : Fin cfg0.N) (i : Fin 1024) (j : Fin 512) : k0_pay1 (iblk m c 0 t) (iblk m c 1 t) (ix2 i j)
    = ∑ k : Fin 1024, a0 m c (ix2 (row t k) i) * a1 m c (ix2 (row t k) j) := by
  have h : ∀ (x : Vec Ideal S1024x1024 .bf16) (y : Vec Ideal S1024x512 .bf16), k0_pay1 x y (ix2 i j) = ∑ k : Fin 1024, x (ix2 k i) * y (ix2 k j) := fun x y => by
    pointwise [k0_pay1]
  rw [h]
  simp only [blk_0, blk_1]

theorem acc_first (t : Fin cfg0.N) (h0 : t.val % 4 = 0) : (outsAt0 m c t.val t.isLt).2 = k0_pay1 (iblk m c 0 t) (iblk m c 1 t) := by
  have hN := t_lt t
  rw [outsAt0_A m c t h0 (by omega) (by omega)]
  frame_out
  rw [k0_pay2, shapeCast_self]

theorem acc_next (t : Fin cfg0.N) (h0 : ¬t.val % 4 = 0) (i : Fin 1024) (j : Fin 512) : (outsAt0 m c t.val t.isLt).2 (ix2 i j)
    = (outsAt0 m c (t.val - 1) (Nat.lt_of_le_of_lt (Nat.sub_le _ _) t.isLt)).2 (ix2 i j) + k0_pay1 (iblk m c 0 t) (iblk m c 1 t) (ix2 i j) := by
  by_cases h2 : t.val % 4 = 3
  · rw [outsAt0_C m c t h0 (by omega) h2]
    frame_out
    rw [(Memref.isWhole_whole _).read_unread, k0_pay3, shapeCast_self]
    rfl
  · rw [outsAt0_B m c t h0 (by omega) h2]
    frame_out
    rw [(Memref.isWhole_whole _).read_unread, k0_pay3, shapeCast_self]
    rfl

theorem acc_last (t : Fin cfg0.N) (ht : t.val % 4 = 3) (i : Fin 1024) (j : Fin 512) : (outsAt0 m c t.val t.isLt).2 (ix2 i j)
    = ∑ k : Fin 4096, a0 m c (ix2 k i) * a1 m c (ix2 k j) := by
  have h := Pipeline.eq_sum_fin_of_reset_step_apply_of_flush (fun n h (_ : Unit) => (outsAt0 m c n h).2 (ix2 i j)) 4 (0 : Unit → EReal)
    (fun t _ => ∑ k : Fin 1024, a0 m c (ix2 (row t k) i) * a1 m c (ix2 (row t k) j))
    (fun t h _ => by rw [Pi.zero_apply, zero_add, ← pay]; exact congrFun (acc_first m c t h) _) (fun t h _ => by rw [← pay]; exact acc_next m c t h i j) t (by omega) ()
  refine h.trans ?_
  rw [Pi.zero_apply, zero_add]
  refine Fin.sum_mul_add_congr fun s k hl => ?_
  have hN := t_lt t
  have e : ∀ h, row (⟨4 * (t.val / 4) + s.val, h⟩ : Fin cfg0.N) k = ⟨s.val * 1024 + k.val, hl⟩ := fun h => Fin.ext (by
    show (4 * (t.val / 4) + s.val) * 1024 + k.val = s.val * 1024 + k.val; omega)
  rw [e]

theorem out (t : Fin cfg0.N) (ht : t.val % 4 = 3) (s : Fin 4) (i : Fin 1024) (l : Fin 128) :
    (outsAt0 m c t.val t.isLt).1 (ix3 s i l) = (outsAt0 m c t.val t.isLt).2 (ix2 i (lane s l)) := by
  rw [outsAt0_C m c t (by omega) (by omega) ht]
  frame_out
  canon_tiles x h
  all_goals
    open_payloads
    refine Cert.Mlp.plane _ _ _ _ _ x i (lane s l) h1 ?_
    show s.val * 128 + l.val = _
    have e0 : s.val = _ := h0
    have e2 : l.val = _ := h2
    omega

theorem emb_2 (t : Fin cfg0.N) (s : Fin 4) (i : Fin 1024) (l : Fin 128) : (win0_2.blk t).view.emb (ix3 s i l) = ix3 s i l := funext fun x => Fin.ext (by
  match x with | ⟨0, _⟩ => blk_simp [idx_2 t] | ⟨1, _⟩ => blk_simp [idx_2 t] | ⟨2, _⟩ => blk_simp [idx_2 t])

theorem flush_mod : ∀ t : Fin cfg0.N, (cfg0.win 2).flush t = true → t.val % 4 = 3 := by decide +kernel

/-- The reference's result on the launch's arguments. -/
abbrev G : Vec Ideal S4x1024x128 .bf16 := val_main_v8 (F := Ideal) (a0 m c) (a1 m c)

theorem final : (dats m 0 c).arrAt 2 cfg0.N = G m c := by
  refine (dats m 0 c).arrAt_eq_of_covers 2 _ (by decide +kernel) fun t hf y => ?_
  have ht := flush_mod t hf
  blk_simp
  have key : ∀ s i l, (outsAt0 m c t.val t.isLt).1 (ix3 s i l) = G m c ((win0_2.blk t).view.emb (ix3 s i l)) := fun s i l => by
    rw [out m c t ht, acc_last m c t ht, emb_2, G, ref]
  rw [after0_2, eq_ix3 y]
  exact key (y 0) (y 1) (y 2)

/-- On the extended reals, from equal arguments, the kernel and the reference end with equal results. -/
theorem algebraic : Cert.algebraic_XqWIdeal_XqWReferenceIdeal := by
  intro m ρ m' ρ' _ hagree
  refine ⟨_, (θ_run defs _ _).mono (fun r h c => ⟨((h c).1).trans (final m c), (h c).2⟩) (Cert.XqWIdeal.Value.run_blocks m ρ), ?_⟩
  refine (θ_run _ _ _).mono (fun r h c => ?_) (Cert.XqWReferenceIdeal.Value.run (F := Ideal) m' ρ')
  obtain ⟨h0, h1⟩ := hagree c
  refine ⟨(h c).1.trans ?_, (h c).2⟩
  rw [val_main_v8_eq, h0, h1]

end Cert.XqWIdeal.Mlp

end
-- ==== Proof.Xq.lean ====
/- The gradient through the cross attention's query layer and its norm, on the extended reals: a block of rows is one
   product, and the gradient of the gains is one sum over all rows. -/
module

public import proofs.«01_k».proof.Proof.Gen.XqIdeal.Value
public import proofs.«01_k».proof.Proof.Gen.XqReferenceIdeal.Read
public import proofs.«01_k».proof.Defs
public import proofs.«01_k».proof.Proof.Norm
public import Idealize.ShloMosaic.Lib.Pointwise
public import Idealize.ShloMosaic.Lib.Pipeline.ValueKit

@[expose] public section

set_option maxRecDepth 16384

noncomputable section

namespace Cert.XqIdeal.Mlp

open Cert.XqIdeal Cert.XqIdeal.Gen
open Idealize.ShloMosaic Idealize.ShloMosaic.TcCoe Idealize.ShloMosaic.Tactic Idealize.SL.Sem
open Cert.XqReferenceIdeal.Read Cert.Mlp

theorem pay_dx (a w : Vec Ideal S1024x512 .bf16) (x : Vec Ideal S1024x1024 .f32) (g : Vec Ideal S1x1024 .f32) (s : Vec Ideal S1024x1024 .f32)
    (i j : Fin 1024) : (k0_pay5 a w x g s) (ix2 i j)
      = kerdx (fun k => ∑ l : Fin 512, a (ix2 i l) * w (ix2 k l)) (fun k => g (ix2 0 k)) (fun k => x (ix2 i k)) (s (ix2 i j)) j := by
  pointwise [k0_pay5, k0_pay4, k0_pay3, k0_pay2]
  rfl

theorem pay_dg (a w : Vec Ideal S1024x512 .bf16) (x : Vec Ideal S1024x1024 .f32) (j : Fin 1024) : (k0_pay6 a w x) (ix2 0 j)
    = ∑ i : Fin 1024, (∑ l : Fin 512, a (ix2 i l) * w (ix2 j l)) * (x (ix2 i j) * rstd (fun k => x (ix2 i k))) := by
  pointwise [k0_pay6, k0_pay4, k0_pay3, k0_pay2]
  rfl

/-! ### The reference, read at an index -/

section Reference

variable (z : Vec Ideal S4096x512 .bf16) (w : Vec Ideal S1024x512 .bf16) (x : Vec Ideal S4096x1024 .f32) (g : Vec Ideal S1x1024 .f32)
  (s : Vec Ideal S4096x1024 .f32) (i : Fin 4096) (j : Fin 1024)

/-- The gradient of the normalised rows. -/
def prod : EReal := ∑ k : Fin 512, z (ix2 i k) * w (ix2 j k)

/-- The gradient of the stream. -/
def gradx : EReal := kerdx (fun k => prod z w i k) (fun k => g (ix2 0 k)) (fun k => x (ix2 i k)) (s (ix2 i j)) j

/-- A row's part of the gradient of the gains. -/
def partg : EReal := prod z w i j * (x (ix2 i j) * rstd (fun k => x (ix2 i k)))

theorem ref_rstd : val_main_v8 (F := Ideal) x (ix2 i 0) = rstd (fun k => x (ix2 i k)) := by
  pointwise [val_main_v8, val_main_v7, val_main_v6, val_main_v5, val_main_v4, val_main_v3, val_main_v2, val_main_v1, val_main_cst, val_main_cst_0,
    val_main_cst_1]
  rfl

theorem ref_dx : val_main_v38 (F := Ideal) z w x g s (ix2 i j) = gradx z w x g s i j := by
  rw [gradx, dx_eq]
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v18, val_main_v11, val_main_v10,
    val_main_v9, val_main_v8, val_main_v7, val_main_v6, val_main_v5, val_main_v4, val_main_v3, val_main_v2, val_main_v1, val_main_cst, val_main_cst_0,
    val_main_cst_1, val_main_cst_2, val_main_cst_4, val_main_cst_5, val_main_cst_6]
  simp only [Fin.sum_const, one_smul]
  rfl

theorem ref_dg : val_main_v21 (F := Ideal) z w x (ix2 0 j) = ∑ i : Fin 4096, partg z w x i j := by
  pointwise [val_main_v21, val_main_v20, val_main_v19, val_main_v18, val_main_v13, val_main_v12, val_main_cst_3]
  refine Finset.sum_congr rfl fun i _ => ?_
  rw [ref_rstd]
  exact mul_comm _ _

end Reference

/-! ### The kernel's blocks -/

variable (m : (ℓ : Loc nD τ sig) → Buf (Elt Ideal) ℓ) (c : Dev nD)

abbrev a0 : Vec Ideal S4096x512 .bf16 := m ((c : Thread nD τ).loc main_arg0)
abbrev a1 : Vec Ideal S1024x512 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)
abbrev a4 : Vec Ideal S4096x1024 .f32 := m ((c : Thread nD τ).loc main_arg4)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![0, 0] := by decide +kernel

theorem t_lt (t : Fin cfg0.N) : t.val < 4 := lt_of_lt_of_eq t.isLt N_0

def row (t : Fin cfg0.N) (i : Fin 1024) : Fin 4096 := ⟨t.val * 1024 + i.val, by have := t_lt t; omega⟩

theorem blk_0 (t : Fin cfg0.N) (i : Fin 1024) (k : Fin 512) : iblk m c 0 t (ix2 i k) = a0 m c (ix2 (row t i) k) := by
  blk_simp [iblk, V_main_arg0]
  exact congrArg _ (funext fun x => Fin.ext (by match x with | ⟨0, _⟩ => blk_simp [idx_0 t]; rfl | ⟨1, _⟩ => blk_simp [idx_0 t]))

theorem blk_1 (t : Fin cfg0.N) (j : Fin 1024) (k : Fin 512) : iblk m c 1 t (ix2 j k) = a1 m c (ix2 j k) := by
  blk_simp [iblk, V_main_arg1]
  exact congrArg _ (funext fun x => Fin.ext (by match x with | ⟨0, _⟩ => blk_simp [idx_1 t] | ⟨1, _⟩ => blk_simp [idx_1 t]))

theorem blk_2 (t : Fin cfg0.N) (i j : Fin 1024) : iblk m c 2 t (ix2 i j) = a2 m c (ix2 (row t i) j) := by
  blk_simp [iblk, V_main_arg2]
  exact congrArg _ (funext fun x => Fin.ext (by match x with | ⟨0, _⟩ => blk_simp [idx_2 t]; rfl | ⟨1, _⟩ => blk_simp [idx_2 t]))

theorem blk_3 (t : Fin cfg0.N) (j : Fin 1024) : iblk m c 3 t (ix2 0 j) = a3 m c (ix2 0 j) := by
  blk_simp [iblk, V_main_arg3]
  exact congrArg _ (funext fun x => Fin.ext (by match x with | ⟨0, _⟩ => blk_simp [idx_3 t] | ⟨1, _⟩ => blk_simp [idx_3 t]))

theorem blk_4 (t : Fin cfg0.N) (i j : Fin 1024) : iblk m c 4 t (ix2 i j) = a4 m c (ix2 (row t i) j) := by
  blk_simp [iblk, V_main_arg4]
  exact congrArg _ (funext fun x => Fin.ext (by match x with | ⟨0, _⟩ => blk_simp [idx_4 t]; rfl | ⟨1, _⟩ => blk_simp [idx_4 t]))

/-! ### The gradient of the stream -/

theorem dx_blk (t : Fin cfg0.N) (i j : Fin 1024) : k0_pay5 (iblk m c 0 t) (iblk m c 1 t) (iblk m c 2 t) (iblk m c 3 t) (iblk m c 4 t) (ix2 i j)
    = gradx (a0 m c) (a1 m c) (a2 m c) (a3 m c) (a4 m c) (row t i) j := by
  rw [pay_dx, gradx]
  simp only [blk_0, blk_1, blk_2, blk_3, blk_4, prod]

/-- A point leaves its rows' gradient, and its rounding. -/
theorem out_dx (t : Fin cfg0.N) :
    (outsAt0 m c t.val t.isLt).1 = k0_pay5 (iblk m c 0 t) (iblk m c 1 t) (iblk m c 2 t) (iblk m c 3 t) (iblk m c 4 t)
    ∧ (outsAt0 m c t.val t.isLt).2.1 = k0_pay7 (iblk m c 0 t) (iblk m c 1 t) (iblk m c 2 t) (iblk m c 3 t) (iblk m c 4 t) := by
  have hN := t_lt t
  by_cases h : t.val % 4 = 0
  · rw [outsAt0_A m c t h (by omega)]
    constructor <;> frame_out
  · rw [outsAt0_B m c t h (by omega)]
    constructor <;> frame_out

theorem emb_5 (t : Fin cfg0.N) (i j : Fin 1024) : (win0_5.blk t).view.emb (ix2 i j) = ix2 (row t i) j := funext fun x => Fin.ext (by
  match x with | ⟨0, _⟩ => blk_simp [idx_5 t]; rfl | ⟨1, _⟩ => blk_simp [idx_5 t])

theorem emb_6 (t : Fin cfg0.N) (i j : Fin 1024) : (win0_6.blk t).view.emb (ix2 i j) = ix2 (row t i) j := funext fun x => Fin.ext (by
  match x with | ⟨0, _⟩ => blk_simp [idx_6 t]; rfl | ⟨1, _⟩ => blk_simp [idx_6 t])

/-! The results of the reference on the arguments. -/

abbrev Gdx : Vec Ideal S4096x1024 .f32 := val_main_v38 (F := Ideal) (a0 m c) (a1 m c) (a2 m c) (a3 m c) (a4 m c)
abbrev Gdxb : Vec Ideal S4096x1024 .bf16 := val_main_v39 (F := Ideal) (a0 m c) (a1 m c) (a2 m c) (a3 m c) (a4 m c)
abbrev Gdg : Vec Ideal S1x1024 .f32 := val_main_v21 (F := Ideal) (a0 m c) (a1 m c) (a2 m c)

theorem final_dx : (dats m 0 c).arrAt 5 cfg0.N = Gdx m c := by
  refine (dats m 0 c).arrAt_eq_of_covers 5 _ (by decide +kernel) fun t _ y => ?_
  blk_simp
  rw [after0_5, (out_dx m c t).1]
  have key : ∀ i j, k0_pay5 (iblk m c 0 t) (iblk m c 1 t) (iblk m c 2 t) (iblk m c 3 t) (iblk m c 4 t) (ix2 i j)
      = Gdx m c ((win0_5.blk t).view.emb (ix2 i j)) := fun i j => by rw [dx_blk, emb_5, Gdx, ref_dx]
  rw [eq_ix2 y]
  exact key (y 0) (y 1)

theorem final_dxb : (dats m 0 c).arrAt 6 cfg0.N = Gdxb m c := by
  refine (dats m 0 c).arrAt_eq_of_covers 6 _ (by decide +kernel) fun t _ y => ?_
  blk_simp
  rw [after0_6, (out_dx m c t).2]
  have key : ∀ i j, k0_pay7 (iblk m c 0 t) (iblk m c 1 t) (iblk m c 2 t) (iblk m c 3 t) (iblk m c 4 t) (ix2 i j)
      = Gdxb m c ((win0_6.blk t).view.emb (ix2 i j)) := fun i j => by
    rw [emb_6, Gdxb, val_main_v39_apply, ref_dx, ← dx_blk]
    rfl
  rw [eq_ix2 y]
  exact key (y 0) (y 1)

/-! ### The gradient of the gains -/

/-- A block of rows' part of the gradient of the gains. -/
def dgblk (j : Fin 1024) (b : ℕ) : EReal := ∑ i : Fin 1024, if h : b * 1024 + i.val < 4096 then
  partg (a0 m c) (a1 m c) (a2 m c) ⟨b * 1024 + i.val, h⟩ j else 0

theorem dg_blk (t : Fin cfg0.N) (j : Fin 1024) : k0_pay6 (iblk m c 0 t) (iblk m c 1 t) (iblk m c 2 t) (ix2 0 j) = dgblk m c j t.val := by
  rw [pay_dg, dgblk]
  refine Finset.sum_congr rfl fun i _ => ?_
  have hN := t_lt t
  rw [dif_pos (by omega)]
  simp only [blk_0, blk_1, blk_2, partg, prod]
  rfl

theorem dg_at (j : Fin 1024) : ∀ n : ℕ, ∀ hn : n < cfg0.N, (outsAt0 m c n hn).2.2 (ix2 0 j) = ∑ b ∈ Finset.range (n + 1), dgblk m c j b := by
  intro n
  induction n with
  | zero =>
    intro hn
    rw [Finset.sum_range_one, outsAt0_A m c ⟨0, hn⟩ rfl (Nat.not_succ_le_zero 0)]
    frame_out
    exact dg_blk m c ⟨0, hn⟩ j
  | succ n ih =>
    intro hn
    have hN := t_lt ⟨n + 1, hn⟩
    dsimp only at hN
    rw [Finset.sum_range_succ, outsAt0_B m c ⟨n + 1, hn⟩ (show ¬(n + 1) % 4 = 0 by omega) (show 1 ≤ n + 1 by omega)]
    frame_out
    rw [k0_pay1, shapeCast_self]
    exact congrArg₂ (· + ·) (ih (by omega)) (dg_blk m c ⟨n + 1, hn⟩ j)

theorem emb_7 (t : Fin cfg0.N) (j : Fin 1024) : (win0_7.blk t).view.emb (ix2 0 j) = ix2 0 j := funext fun x => Fin.ext (by
  match x with | ⟨0, _⟩ => blk_simp [idx_7 t] | ⟨1, _⟩ => blk_simp [idx_7 t])

theorem flush_7 : ∀ t : Fin cfg0.N, (cfg0.win 7).flush t = true → t.val = 3 := by decide +kernel

theorem final_dg : (dats m 0 c).arrAt 7 cfg0.N = Gdg m c := by
  refine (dats m 0 c).arrAt_eq_of_covers 7 _ (by decide +kernel) fun t hf y => ?_
  have ht := flush_7 t hf
  blk_simp
  rw [after0_7]
  have key : ∀ j, (outsAt0 m c t.val t.isLt).2.2 (ix2 0 j) = Gdg m c ((win0_7.blk t).view.emb (ix2 0 j)) := fun j => by
    rw [emb_7, Gdg, ref_dg, dg_at m c j t.val t.isLt, show t.val + 1 = 4 by omega, Finset.sum_range]
    exact Fin.sum_mul_add_congr fun s k hl => dif_pos hl
  have hy : y = ix2 0 (y 1) := (eq_ix2 y).trans (congrArg (fun a => ix2 a (y 1)) (Subsingleton.elim (α := Fin 1) _ _))
  rw [hy]
  exact key (y 1)

/-- On the extended reals, from equal arguments, the kernel and the reference end with equal results. -/
theorem algebraic : Cert.algebraic_XqIdeal_XqReferenceIdeal := by
  intro m ρ m' ρ' _ hagree
  refine ⟨_, _, _, (θ_run defs _ _).mono (fun r h c => ⟨((h c).1).trans (final_dx m c), ((h c).2.1).trans (final_dxb m c), ((h c).2.2.1).trans (final_dg m c), (h c).2.2.2⟩) (Cert.XqIdeal.Value.run_blocks m ρ), ?_⟩
  refine (θ_run _ _ _).mono (fun r h c => ?_) (Cert.XqReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [val_main_v38_eq, a0, a1, a2, a3, a4]
  · rw [val_main_v39_eq, a0, a1, a2, a3, a4]
  · rw [val_main_v21_eq, a0, a1, a2]

end Cert.XqIdeal.Mlp

end
-- ==== Proof.lean ====
module

public import proofs.«01_k».proof.Defs
public import proofs.«01_k».proof.Proof.FrameIdeal
public import proofs.«01_k».proof.Proof.Frames
public import proofs.«01_k».proof.Proof.Value
public import proofs.«01_k».proof.Proof.MlpFrames
public import proofs.«01_k».proof.Proof.Down
public import proofs.«01_k».proof.Proof.DownW
public import proofs.«01_k».proof.Proof.Up
public import proofs.«01_k».proof.Proof.UpW
public import proofs.«01_k».proof.Proof.In
public import proofs.«01_k».proof.Proof.InW
public import proofs.«01_k».proof.Proof.LinearFrames
public import proofs.«01_k».proof.Proof.Out
public import proofs.«01_k».proof.Proof.OutW
public import proofs.«01_k».proof.Proof.UpFwd
public import proofs.«01_k».proof.Proof.DownFwd
public import proofs.«01_k».proof.Proof.InFwd
public import proofs.«01_k».proof.Proof.CallFrames
public import proofs.«01_k».proof.Proof.OutFwd
public import proofs.«01_k».proof.Proof.XoFwd
public import proofs.«01_k».proof.Proof.XqFwd
public import proofs.«01_k».proof.Proof.SmallFwd
public import proofs.«01_k».proof.Proof.Xo
public import proofs.«01_k».proof.Proof.MergeFwd
public import proofs.«01_k».proof.Proof.Merge
public import proofs.«01_k».proof.Proof.XoW
public import proofs.«01_k».proof.Proof.XqW
public import proofs.«01_k».proof.Proof.Xq
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.DownW.Gen.facts, Cert.DownWIdeal.Gen.facts, Cert.DownWReferenceIdeal.Gen.facts,
    Cert.Up.Gen.facts, Cert.UpIdeal.Gen.facts, Cert.UpReferenceIdeal.Gen.facts,
    Cert.UpW.Gen.facts, Cert.UpWIdeal.Gen.facts, Cert.UpWReferenceIdeal.Gen.facts,
    Cert.In.Gen.facts, Cert.InIdeal.Gen.facts, Cert.InReferenceIdeal.Gen.facts,
    Cert.InW.Gen.facts, Cert.InWIdeal.Gen.facts, Cert.InWReferenceIdeal.Gen.facts,
    Cert.Out.Gen.facts, Cert.OutIdeal.Gen.facts, Cert.OutReferenceIdeal.Gen.facts,
    Cert.OutW.Gen.facts, Cert.OutWIdeal.Gen.facts, Cert.OutWReferenceIdeal.Gen.facts,
    Cert.UpFwd.Gen.facts, Cert.UpFwdIdeal.Gen.facts, Cert.UpFwdReferenceIdeal.Gen.facts,
    Cert.DownFwd.Gen.facts, Cert.DownFwdIdeal.Gen.facts, Cert.DownFwdReferenceIdeal.Gen.facts,
    Cert.InFwd.Gen.facts, Cert.InFwdIdeal.Gen.facts, Cert.InFwdReferenceIdeal.Gen.facts,
    Cert.OutFwd.Gen.facts, Cert.OutFwdIdeal.Gen.facts, Cert.OutFwdReferenceIdeal.Gen.facts,
    Cert.XoFwd.Gen.facts, Cert.XoFwdIdeal.Gen.facts, Cert.XoFwdReferenceIdeal.Gen.facts,
    Cert.XqFwd.Gen.facts, Cert.XqFwdIdeal.Gen.facts, Cert.XqFwdReferenceIdeal.Gen.facts,
    Cert.SmallFwd.Gen.facts, Cert.SmallFwdIdeal.Gen.facts, Cert.SmallFwdReferenceIdeal.Gen.facts,
    Cert.Xo.Gen.facts, Cert.XoIdeal.Gen.facts, Cert.XoReferenceIdeal.Gen.facts,
    Cert.MergeFwd.Gen.facts, Cert.MergeFwdIdeal.Gen.facts, Cert.MergeFwdReferenceIdeal.Gen.facts,
    Cert.Merge.Gen.facts, Cert.MergeIdeal.Gen.facts, Cert.MergeReferenceIdeal.Gen.facts,
    Cert.XoW.Gen.facts, Cert.XoWIdeal.Gen.facts, Cert.XoWReferenceIdeal.Gen.facts,
    Cert.XqW.Gen.facts, Cert.XqWIdeal.Gen.facts, Cert.XqWReferenceIdeal.Gen.facts,
    Cert.Xq.Gen.facts, Cert.XqIdeal.Gen.facts, Cert.XqReferenceIdeal.Gen.facts,
    Cert.Fox.finite_facts,
    Cert.Fox.kernel, Cert.Fox.kernelIdeal, Cert.Fox.kernelIdeal_finite, Cert.Fox.referenceIdeal, Cert.Fox.referenceIdeal_finite,
    Cert.Mlp.down, Cert.Mlp.downIdeal, Cert.Mlp.downReferenceIdeal, Cert.Mlp.downW, Cert.Mlp.downWIdeal, Cert.Mlp.downWReferenceIdeal,
    Cert.Mlp.up, Cert.Mlp.upIdeal, Cert.Mlp.upReferenceIdeal, Cert.Mlp.upW, Cert.Mlp.upWIdeal, Cert.Mlp.upWReferenceIdeal,
    Cert.Mlp.inp, Cert.Mlp.inpIdeal, Cert.Mlp.inpReferenceIdeal, Cert.Mlp.inpW, Cert.Mlp.inpWIdeal, Cert.Mlp.inpWReferenceIdeal,
    Cert.Mlp.out, Cert.Mlp.outIdeal, Cert.Mlp.outReferenceIdeal,
    Cert.Mlp.outW, Cert.Mlp.outWIdeal, Cert.Mlp.outWReferenceIdeal,
    Cert.Mlp.upFwd, Cert.Mlp.upFwdIdeal, Cert.Mlp.upFwdReferenceIdeal,
    Cert.Mlp.downFwd, Cert.Mlp.downFwdIdeal, Cert.Mlp.downFwdReferenceIdeal,
    Cert.Mlp.inFwd, Cert.Mlp.inFwdIdeal, Cert.Mlp.inFwdReferenceIdeal,
    Cert.Mlp.outFwd, Cert.Mlp.outFwdIdeal, Cert.Mlp.outFwdReferenceIdeal,
    Cert.Mlp.xoFwd, Cert.Mlp.xoFwdIdeal, Cert.Mlp.xoFwdReferenceIdeal,
    Cert.Mlp.xqFwd, Cert.Mlp.xqFwdIdeal, Cert.Mlp.xqFwdReferenceIdeal,
    Cert.Mlp.smallFwd, Cert.Mlp.smallFwdIdeal, Cert.Mlp.smallFwdReferenceIdeal,
    Cert.Mlp.xo, Cert.Mlp.xoIdeal, Cert.Mlp.xoReferenceIdeal,
    Cert.Mlp.mergeFwd, Cert.Mlp.mergeFwdIdeal, Cert.Mlp.mergeFwdReferenceIdeal,
    Cert.Mlp.merge, Cert.Mlp.mergeIdeal, Cert.Mlp.mergeReferenceIdeal,
    Cert.Mlp.xoW, Cert.Mlp.xoWIdeal, Cert.Mlp.xoWReferenceIdeal,
    Cert.Mlp.xqW, Cert.Mlp.xqWIdeal, Cert.Mlp.xqWReferenceIdeal,
    Cert.Mlp.xq, Cert.Mlp.xqIdeal, Cert.Mlp.xqReferenceIdeal,
    Cert.Fox.preserves, Cert.Fox.algebraic, trivial, Cert.DownIdeal.Mlp.algebraic,
    trivial, Cert.DownWIdeal.Mlp.algebraic, trivial, Cert.UpIdeal.Mlp.algebraic,
    trivial, Cert.UpWIdeal.Mlp.algebraic, trivial, Cert.InIdeal.Mlp.algebraic,
    trivial, Cert.InWIdeal.Mlp.algebraic,
    trivial, Cert.OutIdeal.Mlp.algebraic, trivial, Cert.OutWIdeal.Mlp.algebraic, trivial, Cert.UpFwdIdeal.Mlp.algebraic, trivial, Cert.DownFwdIdeal.Mlp.algebraic, trivial, Cert.InFwdIdeal.Mlp.algebraic,
    trivial, Cert.OutFwdIdeal.Mlp.algebraic, trivial, Cert.XoFwdIdeal.Mlp.algebraic, trivial, Cert.XqFwdIdeal.Mlp.algebraic,
    trivial, Cert.SmallFwdIdeal.Mlp.algebraic, trivial, Cert.XoIdeal.Mlp.algebraic, trivial, Cert.MergeFwdIdeal.Mlp.algebraic,
    trivial, Cert.MergeIdeal.Mlp.algebraic, trivial, Cert.XoWIdeal.Mlp.algebraic, trivial, Cert.XqWIdeal.Mlp.algebraic, trivial, Cert.XqIdeal.Mlp.algebraic⟩

end Cert.Proof

end
